-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v14)) (v3 : (c : Dev Cert.Kernel2Ideal.nD) → Buf (Elt Ideal) ((c.tc : Thread Cert.Kernel2Ideal.nD Cert.Kernel2Ideal.τ).loc Cert.Kernel2Ideal.main_v15)) (v4 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v14) = v2 c
          ∧ r.2.mem ((c.tc : Thread Cert.Kernel2Ideal.nD Cert.Kernel2Ideal.τ).loc Cert.Kernel2Ideal.main_v15) = v3 c
          ∧ r.2.mem ((c.tc : Thread Cert.Kernel2Ideal.nD Cert.Kernel2Ideal.τ).loc Cert.Kernel2Ideal.main_v12) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v18)) (v2 : (c : Dev Cert.Kernel3Ideal.nD) → Buf (Elt Ideal) ((c.tc : Thread Cert.Kernel3Ideal.nD Cert.Kernel3Ideal.τ).loc Cert.Kernel3Ideal.main_v16_1)) (v3 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v18) = v1 c
          ∧ r.2.mem ((c.tc : Thread Cert.Kernel3Ideal.nD Cert.Kernel3Ideal.τ).loc Cert.Kernel3Ideal.main_v16_1) = v2 c
          ∧ r.2.mem ((c.tc : Thread Cert.Kernel3Ideal.nD Cert.Kernel3Ideal.τ).loc Cert.Kernel3Ideal.main_v16_2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v15)) (v1 : (c : Dev Cert.Kernel4Ideal.nD) → Buf (Elt Ideal) ((c.tc : Thread Cert.Kernel4Ideal.nD Cert.Kernel4Ideal.τ).loc Cert.Kernel4Ideal.main_v16)) (v2 : (c : Dev Cert.Kernel4Ideal.nD) → Buf (Elt Ideal) ((c.tc : Thread Cert.Kernel4Ideal.nD Cert.Kernel4Ideal.τ).loc Cert.Kernel4Ideal.main_v17)) (v3 : (c : Dev Cert.Kernel4Ideal.nD) → Buf (Elt Ideal) ((c.tc : Thread Cert.Kernel4Ideal.nD Cert.Kernel4Ideal.τ).loc Cert.Kernel4Ideal.main_v18)) (v4 : (c : Dev Cert.Kernel4Ideal.nD) → Buf (Elt Ideal) ((c.tc : Thread Cert.Kernel4Ideal.nD Cert.Kernel4Ideal.τ).loc Cert.Kernel4Ideal.main_v19)) (v5 : (c : Dev Cert.Kernel4Ideal.nD) → Buf (Elt Ideal) ((c.tc : Thread Cert.Kernel4Ideal.nD Cert.Kernel4Ideal.τ).loc Cert.Kernel4Ideal.main_v20)) (v6 : (c : Dev Cert.Kernel4Ideal.nD) → Buf (Elt Ideal) ((c.tc : Thread Cert.Kernel4Ideal.nD Cert.Kernel4Ideal.τ).loc Cert.Kernel4Ideal.main_v21)) (v7 : (c : Dev Cert.Kernel4Ideal.nD) → Buf (Elt Ideal) ((c.tc : Thread Cert.Kernel4Ideal.nD Cert.Kernel4Ideal.τ).loc Cert.Kernel4Ideal.main_v22)) (v8 : (c : Dev Cert.Kernel4Ideal.nD) → Buf (Elt Ideal) ((c.tc : Thread Cert.Kernel4Ideal.nD Cert.Kernel4Ideal.τ).loc Cert.Kernel4Ideal.main_v23)) (v9 : (c : Dev Cert.Kernel4Ideal.nD) → Buf (Elt Ideal) ((c.tc : Thread Cert.Kernel4Ideal.nD Cert.Kernel4Ideal.τ).loc Cert.Kernel4Ideal.main_v24)) (v10 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_v16) = v1 c
          ∧ r.2.mem ((c.tc : Thread Cert.Kernel4Ideal.nD Cert.Kernel4Ideal.τ).loc Cert.Kernel4Ideal.main_v17) = v2 c
          ∧ r.2.mem ((c.tc : Thread Cert.Kernel4Ideal.nD Cert.Kernel4Ideal.τ).loc Cert.Kernel4Ideal.main_v18) = v3 c
          ∧ r.2.mem ((c.tc : Thread Cert.Kernel4Ideal.nD Cert.Kernel4Ideal.τ).loc Cert.Kernel4Ideal.main_v19) = v4 c
          ∧ r.2.mem ((c.tc : Thread Cert.Kernel4Ideal.nD Cert.Kernel4Ideal.τ).loc Cert.Kernel4Ideal.main_v20) = v5 c
          ∧ r.2.mem ((c.tc : Thread Cert.Kernel4Ideal.nD Cert.Kernel4Ideal.τ).loc Cert.Kernel4Ideal.main_v21) = v6 c
          ∧ r.2.mem ((c.tc : Thread Cert.Kernel4Ideal.nD Cert.Kernel4Ideal.τ).loc Cert.Kernel4Ideal.main_v22) = v7 c
          ∧ r.2.mem ((c.tc : Thread Cert.Kernel4Ideal.nD Cert.Kernel4Ideal.τ).loc Cert.Kernel4Ideal.main_v23) = v8 c
          ∧ r.2.mem ((c.tc : Thread Cert.Kernel4Ideal.nD Cert.Kernel4Ideal.τ).loc Cert.Kernel4Ideal.main_v24) = v9 c
          ∧ r.2.mem ((c.tc : Thread Cert.Kernel4Ideal.nD Cert.Kernel4Ideal.τ).loc Cert.Kernel4Ideal.main_v25) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v1) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v3) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_v6) = v5 c
          ∧ r.2.mem ((c.tc : Thread Cert.Reference4Ideal.nD Cert.Reference4Ideal.τ).loc Cert.Reference4Ideal.main_v19) = v6 c
          ∧ r.2.mem ((c.tc : Thread Cert.Reference4Ideal.nD Cert.Reference4Ideal.τ).loc Cert.Reference4Ideal.main_v12) = v7 c
          ∧ r.2.mem ((c.tc : Thread Cert.Reference4Ideal.nD Cert.Reference4Ideal.τ).loc Cert.Reference4Ideal.main_v21) = v8 c
          ∧ r.2.mem ((c.tc : Thread Cert.Reference4Ideal.nD Cert.Reference4Ideal.τ).loc Cert.Reference4Ideal.main_v9) = v9 c
          ∧ r.2.mem ((c.tc : Thread Cert.Reference4Ideal.nD Cert.Reference4Ideal.τ).loc Cert.Reference4Ideal.main_v15) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v28_4)) (v1 : (c : Dev Cert.Kernel6Ideal.nD) → Buf (Elt Ideal) ((c.tc : Thread Cert.Kernel6Ideal.nD Cert.Kernel6Ideal.τ).loc Cert.Kernel6Ideal.main_v28_0)) (v2 : (c : Dev Cert.Kernel6Ideal.nD) → Buf (Elt Ideal) ((c.tc : Thread Cert.Kernel6Ideal.nD Cert.Kernel6Ideal.τ).loc Cert.Kernel6Ideal.main_v28_1)) (v3 : (c : Dev Cert.Kernel6Ideal.nD) → Buf (Elt Ideal) ((c.tc : Thread Cert.Kernel6Ideal.nD Cert.Kernel6Ideal.τ).loc Cert.Kernel6Ideal.main_v28_2)) (v4 : (c : Dev Cert.Kernel6Ideal.nD) → Buf (Elt Ideal) ((c.tc : Thread Cert.Kernel6Ideal.nD Cert.Kernel6Ideal.τ).loc Cert.Kernel6Ideal.main_v28_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28_4) = v0 c
          ∧ r.2.mem ((c.tc : Thread Cert.Kernel6Ideal.nD Cert.Kernel6Ideal.τ).loc Cert.Kernel6Ideal.main_v28_0) = v1 c
          ∧ r.2.mem ((c.tc : Thread Cert.Kernel6Ideal.nD Cert.Kernel6Ideal.τ).loc Cert.Kernel6Ideal.main_v28_1) = v2 c
          ∧ r.2.mem ((c.tc : Thread Cert.Kernel6Ideal.nD Cert.Kernel6Ideal.τ).loc Cert.Kernel6Ideal.main_v28_2) = v3 c
          ∧ r.2.mem ((c.tc : Thread Cert.Kernel6Ideal.nD Cert.Kernel6Ideal.τ).loc Cert.Kernel6Ideal.main_v28_3) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_v81) = v2 c
          ∧ r.2.mem ((c.tc : Thread Cert.Reference6Ideal.nD Cert.Reference6Ideal.τ).loc Cert.Reference6Ideal.main_v82) = v3 c
          ∧ r.2.mem ((c.tc : Thread Cert.Reference6Ideal.nD Cert.Reference6Ideal.τ).loc Cert.Reference6Ideal.main_v83) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_v69) = v1 c
          ∧ r.2.mem ((c.tc : Thread Cert.Reference7Ideal.nD Cert.Reference7Ideal.τ).loc Cert.Reference7Ideal.main_v70) = v2 c
          ∧ r.2.mem ((c.tc : Thread Cert.Reference7Ideal.nD Cert.Reference7Ideal.τ).loc Cert.Reference7Ideal.main_v71) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v2) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v37_0)) (v1 : (c : Dev Cert.Kernel11Ideal.nD) → Buf (Elt Ideal) ((c.tc : Thread Cert.Kernel11Ideal.nD Cert.Kernel11Ideal.τ).loc Cert.Kernel11Ideal.main_v37_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v37_0) = v0 c
          ∧ r.2.mem ((c.tc : Thread Cert.Kernel11Ideal.nD Cert.Kernel11Ideal.τ).loc Cert.Kernel11Ideal.main_v37_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v43) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x6x96 : Shape := ⟨3, ![4096, 6, 96]⟩
abbrev S4096x6x64 : Shape := ⟨3, ![4096, 6, 64]⟩
abbrev S_ : Shape := ⟨0, ![]⟩

class Facts : Prop where
  bcast_S_S4096x6x96 : S_.BroadcastsInDim S4096x6x96 (![] : Fin 0 → Fin S4096x6x96.rank)
  reducesTo_S4096x6x96_S_d0_1_2 : S4096x6x96.ReducesTo [0, 1, 2] S_
  h_S_ : 0 < S_.numel
  bcast_S_S4096x6x64 : S_.BroadcastsInDim S4096x6x64 (![] : Fin 0 → Fin S4096x6x64.rank)
  reducesTo_S4096x6x64_S_d0_1_2 : S4096x6x64.ReducesTo [0, 1, 2] S_

variable [Facts]

def fn_part1 {F : FTy → Type} [FloatOps F] (main_v13 : IVec S_ 1) (main_v16 : IVec S4096x6x64 1) : IVec S_ 1 :=
  let main_c_5 : IVec S_ 1 := constantI S_ 1 1#1
  let main_v17 : IVec S_ 1 := (fun x v => Host.reduce IntOp.andi x v reducesTo_S4096x6x64_S_d0_1_2 h_S_) main_v16 main_c_5
  let main_v18 : IVec S_ 1 := andi main_v13 main_v17
  main_v18

def fn {F : FTy → Type} [FloatOps F] (main_arg0 : FVec F S4096x6x96 .f32) (main_arg1 : FVec F S4096x6x96 .f32) (main_arg2 : FVec F S4096x6x64 .f32) (main_arg3 : FVec F S4096x6x64 .f32) : IVec S_ 1 :=
  let main_v0 : FVec F S4096x6x96 .f32 := Host.absf main_arg0
  let main_cst : FVec F S_ .f32 := constant S_ .f32 0x7F800000#32
  let main_v1 : FVec F S4096x6x96 .f32 := broadcastInDim S4096x6x96 ![] bcast_S_S4096x6x96 main_cst
  let main_v2 : IVec S4096x6x96 1 := cmpf .olt main_v0 main_v1
  let main_c : IVec S_ 1 := constantI S_ 1 1#1
  let main_v3 : IVec S_ 1 := (fun x v => Host.reduce IntOp.andi x v reducesTo_S4096x6x96_S_d0_1_2 h_S_) main_v2 main_c
  let main_v4 : FVec F S4096x6x96 .f32 := Host.absf main_arg1
  let main_cst_0 : FVec F S_ .f32 := constant S_ .f32 0x7F800000#32
  let main_v5 : FVec F S4096x6x96 .f32 := broadcastInDim S4096x6x96 ![] bcast_S_S4096x6x96 main_cst_0
  let main_v6 : IVec S4096x6x96 1 := cmpf .olt main_v4 main_v5
  let main_c_1 : IVec S_ 1 := constantI S_ 1 1#1
  let main_v7 : IVec S_ 1 := (fun x v => Host.reduce IntOp.andi x v reducesTo_S4096x6x96_S_d0_1_2 h_S_) main_v6 main_c_1
  let main_v8 : IVec S_ 1 := andi main_v3 main_v7
  let main_v9 : FVec F S4096x6x64 .f32 := Host.absf main_arg2
  let main_cst_2 : FVec F S_ .f32 := constant S_ .f32 0x7F800000#32
  let main_v10 : FVec F S4096x6x64 .f32 := broadcastInDim S4096x6x64 ![] bcast_S_S4096x6x64 main_cst_2
  let main_v11 : IVec S4096x6x64 1 := cmpf .olt main_v9 main_v10
  let main_c_3 : IVec S_ 1 := constantI S_ 1 1#1
  let main_v12 : IVec S_ 1 := (fun x v => Host.reduce IntOp.andi x v reducesTo_S4096x6x64_S_d0_1_2 h_S_) main_v11 main_c_3
  let main_v13 : IVec S_ 1 := andi main_v8 main_v12
  let main_v14 : FVec F S4096x6x64 .f32 := Host.absf main_arg3
  let main_cst_4 : FVec F S_ .f32 := constant S_ .f32 0x7F800000#32
  let main_v15 : FVec F S4096x6x64 .f32 := broadcastInDim S4096x6x64 ![] bcast_S_S4096x6x64 main_cst_4
  let main_v16 : IVec S4096x6x64 1 := cmpf .olt main_v14 main_v15
  fn_part1 (F := F) main_v13 main_v16
-- ==== Pre_finite2.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite3.lean ====
abbrev S4096x4x64 : Shape := ⟨3, ![4096, 4, 64]⟩
abbrev S4096x2x64 : Shape := ⟨3, ![4096, 2, 64]⟩
abbrev S_ : Shape := ⟨0, ![]⟩

class Facts : Prop where
  bcast_S_S4096x4x64 : S_.BroadcastsInDim S4096x4x64 (![] : Fin 0 → Fin S4096x4x64.rank)
  reducesTo_S4096x4x64_S_d0_1_2 : S4096x4x64.ReducesTo [0, 1, 2] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_

variable [Facts]

def fn_part1 {F : FTy → Type} [FloatOps F] (main_v13 : IVec S_ 1) (main_v16 : IVec S4096x4x64 1) : IVec S_ 1 :=
  let main_c_5 : IVec S_ 1 := constantI S_ 1 1#1
  let main_v17 : IVec S_ 1 := (fun x v => Host.reduce IntOp.andi x v reducesTo_S4096x4x64_S_d0_1_2 h_S_) main_v16 main_c_5
  let main_v18 : IVec S_ 1 := andi main_v13 main_v17
  main_v18

def fn {F : FTy → Type} [FloatOps F] (main_arg0 : FVec F S4096x4x64 .f32) (main_arg1 : FVec F S4096x2x64 .f32) (main_arg2 : FVec F S4096x2x64 .f32) (main_arg3 : FVec F S4096x4x64 .f32) : IVec S_ 1 :=
  let main_v0 : FVec F S4096x4x64 .f32 := Host.absf main_arg0
  let main_cst : FVec F S_ .f32 := constant S_ .f32 0x7F800000#32
  let main_v1 : FVec F S4096x4x64 .f32 := broadcastInDim S4096x4x64 ![] bcast_S_S4096x4x64 main_cst
  let main_v2 : IVec S4096x4x64 1 := cmpf .olt main_v0 main_v1
  let main_c : IVec S_ 1 := constantI S_ 1 1#1
  let main_v3 : IVec S_ 1 := (fun x v => Host.reduce IntOp.andi x v reducesTo_S4096x4x64_S_d0_1_2 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S4096x4x64 .f32 := Host.absf main_arg3
  let main_cst_4 : FVec F S_ .f32 := constant S_ .f32 0x7F800000#32
  let main_v15 : FVec F S4096x4x64 .f32 := broadcastInDim S4096x4x64 ![] bcast_S_S4096x4x64 main_cst_4
  let main_v16 : IVec S4096x4x64 1 := cmpf .olt main_v14 main_v15
  fn_part1 (F := F) main_v13 main_v16
-- ==== Pre_finite6.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024 .f32) (main_arg3 : FVec F S1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite7.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024 .f32) (main_arg3 : FVec F S4096x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x6x96 : Shape := ⟨3, ![4096, 6, 96]⟩
abbrev S4096x6x64 : Shape := ⟨3, ![4096, 6, 64]⟩
abbrev S_ : Shape := ⟨0, ![]⟩
abbrev S4096x6x128 : Shape := ⟨3, ![4096, 6, 128]⟩
abbrev S4096x768 : Shape := ⟨2, ![4096, 768]⟩
abbrev S4096x384 : Shape := ⟨2, ![4096, 384]⟩
abbrev S4096x1152 : Shape := ⟨2, ![4096, 1152]⟩
abbrev S4096x640 : Shape := ⟨2, ![4096, 640]⟩
abbrev S4096x1024 : Shape := ⟨2, ![4096, 1024]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x128 : Shape := ⟨2, ![1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 32
  | .vmem => 28
  | .smem => 0
  | _ => 0

abbrev bufTy : (tb : Table) → Fin (tcTables nBuf tb) → BufTy
  | .hbm, ⟨0, _⟩ => ⟨S4096x6x96, .f32⟩
  | .hbm, ⟨1, _⟩ => ⟨S4096x6x96, .f32⟩
  | .hbm, ⟨2, _⟩ => ⟨S4096x6x64, .f32⟩
  | .hbm, ⟨3, _⟩ => ⟨S4096x6x64, .f32⟩
  | .hbm, ⟨4, _⟩ => ⟨S_, .i32⟩
  | .hbm, ⟨5, _⟩ => ⟨S_, .f32⟩
  | .hbm, ⟨6, _⟩ => ⟨S4096x6x128, .f32⟩
  | .hbm, ⟨7, _⟩ => ⟨S4096x768, .f32⟩
  | .hbm, ⟨8, _⟩ => ⟨S_, .f32⟩
  | .hbm, ⟨9, _⟩ => ⟨S4096x768, .f32⟩
  | .hbm, ⟨10, _⟩ => ⟨S4096x768, .f32⟩
  | .hbm, ⟨11, _⟩ => ⟨S4096x768, .bf16⟩
  | .hbm, ⟨12, _⟩ => ⟨S_, .i32⟩
  | .hbm, ⟨13, _⟩ => ⟨S_, .f32⟩
  | .hbm, ⟨14, _⟩ => ⟨S4096x6x128, .f32⟩
  | .hbm, ⟨15, _⟩ => ⟨S4096x768, .f32⟩
  | .hbm, ⟨16, _⟩ => ⟨S4096x768, .bf16⟩
  | .hbm, ⟨17, _⟩ => ⟨S4096x384, .f32⟩
  | .hbm, ⟨18, _⟩ => ⟨S4096x384, .bf16⟩
  | .hbm, ⟨19, _⟩ => ⟨S4096x1152, .bf16⟩
  | .hbm, ⟨20, _⟩ => ⟨S4096x384, .f32⟩
  | .hbm, ⟨21, _⟩ => ⟨S_, .f32⟩
  | .hbm, ⟨22, _⟩ => ⟨S4096x640, .f32⟩
  | .hbm, ⟨23, _⟩ => ⟨S4096x1024, .f32⟩
  | .hbm, ⟨24, _⟩ => ⟨S4096x384, .bf16⟩
  | .hbm, ⟨25, _⟩ => ⟨S4096x384, .f32⟩
  | .hbm, ⟨26, _⟩ => ⟨S4096x768, .f32⟩
  | .hbm, ⟨27, _⟩ => ⟨S4096x768, .f32⟩
  | .hbm, ⟨28, _⟩ => ⟨S4096x384, .f32⟩
  | .hbm, ⟨29, _⟩ => ⟨S_, .f32⟩
  | .hbm, ⟨30, _⟩ => ⟨S4096x768, .f32⟩
  | .hbm, ⟨31, _⟩ => ⟨S4096x768, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .bf16⟩
  | .local _ .vmem, ⟨19, _⟩ => ⟨S1024x128, .bf16⟩
  | .local _ .vmem, ⟨20, _⟩ => ⟨S1024x128, .f32⟩
  | .local _ .vmem, ⟨21, _⟩ => ⟨S1024x128, .f32⟩
  | .local _ .vmem, ⟨22, _⟩ => ⟨S1024x256, .f32⟩
  | .local _ .vmem, ⟨23, _⟩ => ⟨S1024x256, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S4096x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![3, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S4096x6x96 : Shape := ⟨3, ![4096, 6, 96]⟩
abbrev S4096x6x64 : Shape := ⟨3, ![4096, 6, 64]⟩
abbrev S6x4096x4096 : Shape := ⟨3, ![6, 4096, 4096]⟩
abbrev S_ : Shape := ⟨0, ![]⟩
abbrev S6x4096 : Shape := ⟨2, ![6, 4096]⟩
abbrev S6x4096x1 : Shape := ⟨3, ![6, 4096, 1]⟩
abbrev S6x64x4096 : Shape := ⟨3, ![6, 64, 4096]⟩
abbrev S6x4096x96 : Shape := ⟨3, ![6, 4096, 96]⟩
abbrev S4096x384 : Shape := ⟨2, ![4096, 384]⟩
abbrev S4096x6x128 : Shape := ⟨3, ![4096, 6, 128]⟩
abbrev S4096x768 : Shape := ⟨2, ![4096, 768]⟩

abbrev nBuf : Space → Nat
  | .hbm => 84
  | .vmem => 0
  | .smem => 0
  | _ => 0

abbrev bufTy : (tb : Table) → Fin (tcTables nBuf tb) → BufTy
  | .hbm, ⟨0, _⟩ => ⟨S4096x6x96, .f32⟩
  | .hbm, ⟨1, _⟩ => ⟨S4096x6x96, .f32⟩
  | .hbm, ⟨2, _⟩ => ⟨S4096x6x64, .f32⟩
  | .hbm, ⟨3, _⟩ => ⟨S4096x6x64, .f32⟩
  | .hbm, ⟨4, _⟩ => ⟨S6x4096x4096, .f32⟩
  | .hbm, ⟨5, _⟩ => ⟨S_, .f32⟩
  | .hbm, ⟨6, _⟩ => ⟨S6x4096x4096, .f32⟩
  | .hbm, ⟨7, _⟩ => ⟨S6x4096x4096, .f32⟩
  | .hbm, ⟨8, _⟩ => ⟨S_, .f32⟩
  | .hbm, ⟨9, _⟩ => ⟨S6x4096, .f32⟩
  | .hbm, ⟨10, _⟩ => ⟨S6x4096x1, .f32⟩
  | .hbm, ⟨11, _⟩ => ⟨S6x4096x4096, .f32⟩
  | .hbm, ⟨12, _⟩ => ⟨S6x4096x4096, .i1⟩
  | .hbm, ⟨13, _⟩ => ⟨S6x4096x4096, .f32⟩
  | .hbm, ⟨14, _⟩ => ⟨S_, .f32⟩
  | .hbm, ⟨15, _⟩ => ⟨S6x4096, .f32⟩
  | .hbm, ⟨16, _⟩ => ⟨S_, .f32⟩
  | .hbm, ⟨17, _⟩ => ⟨S6x4096, .f32⟩
  | .hbm, ⟨18, _⟩ => ⟨S6x4096, .f32⟩
  | .hbm, ⟨19, _⟩ => ⟨S_, .f32⟩
  | .hbm, ⟨20, _⟩ => ⟨S6x4096, .f32⟩
  | .hbm, ⟨21, _⟩ => ⟨S6x4096, .i1⟩
  | .hbm, ⟨22, _⟩ => ⟨S_, .f32⟩
  | .hbm, ⟨23, _⟩ => ⟨S6x4096, .f32⟩
  | .hbm, ⟨24, _⟩ => ⟨S6x4096, .i1⟩
  | .hbm, ⟨25, _⟩ => ⟨S_, .f32⟩
  | .hbm, ⟨26, _⟩ => ⟨S6x4096, .f32⟩
  | .hbm, ⟨27, _⟩ => ⟨S_, .f32⟩
  | .hbm, ⟨28, _⟩ => ⟨S6x4096, .f32⟩
  | .hbm, ⟨29, _⟩ => ⟨S_, .f32⟩
  | .hbm, ⟨30, _⟩ => ⟨S6x4096, .f32⟩
  | .hbm, ⟨31, _⟩ => ⟨S6x4096, .f32⟩
  | .hbm, ⟨32, _⟩ => ⟨S6x4096, .f32⟩
  | .hbm, ⟨33, _⟩ => ⟨S6x4096x1, .f32⟩
  | .hbm, ⟨34, _⟩ => ⟨S6x4096x4096, .f32⟩
  | .hbm, ⟨35, _⟩ => ⟨S6x4096x4096, .f32⟩
  | .hbm, ⟨36, _⟩ => ⟨S6x4096x4096, .f32⟩
  | .hbm, ⟨37, _⟩ => ⟨S_, .f32⟩
  | .hbm, ⟨38, _⟩ => ⟨S6x4096, .f32⟩
  | .hbm, ⟨39, _⟩ => ⟨S6x4096x1, .f32⟩
  | .hbm, ⟨40, _⟩ => ⟨S6x4096x4096, .f32⟩
  | .hbm, ⟨41, _⟩ => ⟨S6x4096x4096, .f32⟩
  | .hbm, ⟨42, _⟩ => ⟨S6x4096x1, .f32⟩
  | .hbm, ⟨43, _⟩ => ⟨S_, .f32⟩
  | .hbm, ⟨44, _⟩ => ⟨S6x4096x1, .f32⟩
  | .hbm, ⟨45, _⟩ => ⟨S6x4096x1, .f32⟩
  | .hbm, ⟨46, _⟩ => ⟨S6x64x4096, .f32⟩
  | .hbm, ⟨47, _⟩ => ⟨S4096x6x64, .f32⟩
  | .hbm, ⟨48, _⟩ => ⟨S6x64x4096, .f32⟩
  | .hbm, ⟨49, _⟩ => ⟨S6x4096x4096, .f32⟩
  | .hbm, ⟨50, _⟩ => ⟨S6x64x4096, .f32⟩
  | .hbm, ⟨51, _⟩ => ⟨S4096x6x64, .f32⟩
  | .hbm, ⟨52, _⟩ => ⟨S6x4096x4096, .f32⟩
  | .hbm, ⟨53, _⟩ => ⟨S6x4096x4096, .f32⟩
  | .hbm, ⟨54, _⟩ => ⟨S6x4096x4096, .f32⟩
  | .hbm, ⟨55, _⟩ => ⟨S_, .f32⟩
  | .hbm, ⟨56, _⟩ => ⟨S6x4096, .f32⟩
  | .hbm, ⟨57, _⟩ => ⟨S6x4096x1, .f32⟩
  | .hbm, ⟨58, _⟩ => ⟨S6x4096x1, .f32⟩
  | .hbm, ⟨59, _⟩ => ⟨S6x4096x4096, .f32⟩
  | .hbm, ⟨60, _⟩ => ⟨S6x4096x4096, .f32⟩
  | .hbm, ⟨61, _⟩ => ⟨S_, .f32⟩
  | .hbm, ⟨62, _⟩ => ⟨S6x4096, .f32⟩
  | .hbm, ⟨63, _⟩ => ⟨S6x4096x4096, .f32⟩
  | .hbm, ⟨64, _⟩ => ⟨S6x4096x4096, .f32⟩
  | .hbm, ⟨65, _⟩ => ⟨S6x4096x4096, .f32⟩
  | .hbm, ⟨66, _⟩ => ⟨S_, .f32⟩
  | .hbm, ⟨67, _⟩ => ⟨S6x4096x4096, .f32⟩
  | .hbm, ⟨68, _⟩ => ⟨S6x4096x4096, .f32⟩
  | .hbm, ⟨69, _⟩ => ⟨S6x4096x96, .f32⟩
  | .hbm, ⟨70, _⟩ => ⟨S4096x6x96, .f32⟩
  | .hbm, ⟨71, _⟩ => ⟨S6x4096x96, .f32⟩
  | .hbm, ⟨72, _⟩ => ⟨S4096x6x96, .f32⟩
  | .hbm, ⟨73, _⟩ => ⟨S4096x384, .f32⟩
  | .hbm, ⟨74, _⟩ => ⟨S4096x384, .bf16⟩
  | .hbm, ⟨75, _⟩ => ⟨S_, .i32⟩
  | .hbm, ⟨76, _⟩ => ⟨S_, .f32⟩
  | .hbm, ⟨77, _⟩ => ⟨S4096x6x128, .f32⟩
  | .hbm, ⟨78, _⟩ => ⟨S4096x768, .f32⟩
  | .hbm, ⟨79, _⟩ => ⟨S_, .i32⟩
  | .hbm, ⟨80, _⟩ => ⟨S_, .f32⟩
  | .hbm, ⟨81, _⟩ => ⟨S4096x6x128, .f32⟩
  | .hbm, ⟨82, _⟩ => ⟨S4096x768, .f32⟩
  | .hbm, ⟨83, _⟩ => ⟨S4096x384, .f32⟩
  | _, _ => ⟨S4096x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_c_13 : Ref sig .tc := ⟨.hbm, 79, rfl⟩
abbrev main_call1_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S4x1024x704 : Shape := ⟨3, ![4, 1024, 704]⟩
abbrev S1x4096x704 : Shape := ⟨3, ![1, 4096, 704]⟩
abbrev S4096x704 : Shape := ⟨2, ![4096, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩

abbrev nBuf : Space → Nat
  | .hbm => 25
  | .vmem => 52
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x704x1024, .f32⟩
  | .hbm, ⟨14, _⟩ => ⟨S4x704x1024, .bf16⟩
  | .hbm, ⟨15, _⟩ => ⟨S4x4096x704, .bf16⟩
  | .hbm, ⟨16, _⟩ => ⟨S4x4096x704, .bf16⟩
  | .hbm, ⟨17, _⟩ => ⟨S4x4096x704, .bf16⟩
  | .hbm, ⟨18, _⟩ => ⟨S4096x1024, .f32⟩
  | .hbm, ⟨19, _⟩ => ⟨S4x704x1024, .bf16⟩
  | .hbm, ⟨20, _⟩ => ⟨S4x4096x704, .bf16⟩
  | .hbm, ⟨21, _⟩ => ⟨S4x4096x704, .bf16⟩
  | .hbm, ⟨22, _⟩ => ⟨S4x704x1024, .bf16⟩
  | .hbm, ⟨23, _⟩ => ⟨S4x704x1024, .bf16⟩
  | .hbm, ⟨24, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S4x1024x704, .bf16⟩
  | .local _ .vmem, ⟨13, _⟩ => ⟨S4x1024x704, .bf16⟩
  | .local _ .vmem, ⟨14, _⟩ => ⟨S4x704x1024, .bf16⟩
  | .local _ .vmem, ⟨15, _⟩ => ⟨S1024x1024, .f32⟩
  | .local _ .vmem, ⟨16, _⟩ => ⟨S1024x1024, .f32⟩
  | .local _ .vmem, ⟨17, _⟩ => ⟨S1x4096x704, .bf16⟩
  | .local _ .vmem, ⟨18, _⟩ => ⟨S1x4096x704, .bf16⟩
  | .local _ .vmem, ⟨19, _⟩ => ⟨S4096x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x704x1024, .bf16⟩
  | .local _ .vmem, ⟨25, _⟩ => ⟨S1x704x1024, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x1024x704, .bf16⟩
  | .local _ .vmem, ⟨30, _⟩ => ⟨S1x1024x704, .bf16⟩
  | .local _ .vmem, ⟨31, _⟩ => ⟨S1x1024x704, .bf16⟩
  | .local _ .vmem, ⟨32, _⟩ => ⟨S1x1024x704, .bf16⟩
  | .local _ .vmem, ⟨33, _⟩ => ⟨S1x1024x704, .bf16⟩
  | .local _ .vmem, ⟨34, _⟩ => ⟨S1x4096x704, .bf16⟩
  | .local _ .vmem, ⟨35, _⟩ => ⟨S1x4096x704, .bf16⟩
  | .local _ .vmem, ⟨36, _⟩ => ⟨S4096x1024, .bf16⟩
  | .local _ .vmem, ⟨37, _⟩ => ⟨S1x704x1024, .bf16⟩
  | .local _ .vmem, ⟨38, _⟩ => ⟨S1x704x1024, .bf16⟩
  | .local _ .vmem, ⟨39, _⟩ => ⟨S1x4096x704, .bf16⟩
  | .local _ .vmem, ⟨40, _⟩ => ⟨S1x4096x704, .bf16⟩
  | .local _ .vmem, ⟨41, _⟩ => ⟨S4096x1024, .bf16⟩
  | .local _ .vmem, ⟨42, _⟩ => ⟨S1x704x1024, .bf16⟩
  | .local _ .vmem, ⟨43, _⟩ => ⟨S1x704x1024, .bf16⟩
  | .local _ .vmem, ⟨44, _⟩ => ⟨S4x512x704, .bf16⟩
  | .local _ .vmem, ⟨45, _⟩ => ⟨S4x512x704, .bf16⟩
  | .local _ .vmem, ⟨46, _⟩ => ⟨S4x512x704, .bf16⟩
  | .local _ .vmem, ⟨47, _⟩ => ⟨S4x512x704, .bf16⟩
  | .local _ .vmem, ⟨48, _⟩ => ⟨S4x704x1024, .bf16⟩
  | .local _ .vmem, ⟨49, _⟩ => ⟨S4x704x1024, .bf16⟩
  | .local _ .vmem, ⟨50, _⟩ => ⟨S512x1024, .f32⟩
  | .local _ .vmem, ⟨51, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem4_1 : DmaSem sig := 51

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x1024x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨4, ![4, 1, 1, 1], ![false, false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage2_0 : Fin 2 → Memref sig .tc .vmem S1x4096x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, true]

abbrev stage2_2 : Fin 2 → Memref sig .tc .vmem S1x704x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x704x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨4, ![4, 1, 1, 1], ![false, false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, true]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true, false]

abbrev grid5 : Pipeline.Grid := ⟨4, ![4, 1, 1, 1], ![false, false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage5_0 : Fin 2 → Memref sig .tc .vmem S1x4096x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true, true]

abbrev stage5_2 : Fin 2 → Memref sig .tc .vmem S1x704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true, false]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x512x704 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S4x704x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S4x704x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S2816x1024, .f32⟩
  | .hbm, ⟨39, _⟩ => ⟨S4x704x1024, .f32⟩
  | .hbm, ⟨40, _⟩ => ⟨S4x704x1024, .bf16⟩
  | .hbm, ⟨41, _⟩ => ⟨S2816x1024, .f32⟩
  | .hbm, ⟨42, _⟩ => ⟨S4x704x1024, .f32⟩
  | .hbm, ⟨43, _⟩ => ⟨S4x704x1024, .bf16⟩
  | .hbm, ⟨44, _⟩ => ⟨S4x704x1024, .f32⟩
  | .hbm, ⟨45, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel3.lean ====
abbrev S4096x4x64 : Shape := ⟨3, ![4096, 4, 64]⟩
abbrev S4096x2x64 : Shape := ⟨3, ![4096, 2, 64]⟩
abbrev S4096x2x2x64 : Shape := ⟨4, ![4096, 2, 2, 64]⟩
abbrev S4096x256 : Shape := ⟨2, ![4096, 256]⟩
abbrev S_ : Shape := ⟨0, ![]⟩
abbrev S4096x128 : Shape := ⟨2, ![4096, 128]⟩
abbrev S4096x768 : Shape := ⟨2, ![4096, 768]⟩
abbrev S4096x1024 : Shape := ⟨2, ![4096, 1024]⟩
abbrev S1024x128 : Shape := ⟨2, ![1024, 128]⟩
abbrev S1x128 : Shape := ⟨2, ![1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 29
  | .vmem => 22
  | .smem => 0
  | _ => 0

abbrev bufTy : (tb : Table) → Fin (tcTables nBuf tb) → BufTy
  | .hbm, ⟨0, _⟩ => ⟨S4096x4x64, .f32⟩
  | .hbm, ⟨1, _⟩ => ⟨S4096x2x64, .f32⟩
  | .hbm, ⟨2, _⟩ => ⟨S4096x2x64, .f32⟩
  | .hbm, ⟨3, _⟩ => ⟨S4096x4x64, .f32⟩
  | .hbm, ⟨4, _⟩ => ⟨S4096x2x2x64, .f32⟩
  | .hbm, ⟨5, _⟩ => ⟨S4096x2x2x64, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .bf16⟩
  | .hbm, ⟨11, _⟩ => ⟨S4096x128, .f32⟩
  | .hbm, ⟨12, _⟩ => ⟨S4096x128, .bf16⟩
  | .hbm, ⟨13, _⟩ => ⟨S4096x128, .f32⟩
  | .hbm, ⟨14, _⟩ => ⟨S4096x128, .bf16⟩
  | .hbm, ⟨15, _⟩ => ⟨S_, .f32⟩
  | .hbm, ⟨16, _⟩ => ⟨S4096x768, .f32⟩
  | .hbm, ⟨17, _⟩ => ⟨S4096x2x2x64, .f32⟩
  | .hbm, ⟨18, _⟩ => ⟨S4096x2x2x64, .f32⟩
  | .hbm, ⟨19, _⟩ => ⟨S4096x256, .f32⟩
  | .hbm, ⟨20, _⟩ => ⟨S4096x1024, .f32⟩
  | .hbm, ⟨21, _⟩ => ⟨S4096x256, .bf16⟩
  | .hbm, ⟨22, _⟩ => ⟨S4096x256, .f32⟩
  | .hbm, ⟨23, _⟩ => ⟨S4096x256, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x256, .f32⟩
  | .hbm, ⟨28, _⟩ => ⟨S4096x256, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S4096x128, .bf16⟩
  | .local _ .vmem, ⟨11, _⟩ => ⟨S4096x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S4096x128, .f32⟩
  | .local _ .vmem, ⟨21, _⟩ => ⟨S4096x128, .f32⟩
  | _, _ => ⟨S4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S4096x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S4096x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== Reference3Ideal.lean ====
abbrev S4096x4x64 : Shape := ⟨3, ![4096, 4, 64]⟩
abbrev S4096x2x64 : Shape := ⟨3, ![4096, 2, 64]⟩
abbrev S4096x2x1x64 : Shape := ⟨4, ![4096, 2, 1, 64]⟩
abbrev S4096x2x2x64 : Shape := ⟨4, ![4096, 2, 2, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x4096x64 : Shape := ⟨3, ![4, 4096, 64]⟩
abbrev S4096x256 : Shape := ⟨2, ![4096, 256]⟩
abbrev S4096x128 : Shape := ⟨2, ![4096, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x4x64, .f32⟩
  | .hbm, ⟨1, _⟩ => ⟨S4096x2x64, .f32⟩
  | .hbm, ⟨2, _⟩ => ⟨S4096x2x64, .f32⟩
  | .hbm, ⟨3, _⟩ => ⟨S4096x4x64, .f32⟩
  | .hbm, ⟨4, _⟩ => ⟨S4096x2x1x64, .f32⟩
  | .hbm, ⟨5, _⟩ => ⟨S4096x2x2x64, .f32⟩
  | .hbm, ⟨6, _⟩ => ⟨S4096x4x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .i1⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4096x2x1x64, .f32⟩
  | .hbm, ⟨50, _⟩ => ⟨S4096x2x2x64, .f32⟩
  | .hbm, ⟨51, _⟩ => ⟨S4096x4x64, .f32⟩
  | .hbm, ⟨52, _⟩ => ⟨S4x64x4096, .f32⟩
  | .hbm, ⟨53, _⟩ => ⟨S4096x4x64, .f32⟩
  | .hbm, ⟨54, _⟩ => ⟨S4x64x4096, .f32⟩
  | .hbm, ⟨55, _⟩ => ⟨S4x4096x4096, .f32⟩
  | .hbm, ⟨56, _⟩ => ⟨S4x64x4096, .f32⟩
  | .hbm, ⟨57, _⟩ => ⟨S4096x4x64, .f32⟩
  | .hbm, ⟨58, _⟩ => ⟨S4096x2x2x64, .f32⟩
  | .hbm, ⟨59, _⟩ => ⟨S_, .f32⟩
  | .hbm, ⟨60, _⟩ => ⟨S4096x2x64, .f32⟩
  | .hbm, ⟨61, _⟩ => ⟨S4096x2x1x64, .f32⟩
  | .hbm, ⟨62, _⟩ => ⟨S_, .f32⟩
  | .hbm, ⟨63, _⟩ => ⟨S4096x2x64, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S_, .f32⟩
  | .hbm, ⟨74, _⟩ => ⟨S4x4096, .f32⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S4x4096x4096, .f32⟩
  | .hbm, ⟨81, _⟩ => ⟨S4x4096x64, .f32⟩
  | .hbm, ⟨82, _⟩ => ⟨S4096x4x64, .f32⟩
  | .hbm, ⟨83, _⟩ => ⟨S4x4096x64, .f32⟩
  | .hbm, ⟨84, _⟩ => ⟨S4096x4x64, .f32⟩
  | .hbm, ⟨85, _⟩ => ⟨S4096x2x2x64, .f32⟩
  | .hbm, ⟨86, _⟩ => ⟨S_, .f32⟩
  | .hbm, ⟨87, _⟩ => ⟨S4096x2x64, .f32⟩
  | .hbm, ⟨88, _⟩ => ⟨S4096x2x1x64, .f32⟩
  | .hbm, ⟨89, _⟩ => ⟨S_, .f32⟩
  | .hbm, ⟨90, _⟩ => ⟨S4096x2x64, .f32⟩
  | .hbm, ⟨91, _⟩ => ⟨S4096x2x2x64, .f32⟩
  | .hbm, ⟨92, _⟩ => ⟨S4096x2x2x64, .f32⟩
  | .hbm, ⟨93, _⟩ => ⟨S4096x256, .f32⟩
  | .hbm, ⟨94, _⟩ => ⟨S4096x256, .bf16⟩
  | .hbm, ⟨95, _⟩ => ⟨S4096x2x2x64, .f32⟩
  | .hbm, ⟨96, _⟩ => ⟨S4096x2x2x64, .f32⟩
  | .hbm, ⟨97, _⟩ => ⟨S4096x256, .f32⟩
  | .hbm, ⟨98, _⟩ => ⟨S4096x128, .f32⟩
  | .hbm, ⟨99, _⟩ => ⟨S4096x128, .f32⟩
  | _, _ => ⟨S4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_v67 : Ref sig .tc := ⟨.hbm, 88, rfl⟩
abbrev main_cst_16 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel4.lean ====
abbrev S4096x1024 : Shape := ⟨2, ![4096, 1024]⟩
abbrev S4096x256 : Shape := ⟨2, ![4096, 256]⟩
abbrev S4096x128 : Shape := ⟨2, ![4096, 128]⟩
abbrev S1024x2176 : Shape := ⟨2, ![1024, 2176]⟩
abbrev S256x768 : Shape := ⟨2, ![256, 768]⟩
abbrev S128x1152 : Shape := ⟨2, ![128, 1152]⟩
abbrev S1024x1024 : Shape := ⟨2, ![1024, 1024]⟩
abbrev S4096x2176 : Shape := ⟨2, ![4096, 2176]⟩
abbrev S4096x768 : Shape := ⟨2, ![4096, 768]⟩
abbrev S4096x1152 : Shape := ⟨2, ![4096, 1152]⟩
abbrev S2176x1024 : Shape := ⟨2, ![2176, 1024]⟩
abbrev S768x256 : Shape := ⟨2, ![768, 256]⟩
abbrev S1152x128 : Shape := ⟨2, ![1152, 128]⟩
abbrev S512x1024 : Shape := ⟨2, ![512, 1024]⟩
abbrev S512x2176 : Shape := ⟨2, ![512, 2176]⟩
abbrev S1024x256 : Shape := ⟨2, ![1024, 256]⟩
abbrev S1024x768 : Shape := ⟨2, ![1024, 768]⟩
abbrev S1024x128 : Shape := ⟨2, ![1024, 128]⟩
abbrev S1024x1152 : Shape := ⟨2, ![1024, 1152]⟩

abbrev nBuf : Space → Nat
  | .hbm => 38
  | .vmem => 49
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x128, .f32⟩
  | .hbm, ⟨3, _⟩ => ⟨S4096x1024, .f32⟩
  | .hbm, ⟨4, _⟩ => ⟨S1024x2176, .f32⟩
  | .hbm, ⟨5, _⟩ => ⟨S256x768, .f32⟩
  | .hbm, ⟨6, _⟩ => ⟨S128x1152, .f32⟩
  | .hbm, ⟨7, _⟩ => ⟨S1024x1024, .f32⟩
  | .hbm, ⟨8, _⟩ => ⟨S4096x2176, .f32⟩
  | .hbm, ⟨9, _⟩ => ⟨S4096x768, .f32⟩
  | .hbm, ⟨10, _⟩ => ⟨S4096x1152, .f32⟩
  | .hbm, ⟨11, _⟩ => ⟨S4096x1024, .f32⟩
  | .hbm, ⟨12, _⟩ => ⟨S4096x1024, .bf16⟩
  | .hbm, ⟨13, _⟩ => ⟨S4096x256, .bf16⟩
  | .hbm, ⟨14, _⟩ => ⟨S4096x128, .bf16⟩
  | .hbm, ⟨15, _⟩ => ⟨S4096x1024, .bf16⟩
  | .hbm, ⟨16, _⟩ => ⟨S4096x2176, .bf16⟩
  | .hbm, ⟨17, _⟩ => ⟨S4096x768, .bf16⟩
  | .hbm, ⟨18, _⟩ => ⟨S4096x1152, .bf16⟩
  | .hbm, ⟨19, _⟩ => ⟨S4096x1024, .bf16⟩
  | .hbm, ⟨20, _⟩ => ⟨S2176x1024, .f32⟩
  | .hbm, ⟨21, _⟩ => ⟨S2176x1024, .bf16⟩
  | .hbm, ⟨22, _⟩ => ⟨S768x256, .f32⟩
  | .hbm, ⟨23, _⟩ => ⟨S768x256, .bf16⟩
  | .hbm, ⟨24, _⟩ => ⟨S1152x128, .f32⟩
  | .hbm, ⟨25, _⟩ => ⟨S1152x128, .bf16⟩
  | .hbm, ⟨26, _⟩ => ⟨S1024x1024, .bf16⟩
  | .hbm, ⟨27, _⟩ => ⟨S4096x2176, .f32⟩
  | .hbm, ⟨28, _⟩ => ⟨S4096x768, .f32⟩
  | .hbm, ⟨29, _⟩ => ⟨S4096x1152, .bf16⟩
  | .hbm, ⟨30, _⟩ => ⟨S4096x1024, .f32⟩
  | .hbm, ⟨31, _⟩ => ⟨S1024x1024, .bf16⟩
  | .hbm, ⟨32, _⟩ => ⟨S4096x1024, .f32⟩
  | .hbm, ⟨33, _⟩ => ⟨S768x256, .bf16⟩
  | .hbm, ⟨34, _⟩ => ⟨S4096x256, .f32⟩
  | .hbm, ⟨35, _⟩ => ⟨S1152x128, .bf16⟩
  | .hbm, ⟨36, _⟩ => ⟨S4096x128, .f32⟩
  | .hbm, ⟨37, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S2176x1024, .bf16⟩
  | .local _ .vmem, ⟨3, _⟩ => ⟨S512x2176, .f32⟩
  | .local _ .vmem, ⟨4, _⟩ => ⟨S512x2176, .f32⟩
  | .local _ .vmem, ⟨5, _⟩ => ⟨S1024x256, .bf16⟩
  | .local _ .vmem, ⟨6, _⟩ => ⟨S1024x256, .bf16⟩
  | .local _ .vmem, ⟨7, _⟩ => ⟨S768x256, .bf16⟩
  | .local _ .vmem, ⟨8, _⟩ => ⟨S1024x768, .f32⟩
  | .local _ .vmem, ⟨9, _⟩ => ⟨S1024x768, .f32⟩
  | .local _ .vmem, ⟨10, _⟩ => ⟨S1024x128, .bf16⟩
  | .local _ .vmem, ⟨11, _⟩ => ⟨S1024x128, .bf16⟩
  | .local _ .vmem, ⟨12, _⟩ => ⟨S1152x128, .bf16⟩
  | .local _ .vmem, ⟨13, _⟩ => ⟨S1024x1152, .bf16⟩
  | .local _ .vmem, ⟨14, _⟩ => ⟨S1024x1152, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | .local _ .vmem, ⟨28, _⟩ => ⟨S4096x768, .bf16⟩
  | .local _ .vmem, ⟨29, _⟩ => ⟨S4096x256, .bf16⟩
  | .local _ .vmem, ⟨30, _⟩ => ⟨S768x256, .bf16⟩
  | .local _ .vmem, ⟨31, _⟩ => ⟨S1024x768, .bf16⟩
  | .local _ .vmem, ⟨32, _⟩ => ⟨S1024x768, .bf16⟩
  | .local _ .vmem, ⟨33, _⟩ => ⟨S768x256, .bf16⟩
  | .local _ .vmem, ⟨34, _⟩ => ⟨S1024x256, .f32⟩
  | .local _ .vmem, ⟨35, _⟩ => ⟨S1024x256, .f32⟩
  | .local _ .vmem, ⟨36, _⟩ => ⟨S4096x1152, .bf16⟩
  | .local _ .vmem, ⟨37, _⟩ => ⟨S4096x128, .bf16⟩
  | .local _ .vmem, ⟨38, _⟩ => ⟨S1152x128, .bf16⟩
  | .local _ .vmem, ⟨39, _⟩ => ⟨S1024x1152, .bf16⟩
  | .local _ .vmem, ⟨40, _⟩ => ⟨S1024x1152, .bf16⟩
  | .local _ .vmem, ⟨41, _⟩ => ⟨S1152x128, .bf16⟩
  | .local _ .vmem, ⟨42, _⟩ => ⟨S1024x128, .f32⟩
  | .local _ .vmem, ⟨43, _⟩ => ⟨S1024x128, .f32⟩
  | .local _ .vmem, ⟨44, _⟩ => ⟨S1024x2176, .bf16⟩
  | .local _ .vmem, ⟨45, _⟩ => ⟨S1024x2176, .bf16⟩
  | .local _ .vmem, ⟨46, _⟩ => ⟨S2176x1024, .bf16⟩
  | .local _ .vmem, ⟨47, _⟩ => ⟨S1024x1024, .f32⟩
  | .local _ .vmem, ⟨48, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg1_0 : Ref sig .tc := ⟨.vmem, 29, rfl⟩
abbrev cc6_stg2_0 : Ref sig .tc := ⟨.vmem, 30, rfl⟩
abbrev cc7_stg0_0 : Ref sig .tc := ⟨.vmem, 31, rfl⟩
abbrev cc7_stg0_1 : Ref sig .tc := ⟨.vmem, 32, rfl⟩
abbrev cc7_stg1_0 : Ref sig .tc := ⟨.vmem, 33, rfl⟩
abbrev cc7_stg2_0 : Ref sig .tc := ⟨.vmem, 34, rfl⟩
abbrev cc7_stg2_1 : Ref sig .tc := ⟨.vmem, 35, rfl⟩
abbrev cc8_stg0_0 : Ref sig .tc := ⟨.vmem, 36, rfl⟩
abbrev cc8_stg1_0 : Ref sig .tc := ⟨.vmem, 37, rfl⟩
abbrev cc8_stg2_0 : Ref sig .tc := ⟨.vmem, 38, rfl⟩
abbrev cc9_stg0_0 : Ref sig .tc := ⟨.vmem, 39, rfl⟩
abbrev cc9_stg0_1 : Ref sig .tc := ⟨.vmem, 40, rfl⟩
abbrev cc9_stg1_0 : Ref sig .tc := ⟨.vmem, 41, rfl⟩
abbrev cc9_stg2_0 : Ref sig .tc := ⟨.vmem, 42, rfl⟩
abbrev cc9_stg2_1 : Ref sig .tc := ⟨.vmem, 43, rfl⟩
abbrev cc10_stg0_0 : Ref sig .tc := ⟨.vmem, 44, rfl⟩
abbrev cc10_stg0_1 : Ref sig .tc := ⟨.vmem, 45, rfl⟩
abbrev cc10_stg1_0 : Ref sig .tc := ⟨.vmem, 46, rfl⟩
abbrev cc10_stg2_0 : Ref sig .tc := ⟨.vmem, 47, rfl⟩
abbrev cc10_stg2_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem1_0 : DmaSem sig := 29
abbrev cc6_sem2_0 : DmaSem sig := 30
abbrev cc7_sem0_0 : DmaSem sig := 31
abbrev cc7_sem0_1 : DmaSem sig := 32
abbrev cc7_sem1_0 : DmaSem sig := 33
abbrev cc7_sem2_0 : DmaSem sig := 34
abbrev cc7_sem2_1 : DmaSem sig := 35
abbrev cc8_sem0_0 : DmaSem sig := 36
abbrev cc8_sem1_0 : DmaSem sig := 37
abbrev cc8_sem2_0 : DmaSem sig := 38
abbrev cc9_sem0_0 : DmaSem sig := 39
abbrev cc9_sem0_1 : DmaSem sig := 40
abbrev cc9_sem1_0 : DmaSem sig := 41
abbrev cc9_sem2_0 : DmaSem sig := 42
abbrev cc9_sem2_1 : DmaSem sig := 43
abbrev cc10_sem0_0 : DmaSem sig := 44
abbrev cc10_sem0_1 : DmaSem sig := 45
abbrev cc10_sem1_0 : DmaSem sig := 46
abbrev cc10_sem2_0 : DmaSem sig := 47
abbrev cc10_sem2_1 : DmaSem sig := 48

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev grid1 : Pipeline.Grid := ⟨4, ![1, 4, 1, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false, true]

abbrev stage1_1 : Fin 1 → Memref sig .tc .vmem S768x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true, false]

abbrev grid2 : Pipeline.Grid := ⟨4, ![1, 4, 1, 1], ![false, false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, false, true]

abbrev stage2_1 : Fin 1 → Memref sig .tc .vmem S1152x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, true, true]

abbrev stage2_2 : Fin 2 → Memref sig .tc .vmem S1024x1152 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, false]

abbrev grid3 : Pipeline.Grid := ⟨4, ![1, 4, 1, 1], ![false, false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true, false]

abbrev grid4 : Pipeline.Grid := ⟨4, ![1, 1, 1, 1], ![false, false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, true, false]

abbrev grid5 : Pipeline.Grid := ⟨4, ![1, 4, 1, 1], ![false, false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true, false]

abbrev grid6 : Pipeline.Grid := ⟨4, ![1, 1, 1, 1], ![false, false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage6_0 : Fin 1 → Memref sig .tc .vmem S4096x768 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true, false, true]

abbrev stage6_1 : Fin 1 → Memref sig .tc .vmem S4096x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, true, true]

abbrev stage6_2 : Fin 1 → Memref sig .tc .vmem S768x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true, true, false]

abbrev grid7 : Pipeline.Grid := ⟨4, ![1, 4, 1, 1], ![false, false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage7_0 : Fin 2 → Memref sig .tc .vmem S1024x768 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, false, true]

abbrev stage7_1 : Fin 1 → Memref sig .tc .vmem S768x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false, true, true]

abbrev stage7_2 : Fin 2 → Memref sig .tc .vmem S1024x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true, false]

abbrev grid8 : Pipeline.Grid := ⟨4, ![1, 1, 1, 1], ![false, false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage8_0 : Fin 1 → Memref sig .tc .vmem S4096x1152 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true, false, true]

abbrev stage8_1 : Fin 1 → Memref sig .tc .vmem S4096x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false, true, true]

abbrev stage8_2 : Fin 1 → Memref sig .tc .vmem S1152x128 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true, true, false]

abbrev grid9 : Pipeline.Grid := ⟨4, ![1, 4, 1, 1], ![false, false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage9_0 : Fin 2 → Memref sig .tc .vmem S1024x1152 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, false, true]

abbrev stage9_1 : Fin 1 → Memref sig .tc .vmem S1152x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false, true, true]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true, true, false]

abbrev grid10 : Pipeline.Grid := ⟨4, ![1, 4, 1, 1], ![false, false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage10_0 : Fin 2 → Memref sig .tc .vmem S1024x2176 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true, false, true]

abbrev stage10_1 : Fin 1 → Memref sig .tc .vmem S2176x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, true, false]
-- ==== Reference4Ideal.lean ====
abbrev S4096x1024 : Shape := ⟨2, ![4096, 1024]⟩
abbrev S4096x256 : Shape := ⟨2, ![4096, 256]⟩
abbrev S4096x128 : Shape := ⟨2, ![4096, 128]⟩
abbrev S1024x2176 : Shape := ⟨2, ![1024, 2176]⟩
abbrev S256x768 : Shape := ⟨2, ![256, 768]⟩
abbrev S128x1152 : Shape := ⟨2, ![128, 1152]⟩
abbrev S1024x1024 : Shape := ⟨2, ![1024, 1024]⟩
abbrev S4096x2176 : Shape := ⟨2, ![4096, 2176]⟩
abbrev S4096x768 : Shape := ⟨2, ![4096, 768]⟩
abbrev S4096x1152 : Shape := ⟨2, ![4096, 1152]⟩
abbrev S1152x128 : Shape := ⟨2, ![1152, 128]⟩
abbrev S768x256 : Shape := ⟨2, ![768, 256]⟩
abbrev S2176x1024 : Shape := ⟨2, ![2176, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x128, .f32⟩
  | .hbm, ⟨3, _⟩ => ⟨S4096x1024, .f32⟩
  | .hbm, ⟨4, _⟩ => ⟨S1024x2176, .f32⟩
  | .hbm, ⟨5, _⟩ => ⟨S256x768, .f32⟩
  | .hbm, ⟨6, _⟩ => ⟨S128x1152, .f32⟩
  | .hbm, ⟨7, _⟩ => ⟨S1024x1024, .f32⟩
  | .hbm, ⟨8, _⟩ => ⟨S4096x2176, .f32⟩
  | .hbm, ⟨9, _⟩ => ⟨S4096x768, .f32⟩
  | .hbm, ⟨10, _⟩ => ⟨S4096x1152, .f32⟩
  | .hbm, ⟨11, _⟩ => ⟨S4096x1024, .f32⟩
  | .hbm, ⟨12, _⟩ => ⟨S4096x2176, .f32⟩
  | .hbm, ⟨13, _⟩ => ⟨S4096x768, .f32⟩
  | .hbm, ⟨14, _⟩ => ⟨S4096x1152, .f32⟩
  | .hbm, ⟨15, _⟩ => ⟨S4096x1024, .f32⟩
  | .hbm, ⟨16, _⟩ => ⟨S1024x1024, .f32⟩
  | .hbm, ⟨17, _⟩ => ⟨S1024x1024, .f32⟩
  | .hbm, ⟨18, _⟩ => ⟨S4096x1024, .f32⟩
  | .hbm, ⟨19, _⟩ => ⟨S1152x128, .f32⟩
  | .hbm, ⟨20, _⟩ => ⟨S128x1152, .f32⟩
  | .hbm, ⟨21, _⟩ => ⟨S4096x128, .f32⟩
  | .hbm, ⟨22, _⟩ => ⟨S768x256, .f32⟩
  | .hbm, ⟨23, _⟩ => ⟨S256x768, .f32⟩
  | .hbm, ⟨24, _⟩ => ⟨S4096x256, .f32⟩
  | .hbm, ⟨25, _⟩ => ⟨S2176x1024, .f32⟩
  | .hbm, ⟨26, _⟩ => ⟨S1024x2176, .f32⟩
  | .hbm, ⟨27, _⟩ => ⟨S4096x1024, .f32⟩
  | .hbm, ⟨28, _⟩ => ⟨S4096x1152, .bf16⟩
  | .hbm, ⟨29, _⟩ => ⟨S1024x1024, .bf16⟩
  | .hbm, ⟨30, _⟩ => ⟨S768x256, .f32⟩
  | .hbm, ⟨31, _⟩ => ⟨S768x256, .bf16⟩
  | .hbm, ⟨32, _⟩ => ⟨S1152x128, .f32⟩
  | .hbm, ⟨33, _⟩ => ⟨S1152x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel5.lean ====
abbrev S4096x1024 : Shape := ⟨2, ![4096, 1024]⟩
abbrev S4096x2176 : Shape := ⟨2, ![4096, 2176]⟩
abbrev S2176x1024 : Shape := ⟨2, ![2176, 1024]⟩
abbrev S2048x2176 : Shape := ⟨2, ![2048, 2176]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2176, .f32⟩
  | .hbm, ⟨2, _⟩ => ⟨S4096x2176, .bf16⟩
  | .hbm, ⟨3, _⟩ => ⟨S4096x1024, .bf16⟩
  | .hbm, ⟨4, _⟩ => ⟨S2176x1024, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S2176x1024, .bf16⟩
  | .local _ .vmem, ⟨5, _⟩ => ⟨S2176x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference5Ideal.lean ====
abbrev S4096x1024 : Shape := ⟨2, ![4096, 1024]⟩
abbrev S4096x2176 : Shape := ⟨2, ![4096, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2176, .f32⟩
  | .hbm, ⟨2, _⟩ => ⟨S_, .f32⟩
  | .hbm, ⟨3, _⟩ => ⟨S1024x2176, .f32⟩
  | .hbm, ⟨4, _⟩ => ⟨S4096x2176, .f32⟩
  | .hbm, ⟨5, _⟩ => ⟨S2176x1024, .f32⟩
  | .hbm, ⟨6, _⟩ => ⟨S1024x2176, .f32⟩
  | .hbm, ⟨7, _⟩ => ⟨S2176x1024, .f32⟩
  | .hbm, ⟨8, _⟩ => ⟨S2176x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 44
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .bf16⟩
  | .hbm, ⟨41, _⟩ => ⟨S1x1024, .f32⟩
  | .hbm, ⟨42, _⟩ => ⟨S1x1024, .f32⟩
  | .hbm, ⟨43, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v65 : BitVec 32 := Scalar.extui v0
  let c0_i32_27 : BitVec 32 := 0#32
  let v66 : BitVec 1 := Scalar.cmpi .ne v65 c0_i32_27
  v66

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v67 : BitVec 1 := Scalar.xori v0 true_28
  let v68 : BitVec 32 := Scalar.extui v67
  let c0_i32_29 : BitVec 32 := 0#32
  let v69 : BitVec 1 := Scalar.cmpi .ne v68 c0_i32_29
  v69

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v14 : BitVec 32 := Scalar.extui v0
  let c0_i32_6 : BitVec 32 := 0#32
  let v15 : BitVec 1 := Scalar.cmpi .ne v14 c0_i32_6
  v15

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v16 : BitVec 1 := Scalar.xori v0 v_true
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S_, .f32⟩
  | .hbm, ⟨109, _⟩ => ⟨S4096, .f32⟩
  | .hbm, ⟨110, _⟩ => ⟨S4096x1024, .f32⟩
  | .hbm, ⟨111, _⟩ => ⟨S4096x1024, .f32⟩
  | .hbm, ⟨112, _⟩ => ⟨S1x1, .f32⟩
  | .hbm, ⟨113, _⟩ => ⟨S4096x1024, .bf16⟩
  | .hbm, ⟨114, _⟩ => ⟨S1x1024, .f32⟩
  | .hbm, ⟨115, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_22 : BitVec 32 := 0#32
  let v53 : BitVec 1 := Scalar.cmpi .ne v52 c0_i32_22
  v53

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v54 : BitVec 1 := Scalar.xori v0 v_true
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .bf16⟩
  | .hbm, ⟨96, _⟩ => ⟨S1x1024, .f32⟩
  | .hbm, ⟨97, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel9.lean ====
abbrev S80x128 : Shape := ⟨2, ![80, 128]⟩
abbrev S8x80x128 : Shape := ⟨3, ![8, 80, 128]⟩
abbrev S1x80x128 : Shape := ⟨3, ![1, 80, 128]⟩

abbrev nBuf : Space → Nat
  | .hbm => 8
  | .vmem => 8
  | .smem => 0
  | _ => 0

abbrev bufTy : (tb : Table) → Fin (tcTables nBuf tb) → BufTy
  | .hbm, ⟨0, _⟩ => ⟨S80x128, .f32⟩
  | .hbm, ⟨1, _⟩ => ⟨S8x80x128, .f32⟩
  | .hbm, ⟨2, _⟩ => ⟨S80x128, .f32⟩
  | .hbm, ⟨3, _⟩ => ⟨S80x128, .f32⟩
  | .hbm, ⟨4, _⟩ => ⟨S80x128, .f32⟩
  | .hbm, ⟨5, _⟩ => ⟨S80x128, .f32⟩
  | .hbm, ⟨6, _⟩ => ⟨S80x128, .f32⟩
  | .hbm, ⟨7, _⟩ => ⟨S80x128, .f32⟩
  | .local _ .vmem, ⟨0, _⟩ => ⟨S80x128, .f32⟩
  | .local _ .vmem, ⟨1, _⟩ => ⟨S8x80x128, .f32⟩
  | .local _ .vmem, ⟨2, _⟩ => ⟨S80x128, .f32⟩
  | .local _ .vmem, ⟨3, _⟩ => ⟨S80x128, .f32⟩
  | .local _ .vmem, ⟨4, _⟩ => ⟨S80x128, .f32⟩
  | .local _ .vmem, ⟨5, _⟩ => ⟨S80x128, .f32⟩
  | .local _ .vmem, ⟨6, _⟩ => ⟨S80x128, .f32⟩
  | .local _ .vmem, ⟨7, _⟩ => ⟨S80x128, .f32⟩
  | _, _ => ⟨S80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference9Ideal.lean ====
abbrev S80x128 : Shape := ⟨2, ![80, 128]⟩
abbrev S8x80x128 : Shape := ⟨3, ![8, 80, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S80x128, .f32⟩
  | .hbm, ⟨1, _⟩ => ⟨S8x80x128, .f32⟩
  | .hbm, ⟨2, _⟩ => ⟨S80x128, .f32⟩
  | .hbm, ⟨3, _⟩ => ⟨S80x128, .f32⟩
  | .hbm, ⟨4, _⟩ => ⟨S_, .f32⟩
  | .hbm, ⟨5, _⟩ => ⟨S80x128, .f32⟩
  | .hbm, ⟨6, _⟩ => ⟨S_, .f32⟩
  | .hbm, ⟨7, _⟩ => ⟨S80x128, .f32⟩
  | .hbm, ⟨8, _⟩ => ⟨S80x128, .f32⟩
  | .hbm, ⟨9, _⟩ => ⟨S_, .f32⟩
  | .hbm, ⟨10, _⟩ => ⟨S80x128, .f32⟩
  | .hbm, ⟨11, _⟩ => ⟨S80x128, .f32⟩
  | .hbm, ⟨12, _⟩ => ⟨S80x128, .f32⟩
  | .hbm, ⟨13, _⟩ => ⟨S_, .f32⟩
  | .hbm, ⟨14, _⟩ => ⟨S80x128, .f32⟩
  | .hbm, ⟨15, _⟩ => ⟨S80x128, .f32⟩
  | .hbm, ⟨16, _⟩ => ⟨S80x128, .f32⟩
  | .hbm, ⟨17, _⟩ => ⟨S_, .f32⟩
  | .hbm, ⟨18, _⟩ => ⟨S80x128, .f32⟩
  | .hbm, ⟨19, _⟩ => ⟨S80x128, .f32⟩
  | .hbm, ⟨20, _⟩ => ⟨S80x128, .f32⟩
  | .hbm, ⟨21, _⟩ => ⟨S_, .f32⟩
  | .hbm, ⟨22, _⟩ => ⟨S80x128, .f32⟩
  | .hbm, ⟨23, _⟩ => ⟨S80x128, .f32⟩
  | .hbm, ⟨24, _⟩ => ⟨S_, .f32⟩
  | .hbm, ⟨25, _⟩ => ⟨S80x128, .f32⟩
  | .hbm, ⟨26, _⟩ => ⟨S80x128, .f32⟩
  | .hbm, ⟨27, _⟩ => ⟨S80x128, .f32⟩
  | .hbm, ⟨28, _⟩ => ⟨S_, .f32⟩
  | .hbm, ⟨29, _⟩ => ⟨S80x128, .f32⟩
  | .hbm, ⟨30, _⟩ => ⟨S80x128, .f32⟩
  | .hbm, ⟨31, _⟩ => ⟨S80x128, .f32⟩
  | .hbm, ⟨32, _⟩ => ⟨S_, .f32⟩
  | .hbm, ⟨33, _⟩ => ⟨S80x128, .f32⟩
  | .hbm, ⟨34, _⟩ => ⟨S80x128, .f32⟩
  | .hbm, ⟨35, _⟩ => ⟨S80x128, .f32⟩
  | .hbm, ⟨36, _⟩ => ⟨S_, .f32⟩
  | .hbm, ⟨37, _⟩ => ⟨S80x128, .f32⟩
  | .hbm, ⟨38, _⟩ => ⟨S80x128, .f32⟩
  | _, _ => ⟨S80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S4096x6x96 : Shape := ⟨3, ![4096, 6, 96]⟩
abbrev S4096x6x64 : Shape := ⟨3, ![4096, 6, 64]⟩
abbrev S4096x32 : Shape := ⟨2, ![4096, 32]⟩
abbrev S_ : Shape := ⟨0, ![]⟩
abbrev S4096x6x128 : Shape := ⟨3, ![4096, 6, 128]⟩
abbrev S4096x768 : Shape := ⟨2, ![4096, 768]⟩
abbrev S4096x384 : Shape := ⟨2, ![4096, 384]⟩
abbrev S4096x1152 : Shape := ⟨2, ![4096, 1152]⟩
abbrev S4096x128 : Shape := ⟨2, ![4096, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x48 : Shape := ⟨2, ![4096, 48]⟩
abbrev S4096x80 : Shape := ⟨2, ![4096, 80]⟩
abbrev S512x768 : Shape := ⟨2, ![512, 768]⟩
abbrev S512x1152 : Shape := ⟨2, ![512, 1152]⟩
abbrev S512x128 : Shape := ⟨2, ![512, 128]⟩

abbrev nBuf : Space → Nat
  | .hbm => 59
  | .vmem => 16
  | .smem => 0
  | _ => 0

abbrev bufTy : (tb : Table) → Fin (tcTables nBuf tb) → BufTy
  | .hbm, ⟨0, _⟩ => ⟨S4096x6x96, .f32⟩
  | .hbm, ⟨1, _⟩ => ⟨S4096x6x64, .f32⟩
  | .hbm, ⟨2, _⟩ => ⟨S4096x32, .f32⟩
  | .hbm, ⟨3, _⟩ => ⟨S_, .i32⟩
  | .hbm, ⟨4, _⟩ => ⟨S_, .f32⟩
  | .hbm, ⟨5, _⟩ => ⟨S4096x6x128, .f32⟩
  | .hbm, ⟨6, _⟩ => ⟨S4096x768, .f32⟩
  | .hbm, ⟨7, _⟩ => ⟨S_, .i32⟩
  | .hbm, ⟨8, _⟩ => ⟨S_, .f32⟩
  | .hbm, ⟨9, _⟩ => ⟨S4096x6x128, .f32⟩
  | .hbm, ⟨10, _⟩ => ⟨S4096x768, .f32⟩
  | .hbm, ⟨11, _⟩ => ⟨S_, .f32⟩
  | .hbm, ⟨12, _⟩ => ⟨S4096x384, .f32⟩
  | .hbm, ⟨13, _⟩ => ⟨S4096x1152, .f32⟩
  | .hbm, ⟨14, _⟩ => ⟨S4096x1152, .bf16⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S4096, .f32⟩
  | .hbm, ⟨34, _⟩ => ⟨S4096x1, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S_, .f32⟩
  | .hbm, ⟨42, _⟩ => ⟨S4096x64, .f32⟩
  | .hbm, ⟨43, _⟩ => ⟨S_, .f32⟩
  | .hbm, ⟨44, _⟩ => ⟨S4096x32, .f32⟩
  | .hbm, ⟨45, _⟩ => ⟨S4096x128, .f32⟩
  | .hbm, ⟨46, _⟩ => ⟨S_, .f32⟩
  | .hbm, ⟨47, _⟩ => ⟨S4096x64, .f32⟩
  | .hbm, ⟨48, _⟩ => ⟨S4096x16, .f32⟩
  | .hbm, ⟨49, _⟩ => ⟨S_, .f32⟩
  | .hbm, ⟨50, _⟩ => ⟨S4096x48, .f32⟩
  | .hbm, ⟨51, _⟩ => ⟨S4096x128, .f32⟩
  | .hbm, ⟨52, _⟩ => ⟨S_, .f32⟩
  | .hbm, ⟨53, _⟩ => ⟨S4096x80, .f32⟩
  | .hbm, ⟨54, _⟩ => ⟨S_, .f32⟩
  | .hbm, ⟨55, _⟩ => ⟨S4096x32, .f32⟩
  | .hbm, ⟨56, _⟩ => ⟨S4096x128, .f32⟩
  | .hbm, ⟨57, _⟩ => ⟨S4096x768, .bf16⟩
  | .hbm, ⟨58, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S512x1152, .bf16⟩
  | .local _ .vmem, ⟨3, _⟩ => ⟨S512x1152, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | _, _ => ⟨S4096x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x6x96 : Shape := ⟨3, ![4096, 6, 96]⟩
abbrev S4096x6x64 : Shape := ⟨3, ![4096, 6, 64]⟩
abbrev S4096x32 : Shape := ⟨2, ![4096, 32]⟩
abbrev S4096x6x32 : Shape := ⟨3, ![4096, 6, 32]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x6x16 : Shape := ⟨3, ![4096, 6, 16]⟩
abbrev S4096x1x32 : Shape := ⟨3, ![4096, 1, 32]⟩
abbrev S4096x6x128 : Shape := ⟨3, ![4096, 6, 128]⟩
abbrev S4096x768 : Shape := ⟨2, ![4096, 768]⟩

abbrev nBuf : Space → Nat
  | .hbm => 59
  | .vmem => 0
  | .smem => 0
  | _ => 0

abbrev bufTy : (tb : Table) → Fin (tcTables nBuf tb) → BufTy
  | .hbm, ⟨0, _⟩ => ⟨S4096x6x96, .f32⟩
  | .hbm, ⟨1, _⟩ => ⟨S4096x6x64, .f32⟩
  | .hbm, ⟨2, _⟩ => ⟨S4096x32, .f32⟩
  | .hbm, ⟨3, _⟩ => ⟨S4096x6x64, .f32⟩
  | .hbm, ⟨4, _⟩ => ⟨S4096x6x32, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1x16, .f32⟩
  | .hbm, ⟨27, _⟩ => ⟨S4096x16, .f32⟩
  | .hbm, ⟨28, _⟩ => ⟨S4096x1x16, .f32⟩
  | .hbm, ⟨29, _⟩ => ⟨S4096x6x16, .f32⟩
  | .hbm, ⟨30, _⟩ => ⟨S4096x6x16, .f32⟩
  | .hbm, ⟨31, _⟩ => ⟨S4096x6x16, .f32⟩
  | .hbm, ⟨32, _⟩ => ⟨S4096x6x16, .f32⟩
  | .hbm, ⟨33, _⟩ => ⟨S4096x6x16, .f32⟩
  | .hbm, ⟨34, _⟩ => ⟨S4096x6x16, .f32⟩
  | .hbm, ⟨35, _⟩ => ⟨S4096x6x16, .f32⟩
  | .hbm, ⟨36, _⟩ => ⟨S4096x6x16, .f32⟩
  | .hbm, ⟨37, _⟩ => ⟨S4096x6x16, .f32⟩
  | .hbm, ⟨38, _⟩ => ⟨S4096x6x16, .f32⟩
  | .hbm, ⟨39, _⟩ => ⟨S4096x6x16, .f32⟩
  | .hbm, ⟨40, _⟩ => ⟨S4096x6x16, .f32⟩
  | .hbm, ⟨41, _⟩ => ⟨S4096x6x32, .f32⟩
  | .hbm, ⟨42, _⟩ => ⟨S4096x6x96, .f32⟩
  | .hbm, ⟨43, _⟩ => ⟨S_, .f32⟩
  | .hbm, ⟨44, _⟩ => ⟨S4096x6x96, .f32⟩
  | .hbm, ⟨45, _⟩ => ⟨S4096x6x96, .f32⟩
  | .hbm, ⟨46, _⟩ => ⟨S4096x1x32, .f32⟩
  | .hbm, ⟨47, _⟩ => ⟨S4096x6x32, .f32⟩
  | .hbm, ⟨48, _⟩ => ⟨S4096x6x96, .f32⟩
  | .hbm, ⟨49, _⟩ => ⟨S_, .i32⟩
  | .hbm, ⟨50, _⟩ => ⟨S_, .f32⟩
  | .hbm, ⟨51, _⟩ => ⟨S4096x6x128, .f32⟩
  | .hbm, ⟨52, _⟩ => ⟨S4096x768, .f32⟩
  | .hbm, ⟨53, _⟩ => ⟨S4096x768, .bf16⟩
  | .hbm, ⟨54, _⟩ => ⟨S_, .i32⟩
  | .hbm, ⟨55, _⟩ => ⟨S_, .f32⟩
  | .hbm, ⟨56, _⟩ => ⟨S4096x6x128, .f32⟩
  | .hbm, ⟨57, _⟩ => ⟨S4096x768, .f32⟩
  | .hbm, ⟨58, _⟩ => ⟨S4096x768, .bf16⟩
  | _, _ => ⟨S4096x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c : Ref sig .tc := ⟨.hbm, 49, rfl⟩
abbrev main_call0_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_call1_v0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Run.lean ====
/-
  The kernel program's run: it ends, every buffer holds what the last boundary of its segments holds, and every counter
  is zero.
-/
module

public import proofs.«01_k».proof.Proof.Gen.KernelIdeal.Frame
public import Idealize.ShloMosaic.Adequacy
public import Idealize.ShloMosaic.Init

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- plain definitions in a metavariable's type
set_option backward.isDefEq.respectTransparency.types false in
/-- From any memory with zero counters every weakly fair execution ends, each device's buffers at the last boundary's
    contents and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The same, told of the arguments alone: they end as they were. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c)⟩, h.2⟩) (run_main m ρ)

end Cert.Attn
-- ==== Proof.BwdWord.lean ====
/-
  The arithmetic of the attention backward kernel's body on one 512-row half of a query block, one head of the pair
  and one chunk of 1024 keys, as functions of the loaded words and as sums over the extended reals.
-/
module

public import proofs.«01_k».proof.Proof.Gen.KernelIdeal.Frame
public import Idealize.ShloMosaic.Lib.Pipeline.Value
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Attn

/-! ## Positions -/

/-- Lane `d` of head `h` of a pair: the pair's 256 lanes hold 128 of each head. -/
abbrev lane (h : Fin 2) (d : Fin 128) : Fin 256 := ⟨h.val * 128 + d.val, by omega⟩
/-- Row `i` of half `j` of a block of 1024 query rows. -/
abbrev row (j : Fin 2) (i : Fin 512) : Fin 1024 := ⟨j.val * 512 + i.val, by omega⟩
/-- Key `n` of chunk `b` of the 4096 keys. -/
abbrev key (b : Fin 4) (n : Fin 1024) : Fin 4096 := ⟨b.val * 1024 + n.val, by omega⟩
/-- The head a lane of the pair belongs to. -/
abbrev headOf (l : Fin 256) : Fin 2 := ⟨l.val / 128, by omega⟩

theorem headOf_lane (h : Fin 2) (d : Fin 128) : headOf (lane h d) = h := Fin.ext (by simp only; omega)

/-- A load through a unit-stride rectangle of a matrix, at an index. -/
theorem ld_at {A B s0 s1 a b : ℕ} {e : EltTy} (X : (⟨2, ![A, B]⟩ : Shape).Idx → Elt Ideal e)
    (inb : ∀ k, (![a, b] : Fin 2 → ℕ) k + (![s0, s1] : Fin 2 → ℕ) k ≤ (⟨2, ![A, B]⟩ : Shape).size k) (i : Fin s0) (d : Fin s1)
    (i' : Fin A) (d' : Fin B) (hi : i'.val = a + i.val) (hd : d'.val = b + d.val) :
    View.ld X (Rect.unit ![a, b] ![s0, s1] inb) (ix2 i d) = X (ix2 i' d') := by
  rw [View.ld_apply]
  congr 1
  funext k
  match k with
  | ⟨0, _⟩ => exact Fin.ext ((Rect.idx_unit_val _ _ _ _ _).trans hi.symm)
  | ⟨1, _⟩ => exact Fin.ext ((Rect.idx_unit_val _ _ _ _ _).trans hd.symm)

/-- An index of a unit-stride rectangle of a matrix, placed in the matrix. -/
theorem emb_at {A B s0 s1 a b : ℕ}
    (inb : ∀ k, (![a, b] : Fin 2 → ℕ) k + (![s0, s1] : Fin 2 → ℕ) k ≤ (⟨2, ![A, B]⟩ : Shape).size k) (i : Fin s0) (d : Fin s1)
    (i' : Fin A) (d' : Fin B) (hi : i'.val = a + i.val) (hd : d'.val = b + d.val) :
    (Rect.unit (s := (⟨2, ![A, B]⟩ : Shape)) ![a, b] ![s0, s1] inb).emb (ix2 i d) = ix2 i' d' := by
  funext k
  match k with
  | ⟨0, _⟩ => exact Fin.ext ((Rect.idx_unit_val _ _ _ _ _).trans hi.symm)
  | ⟨1, _⟩ => exact Fin.ext ((Rect.idx_unit_val _ _ _ _ _).trans hd.symm)

/-! ## The words -/

theorem ninf : Ideal.ofBits .f32 0xFF800000#32 = ⊥ := by simp [Ideal.ofBits, Ideal.ieee]

/-- The lane mask of head `h` of the pair: the first 64 lanes, or the others. -/
def mk (h : Fin 2) : IVec S1x128 1 := if h = 0 then k1_pay2 else k1_pay3

theorem mk_apply : ∀ (h : Fin 2) (c : Fin 128), mk h (ix2 0 c) = if c.val / 64 = h.val then 1#1 else 0#1 := by decide +kernel

/-- The output gradient's rows with the other head's lanes at zero. -/
def dohW (mk : IVec S1x128 1) (x : FVec Ideal S512x128 .f32) : FVec Ideal S512x128 .f32 :=
  select (broadcastTo S512x128 mk broadcasts_S1x128_S512x128) x (broadcast S512x128 (Scalar.ofBits .f32 0x00000000#32))
/-- The log-sum-exp of the rows, found as the maximum over the head's own lanes. -/
def lseW (mk : IVec S1x128 1) (x : FVec Ideal S512x128 .f32) : FVec Ideal S512x1 .f32 :=
  shapeCast S512x1 (multiReduction .maximumf [1] S512 (select (broadcastTo S512x128 mk broadcasts_S1x128_S512x128) x (broadcast S512x128 (Scalar.ofBits .f32 0xFF800000#32))) 0xFF800000#32 reduces_S512x128_S512 (.inl rfl) rfl) shapeCasts_S512_S512x1
/-- The row sums of output gradient times output. -/
def dltW (g : FVec Ideal S512x128 .f32) (o : FVec Ideal S512x128 .bf16) : FVec Ideal S512x1 .f32 :=
  shapeCast S512x1 (multiReduction .add [1] S512 (mulf g (extf .f32 o bitsLt_bf16_f32)) 0x00000000#32 reduces_S512x128_S512 (.inl rfl) rfl) shapeCasts_S512_S512x1
/-- The probabilities. -/
def pW (q : FVec Ideal S512x128 .bf16) (k : FVec Ideal S1024x128 .bf16) (l : FVec Ideal S512x1 .f32) : FVec Ideal S512x1024 .f32 :=
  exp (subf (matmul dot_S512x128_S1024x128_S512x1024_1_1_0_0_n_n none q k (constant S512x1024 .f32 0x00000000#32)) (broadcastTo S512x1024 l broadcasts_S512x1_S512x1024))
/-- The score gradients. -/
def dsW (q g : FVec Ideal S512x128 .bf16) (l D : FVec Ideal S512x1 .f32) (v k : FVec Ideal S1024x128 .bf16) : FVec Ideal S512x1024 .bf16 :=
  truncf .bf16 (mulf (pW q k l) (subf (matmul dot_S512x128_S1024x128_S512x1024_1_1_0_0_n_n none g v (constant S512x1024 .f32 0x00000000#32)) (broadcastTo S512x1024 D broadcasts_S512x1_S512x1024))) bitsLt_bf16_f32
/-- One term of the query gradient added. -/
def dqW (acc : FVec Ideal S512x128 .f32) (ds : FVec Ideal S512x1024 .bf16) (k : FVec Ideal S1024x128 .bf16) : FVec Ideal S512x128 .f32 :=
  addf acc (matmul dot_S512x1024_S1024x128_S512x128_1_0_0_1_n_n none ds k (constant S512x128 .f32 0x00000000#32))
/-- One term of the key gradient (or of the value gradient) added. -/
def dkW (acc : FVec Ideal S1024x128 .f32) (ds : FVec Ideal S512x1024 .bf16) (q : FVec Ideal S512x128 .bf16) : FVec Ideal S1024x128 .f32 :=
  addf acc (matmul dot_S512x1024_S512x128_S1024x128_0_0_1_1_n_n none ds q (constant S1024x128 .f32 0x00000000#32))

theorem dohW_apply (h : Fin 2) (x : FVec Ideal S512x128 .f32) (i : Fin 512) (c : Fin 128) :
    dohW (mk h) x (ix2 i c) = if c.val / 64 = h.val then (x (ix2 i c) : EReal) else 0 := by
  pointwise [dohW]
  rw [mk_apply]
  split <;> rfl

theorem lseW_apply (h : Fin 2) (x : FVec Ideal S512x128 .f32) (i : Fin 512) :
    lseW (mk h) x (ix2 i 0) = Finset.univ.sup fun c : Fin 128 => if c.val / 64 = h.val then (x (ix2 i c) : EReal) else ⊥ := by
  pointwise [lseW]
  rw [ninf]
  exact Finset.sup_congr rfl fun c _ => by rw [mk_apply]; split <;> rfl

theorem dltW_apply (g : FVec Ideal S512x128 .f32) (o : FVec Ideal S512x128 .bf16) (i : Fin 512) :
    dltW g o (ix2 i 0) = ∑ c : Fin 128, (g (ix2 i c) : EReal) * o (ix2 i c) := by
  pointwise [dltW]

theorem pW_apply (q : FVec Ideal S512x128 .bf16) (k : FVec Ideal S1024x128 .bf16) (l : FVec Ideal S512x1 .f32) (i : Fin 512) (n : Fin 1024) :
    pW q k l (ix2 i n) = Ideal.exp ((∑ d : Fin 128, (q (ix2 i d) : EReal) * k (ix2 n d)) - l (ix2 i 0)) := by
  pointwise [pW]

theorem dsW_apply (q g : FVec Ideal S512x128 .bf16) (l D : FVec Ideal S512x1 .f32) (v k : FVec Ideal S1024x128 .bf16) (i : Fin 512) (n : Fin 1024) :
    dsW q g l D v k (ix2 i n) = Ideal.exp ((∑ d : Fin 128, (q (ix2 i d) : EReal) * k (ix2 n d)) - l (ix2 i 0)) * ((∑ c : Fin 128, (g (ix2 i c) : EReal) * v (ix2 n c)) - D (ix2 i 0)) := by
  pointwise [dsW, pW]

theorem dqW_apply (acc : FVec Ideal S512x128 .f32) (ds : FVec Ideal S512x1024 .bf16) (k : FVec Ideal S1024x128 .bf16) (i : Fin 512) (d : Fin 128) :
    dqW acc ds k (ix2 i d) = (acc (ix2 i d) : EReal) + ∑ n : Fin 1024, (ds (ix2 i n) : EReal) * k (ix2 n d) := by
  pointwise [dqW]

theorem dkW_apply (acc : FVec Ideal S1024x128 .f32) (ds : FVec Ideal S512x1024 .bf16) (q : FVec Ideal S512x128 .bf16) (n : Fin 1024) (d : Fin 128) :
    dkW acc ds q (ix2 n d) = (acc (ix2 n d) : EReal) + ∑ i : Fin 512, (ds (ix2 i n) : EReal) * q (ix2 i d) := by
  pointwise [dkW]

/-! ## The block's sums -/

section Block

variable (x0 : Vec Ideal S1024x256 .bf16) (x1 : Vec Ideal S4096x256 .bf16) (x2 : Vec Ideal S4096x128 .bf16)
  (x3 : Vec Ideal S1024x128 .f32) (x4 : Vec Ideal S1024x128 .bf16) (x5 : Vec Ideal S1024x128 .f32)

/-- The score of query row `i` and key `n` under head `h`. -/
def sB (h : Fin 2) (i : Fin 1024) (n : Fin 4096) : EReal := ∑ d : Fin 128, (x0 (ix2 i (lane h d)) : EReal) * x1 (ix2 n (lane h d))
/-- The log-sum-exp of row `i` under head `h`. -/
def lB (h : Fin 2) (i : Fin 1024) : EReal := Finset.univ.sup fun c : Fin 128 => if c.val / 64 = h.val then (x5 (ix2 i c) : EReal) else ⊥
/-- The output gradient's row `i` with the other head's lanes at zero. -/
def gB (h : Fin 2) (i : Fin 1024) (c : Fin 128) : EReal := if c.val / 64 = h.val then (x3 (ix2 i c) : EReal) else 0
/-- The row sum of output gradient times output. -/
def DB (h : Fin 2) (i : Fin 1024) : EReal := ∑ c : Fin 128, gB x3 h i c * x4 (ix2 i c)
/-- The probability of key `n` in row `i`. -/
def pB (h : Fin 2) (i : Fin 1024) (n : Fin 4096) : EReal := Ideal.exp (sB x0 x1 h i n - lB x5 h i)
/-- The score gradient. -/
def dsB (h : Fin 2) (i : Fin 1024) (n : Fin 4096) : EReal :=
  pB x0 x1 x5 h i n * ((∑ c : Fin 128, gB x3 h i c * x2 (ix2 n c)) - DB x3 x4 h i)
/-- The query gradient of the block. -/
def T6 (i : Fin 1024) (l : Fin 256) : EReal := ∑ n : Fin 4096, dsB x0 x1 x2 x3 x4 x5 (headOf l) i n * x1 (ix2 n l)
/-- The block's term of the key gradient. -/
def T7 (n : Fin 4096) (l : Fin 256) : EReal := ∑ i : Fin 1024, dsB x0 x1 x2 x3 x4 x5 (headOf l) i n * x0 (ix2 i l)
/-- The block's term of the value gradient. -/
def T8 (n : Fin 4096) (c : Fin 128) : EReal := ∑ h : Fin 2, ∑ i : Fin 1024, pB x0 x1 x5 h i n * gB x3 h i c

/-- The words of half `j` and head `h` are the block's rows. -/
structure SubOK (j h : Fin 2) (q g : FVec Ideal S512x128 .bf16) (l D : FVec Ideal S512x1 .f32) : Prop where
  q : ∀ i d, q (ix2 i d) = x0 (ix2 (row j i) (lane h d))
  g : ∀ i c, g (ix2 i c) = gB x3 h (row j i) c
  l : ∀ i, l (ix2 i 0) = lB x5 h (row j i)
  D : ∀ i, D (ix2 i 0) = DB x3 x4 h (row j i)

/-- The words of key chunk `b` and head `h` are the keys' rows and the values' rows. -/
structure KeyOK (b : Fin 4) (h : Fin 2) (v k : FVec Ideal S1024x128 .bf16) : Prop where
  k : ∀ n d, k (ix2 n d) = x1 (ix2 (key b n) (lane h d))
  v : ∀ n c, v (ix2 n c) = x2 (ix2 (key b n) c)

variable {x0 x1 x2 x3 x4 x5} {j h : Fin 2} {b : Fin 4} {q g : FVec Ideal S512x128 .bf16} {l D : FVec Ideal S512x1 .f32}
  {v k : FVec Ideal S1024x128 .bf16}

theorem pW_ok (S : SubOK x0 x3 x4 x5 j h q g l D) (K : KeyOK x1 x2 b h v k) (i : Fin 512) (n : Fin 1024) :
    pW q k l (ix2 i n) = pB x0 x1 x5 h (row j i) (key b n) := by
  rw [pW_apply, S.l]
  simp only [S.q, K.k]
  rfl

theorem dsW_ok (S : SubOK x0 x3 x4 x5 j h q g l D) (K : KeyOK x1 x2 b h v k) (i : Fin 512) (n : Fin 1024) :
    dsW q g l D v k (ix2 i n) = dsB x0 x1 x2 x3 x4 x5 h (row j i) (key b n) := by
  rw [dsW_apply, S.l, S.D]
  simp only [S.q, K.k, S.g, K.v]
  rfl

theorem lane_chunks (f : Fin 4096 → EReal) : ∑ n : Fin 4096, f n = ((∑ n, f (key 0 n) + ∑ n, f (key 1 n)) + ∑ n, f (key 2 n)) + ∑ n, f (key 3 n) := by
  rw [← Fin.sum_mul_add_fin 4 1024 f, Fin.sum_univ_four]

theorem row_halves (f : Fin 1024 → EReal) : ∑ i : Fin 1024, f i = ∑ i, f (row 0 i) + ∑ i, f (row 1 i) := by
  rw [← Fin.sum_mul_add_fin 2 512 f, Fin.sum_univ_two]

/-- One stored piece of the key gradient: what was held plus the block's term. -/
theorem piece7 {q' g' : FVec Ideal S512x128 .bf16} {l' D' : FVec Ideal S512x1 .f32} {v' k' : FVec Ideal S1024x128 .bf16}
    {acc : FVec Ideal S1024x128 .f32} {A : Fin 4096 → Fin 256 → EReal}
    (S : SubOK x0 x3 x4 x5 0 h q g l D) (K : KeyOK x1 x2 b h v k) (S' : SubOK x0 x3 x4 x5 1 h q' g' l' D') (K' : KeyOK x1 x2 b h v' k')
    (hacc : ∀ n d, acc (ix2 n d) = A (key b n) (lane h d)) (n : Fin 1024) (d : Fin 128) :
    dkW (dkW acc (dsW q g l D v k) q) (dsW q' g' l' D' v' k') q' (ix2 n d)
      = A (key b n) (lane h d) + T7 x0 x1 x2 x3 x4 x5 (key b n) (lane h d) := by
  rw [dkW_apply, dkW_apply, hacc, T7, row_halves, headOf_lane]
  simp only [dsW_ok S K, dsW_ok S' K', S.q, S'.q]
  exact add_assoc _ _ _

/-- One stored piece of the value gradient: what was held plus the block's term, both heads' lanes together. -/
theorem piece8 {q0 q1 g0 g1 q0' q1' g0' g1' : FVec Ideal S512x128 .bf16} {l0 l1 D0 D1 l0' l1' D0' D1' : FVec Ideal S512x1 .f32}
    {v0 v1 v0' v1' k0 k1 k0' k1' : FVec Ideal S1024x128 .bf16}
    {acc Z Z' : FVec Ideal S1024x128 .f32} {A : Fin 4096 → Fin 128 → EReal}
    (S0 : SubOK x0 x3 x4 x5 0 0 q0 g0 l0 D0) (K0 : KeyOK x1 x2 b 0 v0 k0) (S1 : SubOK x0 x3 x4 x5 0 1 q1 g1 l1 D1) (K1 : KeyOK x1 x2 b 1 v1 k1)
    (S0' : SubOK x0 x3 x4 x5 1 0 q0' g0' l0' D0') (K0' : KeyOK x1 x2 b 0 v0' k0') (S1' : SubOK x0 x3 x4 x5 1 1 q1' g1' l1' D1') (K1' : KeyOK x1 x2 b 1 v1' k1')
    (hZ : ∀ j, Z j = (0 : EReal)) (hZ' : ∀ j, Z' j = (0 : EReal))
    (hacc : ∀ n c, acc (ix2 n c) = A (key b n) c) (n : Fin 1024) (c : Fin 128) :
    addf (addf acc (dkW (dkW Z (truncf .bf16 (pW q0 k0 l0) bitsLt_bf16_f32) g0) (truncf .bf16 (pW q1 k1 l1) bitsLt_bf16_f32) g1))
        (dkW (dkW Z' (truncf .bf16 (pW q0' k0' l0') bitsLt_bf16_f32) g0') (truncf .bf16 (pW q1' k1' l1') bitsLt_bf16_f32) g1') (ix2 n c)
      = A (key b n) c + T8 x0 x1 x3 x5 (key b n) c := by
  show ((acc (ix2 n c) : EReal) + dkW (dkW Z (truncf .bf16 (pW q0 k0 l0) bitsLt_bf16_f32) g0) (truncf .bf16 (pW q1 k1 l1) bitsLt_bf16_f32) g1 (ix2 n c))
    + dkW (dkW Z' (truncf .bf16 (pW q0' k0' l0') bitsLt_bf16_f32) g0') (truncf .bf16 (pW q1' k1' l1') bitsLt_bf16_f32) g1' (ix2 n c) = _
  rw [dkW_apply, dkW_apply, dkW_apply, dkW_apply, hZ, hZ', hacc, T8, Fin.sum_univ_two, row_halves, row_halves, zero_add, zero_add]
  have e0 : ∀ i, truncf .bf16 (pW q0 k0 l0) bitsLt_bf16_f32 (ix2 i n) = pB x0 x1 x5 0 (row 0 i) (key b n) := fun i => pW_ok S0 K0 i n
  have e1 : ∀ i, truncf .bf16 (pW q1 k1 l1) bitsLt_bf16_f32 (ix2 i n) = pB x0 x1 x5 1 (row 0 i) (key b n) := fun i => pW_ok S1 K1 i n
  have e0' : ∀ i, truncf .bf16 (pW q0' k0' l0') bitsLt_bf16_f32 (ix2 i n) = pB x0 x1 x5 0 (row 1 i) (key b n) := fun i => pW_ok S0' K0' i n
  have e1' : ∀ i, truncf .bf16 (pW q1' k1' l1') bitsLt_bf16_f32 (ix2 i n) = pB x0 x1 x5 1 (row 1 i) (key b n) := fun i => pW_ok S1' K1' i n
  simp only [e0, e1, e0', e1', S0.g, S1.g, S0'.g, S1'.g]
  ac_rfl

/-- One stored piece of the query gradient: the four chunks of keys added up. -/
theorem piece6 {v0 v1 v2 v3 k0 k1 k2 k3 : FVec Ideal S1024x128 .bf16} {Z : FVec Ideal S512x128 .f32}
    (S : SubOK x0 x3 x4 x5 j h q g l D) (K0 : KeyOK x1 x2 0 h v0 k0) (K1 : KeyOK x1 x2 1 h v1 k1) (K2 : KeyOK x1 x2 2 h v2 k2) (K3 : KeyOK x1 x2 3 h v3 k3)
    (hZ : ∀ j, Z j = (0 : EReal)) (i : Fin 512) (d : Fin 128) :
    dqW (dqW (dqW (dqW Z (dsW q g l D v0 k0) k0) (dsW q g l D v1 k1) k1) (dsW q g l D v2 k2) k2) (dsW q g l D v3 k3) k3 (ix2 i d)
      = T6 x0 x1 x2 x3 x4 x5 (row j i) (lane h d) := by
  rw [dqW_apply, dqW_apply, dqW_apply, dqW_apply, hZ, T6, lane_chunks, headOf_lane, zero_add]
  simp only [dsW_ok S K0, dsW_ok S K1, dsW_ok S K2, dsW_ok S K3, K0.k, K1.k, K2.k, K3.k]

end Block

end Cert.Attn
-- ==== Proof.BwdBlock.lean ====
module

public import proofs.«01_k».proof.Proof.BwdWord

@[expose] public section

set_option maxRecDepth 16384

noncomputable section

open Idealize.ShloMosaic Idealize.ShloMosaic.TcCoe Idealize.SL.Sem
open Cert.KernelIdeal Cert.KernelIdeal.Gen

namespace Cert.Attn

/-- A stored rectangle of a matrix holds that rectangle of `G` if each of its entries does. -/
theorem piece_of {A B s0 s1 a b : ℕ} {e : EltTy} {G : (⟨2, ![A, B]⟩ : Shape).Idx → Elt Ideal e}
    (inb : ∀ k, (![a, b] : Fin 2 → ℕ) k + (![s0, s1] : Fin 2 → ℕ) k ≤ (⟨2, ![A, B]⟩ : Shape).size k)
    {w : (⟨2, ![s0, s1]⟩ : Shape).Idx → Elt Ideal e} (f : Fin s0 → Fin A) (g : Fin s1 → Fin B)
    (hi : ∀ n, (f n).val = a + n.val) (hd : ∀ d, (g d).val = b + d.val) (h : ∀ n d, w (ix2 n d) = G (ix2 (f n) (g d))) :
    ∀ x : (⟨2, ![s0, s1]⟩ : Shape).Idx, w x = G ((Rect.unit (s := (⟨2, ![A, B]⟩ : Shape)) ![a, b] ![s0, s1] inb).emb x) := fun x => by
  obtain ⟨n, d, rfl⟩ : ∃ (n : Fin s0) (d : Fin s1), x = ix2 n d := ⟨x 0, x 1, eq_ix2 x⟩
  rw [h, emb_at inb n d (f n) (g d) (hi n) (hd d)]

section

variable (x0 : Vec Ideal S1024x256 .bf16) (x1 : Vec Ideal S4096x256 .bf16) (x2 : Vec Ideal S4096x128 .bf16)
  (x3 : Vec Ideal S1024x128 .f32) (x4 : Vec Ideal S1024x128 .bf16) (x5 : Vec Ideal S1024x128 .f32)

/-- The loaded words of half `j` and head `h` of the block are the block's rows. -/
theorem sub_ok (j h : Fin 2) {a b : ℕ} (ha : a = j.val * 512) (hb : b = h.val * 128) (i0 i3 i4 i5) :
    SubOK x0 x3 x4 x5 j h (View.ld x0 (Rect.unit (s := S1024x256) ![a, b] ![512, 128] i0))
      (truncf .bf16 (dohW (mk h) (View.ld x3 (Rect.unit (s := S1024x128) ![a, 0] ![512, 128] i3))) bitsLt_bf16_f32)
      (lseW (mk h) (View.ld x5 (Rect.unit (s := S1024x128) ![a, 0] ![512, 128] i5)))
      (dltW (dohW (mk h) (View.ld x3 (Rect.unit (s := S1024x128) ![a, 0] ![512, 128] i3))) (View.ld x4 (Rect.unit (s := S1024x128) ![a, 0] ![512, 128] i4))) := by
  subst ha hb
  have hg : ∀ i c, dohW (mk h) (View.ld x3 (Rect.unit (s := S1024x128) ![j.val * 512, 0] ![512, 128] i3)) (ix2 i c) = gB x3 h (row j i) c := fun i c => by
    rw [dohW_apply, ld_at x3 i3 i c (row j i) c rfl (by omega), gB]
  refine ⟨fun i d => ld_at x0 i0 i d (row j i) (lane h d) rfl rfl, hg, fun i => ?_, fun i => ?_⟩
  · rw [lseW_apply, lB]
    exact Finset.sup_congr rfl fun c _ => by rw [ld_at x5 i5 i c (row j i) c rfl (by omega)]
  · rw [dltW_apply, DB]
    exact Finset.sum_congr rfl fun c _ => by rw [hg, ld_at x4 i4 i c (row j i) c rfl (by omega)]

/-- The loaded words of key chunk `b` and head `h` are the keys' and the values' rows. -/
theorem key_ok (b : Fin 4) (h : Fin 2) {a l : ℕ} (ha : a = b.val * 1024) (hl : l = h.val * 128) (i1 i2) :
    KeyOK x1 x2 b h (View.ld x2 (Rect.unit (s := S4096x128) ![a, 0] ![1024, 128] i2)) (View.ld x1 (Rect.unit (s := S4096x256) ![a, l] ![1024, 128] i1)) := by
  subst ha hl
  exact ⟨fun n d => ld_at x1 i1 n d (key b n) (lane h d) rfl rfl, fun n c => ld_at x2 i2 n c (key b n) c rfl (by omega)⟩

theorem sub00 : SubOK x0 x3 x4 x5 0 0 (View.ld x0 (Rect.unit (s := S1024x256) ![0, 0] ![512, 128] inb_S1024x256_S512x128_0_0))
      (truncf .bf16 (dohW k1_pay2 (View.ld x3 (Rect.unit (s := S1024x128) ![0, 0] ![512, 128] inb_S1024x128_S512x128_0_0))) bitsLt_bf16_f32)
      (lseW k1_pay2 (View.ld x5 (Rect.unit (s := S1024x128) ![0, 0] ![512, 128] inb_S1024x128_S512x128_0_0)))
      (dltW (dohW k1_pay2 (View.ld x3 (Rect.unit (s := S1024x128) ![0, 0] ![512, 128] inb_S1024x128_S512x128_0_0))) (View.ld x4 (Rect.unit (s := S1024x128) ![0, 0] ![512, 128] inb_S1024x128_S512x128_0_0))) :=
  sub_ok x0 x3 x4 x5 0 0 rfl rfl _ _ _ _

theorem sub01 : SubOK x0 x3 x4 x5 0 1 (View.ld x0 (Rect.unit (s := S1024x256) ![0, 128] ![512, 128] inb_S1024x256_S512x128_0_128))
      (truncf .bf16 (dohW k1_pay3 (View.ld x3 (Rect.unit (s := S1024x128) ![0, 0] ![512, 128] inb_S1024x128_S512x128_0_0))) bitsLt_bf16_f32)
      (lseW k1_pay3 (View.ld x5 (Rect.unit (s := S1024x128) ![0, 0] ![512, 128] inb_S1024x128_S512x128_0_0)))
      (dltW (dohW k1_pay3 (View.ld x3 (Rect.unit (s := S1024x128) ![0, 0] ![512, 128] inb_S1024x128_S512x128_0_0))) (View.ld x4 (Rect.unit (s := S1024x128) ![0, 0] ![512, 128] inb_S1024x128_S512x128_0_0))) :=
  sub_ok x0 x3 x4 x5 0 1 rfl rfl _ _ _ _

theorem sub10 : SubOK x0 x3 x4 x5 1 0 (View.ld x0 (Rect.unit (s := S1024x256) ![512, 0] ![512, 128] inb_S1024x256_S512x128_512_0))
      (truncf .bf16 (dohW k1_pay2 (View.ld x3 (Rect.unit (s := S1024x128) ![512, 0] ![512, 128] inb_S1024x128_S512x128_512_0))) bitsLt_bf16_f32)
      (lseW k1_pay2 (View.ld x5 (Rect.unit (s := S1024x128) ![512, 0] ![512, 128] inb_S1024x128_S512x128_512_0)))
      (dltW (dohW k1_pay2 (View.ld x3 (Rect.unit (s := S1024x128) ![512, 0] ![512, 128] inb_S1024x128_S512x128_512_0))) (View.ld x4 (Rect.unit (s := S1024x128) ![512, 0] ![512, 128] inb_S1024x128_S512x128_512_0))) :=
  sub_ok x0 x3 x4 x5 1 0 rfl rfl _ _ _ _

theorem sub11 : SubOK x0 x3 x4 x5 1 1 (View.ld x0 (Rect.unit (s := S1024x256) ![512, 128] ![512, 128] inb_S1024x256_S512x128_512_128))
      (truncf .bf16 (dohW k1_pay3 (View.ld x3 (Rect.unit (s := S1024x128) ![512, 0] ![512, 128] inb_S1024x128_S512x128_512_0))) bitsLt_bf16_f32)
      (lseW k1_pay3 (View.ld x5 (Rect.unit (s := S1024x128) ![512, 0] ![512, 128] inb_S1024x128_S512x128_512_0)))
      (dltW (dohW k1_pay3 (View.ld x3 (Rect.unit (s := S1024x128) ![512, 0] ![512, 128] inb_S1024x128_S512x128_512_0))) (View.ld x4 (Rect.unit (s := S1024x128) ![512, 0] ![512, 128] inb_S1024x128_S512x128_512_0))) :=
  sub_ok x0 x3 x4 x5 1 1 rfl rfl _ _ _ _

theorem key00 : KeyOK x1 x2 0 0 (View.ld x2 (Rect.unit (s := S4096x128) ![0, 0] ![1024, 128] inb_S4096x128_S1024x128_0_0)) (View.ld x1 (Rect.unit (s := S4096x256) ![0, 0] ![1024, 128] inb_S4096x256_S1024x128_0_0)) :=
  key_ok x1 x2 0 0 rfl rfl _ _

theorem key01 : KeyOK x1 x2 0 1 (View.ld x2 (Rect.unit (s := S4096x128) ![0, 0] ![1024, 128] inb_S4096x128_S1024x128_0_0)) (View.ld x1 (Rect.unit (s := S4096x256) ![0, 128] ![1024, 128] inb_S4096x256_S1024x128_0_128)) :=
  key_ok x1 x2 0 1 rfl rfl _ _

theorem key10 : KeyOK x1 x2 1 0 (View.ld x2 (Rect.unit (s := S4096x128) ![1024, 0] ![1024, 128] inb_S4096x128_S1024x128_1024_0)) (View.ld x1 (Rect.unit (s := S4096x256) ![1024, 0] ![1024, 128] inb_S4096x256_S1024x128_1024_0)) :=
  key_ok x1 x2 1 0 rfl rfl _ _

theorem key11 : KeyOK x1 x2 1 1 (View.ld x2 (Rect.unit (s := S4096x128) ![1024, 0] ![1024, 128] inb_S4096x128_S1024x128_1024_0)) (View.ld x1 (Rect.unit (s := S4096x256) ![1024, 128] ![1024, 128] inb_S4096x256_S1024x128_1024_128)) :=
  key_ok x1 x2 1 1 rfl rfl _ _

theorem key20 : KeyOK x1 x2 2 0 (View.ld x2 (Rect.unit (s := S4096x128) ![2048, 0] ![1024, 128] inb_S4096x128_S1024x128_2048_0)) (View.ld x1 (Rect.unit (s := S4096x256) ![2048, 0] ![1024, 128] inb_S4096x256_S1024x128_2048_0)) :=
  key_ok x1 x2 2 0 rfl rfl _ _

theorem key21 : KeyOK x1 x2 2 1 (View.ld x2 (Rect.unit (s := S4096x128) ![2048, 0] ![1024, 128] inb_S4096x128_S1024x128_2048_0)) (View.ld x1 (Rect.unit (s := S4096x256) ![2048, 128] ![1024, 128] inb_S4096x256_S1024x128_2048_128)) :=
  key_ok x1 x2 2 1 rfl rfl _ _

theorem key30 : KeyOK x1 x2 3 0 (View.ld x2 (Rect.unit (s := S4096x128) ![3072, 0] ![1024, 128] inb_S4096x128_S1024x128_3072_0)) (View.ld x1 (Rect.unit (s := S4096x256) ![3072, 0] ![1024, 128] inb_S4096x256_S1024x128_3072_0)) :=
  key_ok x1 x2 3 0 rfl rfl _ _

theorem key31 : KeyOK x1 x2 3 1 (View.ld x2 (Rect.unit (s := S4096x128) ![3072, 0] ![1024, 128] inb_S4096x128_S1024x128_3072_0)) (View.ld x1 (Rect.unit (s := S4096x256) ![3072, 128] ![1024, 128] inb_S4096x256_S1024x128_3072_128)) :=
  key_ok x1 x2 3 1 rfl rfl _ _

end

section

variable (x0 : Vec Ideal S1024x256 .bf16) (x1 : Vec Ideal S4096x256 .bf16) (x2 : Vec Ideal S4096x128 .bf16)
  (x3 : Vec Ideal S1024x128 .f32) (x4 : Vec Ideal S1024x128 .bf16) (x5 : Vec Ideal S1024x128 .f32)

/-- The query gradient of a block, as a matrix. -/
def G6 : Vec Ideal S1024x256 .f32 := fun y => T6 x0 x1 x2 x3 x4 x5 (y 0) (y 1)
/-- The key gradient after a block, `A` being what was held before it. -/
def G7 (A : Fin 4096 → Fin 256 → EReal) : Vec Ideal S4096x256 .f32 := fun y => A (y 0) (y 1) + T7 x0 x1 x2 x3 x4 x5 (y 0) (y 1)
/-- The value gradient after a block, `A` being what was held before it. -/
def G8 (A : Fin 4096 → Fin 128 → EReal) : Vec Ideal S4096x128 .f32 := fun y => A (y 0) (y 1) + T8 x0 x1 x3 x5 (y 0) (y 1)

end

/-- The zero word broadcast is zero everywhere. -/
theorem zeroW {s : Shape} (j : s.Idx) : broadcast s (Scalar.ofBits (F := Ideal) .f32 0x00000000#32) j = (0 : EReal) := Ideal.ofBits_zero_f32

set_option maxHeartbeats 4000000 in
/-- A later visit of a pair's key block leaves the block's query gradient. -/
theorem out_B_6 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : ¬cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) (xo7 : Vec Ideal S4096x256 .f32) (xo8 : Vec Ideal S4096x128 .f32) :
    out1_B_6 c i arg2 harg2 arg3 harg3 arg4 harg4 arg5 harg5 arg6 harg6 arg7 harg7 arg8 harg8 arg9 harg9 arg10 harg10 hc0 x0 x1 x2 x3 x4 x5 xo7 xo8 = G6 x0 x1 x2 x3 x4 x5 := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G6 x0 x1 x2 x3 x4 x5) [] [_, _, _, _] ⟨?_, ?_, ?_, ?_, trivial⟩ y (View.cover_of_tiledL _ ![512, 128] (by sl_kernel_rfl) y)
  · exact piece_of inb_S1024x256_S512x128_512_128 (G := G6 x0 x1 x2 x3 x4 x5) (row 1) (lane 1) (fun n => by simp only; omega) (fun d => by simp only; omega) fun n d => piece6 (sub11 x0 x3 x4 x5) (key01 x1 x2) (key11 x1 x2) (key21 x1 x2) (key31 x1 x2) zeroW n d
  · exact piece_of inb_S1024x256_S512x128_512_0 (G := G6 x0 x1 x2 x3 x4 x5) (row 1) (lane 0) (fun n => by simp only; omega) (fun d => by simp only; omega) fun n d => piece6 (sub10 x0 x3 x4 x5) (key00 x1 x2) (key10 x1 x2) (key20 x1 x2) (key30 x1 x2) zeroW n d
  · exact piece_of inb_S1024x256_S512x128_0_128 (G := G6 x0 x1 x2 x3 x4 x5) (row 0) (lane 1) (fun n => by simp only; omega) (fun d => by simp only; omega) fun n d => piece6 (sub01 x0 x3 x4 x5) (key01 x1 x2) (key11 x1 x2) (key21 x1 x2) (key31 x1 x2) zeroW n d
  · exact piece_of inb_S1024x256_S512x128_0_0 (G := G6 x0 x1 x2 x3 x4 x5) (row 0) (lane 0) (fun n => by simp only; omega) (fun d => by simp only; omega) fun n d => piece6 (sub00 x0 x3 x4 x5) (key00 x1 x2) (key10 x1 x2) (key20 x1 x2) (key30 x1 x2) zeroW n d

set_option maxHeartbeats 4000000 in
/-- The first visit of a pair's key block leaves the block's query gradient. -/
theorem out_A_6 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) :
    out1_A_6 c i arg2 harg2 arg3 harg3 arg4 harg4 arg5 harg5 arg6 harg6 arg7 harg7 arg8 harg8 arg9 harg9 arg10 harg10 hc0 x0 x1 x2 x3 x4 x5 = G6 x0 x1 x2 x3 x4 x5 := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G6 x0 x1 x2 x3 x4 x5) [] [_, _, _, _] ⟨?_, ?_, ?_, ?_, trivial⟩ y (View.cover_of_tiledL _ ![512, 128] (by sl_kernel_rfl) y)
  · exact piece_of inb_S1024x256_S512x128_512_128 (G := G6 x0 x1 x2 x3 x4 x5) (row 1) (lane 1) (fun n => by simp only; omega) (fun d => by simp only; omega) fun n d => piece6 (sub11 x0 x3 x4 x5) (key01 x1 x2) (key11 x1 x2) (key21 x1 x2) (key31 x1 x2) zeroW n d
  · exact piece_of inb_S1024x256_S512x128_512_0 (G := G6 x0 x1 x2 x3 x4 x5) (row 1) (lane 0) (fun n => by simp only; omega) (fun d => by simp only; omega) fun n d => piece6 (sub10 x0 x3 x4 x5) (key00 x1 x2) (key10 x1 x2) (key20 x1 x2) (key30 x1 x2) zeroW n d
  · exact piece_of inb_S1024x256_S512x128_0_128 (G := G6 x0 x1 x2 x3 x4 x5) (row 0) (lane 1) (fun n => by simp only; omega) (fun d => by simp only; omega) fun n d => piece6 (sub01 x0 x3 x4 x5) (key01 x1 x2) (key11 x1 x2) (key21 x1 x2) (key31 x1 x2) zeroW n d
  · exact piece_of inb_S1024x256_S512x128_0_0 (G := G6 x0 x1 x2 x3 x4 x5) (row 0) (lane 0) (fun n => by simp only; omega) (fun d => by simp only; omega) fun n d => piece6 (sub00 x0 x3 x4 x5) (key00 x1 x2) (key10 x1 x2) (key20 x1 x2) (key30 x1 x2) zeroW n d

set_option maxHeartbeats 4000000 in
/-- A later visit of a pair's key block leaves the block's key gradient, added to what was held. -/
theorem out_B_7 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : ¬cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) (xo7 : Vec Ideal S4096x256 .f32) (xo8 : Vec Ideal S4096x128 .f32) :
    out1_B_7 c i arg2 harg2 arg3 harg3 arg4 harg4 arg5 harg5 arg6 harg6 arg7 harg7 arg8 harg8 arg9 harg9 arg10 harg10 hc0 x0 x1 x2 x3 x4 x5 xo7 xo8 = G7 x0 x1 x2 x3 x4 x5 (fun n l => xo7 (ix2 n l)) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G7 x0 x1 x2 x3 x4 x5 (fun n l => xo7 (ix2 n l))) (_ :: _) [_, _, _, _, _, _, _, _] ⟨?_, ?_, ?_, ?_, ?_, ?_, ?_, ?_, trivial⟩ y (View.cover_of_tiledL _ ![1024, 128] (by sl_kernel_rfl) y)
  · exact piece_of inb_S4096x256_S1024x128_3072_128 (G := G7 x0 x1 x2 x3 x4 x5 (fun n l => xo7 (ix2 n l))) (key 3) (lane 1) (fun n => by simp only; omega) (fun d => by simp only; omega) fun n d => piece7 (A := fun n l => xo7 (ix2 n l)) (sub01 x0 x3 x4 x5) (key31 x1 x2) (sub11 x0 x3 x4 x5) (key31 x1 x2) (fun n d => ld_at xo7 _ n d (key 3 n) (lane 1 d) (by simp only; omega) (by simp only; omega)) n d
  · exact piece_of inb_S4096x256_S1024x128_3072_0 (G := G7 x0 x1 x2 x3 x4 x5 (fun n l => xo7 (ix2 n l))) (key 3) (lane 0) (fun n => by simp only; omega) (fun d => by simp only; omega) fun n d => piece7 (A := fun n l => xo7 (ix2 n l)) (sub00 x0 x3 x4 x5) (key30 x1 x2) (sub10 x0 x3 x4 x5) (key30 x1 x2) (fun n d => ld_at xo7 _ n d (key 3 n) (lane 0 d) (by simp only; omega) (by simp only; omega)) n d
  · exact piece_of inb_S4096x256_S1024x128_2048_128 (G := G7 x0 x1 x2 x3 x4 x5 (fun n l => xo7 (ix2 n l))) (key 2) (lane 1) (fun n => by simp only; omega) (fun d => by simp only; omega) fun n d => piece7 (A := fun n l => xo7 (ix2 n l)) (sub01 x0 x3 x4 x5) (key21 x1 x2) (sub11 x0 x3 x4 x5) (key21 x1 x2) (fun n d => ld_at xo7 _ n d (key 2 n) (lane 1 d) (by simp only; omega) (by simp only; omega)) n d
  · exact piece_of inb_S4096x256_S1024x128_2048_0 (G := G7 x0 x1 x2 x3 x4 x5 (fun n l => xo7 (ix2 n l))) (key 2) (lane 0) (fun n => by simp only; omega) (fun d => by simp only; omega) fun n d => piece7 (A := fun n l => xo7 (ix2 n l)) (sub00 x0 x3 x4 x5) (key20 x1 x2) (sub10 x0 x3 x4 x5) (key20 x1 x2) (fun n d => ld_at xo7 _ n d (key 2 n) (lane 0 d) (by simp only; omega) (by simp only; omega)) n d
  · exact piece_of inb_S4096x256_S1024x128_1024_128 (G := G7 x0 x1 x2 x3 x4 x5 (fun n l => xo7 (ix2 n l))) (key 1) (lane 1) (fun n => by simp only; omega) (fun d => by simp only; omega) fun n d => piece7 (A := fun n l => xo7 (ix2 n l)) (sub01 x0 x3 x4 x5) (key11 x1 x2) (sub11 x0 x3 x4 x5) (key11 x1 x2) (fun n d => ld_at xo7 _ n d (key 1 n) (lane 1 d) (by simp only; omega) (by simp only; omega)) n d
  · exact piece_of inb_S4096x256_S1024x128_1024_0 (G := G7 x0 x1 x2 x3 x4 x5 (fun n l => xo7 (ix2 n l))) (key 1) (lane 0) (fun n => by simp only; omega) (fun d => by simp only; omega) fun n d => piece7 (A := fun n l => xo7 (ix2 n l)) (sub00 x0 x3 x4 x5) (key10 x1 x2) (sub10 x0 x3 x4 x5) (key10 x1 x2) (fun n d => ld_at xo7 _ n d (key 1 n) (lane 0 d) (by simp only; omega) (by simp only; omega)) n d
  · exact piece_of inb_S4096x256_S1024x128_0_128 (G := G7 x0 x1 x2 x3 x4 x5 (fun n l => xo7 (ix2 n l))) (key 0) (lane 1) (fun n => by simp only; omega) (fun d => by simp only; omega) fun n d => piece7 (A := fun n l => xo7 (ix2 n l)) (sub01 x0 x3 x4 x5) (key01 x1 x2) (sub11 x0 x3 x4 x5) (key01 x1 x2) (fun n d => ld_at xo7 _ n d (key 0 n) (lane 1 d) (by simp only; omega) (by simp only; omega)) n d
  · exact piece_of inb_S4096x256_S1024x128_0_0 (G := G7 x0 x1 x2 x3 x4 x5 (fun n l => xo7 (ix2 n l))) (key 0) (lane 0) (fun n => by simp only; omega) (fun d => by simp only; omega) fun n d => piece7 (A := fun n l => xo7 (ix2 n l)) (sub00 x0 x3 x4 x5) (key00 x1 x2) (sub10 x0 x3 x4 x5) (key00 x1 x2) (fun n d => ld_at xo7 _ n d (key 0 n) (lane 0 d) (by simp only; omega) (by simp only; omega)) n d

set_option maxHeartbeats 4000000 in
/-- The first visit of a pair's key block leaves the block's key gradient. -/
theorem out_A_7 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) :
    out1_A_7 c i arg2 harg2 arg3 harg3 arg4 harg4 arg5 harg5 arg6 harg6 arg7 harg7 arg8 harg8 arg9 harg9 arg10 harg10 hc0 x0 x1 x2 x3 x4 x5 = G7 x0 x1 x2 x3 x4 x5 (fun _ _ => 0) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G7 x0 x1 x2 x3 x4 x5 (fun _ _ => 0)) (_ :: _) [_, _, _, _, _, _, _, _] ⟨?_, ?_, ?_, ?_, ?_, ?_, ?_, ?_, trivial⟩ y (View.cover_of_tiledL _ ![1024, 128] (by sl_kernel_rfl) y)
  · exact piece_of inb_S4096x256_S1024x128_3072_128 (G := G7 x0 x1 x2 x3 x4 x5 (fun _ _ => 0)) (key 3) (lane 1) (fun n => by simp only; omega) (fun d => by simp only; omega) fun n d => piece7 (A := fun _ _ => 0) (sub01 x0 x3 x4 x5) (key31 x1 x2) (sub11 x0 x3 x4 x5) (key31 x1 x2) (fun n d => zeroW _) n d
  · exact piece_of inb_S4096x256_S1024x128_3072_0 (G := G7 x0 x1 x2 x3 x4 x5 (fun _ _ => 0)) (key 3) (lane 0) (fun n => by simp only; omega) (fun d => by simp only; omega) fun n d => piece7 (A := fun _ _ => 0) (sub00 x0 x3 x4 x5) (key30 x1 x2) (sub10 x0 x3 x4 x5) (key30 x1 x2) (fun n d => zeroW _) n d
  · exact piece_of inb_S4096x256_S1024x128_2048_128 (G := G7 x0 x1 x2 x3 x4 x5 (fun _ _ => 0)) (key 2) (lane 1) (fun n => by simp only; omega) (fun d => by simp only; omega) fun n d => piece7 (A := fun _ _ => 0) (sub01 x0 x3 x4 x5) (key21 x1 x2) (sub11 x0 x3 x4 x5) (key21 x1 x2) (fun n d => zeroW _) n d
  · exact piece_of inb_S4096x256_S1024x128_2048_0 (G := G7 x0 x1 x2 x3 x4 x5 (fun _ _ => 0)) (key 2) (lane 0) (fun n => by simp only; omega) (fun d => by simp only; omega) fun n d => piece7 (A := fun _ _ => 0) (sub00 x0 x3 x4 x5) (key20 x1 x2) (sub10 x0 x3 x4 x5) (key20 x1 x2) (fun n d => zeroW _) n d
  · exact piece_of inb_S4096x256_S1024x128_1024_128 (G := G7 x0 x1 x2 x3 x4 x5 (fun _ _ => 0)) (key 1) (lane 1) (fun n => by simp only; omega) (fun d => by simp only; omega) fun n d => piece7 (A := fun _ _ => 0) (sub01 x0 x3 x4 x5) (key11 x1 x2) (sub11 x0 x3 x4 x5) (key11 x1 x2) (fun n d => zeroW _) n d
  · exact piece_of inb_S4096x256_S1024x128_1024_0 (G := G7 x0 x1 x2 x3 x4 x5 (fun _ _ => 0)) (key 1) (lane 0) (fun n => by simp only; omega) (fun d => by simp only; omega) fun n d => piece7 (A := fun _ _ => 0) (sub00 x0 x3 x4 x5) (key10 x1 x2) (sub10 x0 x3 x4 x5) (key10 x1 x2) (fun n d => zeroW _) n d
  · exact piece_of inb_S4096x256_S1024x128_0_128 (G := G7 x0 x1 x2 x3 x4 x5 (fun _ _ => 0)) (key 0) (lane 1) (fun n => by simp only; omega) (fun d => by simp only; omega) fun n d => piece7 (A := fun _ _ => 0) (sub01 x0 x3 x4 x5) (key01 x1 x2) (sub11 x0 x3 x4 x5) (key01 x1 x2) (fun n d => zeroW _) n d
  · exact piece_of inb_S4096x256_S1024x128_0_0 (G := G7 x0 x1 x2 x3 x4 x5 (fun _ _ => 0)) (key 0) (lane 0) (fun n => by simp only; omega) (fun d => by simp only; omega) fun n d => piece7 (A := fun _ _ => 0) (sub00 x0 x3 x4 x5) (key00 x1 x2) (sub10 x0 x3 x4 x5) (key00 x1 x2) (fun n d => zeroW _) n d

set_option maxHeartbeats 4000000 in
/-- A later visit of a pair's key block leaves the block's value gradient, added to what was held. -/
theorem out_B_8 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : ¬cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) (xo7 : Vec Ideal S4096x256 .f32) (xo8 : Vec Ideal S4096x128 .f32) :
    out1_B_8 c i arg2 harg2 arg3 harg3 arg4 harg4 arg5 harg5 arg6 harg6 arg7 harg7 arg8 harg8 arg9 harg9 arg10 harg10 hc0 x0 x1 x2 x3 x4 x5 xo7 xo8 = G8 x0 x1 x3 x5 (fun n l => xo8 (ix2 n l)) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G8 x0 x1 x3 x5 (fun n l => xo8 (ix2 n l))) (_ :: _) [_, _, _, _] ⟨?_, ?_, ?_, ?_, trivial⟩ y (View.cover_of_tiledL _ ![1024, 128] (by sl_kernel_rfl) y)
  · exact piece_of inb_S4096x128_S1024x128_3072_0 (G := G8 x0 x1 x3 x5 (fun n l => xo8 (ix2 n l))) (key 3) (fun d => d) (fun n => by simp only; omega) (fun d => by omega) fun n d => piece8 (A := fun n l => xo8 (ix2 n l)) (sub00 x0 x3 x4 x5) (key30 x1 x2) (sub01 x0 x3 x4 x5) (key31 x1 x2) (sub10 x0 x3 x4 x5) (key30 x1 x2) (sub11 x0 x3 x4 x5) (key31 x1 x2) zeroW zeroW (fun n d => ld_at xo8 _ n d (key 3 n) d (by simp only; omega) (by omega)) n d
  · exact piece_of inb_S4096x128_S1024x128_2048_0 (G := G8 x0 x1 x3 x5 (fun n l => xo8 (ix2 n l))) (key 2) (fun d => d) (fun n => by simp only; omega) (fun d => by omega) fun n d => piece8 (A := fun n l => xo8 (ix2 n l)) (sub00 x0 x3 x4 x5) (key20 x1 x2) (sub01 x0 x3 x4 x5) (key21 x1 x2) (sub10 x0 x3 x4 x5) (key20 x1 x2) (sub11 x0 x3 x4 x5) (key21 x1 x2) zeroW zeroW (fun n d => ld_at xo8 _ n d (key 2 n) d (by simp only; omega) (by omega)) n d
  · exact piece_of inb_S4096x128_S1024x128_1024_0 (G := G8 x0 x1 x3 x5 (fun n l => xo8 (ix2 n l))) (key 1) (fun d => d) (fun n => by simp only; omega) (fun d => by omega) fun n d => piece8 (A := fun n l => xo8 (ix2 n l)) (sub00 x0 x3 x4 x5) (key10 x1 x2) (sub01 x0 x3 x4 x5) (key11 x1 x2) (sub10 x0 x3 x4 x5) (key10 x1 x2) (sub11 x0 x3 x4 x5) (key11 x1 x2) zeroW zeroW (fun n d => ld_at xo8 _ n d (key 1 n) d (by simp only; omega) (by omega)) n d
  · exact piece_of inb_S4096x128_S1024x128_0_0 (G := G8 x0 x1 x3 x5 (fun n l => xo8 (ix2 n l))) (key 0) (fun d => d) (fun n => by simp only; omega) (fun d => by omega) fun n d => piece8 (A := fun n l => xo8 (ix2 n l)) (sub00 x0 x3 x4 x5) (key00 x1 x2) (sub01 x0 x3 x4 x5) (key01 x1 x2) (sub10 x0 x3 x4 x5) (key00 x1 x2) (sub11 x0 x3 x4 x5) (key01 x1 x2) zeroW zeroW (fun n d => ld_at xo8 _ n d (key 0 n) d (by simp only; omega) (by omega)) n d

set_option maxHeartbeats 4000000 in
/-- The first visit of a pair's key block leaves the block's value gradient. -/
theorem out_A_8 (c : Dev nD) (i : grid1.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x256 .f32) (harg8 : arg8.IsWhole) (arg9 : Memref sig .tc .vmem S4096x256 .f32) (harg9 : arg9.IsWhole) (arg10 : Memref sig .tc .vmem S4096x128 .f32) (harg10 : arg10.IsWhole) (hc0 : cond1_0 i)
    (x0 : Vec Ideal S1024x256 .bf16) (x1 : Vec Ideal S4096x256 .bf16) (x2 : Vec Ideal S4096x128 .bf16) (x3 : Vec Ideal S1024x128 .f32) (x4 : Vec Ideal S1024x128 .bf16) (x5 : Vec Ideal S1024x128 .f32) :
    out1_A_8 c i arg2 harg2 arg3 harg3 arg4 harg4 arg5 harg5 arg6 harg6 arg7 harg7 arg8 harg8 arg9 harg9 arg10 harg10 hc0 x0 x1 x2 x3 x4 x5 = G8 x0 x1 x3 x5 (fun _ _ => 0) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, shapeCast_self]
  refine View.canon_append_of_piecesOf (G8 x0 x1 x3 x5 (fun _ _ => 0)) (_ :: _) [_, _, _, _] ⟨?_, ?_, ?_, ?_, trivial⟩ y (View.cover_of_tiledL _ ![1024, 128] (by sl_kernel_rfl) y)
  · exact piece_of inb_S4096x128_S1024x128_3072_0 (G := G8 x0 x1 x3 x5 (fun _ _ => 0)) (key 3) (fun d => d) (fun n => by simp only; omega) (fun d => by omega) fun n d => piece8 (A := fun _ _ => 0) (sub00 x0 x3 x4 x5) (key30 x1 x2) (sub01 x0 x3 x4 x5) (key31 x1 x2) (sub10 x0 x3 x4 x5) (key30 x1 x2) (sub11 x0 x3 x4 x5) (key31 x1 x2) zeroW zeroW (fun n d => zeroW _) n d
  · exact piece_of inb_S4096x128_S1024x128_2048_0 (G := G8 x0 x1 x3 x5 (fun _ _ => 0)) (key 2) (fun d => d) (fun n => by simp only; omega) (fun d => by omega) fun n d => piece8 (A := fun _ _ => 0) (sub00 x0 x3 x4 x5) (key20 x1 x2) (sub01 x0 x3 x4 x5) (key21 x1 x2) (sub10 x0 x3 x4 x5) (key20 x1 x2) (sub11 x0 x3 x4 x5) (key21 x1 x2) zeroW zeroW (fun n d => zeroW _) n d
  · exact piece_of inb_S4096x128_S1024x128_1024_0 (G := G8 x0 x1 x3 x5 (fun _ _ => 0)) (key 1) (fun d => d) (fun n => by simp only; omega) (fun d => by omega) fun n d => piece8 (A := fun _ _ => 0) (sub00 x0 x3 x4 x5) (key10 x1 x2) (sub01 x0 x3 x4 x5) (key11 x1 x2) (sub10 x0 x3 x4 x5) (key10 x1 x2) (sub11 x0 x3 x4 x5) (key11 x1 x2) zeroW zeroW (fun n d => zeroW _) n d
  · exact piece_of inb_S4096x128_S1024x128_0_0 (G := G8 x0 x1 x3 x5 (fun _ _ => 0)) (key 0) (fun d => d) (fun n => by simp only; omega) (fun d => by omega) fun n d => piece8 (A := fun _ _ => 0) (sub00 x0 x3 x4 x5) (key00 x1 x2) (sub01 x0 x3 x4 x5) (key01 x1 x2) (sub10 x0 x3 x4 x5) (key00 x1 x2) (sub11 x0 x3 x4 x5) (key01 x1 x2) zeroW zeroW (fun n d => zeroW _) n d

end Cert.Attn
-- ==== Proof.FwdBlock.lean ====
/-
  The attention forward kernel's body on a block of 1024 query rows: what it leaves in its two staging buffers, the
  output and the log-sum-exp, as sums over the extended reals.
-/
module

public import proofs.«01_k».proof.Proof.BwdBlock

@[expose] public section

set_option maxRecDepth 16384

noncomputable section

open Idealize.ShloMosaic Idealize.ShloMosaic.TcCoe Idealize.SL.Sem
open Cert.KernelIdeal Cert.KernelIdeal.Gen

namespace Cert.Attn

/-- Row `i` of quarter `a` of a block of 1024 query rows. -/
abbrev rowQ (a : Fin 4) (i : Fin 256) : Fin 1024 := ⟨a.val * 256 + i.val, by omega⟩
/-- The head a lane of the values' pair belongs to. -/
abbrev headV (c : Fin 128) : Fin 2 := ⟨c.val / 64, by omega⟩

theorem fmk_apply : ∀ c : Fin 128, k0_pay3 (ix2 0 c) = if c.val < 64 then 1#1 else 0#1 := by decide +kernel

/-- The scores. -/
def fsW (q : FVec Ideal S256x128 .bf16) (k : FVec Ideal S4096x128 .bf16) : FVec Ideal S256x4096 .f32 :=
  matmul dot_S256x128_S4096x128_S256x4096_1_1_0_0_n_n none q k (constant S256x4096 .f32 0x00000000#32)
/-- The row maxima. -/
def fmW (s : FVec Ideal S256x4096 .f32) : FVec Ideal S256x1 .f32 :=
  shapeCast S256x1 (multiReduction .maximumf [1] S256 s 0xFF800000#32 reduces_S256x4096_S256 (.inl rfl) rfl) shapeCasts_S256_S256x1
/-- The exponentials of the scores less their row's maximum. -/
def feW (s : FVec Ideal S256x4096 .f32) : FVec Ideal S256x4096 .f32 := exp (subf s (broadcastTo S256x4096 (fmW s) broadcasts_S256x1_S256x4096))
/-- Their row sums. -/
def flW (s : FVec Ideal S256x4096 .f32) : FVec Ideal S256x1 .f32 :=
  shapeCast S256x1 (multiReduction .add [1] S256 (feW s) 0x00000000#32 reduces_S256x4096_S256 (.inl rfl) rfl) shapeCasts_S256_S256x1
/-- The output of one head. -/
def foW (s : FVec Ideal S256x4096 .f32) (v : FVec Ideal S4096x128 .bf16) : FVec Ideal S256x128 .f32 :=
  divf (matmul dot_S256x4096_S4096x128_S256x128_1_0_0_1_n_n none (truncf .bf16 (feW s) bitsLt_bf16_f32) v (constant S256x128 .f32 0x00000000#32)) (broadcastTo S256x128 (flW s) broadcasts_S256x1_S256x128)
/-- The log-sum-exp of one head, on every lane. -/
def fzW (s : FVec Ideal S256x4096 .f32) : FVec Ideal S256x128 .f32 :=
  broadcastTo S256x128 (addf (fmW s) (log (flW s))) broadcasts_S256x1_S256x128
/-- The first head's lanes of `x` and the other head's lanes of `y`. -/
def fselW (x y : FVec Ideal S256x128 .f32) : FVec Ideal S256x128 .f32 := select (broadcastTo S256x128 k0_pay3 broadcasts_S1x128_S256x128) x y

theorem fmW_apply (s : FVec Ideal S256x4096 .f32) (i : Fin 256) :
    fmW s (ix2 i 0) = Finset.univ.sup fun n : Fin 4096 => (s (ix2 i n) : EReal) := by
  pointwise [fmW]
  rw [ninf]
  rfl

theorem feW_apply (s : FVec Ideal S256x4096 .f32) (i : Fin 256) (n : Fin 4096) :
    feW s (ix2 i n) = Ideal.exp ((s (ix2 i n) : EReal) - fmW s (ix2 i 0)) := by
  pointwise [feW]

theorem flW_apply (s : FVec Ideal S256x4096 .f32) (i : Fin 256) :
    flW s (ix2 i 0) = ∑ n : Fin 4096, (feW s (ix2 i n) : EReal) := by
  pointwise [flW]

theorem foW_apply (s : FVec Ideal S256x4096 .f32) (v : FVec Ideal S4096x128 .bf16) (i : Fin 256) (c : Fin 128) :
    foW s v (ix2 i c) = Ideal.div (∑ n : Fin 4096, (feW s (ix2 i n) : EReal) * v (ix2 n c)) (flW s (ix2 i 0)) := by
  pointwise [foW]

theorem fzW_apply (s : FVec Ideal S256x4096 .f32) (i : Fin 256) (c : Fin 128) :
    fzW s (ix2 i c) = (fmW s (ix2 i 0) : EReal) + Ideal.log (flW s (ix2 i 0)) := by
  pointwise [fzW]

theorem fsW_apply (q : FVec Ideal S256x128 .bf16) (k : FVec Ideal S4096x128 .bf16) (i : Fin 256) (n : Fin 4096) :
    fsW q k (ix2 i n) = ∑ d : Fin 128, (q (ix2 i d) : EReal) * k (ix2 n d) := by
  pointwise [fsW]

theorem fselW_apply (x y : FVec Ideal S256x128 .f32) (i : Fin 256) (c : Fin 128) :
    fselW x y (ix2 i c) = if c.val < 64 then (x (ix2 i c) : EReal) else y (ix2 i c) := by
  pointwise [fselW]
  rw [fmk_apply]
  split <;> rfl

section Block

variable (x0 : Vec Ideal S1024x256 .bf16) (x1 : Vec Ideal S4096x256 .bf16) (x2 : Vec Ideal S4096x128 .bf16)

/-- The row maximum of the scores under head `h`. -/
def mB (h : Fin 2) (i : Fin 1024) : EReal := Finset.univ.sup fun n : Fin 4096 => sB x0 x1 h i n
/-- The exponential of a score less its row's maximum. -/
def eB (h : Fin 2) (i : Fin 1024) (n : Fin 4096) : EReal := Ideal.exp (sB x0 x1 h i n - mB x0 x1 h i)
/-- The row sum of the exponentials. -/
def zB (h : Fin 2) (i : Fin 1024) : EReal := ∑ n : Fin 4096, eB x0 x1 h i n
/-- The output of the block. -/
def G3 : Vec Ideal S1024x128 .bf16 := fun y =>
  Ideal.div (∑ n : Fin 4096, eB x0 x1 (headV (y 1)) (y 0) n * x2 (ix2 n (y 1))) (zB x0 x1 (headV (y 1)) (y 0))
/-- The log-sum-exp of the block. -/
def G4 : Vec Ideal S1024x128 .f32 := fun y =>
  mB x0 x1 (headV (y 1)) (y 0) + Ideal.log (zB x0 x1 (headV (y 1)) (y 0))

variable {x0 x1 x2} {q : FVec Ideal S256x128 .bf16} {k : FVec Ideal S4096x128 .bf16} {v : FVec Ideal S4096x128 .bf16} {a : Fin 4} {h : Fin 2}

/-- The words of quarter `a` and head `h` are the block's rows and the keys. -/
structure FOK (x0 : Vec Ideal S1024x256 .bf16) (x1 : Vec Ideal S4096x256 .bf16) (a : Fin 4) (h : Fin 2) (q : FVec Ideal S256x128 .bf16) (k : FVec Ideal S4096x128 .bf16) : Prop where
  q : ∀ i d, q (ix2 i d) = x0 (ix2 (rowQ a i) (lane h d))
  k : ∀ n d, k (ix2 n d) = x1 (ix2 n (lane h d))

theorem fs_ok (S : FOK x0 x1 a h q k) (i : Fin 256) (n : Fin 4096) : fsW q k (ix2 i n) = sB x0 x1 h (rowQ a i) n := by
  rw [fsW_apply]
  simp only [S.q, S.k]
  rfl
theorem fm_ok (S : FOK x0 x1 a h q k) (i : Fin 256) : fmW (fsW q k) (ix2 i 0) = mB x0 x1 h (rowQ a i) := by
  rw [fmW_apply]
  exact Finset.sup_congr rfl fun n _ => fs_ok S i n
theorem fe_ok (S : FOK x0 x1 a h q k) (i : Fin 256) (n : Fin 4096) : feW (fsW q k) (ix2 i n) = eB x0 x1 h (rowQ a i) n := by
  rw [feW_apply, fs_ok S, fm_ok S]; rfl
theorem fl_ok (S : FOK x0 x1 a h q k) (i : Fin 256) : flW (fsW q k) (ix2 i 0) = zB x0 x1 h (rowQ a i) := by
  rw [flW_apply]
  exact Finset.sum_congr rfl fun n _ => fe_ok S i n

theorem headV_lt {c : Fin 128} (hc : c.val < 64) : headV c = 0 := Fin.ext (by simp only [Fin.val_zero]; omega)
theorem headV_ge {c : Fin 128} (hc : ¬ c.val < 64) : headV c = 1 := Fin.ext (by simp only [Fin.val_one]; omega)

/-- One stored piece of the output. -/
theorem piece3 {q' : FVec Ideal S256x128 .bf16} {k' v' : FVec Ideal S4096x128 .bf16}
    (S : FOK x0 x1 a 0 q k) (S' : FOK x0 x1 a 1 q' k') (hv : ∀ n c, v (ix2 n c) = x2 (ix2 n c)) (hv' : ∀ n c, v' (ix2 n c) = x2 (ix2 n c)) (i : Fin 256) (c : Fin 128) :
    truncf .bf16 (fselW (foW (fsW q k) v) (foW (fsW q' k') v')) bitsLt_bf16_f32 (ix2 i c) = G3 x0 x1 x2 (ix2 (rowQ a i) c) := by
  show fselW (foW (fsW q k) v) (foW (fsW q' k') v') (ix2 i c) = Ideal.div (∑ n : Fin 4096, eB x0 x1 (headV c) (rowQ a i) n * x2 (ix2 n c)) (zB x0 x1 (headV c) (rowQ a i))
  rw [fselW_apply]
  split
  · rename_i hc
    rw [foW_apply, fl_ok S, headV_lt hc]
    simp only [fe_ok S, hv]
  · rename_i hc
    rw [foW_apply, fl_ok S', headV_ge hc]
    simp only [fe_ok S', hv']

/-- One stored piece of the log-sum-exp. -/
theorem piece4 {q' : FVec Ideal S256x128 .bf16} {k' : FVec Ideal S4096x128 .bf16}
    (S : FOK x0 x1 a 0 q k) (S' : FOK x0 x1 a 1 q' k') (i : Fin 256) (c : Fin 128) :
    fselW (fzW (fsW q k)) (fzW (fsW q' k')) (ix2 i c) = G4 x0 x1 (ix2 (rowQ a i) c) := by
  show _ = mB x0 x1 (headV c) (rowQ a i) + Ideal.log (zB x0 x1 (headV c) (rowQ a i))
  rw [fselW_apply]
  split
  · rename_i hc
    rw [fzW_apply, fl_ok S, fm_ok S, headV_lt hc]
  · rename_i hc
    rw [fzW_apply, fl_ok S', fm_ok S', headV_ge hc]

theorem fok (a : Fin 4) (h : Fin 2) {o l : ℕ} (ho : o = a.val * 256) (hl : l = h.val * 128) (i0 i1) :
    FOK x0 x1 a h (View.ld x0 (Rect.unit (s := S1024x256) ![o, l] ![256, 128] i0)) (View.ld x1 (Rect.unit (s := S4096x256) ![0, l] ![4096, 128] i1)) := by
  subst ho hl
  exact ⟨fun i d => ld_at x0 i0 i d (rowQ a i) (lane h d) rfl rfl, fun n d => ld_at x1 i1 n d n (lane h d) (by omega) rfl⟩

theorem fvok (i2) (n : Fin 4096) (c : Fin 128) : View.ld x2 (Rect.unit (s := S4096x128) ![0, 0] ![4096, 128] i2) (ix2 n c) = x2 (ix2 n c) :=
  ld_at x2 i2 n c n c (by omega) (by omega)

end Block

/-- The body leaves the block's output. -/
theorem out_3 (x0 : Vec Ideal S1024x256 .bf16) (x1 : Vec Ideal S4096x256 .bf16) (x2 : Vec Ideal S4096x128 .bf16) :
    out0_3 x0 x1 x2 = G3 x0 x1 x2 := by
  funext y
  unfold out0_3
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, shapeCast_self]
  refine View.canon_append_of_piecesOf (G3 x0 x1 x2) [] [_, _, _, _] ⟨?_, ?_, ?_, ?_, trivial⟩ y (cover0_3 _ _ _ _ y)
  · exact piece_of inb_S1024x128_S256x128_768_0 (G := G3 x0 x1 x2) (rowQ 3) (fun c => c) (fun n => by simp only; omega) (fun d => by omega) fun i c => piece3 (fok 3 0 rfl rfl _ _) (fok 3 1 rfl rfl _ _) (fvok _) (fvok _) i c
  · exact piece_of inb_S1024x128_S256x128_512_0 (G := G3 x0 x1 x2) (rowQ 2) (fun c => c) (fun n => by simp only; omega) (fun d => by omega) fun i c => piece3 (fok 2 0 rfl rfl _ _) (fok 2 1 rfl rfl _ _) (fvok _) (fvok _) i c
  · exact piece_of inb_S1024x128_S256x128_256_0 (G := G3 x0 x1 x2) (rowQ 1) (fun c => c) (fun n => by simp only; omega) (fun d => by omega) fun i c => piece3 (fok 1 0 rfl rfl _ _) (fok 1 1 rfl rfl _ _) (fvok _) (fvok _) i c
  · exact piece_of inb_S1024x128_S256x128_0_0 (G := G3 x0 x1 x2) (rowQ 0) (fun c => c) (fun n => by simp only; omega) (fun d => by omega) fun i c => piece3 (fok 0 0 rfl rfl _ _) (fok 0 1 rfl rfl _ _) (fvok _) (fvok _) i c

/-- The body leaves the block's log-sum-exp. -/
theorem out_4 (x0 : Vec Ideal S1024x256 .bf16) (x1 : Vec Ideal S4096x256 .bf16) (x2 : Vec Ideal S4096x128 .bf16) :
    out0_4 x0 x1 x2 = G4 x0 x1 := by
  funext y
  unfold out0_4
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, shapeCast_self]
  refine View.canon_append_of_piecesOf (G4 x0 x1) [] [_, _, _, _] ⟨?_, ?_, ?_, ?_, trivial⟩ y (cover0_4 _ _ _ _ y)
  · exact piece_of inb_S1024x128_S256x128_768_0 (G := G4 x0 x1) (rowQ 3) (fun c => c) (fun n => by simp only; omega) (fun d => by omega) fun i c => piece4 (fok 3 0 rfl rfl _ _) (fok 3 1 rfl rfl _ _) i c
  · exact piece_of inb_S1024x128_S256x128_512_0 (G := G4 x0 x1) (rowQ 2) (fun c => c) (fun n => by simp only; omega) (fun d => by omega) fun i c => piece4 (fok 2 0 rfl rfl _ _) (fok 2 1 rfl rfl _ _) i c
  · exact piece_of inb_S1024x128_S256x128_256_0 (G := G4 x0 x1) (rowQ 1) (fun c => c) (fun n => by simp only; omega) (fun d => by omega) fun i c => piece4 (fok 1 0 rfl rfl _ _) (fok 1 1 rfl rfl _ _) i c
  · exact piece_of inb_S1024x128_S256x128_0_0 (G := G4 x0 x1) (rowQ 0) (fun c => c) (fun n => by simp only; omega) (fun d => by omega) fun i c => piece4 (fok 0 0 rfl rfl _ _) (fok 0 1 rfl rfl _ _) i c

end Cert.Attn
-- ==== Proof.Softmax.lean ====
/-
  Real arithmetic of a softmax row: sums and maxima of real numbers read as extended reals, and the three ways the
  attention kernels write one probability.
-/
module

public import Idealize.ShloMosaic.Lib.IdealHost
public import Mathlib.Analysis.SpecialFunctions.Log.Basic

@[expose] public section

noncomputable section

open Idealize.ShloMosaic

namespace Cert.Attn

/-- A sum of reals is the same sum of extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_dot {ι : Type*} (s : Finset ι) (f g : ι → ℝ) : ∑ i ∈ s, (f i : EReal) * (g i : EReal) = ((∑ i ∈ s, f i * g i : ℝ) : EReal) := by
  rw [← coe_sum]
  exact Finset.sum_congr rfl fun i _ => (EReal.coe_mul _ _).symm

/-- The maximum of finitely many reals, at least one, is a real. -/
theorem sup_coe {ι : Type*} (s : Finset ι) (hs : s.Nonempty) (f : ι → ℝ) : ∃ M : ℝ, s.sup (fun i => (f i : EReal)) = M := by
  obtain ⟨i, _, hi⟩ := s.exists_mem_eq_sup hs fun i => (f i : EReal)
  exact ⟨f i, hi⟩

theorem sup_mask {ι : Type*} [Fintype ι] (p : ι → Prop) [DecidablePred p] (hp : ∃ i, p i) (r : EReal) :
    (Finset.univ.sup fun i => if p i then r else ⊥) = r := by
  obtain ⟨j, hj⟩ := hp
  refine le_antisymm (Finset.sup_le fun i _ => ?_) ?_
  · split
    · exact le_rfl
    · exact bot_le
  · have := Finset.le_sup (f := fun i => if p i then r else ⊥) (Finset.mem_univ j)
    simpa only [hj, if_true] using this

section

variable {ι : Type*} [Fintype ι] (s : ι → ℝ)

/-- The sum of the exponentials of a row. -/
def sumExp : ℝ := ∑ m, Real.exp (s m)
/-- The softmax of a row. -/
def softmax (n : ι) : ℝ := Real.exp (s n) / sumExp s

variable [Nonempty ι]

theorem sumExp_pos : 0 < sumExp s := Finset.sum_pos (fun m _ => Real.exp_pos _) Finset.univ_nonempty

theorem sumExp_sub (M : ℝ) : sumExp (fun m => s m - M) = sumExp s / Real.exp M := by
  simp only [sumExp, Real.exp_sub, Finset.sum_div]

/-- Shifting a row does not change its softmax. -/
theorem softmax_sub (M : ℝ) (n : ι) : softmax (fun m => s m - M) n = softmax s n := by
  have h := (sumExp_pos s).ne'
  have h' := (Real.exp_pos M).ne'
  simp only [softmax, sumExp_sub, Real.exp_sub]
  field_simp

/-- The log-sum-exp may be taken of a shifted row. -/
theorem logSumExp_sub (M : ℝ) : M + Real.log (sumExp fun m => s m - M) = Real.log (sumExp s) := by
  rw [sumExp_sub, Real.log_div (sumExp_pos s).ne' (Real.exp_pos M).ne', Real.log_exp]
  ring

/-- The exponential of a score less the log-sum-exp of its row is its softmax. -/
theorem exp_sub_logSumExp (n : ι) : Real.exp (s n - Real.log (sumExp s)) = softmax s n := by
  rw [Real.exp_sub, Real.exp_log (sumExp_pos s), softmax]

end

end Cert.Attn
-- ==== Proof.RealBlock.lean ====
/-
  The attention kernels' blocks over real inputs: what the forward body leaves is the softmax average and the
  log-sum-exp, what the backward body leaves the gradients, all sums of real numbers.
-/
module

public import proofs.«01_k».proof.Proof.FwdBlock
public import proofs.«01_k».proof.Proof.Softmax

@[expose] public section

set_option maxRecDepth 16384

noncomputable section

open Idealize.ShloMosaic Idealize.ShloMosaic.TcCoe Idealize.SL.Sem
open Cert.KernelIdeal Cert.KernelIdeal.Gen

namespace Cert.Attn

variable (X0 : Fin 1024 → Fin 256 → ℝ) (X1 : Fin 4096 → Fin 256 → ℝ) (X2 : Fin 4096 → Fin 128 → ℝ) (X3 : Fin 1024 → Fin 128 → ℝ)

/-- The scores under head `h`. -/
def rS (h : Fin 2) (i : Fin 1024) (n : Fin 4096) : ℝ := ∑ d : Fin 128, X0 i (lane h d) * X1 n (lane h d)
/-- The probabilities. -/
def rP (h : Fin 2) (i : Fin 1024) (n : Fin 4096) : ℝ := softmax (rS X0 X1 h i) n
/-- The output's gradient on head `h`'s lanes. -/
def rG (h : Fin 2) (i : Fin 1024) (c : Fin 128) : ℝ := if c.val / 64 = h.val then X3 i c else 0
/-- The probabilities' gradient. -/
def rDP (h : Fin 2) (i : Fin 1024) (n : Fin 4096) : ℝ := ∑ c : Fin 128, rG X3 h i c * X2 n c
/-- The scores' gradient. -/
def rDS (h : Fin 2) (i : Fin 1024) (n : Fin 4096) : ℝ :=
  rP X0 X1 h i n * (rDP X2 X3 h i n - ∑ m : Fin 4096, rP X0 X1 h i m * rDP X2 X3 h i m)

/-- The arrays of a block are real. -/
structure RealIn (x0 : Vec Ideal S1024x256 .bf16) (x1 : Vec Ideal S4096x256 .bf16) (x2 : Vec Ideal S4096x128 .bf16) : Prop where
  h0 : ∀ i l, x0 (ix2 i l) = (X0 i l : EReal)
  h1 : ∀ n l, x1 (ix2 n l) = (X1 n l : EReal)
  h2 : ∀ n c, x2 (ix2 n c) = (X2 n c : EReal)

variable {X0 X1 X2 X3} {x0 : Vec Ideal S1024x256 .bf16} {x1 : Vec Ideal S4096x256 .bf16} {x2 : Vec Ideal S4096x128 .bf16}
  {x3 : Vec Ideal S1024x128 .f32} {x4 : Vec Ideal S1024x128 .bf16} {x5 : Vec Ideal S1024x128 .f32}

theorem sB_real (H : RealIn X0 X1 X2 x0 x1 x2) (h : Fin 2) (i : Fin 1024) (n : Fin 4096) : sB x0 x1 h i n = (rS X0 X1 h i n : EReal) := by
  simp only [sB, H.h0, H.h1]
  exact coe_dot _ _ _

theorem mB_real (H : RealIn X0 X1 X2 x0 x1 x2) (h : Fin 2) (i : Fin 1024) : ∃ M : ℝ, mB x0 x1 h i = (M : EReal) := by
  simp only [mB, sB_real H]
  exact sup_coe _ Finset.univ_nonempty _

/-- The forward body's output on real inputs. -/
theorem G3_real (H : RealIn X0 X1 X2 x0 x1 x2) (i : Fin 1024) (c : Fin 128) :
    G3 x0 x1 x2 (ix2 i c) = ((∑ n : Fin 4096, rP X0 X1 (headV c) i n * X2 n c : ℝ) : EReal) := by
  show Ideal.div (∑ n : Fin 4096, eB x0 x1 (headV c) i n * x2 (ix2 n c)) (zB x0 x1 (headV c) i) = _
  obtain ⟨M, hM⟩ := mB_real H (headV c) i
  have he : ∀ n, eB x0 x1 (headV c) i n = (Real.exp (rS X0 X1 (headV c) i n - M) : EReal) := fun n => by
    rw [eB, hM, sB_real H, ← EReal.coe_sub, Ideal.exp_coe]
  have hz : zB x0 x1 (headV c) i = (sumExp (fun n => rS X0 X1 (headV c) i n - M) : EReal) := by
    simp only [zB, he]
    exact coe_sum _ _
  simp only [he, H.h2, coe_dot]
  rw [hz, Ideal.div_coe (sumExp_pos _).ne', ← EReal.coe_mul, Finset.sum_mul]
  congr 1
  refine Finset.sum_congr rfl fun n _ => ?_
  rw [rP, ← softmax_sub _ M, softmax]
  ring

/-- The forward body's log-sum-exp on real inputs. -/
theorem G4_real (H : RealIn X0 X1 X2 x0 x1 x2) (i : Fin 1024) (c : Fin 128) :
    G4 x0 x1 (ix2 i c) = (Real.log (sumExp (rS X0 X1 (headV c) i)) : EReal) := by
  show mB x0 x1 (headV c) i + Ideal.log (zB x0 x1 (headV c) i) = _
  obtain ⟨M, hM⟩ := mB_real H (headV c) i
  have he : ∀ n, eB x0 x1 (headV c) i n = (Real.exp (rS X0 X1 (headV c) i n - M) : EReal) := fun n => by
    rw [eB, hM, sB_real H, ← EReal.coe_sub, Ideal.exp_coe]
  have hz : zB x0 x1 (headV c) i = (sumExp (fun n => rS X0 X1 (headV c) i n - M) : EReal) := by
    simp only [zB, he]
    exact coe_sum _ _
  rw [hz, hM, Ideal.log_coe, if_neg (not_le.mpr (sumExp_pos _)), ← EReal.coe_add, logSumExp_sub]

/-- The arrays of a backward block are real: the output's gradient, and the output and the log-sum-exp the forward body
    left. -/
structure RealBwd (X0 : Fin 1024 → Fin 256 → ℝ) (X1 : Fin 4096 → Fin 256 → ℝ) (X2 : Fin 4096 → Fin 128 → ℝ) (X3 : Fin 1024 → Fin 128 → ℝ)
    (x0 : Vec Ideal S1024x256 .bf16) (x1 : Vec Ideal S4096x256 .bf16) (x2 : Vec Ideal S4096x128 .bf16)
    (x3 : Vec Ideal S1024x128 .f32) (x4 : Vec Ideal S1024x128 .bf16) (x5 : Vec Ideal S1024x128 .f32) : Prop extends RealIn X0 X1 X2 x0 x1 x2 where
  h3 : ∀ i c, x3 (ix2 i c) = (X3 i c : EReal)
  h4 : ∀ i c, x4 (ix2 i c) = ((∑ n : Fin 4096, rP X0 X1 (headV c) i n * X2 n c : ℝ) : EReal)
  h5 : ∀ i c, x5 (ix2 i c) = (Real.log (sumExp (rS X0 X1 (headV c) i)) : EReal)

theorem headV_eq {c : Fin 128} {h : Fin 2} : c.val / 64 = h.val → headV c = h := fun e => Fin.ext e

theorem lB_real (H : RealBwd X0 X1 X2 X3 x0 x1 x2 x3 x4 x5) (h : Fin 2) (i : Fin 1024) : lB x5 h i = (Real.log (sumExp (rS X0 X1 h i)) : EReal) := by
  have e : (fun c : Fin 128 => if c.val / 64 = h.val then (x5 (ix2 i c) : EReal) else ⊥)
      = fun c : Fin 128 => if c.val / 64 = h.val then (Real.log (sumExp (rS X0 X1 h i)) : EReal) else ⊥ := by
    funext c
    split
    · rename_i hc
      rw [H.h5, headV_eq hc]
    · rfl
  rw [lB, e]
  exact sup_mask _ ⟨⟨h.val * 64, by omega⟩, by simp only; omega⟩ _

theorem pB_real (H : RealBwd X0 X1 X2 X3 x0 x1 x2 x3 x4 x5) (h : Fin 2) (i : Fin 1024) (n : Fin 4096) : pB x0 x1 x5 h i n = (rP X0 X1 h i n : EReal) := by
  rw [pB, sB_real H.toRealIn, lB_real H, ← EReal.coe_sub, Ideal.exp_coe, exp_sub_logSumExp]; rfl

theorem gB_real (H : RealBwd X0 X1 X2 X3 x0 x1 x2 x3 x4 x5) (h : Fin 2) (i : Fin 1024) (c : Fin 128) : gB x3 h i c = (rG X3 h i c : EReal) := by
  unfold gB rG
  split
  · exact H.h3 i c
  · rfl

theorem DB_real (H : RealBwd X0 X1 X2 X3 x0 x1 x2 x3 x4 x5) (h : Fin 2) (i : Fin 1024) :
    DB x3 x4 h i = ((∑ m : Fin 4096, rP X0 X1 h i m * rDP X2 X3 h i m : ℝ) : EReal) := by
  simp only [DB, gB_real H, H.h4, coe_dot]
  congr 1
  have e : ∀ c : Fin 128, rG X3 h i c * ∑ n : Fin 4096, rP X0 X1 (headV c) i n * X2 n c = ∑ n : Fin 4096, rP X0 X1 h i n * (rG X3 h i c * X2 n c) := fun c => by
    unfold rG
    split
    · rename_i hc
      rw [headV_eq hc, Finset.mul_sum]
      exact Finset.sum_congr rfl fun n _ => by ring
    · simp only [zero_mul, mul_zero, Finset.sum_const_zero]
  simp only [e]
  rw [Finset.sum_comm]
  simp only [rDP, Finset.mul_sum]

theorem dsB_real (H : RealBwd X0 X1 X2 X3 x0 x1 x2 x3 x4 x5) (h : Fin 2) (i : Fin 1024) (n : Fin 4096) :
    dsB x0 x1 x2 x3 x4 x5 h i n = (rDS X0 X1 X2 X3 h i n : EReal) := by
  simp only [dsB, pB_real H, gB_real H, H.h2, coe_dot, DB_real H]
  rw [← EReal.coe_sub, ← EReal.coe_mul]; rfl

theorem T6_real (H : RealBwd X0 X1 X2 X3 x0 x1 x2 x3 x4 x5) (i : Fin 1024) (l : Fin 256) :
    T6 x0 x1 x2 x3 x4 x5 i l = ((∑ n : Fin 4096, rDS X0 X1 X2 X3 (headOf l) i n * X1 n l : ℝ) : EReal) := by
  simp only [T6, dsB_real H, H.h1, coe_dot]

theorem T7_real (H : RealBwd X0 X1 X2 X3 x0 x1 x2 x3 x4 x5) (n : Fin 4096) (l : Fin 256) :
    T7 x0 x1 x2 x3 x4 x5 n l = ((∑ i : Fin 1024, rDS X0 X1 X2 X3 (headOf l) i n * X0 i l : ℝ) : EReal) := by
  simp only [T7, dsB_real H, H.h0, coe_dot]

theorem T8_real (H : RealBwd X0 X1 X2 X3 x0 x1 x2 x3 x4 x5) (n : Fin 4096) (c : Fin 128) :
    T8 x0 x1 x3 x5 n c = ((∑ i : Fin 1024, rP X0 X1 (headV c) i n * X3 i c : ℝ) : EReal) := by
  simp only [T8, pB_real H, gB_real H, coe_dot, coe_sum]
  congr 1
  rw [Finset.sum_eq_single (headV c)]
  · refine Finset.sum_congr rfl fun i _ => ?_
    rw [rG, if_pos rfl]
  · intro h _ hh
    refine Finset.sum_eq_zero fun i _ => ?_
    rw [rG, if_neg (fun e => hh (headV_eq e).symm), mul_zero]
  · exact fun h => absurd (Finset.mem_univ _) h

end Cert.Attn
-- ==== Proof.FwdValue.lean ====
/-
  The attention forward call's two result arrays over real operands: the attention output and the log-sum-exp, head by
  head.
-/
module

public import proofs.«01_k».proof.Proof.RealBlock
public import proofs.«01_k».proof.Proof.Gen.KernelIdeal.Points
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Attn

/-- Lane `d` of head `H` in the heads' row of 128 lanes each. -/
abbrev hl (H : Fin 6) (d : Fin 128) : Fin 768 := ⟨H.val * 128 + d.val, by omega⟩
/-- The head of a lane of that row. -/
abbrev hd768 (L : Fin 768) : Fin 6 := ⟨L.val / 128, by omega⟩
/-- The head of a lane of the values' row, 64 lanes each. -/
abbrev hd384 (C : Fin 384) : Fin 6 := ⟨C.val / 64, by omega⟩
/-- Lane `e` of head `H` in the values' row. -/
abbrev vl (H : Fin 6) (e : Fin 64) : Fin 384 := ⟨H.val * 64 + e.val, by omega⟩
/-- The values' row inside the keys' and values' row. -/
abbrev kvl (C : Fin 384) : Fin 1152 := ⟨768 + C.val, by omega⟩
/-- The output gradient's row inside its array. -/
abbrev gl (C : Fin 384) : Fin 1024 := ⟨C.val, by omega⟩

section Spec

variable (A0 A1 : Fin 4096 → Fin 768 → ℝ) (A2 : Fin 4096 → Fin 1152 → ℝ) (A3 : Fin 4096 → Fin 1024 → ℝ)

/-- The scores of head `H`. -/
def hS (H : Fin 6) (r n : Fin 4096) : ℝ := ∑ d : Fin 128, A0 r (hl H d) * A1 n (hl H d)
/-- The probabilities of head `H`. -/
def hP (H : Fin 6) (r n : Fin 4096) : ℝ := softmax (hS A0 A1 H r) n
/-- The attention output. -/
def hO (r : Fin 4096) (C : Fin 384) : ℝ := ∑ n : Fin 4096, hP A0 A1 (hd384 C) r n * A2 n (kvl C)
/-- The log-sum-exp. -/
def hL (r : Fin 4096) (C : Fin 384) : ℝ := Real.log (sumExp (hS A0 A1 (hd384 C) r))

end Spec

/-- The grid point's row block and pair of heads, for every window of the forward call. -/
theorem idx0 : ∀ t : Fin cfg0.N, win0_0.index t = ![t.val % 4, t.val / 4] ∧ win0_1.index t = ![0, t.val / 4] ∧ win0_2.index t = ![0, 6 + t.val / 4]
    ∧ win0_3.index t = ![t.val % 4, t.val / 4] ∧ win0_4.index t = ![t.val % 4, t.val / 4] :=
  (by decide +kernel : ∀ t : Fin grid0.N, _)

section Point

variable (A0 A1 : Fin 4096 → Fin 768 → ℝ) (A2 : Fin 4096 → Fin 1152 → ℝ) (p : Fin 3) (s : Fin 4)

/-- The queries' block of pair `p` and row block `s`. -/
def X0 (i : Fin 1024) (l : Fin 256) : ℝ := A0 ⟨s.val * 1024 + i.val, by omega⟩ ⟨p.val * 256 + l.val, by omega⟩
/-- The keys' block of pair `p`. -/
def X1 (n : Fin 4096) (l : Fin 256) : ℝ := A1 n ⟨p.val * 256 + l.val, by omega⟩
/-- The values' block of pair `p`. -/
def X2 (n : Fin 4096) (c : Fin 128) : ℝ := A2 n ⟨(6 + p.val) * 128 + c.val, by omega⟩

/-- Head `h` of pair `p`. -/
abbrev hh (h : Fin 2) : Fin 6 := ⟨p.val * 2 + h.val, by omega⟩
/-- Row `i` of row block `s`. -/
abbrev rr (i : Fin 1024) : Fin 4096 := ⟨s.val * 1024 + i.val, by omega⟩

theorem rS_eq (h : Fin 2) (i : Fin 1024) (n : Fin 4096) : rS (X0 A0 p s) (X1 A1 p) h i n = hS A0 A1 (hh p h) (rr s i) n := by
  unfold rS hS X0 X1
  refine Finset.sum_congr rfl fun d _ => ?_
  have e : (⟨p.val * 256 + (lane h d).val, by omega⟩ : Fin 768) = hl (hh p h) d := Fin.ext (by simp only; omega)
  rw [e]

theorem rP_eq (h : Fin 2) (i : Fin 1024) (n : Fin 4096) : rP (X0 A0 p s) (X1 A1 p) h i n = hP A0 A1 (hh p h) (rr s i) n := by
  rw [rP, hP, show rS (X0 A0 p s) (X1 A1 p) h i = hS A0 A1 (hh p h) (rr s i) from funext fun n => rS_eq A0 A1 p s h i n]

end Point

/-- The operands of the forward call are real. -/
structure FwdIn (A0 A1 : Fin 4096 → Fin 768 → ℝ) (A2 : Fin 4096 → Fin 1152 → ℝ)
    (V : (c : Dev nD) → (b : Ref sig .tc) → Buf (Elt Ideal) ((c : Thread nD τ).loc b)) (c : Dev nD) : Prop where
  a0 : ∀ r l, V c main_v4 (ix2 r l) = (A0 r l : EReal)
  a1 : ∀ n l, V c main_v7 (ix2 n l) = (A1 n l : EReal)
  a2 : ∀ n l, V c main_v10 (ix2 n l) = (A2 n l : EReal)

variable {A0 A1 : Fin 4096 → Fin 768 → ℝ} {A2 : Fin 4096 → Fin 1152 → ℝ}
  {V : (c : Dev nD) → (b : Ref sig .tc) → Buf (Elt Ideal) ((c : Thread nD τ).loc b)} {c : Dev nD}

/-- The pair of heads at a grid point. -/
abbrev pt0 (t : Fin cfg0.N) : Fin 3 := ⟨t.val / 4, by have := t.isLt; have : cfg0.N = 12 := N_0; omega⟩
/-- The row block at a grid point. -/
abbrev st0 (t : Fin cfg0.N) : Fin 4 := ⟨t.val % 4, by omega⟩

/-- The blocks at a grid point are real. -/
theorem blk0 (H : FwdIn A0 A1 A2 V c) (t : Fin cfg0.N) :
    RealIn (X0 A0 (pt0 t) (st0 t)) (X1 A1 (pt0 t)) (X2 A2 (pt0 t)) (iblk0 V c 0 t) (iblk0 V c 1 t) (iblk0 V c 2 t) := by
  have hN : cfg0.N = 12 := N_0
  have ht := t.isLt
  refine ⟨fun i l => ?_, fun n l => ?_, fun n d => ?_⟩
  · rw [X0, ← H.a0]
    blk_ext [iblk0, idx0 t]
  · rw [X1, ← H.a1]
    blk_ext [iblk0, idx0 t]
  · rw [X2, ← H.a2]
    blk_ext [iblk0, idx0 t]

/-- Lane `b` of pair `p` in the values' row. -/
abbrev po (p : Fin 3) (b : Fin 128) : Fin 384 := ⟨p.val * 128 + b.val, by omega⟩

theorem hd_po (p : Fin 3) (b : Fin 128) : hd384 (po p b) = hh p (headV b) := Fin.ext (by simp only; omega)
theorem kvl_po (p : Fin 3) (b : Fin 128) : kvl (po p b) = ⟨(6 + p.val) * 128 + b.val, by omega⟩ := Fin.ext (by simp only; omega)

/-- The forward call's output array. -/
theorem final0_3 (H : FwdIn A0 A1 A2 V c) :
    (dat0 V c).arrAt 3 cfg0.N = fun y => (hO A0 A1 A2 (y 0) (y 1) : EReal) := by
  have hN : cfg0.N = 12 := N_0
  refine (dat0 V c).arrAt_eq_of_cover 3 _ (fun t _ => ?_) fun i => ?_
  · show (cfg0.win 3).cut (grid0.coords t) ((dat0 V c).after 3 t) = _
    rw [after0_3, out_3]
    funext y
    obtain ⟨a, b, e⟩ : ∃ a b, y = ix2 a b := ⟨y 0, y 1, eq_ix2 y⟩
    have ha : a.val < 1024 := a.isLt
    have hb : b.val < 128 := b.isLt
    have ht := t.isLt
    have e0 : (win0_3.blk t).view.emb (ix2 a b) 0 = rr (st0 t) a := Fin.ext (by blk_simp [idx0 t])
    have e1 : (win0_3.blk t).view.emb (ix2 a b) 1 = po (pt0 t) b := Fin.ext (by blk_simp [idx0 t])
    rw [e]
    refine (G3_real (blk0 H t) a b).trans ?_
    show _ = (hO A0 A1 A2 ((win0_3.blk t).view.emb (ix2 a b) 0) ((win0_3.blk t).view.emb (ix2 a b) 1) : EReal)
    rw [e0, e1]
    simp only [rP_eq, hO, hd_po, kvl_po, X2]
  · have h0 : (i 0).val < 4096 := (i 0).isLt
    have h1 : (i 1).val < 384 := (i 1).isLt
    refine ⟨⟨(i 1).val / 128 * 4 + (i 0).val / 1024, by omega⟩, flush0_3 _, ?_⟩
    mem_blk [idx0]
    simp only
    omega

/-- The forward call's log-sum-exp array. -/
theorem final0_4 (H : FwdIn A0 A1 A2 V c) :
    (dat0 V c).arrAt 4 cfg0.N = fun y => (hL A0 A1 (y 0) (y 1) : EReal) := by
  have hN : cfg0.N = 12 := N_0
  refine (dat0 V c).arrAt_eq_of_cover 4 _ (fun t _ => ?_) fun i => ?_
  · show (cfg0.win 4).cut (grid0.coords t) ((dat0 V c).after 4 t) = _
    rw [after0_4, out_4]
    funext y
    obtain ⟨a, b, e⟩ : ∃ a b, y = ix2 a b := ⟨y 0, y 1, eq_ix2 y⟩
    have ha : a.val < 1024 := a.isLt
    have hb : b.val < 128 := b.isLt
    have ht := t.isLt
    have e0 : (win0_4.blk t).view.emb (ix2 a b) 0 = rr (st0 t) a := Fin.ext (by blk_simp [idx0 t])
    have e1 : (win0_4.blk t).view.emb (ix2 a b) 1 = po (pt0 t) b := Fin.ext (by blk_simp [idx0 t])
    rw [e]
    refine (G4_real (blk0 H t) a b).trans ?_
    show _ = (hL A0 A1 ((win0_4.blk t).view.emb (ix2 a b) 0) ((win0_4.blk t).view.emb (ix2 a b) 1) : EReal)
    rw [e0, e1]
    rw [hL, hd_po, show rS (X0 A0 (pt0 t) (st0 t)) (X1 A1 (pt0 t)) (headV b) a = hS A0 A1 (hh (pt0 t) (headV b)) (rr (st0 t) a) from funext fun n => rS_eq A0 A1 _ _ _ _ n]
  · have h0 : (i 0).val < 4096 := (i 0).isLt
    have h1 : (i 1).val < 384 := (i 1).isLt
    refine ⟨⟨(i 1).val / 128 * 4 + (i 0).val / 1024, by omega⟩, flush0_4 _, ?_⟩
    mem_blk [idx0]
    simp only
    omega

end Cert.Attn
-- ==== Proof.BwdValue.lean ====
/-
  The attention backward call's three result arrays over real operands: the gradients of the queries, the keys and the
  values, head by head, each sum over the grid's row blocks taken together.
-/
module

public import proofs.«01_k».proof.Proof.FwdValue

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Attn

section Spec

variable (A0 A1 : Fin 4096 → Fin 768 → ℝ) (A2 : Fin 4096 → Fin 1152 → ℝ) (A3 : Fin 4096 → Fin 1024 → ℝ)

/-- The gradient of head `H`'s probabilities. -/
def hDP (H : Fin 6) (r n : Fin 4096) : ℝ := ∑ e : Fin 64, A3 r (gl (vl H e)) * A2 n (kvl (vl H e))
/-- The gradient of head `H`'s scores. -/
def hDS (H : Fin 6) (r n : Fin 4096) : ℝ :=
  hP A0 A1 H r n * (hDP A2 A3 H r n - ∑ m : Fin 4096, hP A0 A1 H r m * hDP A2 A3 H r m)
/-- The queries' gradient. -/
def hDQ (r : Fin 4096) (L : Fin 768) : ℝ := ∑ n : Fin 4096, hDS A0 A1 A2 A3 (hd768 L) r n * A1 n L
/-- The keys' gradient. -/
def hDK (n : Fin 4096) (L : Fin 768) : ℝ := ∑ r : Fin 4096, hDS A0 A1 A2 A3 (hd768 L) r n * A0 r L
/-- The values' gradient. -/
def hDV (n : Fin 4096) (C : Fin 384) : ℝ := ∑ r : Fin 4096, hP A0 A1 (hd384 C) r n * A3 r (gl C)

variable (p : Fin 3) (s : Fin 4)

/-- The output gradient's block of pair `p` and row block `s`. -/
def X3 (i : Fin 1024) (c : Fin 128) : ℝ := A3 ⟨s.val * 1024 + i.val, by omega⟩ ⟨p.val * 128 + c.val, by omega⟩

theorem rDP_eq (h : Fin 2) (i : Fin 1024) (n : Fin 4096) : rDP (X2 A2 p) (X3 A3 p s) h i n = hDP A2 A3 (hh p h) (rr s i) n := by
  unfold rDP hDP
  rw [← Fin.sum_mul_add_fin 2 64 (fun c => rG (X3 A3 p s) h i c * X2 A2 p n c), Finset.sum_eq_single h]
  · refine Finset.sum_congr rfl fun e _ => ?_
    rw [rG, if_pos (by simp only; omega)]
    unfold X3 X2
    congr 2 <;> exact Fin.ext (by simp only; omega)
  · intro h' _ hne
    refine Finset.sum_eq_zero fun e _ => ?_
    rw [rG, if_neg (fun e' => hne (Fin.ext (by simp only at e'; omega))), zero_mul]
  · exact fun hn => absurd (Finset.mem_univ _) hn

theorem rDS_eq (h : Fin 2) (i : Fin 1024) (n : Fin 4096) :
    rDS (X0 A0 p s) (X1 A1 p) (X2 A2 p) (X3 A3 p s) h i n = hDS A0 A1 A2 A3 (hh p h) (rr s i) n := by
  simp only [rDS, hDS, rDP_eq, rP_eq]

/-- The four row blocks together are all rows. -/
theorem rows_sum (f : Fin 4096 → ℝ) : ∑ s : Fin 4, ∑ i : Fin 1024, f (rr s i) = ∑ r : Fin 4096, f r :=
  Fin.sum_mul_add_fin 4 1024 f

end Spec

/-- The grid point's row block and pair of heads, for every window of the backward call. -/
theorem idx1 : ∀ t : Fin cfg1.N, win1_0.index t = ![t.val % 4, t.val / 4] ∧ win1_1.index t = ![0, t.val / 4] ∧ win1_2.index t = ![0, 6 + t.val / 4]
    ∧ win1_3.index t = ![t.val % 4, t.val / 4] ∧ win1_4.index t = ![t.val % 4, t.val / 4] ∧ win1_5.index t = ![t.val % 4, t.val / 4]
    ∧ win1_6.index t = ![t.val % 4, t.val / 4] ∧ win1_7.index t = ![0, t.val / 4] ∧ win1_8.index t = ![0, t.val / 4] :=
  (by decide +kernel : ∀ t : Fin grid1.N, _)

/-- The operands of the backward call are real, the output and the log-sum-exp being the forward call's. -/
structure BwdIn (A0 A1 : Fin 4096 → Fin 768 → ℝ) (A2 : Fin 4096 → Fin 1152 → ℝ) (A3 : Fin 4096 → Fin 1024 → ℝ)
    (V : (c : Dev nD) → (b : Ref sig .tc) → Buf (Elt Ideal) ((c : Thread nD τ).loc b)) (c : Dev nD) : Prop extends FwdIn A0 A1 A2 V c where
  a3 : ∀ r l, V c main_v13 (ix2 r l) = (A3 r l : EReal)
  a4 : ∀ r l, V c main_v14_0 (ix2 r l) = (hO A0 A1 A2 r l : EReal)
  a5 : ∀ r l, V c main_v14_1 (ix2 r l) = (hL A0 A1 r l : EReal)

variable {A0 A1 : Fin 4096 → Fin 768 → ℝ} {A2 : Fin 4096 → Fin 1152 → ℝ} {A3 : Fin 4096 → Fin 1024 → ℝ}
  {V : (c : Dev nD) → (b : Ref sig .tc) → Buf (Elt Ideal) ((c : Thread nD τ).loc b)} {c : Dev nD}

/-- The pair of heads at a grid point. -/
abbrev pt1 (t : Fin cfg1.N) : Fin 3 := ⟨t.val / 4, by have := t.isLt; have : cfg1.N = 12 := N_1; omega⟩
/-- The row block at a grid point. -/
abbrev st1 (t : Fin cfg1.N) : Fin 4 := ⟨t.val % 4, by omega⟩

/-- The blocks at a grid point are real. -/
theorem blk1 (H : BwdIn A0 A1 A2 A3 V c) (t : Fin cfg1.N) :
    RealBwd (X0 A0 (pt1 t) (st1 t)) (X1 A1 (pt1 t)) (X2 A2 (pt1 t)) (X3 A3 (pt1 t) (st1 t))
      (iblk1 V c 0 t) (iblk1 V c 1 t) (iblk1 V c 2 t) (iblk1 V c 3 t) (iblk1 V c 4 t) (iblk1 V c 5 t) := by
  have hN : cfg1.N = 12 := N_1
  have ht := t.isLt
  refine ⟨⟨fun i l => ?_, fun n l => ?_, fun n d => ?_⟩, fun i d => ?_, fun i d => ?_, fun i d => ?_⟩
  · rw [X0, ← H.a0]
    blk_ext [iblk1, idx1 t]
  · rw [X1, ← H.a1]
    blk_ext [iblk1, idx1 t]
  · rw [X2, ← H.a2]
    blk_ext [iblk1, idx1 t]
  · rw [X3, ← H.a3]
    blk_ext [iblk1, idx1 t]
  · have e := H.a4 (rr (st1 t) i) (po (pt1 t) d)
    simp only [hO, hd_po, kvl_po] at e
    simp only [rP_eq]
    rw [show X2 A2 (pt1 t) = fun n c => A2 n ⟨(6 + (pt1 t).val) * 128 + c.val, by omega⟩ from rfl]
    rw [← e]
    blk_ext [iblk1, idx1 t]
  · have e := H.a5 (rr (st1 t) i) (po (pt1 t) d)
    simp only [hL, hd_po] at e
    rw [show rS (X0 A0 (pt1 t) (st1 t)) (X1 A1 (pt1 t)) (headV d) i = hS A0 A1 (hh (pt1 t) (headV d)) (rr (st1 t) i) from funext fun n => rS_eq A0 A1 _ _ _ _ n]
    rw [← e]
    blk_ext [iblk1, idx1 t]

/-- Lane `l` of pair `p` in the heads' row. -/
abbrev pl (p : Fin 3) (l : Fin 256) : Fin 768 := ⟨p.val * 256 + l.val, by omega⟩
theorem hd_pl (p : Fin 3) (l : Fin 256) : hd768 (pl p l) = hh p (headOf l) := Fin.ext (by simp only; omega)

/-- The point of row block `s` in the run of the pair of point `t`. -/
theorem run_pt (t : Fin cfg1.N) (s : Fin 4) (h : 4 * (t.val / 4) + s.val < cfg1.N) : pt1 ⟨4 * (t.val / 4) + s.val, h⟩ = pt1 t := Fin.ext (by simp only; omega)
theorem run_st (t : Fin cfg1.N) (s : Fin 4) (h : 4 * (t.val / 4) + s.val < cfg1.N) : st1 ⟨4 * (t.val / 4) + s.val, h⟩ = s := Fin.ext (by simp only; omega)

/-- What the queries' gradient buffer holds after a grid point. -/
theorem acc6 (H : BwdIn A0 A1 A2 A3 V c) (t : Fin cfg1.N) (i : Fin 1024) (l : Fin 256) :
    (outsAt1 V c t.val t.isLt).1 (ix2 i l) = (hDQ A0 A1 A2 A3 (rr (st1 t) i) (pl (pt1 t) l) : EReal) := by
  have e : (outsAt1 V c t.val t.isLt).1 = G6 (iblk1 V c 0 t) (iblk1 V c 1 t) (iblk1 V c 2 t) (iblk1 V c 3 t) (iblk1 V c 4 t) (iblk1 V c 5 t) := by
    by_cases h0 : t.val % 4 = 0
    · rw [outsAt1_A V c t h0]
      dsimp only
      rw [out_A_6]
    · rw [outsAt1_B V c t h0]
      dsimp only
      rw [out_B_6]
  rw [e]
  refine (T6_real (blk1 H t) i l).trans ?_
  simp only [rDS_eq, hDQ, hd_pl, X1]

/-- The first point of a pair's run leaves its own part of the keys' gradient. -/
theorem step7_A (t : Fin cfg1.N) (h0 : t.val % 4 = 0) :
    (outsAt1 V c t.val t.isLt).2.1 = G7 (iblk1 V c 0 t) (iblk1 V c 1 t) (iblk1 V c 2 t) (iblk1 V c 3 t) (iblk1 V c 4 t) (iblk1 V c 5 t) (fun _ _ => 0) := by
  rw [outsAt1_A V c t h0]
  dsimp only
  rw [out_A_7]

/-- A later point adds its own part to what the point before left. -/
theorem step7_B (t : Fin cfg1.N) (h0 : ¬ t.val % 4 = 0) :
    (outsAt1 V c t.val t.isLt).2.1 = G7 (iblk1 V c 0 t) (iblk1 V c 1 t) (iblk1 V c 2 t) (iblk1 V c 3 t) (iblk1 V c 4 t) (iblk1 V c 5 t)
      (fun n l => (outsAt1 V c (t.val - 1) (Nat.lt_of_le_of_lt (Nat.sub_le _ _) t.isLt)).2.1 (ix2 n l)) := by
  rw [outsAt1_B V c t h0]
  dsimp only
  rw [out_B_7]

/-- What the keys' gradient buffer holds when it is written back. -/
theorem acc7 (H : BwdIn A0 A1 A2 A3 V c) (t : Fin cfg1.N) (hf : t.val % 4 = 3) (n : Fin 4096) (l : Fin 256) :
    (outsAt1 V c t.val t.isLt).2.1 (ix2 n l) = (hDK A0 A1 A2 A3 n (pl (pt1 t) l) : EReal) := by
  have e := Pipeline.eq_sum_fin_of_reset_step_apply_of_flush (fun n h => (outsAt1 V c n h).2.1) 4 (fun _ => (0 : EReal))
    (fun t y => T7 (iblk1 V c 0 t) (iblk1 V c 1 t) (iblk1 V c 2 t) (iblk1 V c 3 t) (iblk1 V c 4 t) (iblk1 V c 5 t) (y 0) (y 1))
    (fun t h j => by
      rw [step7_A t h, G7])
    (fun t h j => by
      rw [step7_B t h, G7, ← eq_ix2 j]) t hf (ix2 n l)
  refine e.trans ?_
  rw [zero_add]
  refine (Finset.sum_congr rfl fun s _ => T7_real (blk1 H _) n l).trans ?_
  simp only [rDS_eq, run_pt, run_st, coe_sum]
  simp only [X0]
  rw [hDK, hd_pl]
  exact congrArg _ (rows_sum fun r => hDS A0 A1 A2 A3 (hh (pt1 t) (headOf l)) r n * A0 r (pl (pt1 t) l))

/-- The first point of a pair's run leaves its own part of the values' gradient. -/
theorem step8_A (t : Fin cfg1.N) (h0 : t.val % 4 = 0) :
    (outsAt1 V c t.val t.isLt).2.2 = G8 (iblk1 V c 0 t) (iblk1 V c 1 t) (iblk1 V c 3 t) (iblk1 V c 5 t) (fun _ _ => 0) := by
  rw [outsAt1_A V c t h0]
  dsimp only
  rw [out_A_8]

/-- A later point adds its own part to what the point before left. -/
theorem step8_B (t : Fin cfg1.N) (h0 : ¬ t.val % 4 = 0) :
    (outsAt1 V c t.val t.isLt).2.2 = G8 (iblk1 V c 0 t) (iblk1 V c 1 t) (iblk1 V c 3 t) (iblk1 V c 5 t)
      (fun n l => (outsAt1 V c (t.val - 1) (Nat.lt_of_le_of_lt (Nat.sub_le _ _) t.isLt)).2.2 (ix2 n l)) := by
  rw [outsAt1_B V c t h0]
  dsimp only
  rw [out_B_8]

/-- What the values' gradient buffer holds when it is written back. -/
theorem acc8 (H : BwdIn A0 A1 A2 A3 V c) (t : Fin cfg1.N) (hf : t.val % 4 = 3) (n : Fin 4096) (l : Fin 128) :
    (outsAt1 V c t.val t.isLt).2.2 (ix2 n l) = (hDV A0 A1 A3 n (po (pt1 t) l) : EReal) := by
  have e := Pipeline.eq_sum_fin_of_reset_step_apply_of_flush (fun n h => (outsAt1 V c n h).2.2) 4 (fun _ => (0 : EReal))
    (fun t y => T8 (iblk1 V c 0 t) (iblk1 V c 1 t) (iblk1 V c 3 t) (iblk1 V c 5 t) (y 0) (y 1))
    (fun t h j => by
      rw [step8_A t h, G8])
    (fun t h j => by
      rw [step8_B t h, G8, ← eq_ix2 j]) t hf (ix2 n l)
  refine e.trans ?_
  rw [zero_add]
  refine (Finset.sum_congr rfl fun s _ => T8_real (blk1 H _) n l).trans ?_
  simp only [rP_eq, run_pt, run_st, coe_sum]
  simp only [X3]
  rw [hDV, hd_po]
  exact congrArg _ (rows_sum fun r => hP A0 A1 (hh (pt1 t) (headV l)) r n * A3 r (gl (po (pt1 t) l)))

/-- The queries' gradient array. -/
theorem final1_6 (H : BwdIn A0 A1 A2 A3 V c) :
    (dat1 V c).arrAt 6 cfg1.N = fun y => (hDQ A0 A1 A2 A3 (y 0) (y 1) : EReal) := by
  have hN : cfg1.N = 12 := N_1
  refine (dat1 V c).arrAt_eq_of_cover 6 _ (fun t hf => ?_) fun i => ?_
  · show (cfg1.win 6).cut (grid1.coords t) ((dat1 V c).after 6 t) = _
    rw [after1_6]
    funext y
    obtain ⟨a, b, e⟩ : ∃ (a : Fin 1024) (b : Fin 256), y = ix2 a b := ⟨y 0, y 1, eq_ix2 y⟩
    have ha := a.isLt
    have hb := b.isLt
    have ht := t.isLt
    have e0 : (win1_6.blk t).view.emb (ix2 a b) 0 = rr (st1 t) a := Fin.ext (by blk_simp [idx1 t])
    have e1 : (win1_6.blk t).view.emb (ix2 a b) 1 = pl (pt1 t) b := Fin.ext (by blk_simp [idx1 t])
    rw [e]
    refine (acc6 H t a b).trans ?_
    show _ = (hDQ A0 A1 A2 A3 ((win1_6.blk t).view.emb (ix2 a b) 0) ((win1_6.blk t).view.emb (ix2 a b) 1) : EReal)
    rw [e0, e1]
  · have h0 : (i 0).val < 4096 := (i 0).isLt
    have h1 : (i 1).val < 768 := (i 1).isLt
    refine ⟨⟨(i 1).val / 256 * 4 + (i 0).val / 1024, by omega⟩, flush1_6 _, ?_⟩
    mem_blk [idx1]
    simp only
    omega

/-- The keys' gradient array. -/
theorem final1_7 (H : BwdIn A0 A1 A2 A3 V c) :
    (dat1 V c).arrAt 7 cfg1.N = fun y => (hDK A0 A1 A2 A3 (y 0) (y 1) : EReal) := by
  have hN : cfg1.N = 12 := N_1
  refine (dat1 V c).arrAt_eq_of_cover 7 _ (fun t hf => ?_) fun i => ?_
  · show (cfg1.win 7).cut (grid1.coords t) ((dat1 V c).after 7 t) = _
    rw [after1_7]
    funext y
    obtain ⟨a, b, e⟩ : ∃ (a : Fin 4096) (b : Fin 256), y = ix2 a b := ⟨y 0, y 1, eq_ix2 y⟩
    have ha := a.isLt
    have hb := b.isLt
    have ht := t.isLt
    have e0 : (win1_7.blk t).view.emb (ix2 a b) 0 = a := Fin.ext (by blk_simp [idx1 t])
    have e1 : (win1_7.blk t).view.emb (ix2 a b) 1 = pl (pt1 t) b := Fin.ext (by blk_simp [idx1 t])
    rw [e]
    refine (acc7 H t ((flush1_7 t).mp hf) a b).trans ?_
    show _ = (hDK A0 A1 A2 A3 ((win1_7.blk t).view.emb (ix2 a b) 0) ((win1_7.blk t).view.emb (ix2 a b) 1) : EReal)
    rw [e0, e1]
  · have h0 : (i 0).val < 4096 := (i 0).isLt
    have h1 : (i 1).val < 768 := (i 1).isLt
    refine ⟨⟨(i 1).val / 256 * 4 + 3, by omega⟩, (flush1_7 _).mpr (by simp only; omega), ?_⟩
    mem_blk [idx1]
    simp only
    omega

/-- The values' gradient array. -/
theorem final1_8 (H : BwdIn A0 A1 A2 A3 V c) :
    (dat1 V c).arrAt 8 cfg1.N = fun y => (hDV A0 A1 A3 (y 0) (y 1) : EReal) := by
  have hN : cfg1.N = 12 := N_1
  refine (dat1 V c).arrAt_eq_of_cover 8 _ (fun t hf => ?_) fun i => ?_
  · show (cfg1.win 8).cut (grid1.coords t) ((dat1 V c).after 8 t) = _
    rw [after1_8]
    funext y
    obtain ⟨a, b, e⟩ : ∃ (a : Fin 4096) (b : Fin 128), y = ix2 a b := ⟨y 0, y 1, eq_ix2 y⟩
    have ha := a.isLt
    have hb := b.isLt
    have ht := t.isLt
    have e0 : (win1_8.blk t).view.emb (ix2 a b) 0 = a := Fin.ext (by blk_simp [idx1 t])
    have e1 : (win1_8.blk t).view.emb (ix2 a b) 1 = po (pt1 t) b := Fin.ext (by blk_simp [idx1 t])
    rw [e]
    refine (acc8 H t ((flush1_8 t).mp hf) a b).trans ?_
    show _ = (hDV A0 A1 A3 ((win1_8.blk t).view.emb (ix2 a b) 0) ((win1_8.blk t).view.emb (ix2 a b) 1) : EReal)
    rw [e0, e1]
  · have h0 : (i 0).val < 4096 := (i 0).isLt
    have h1 : (i 1).val < 384 := (i 1).isLt
    refine ⟨⟨(i 1).val / 128 * 4 + 3, by omega⟩, (flush1_8 _).mpr (by simp only; omega), ?_⟩
    mem_blk [idx1]
    simp only
    omega

end Cert.Attn
-- ==== Proof.HostValue.lean ====
/-
  What the host code prepares for the two calls, and what it makes of the queries' gradient.
-/
module

public import proofs.«01_k».proof.Proof.BwdValue
public import proofs.«01_k».proof.Proof.Gen.KernelIdeal.Frame
public import Idealize.ShloMosaic.Lib.StableHlo.Run
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Attn

/-- Heads of 96 lanes padded to 128 lanes each and laid side by side. -/
def padW (x : FVec Ideal S4096x6x96 .f32) : FVec Ideal S4096x768 .f32 :=
  shapeCast S4096x768 (pad S4096x6x128 ![0, 0, 0] ![0, 0, 32] ![0, 0, 0] x (sitofp .f32 (constantI S_ 32 0#32)) pads_S4096x6x96_S4096x6x128_000_000_0320 h_S_) shapeCasts_S4096x6x128_S4096x768
/-- The queries' operand: padded, scaled, in the kernel's element type. -/
def qW (x : FVec Ideal S4096x6x96 .f32) : FVec Ideal S4096x768 .bf16 :=
  truncf .bf16 (mulf (padW x) (broadcastInDim S4096x768 ![] bcast_S_S4096x768 (constant S_ .f32 0x3DD105EC#32))) bitsLt_bf16_f32
/-- The keys' operand. -/
def kW (x : FVec Ideal S4096x6x96 .f32) : FVec Ideal S4096x768 .bf16 := truncf .bf16 (padW x) bitsLt_bf16_f32
/-- The keys and the values side by side. -/
def kvW (x : FVec Ideal S4096x6x96 .f32) (v : FVec Ideal S4096x6x64 .f32) : FVec Ideal S4096x1152 .bf16 :=
  concatenate S4096x1152 1 [⟨S4096x768, kW x⟩, ⟨S4096x384, truncf .bf16 (shapeCast S4096x384 v shapeCasts_S4096x6x64_S4096x384) bitsLt_bf16_f32⟩] concatenates_S4096x768_S4096x384_S4096x1152_d1
/-- The output's gradient, with the lanes that follow it at zero. -/
def gW (g : FVec Ideal S4096x6x64 .f32) : FVec Ideal S4096x1024 .f32 :=
  concatenate S4096x1024 1 [⟨S4096x384, shapeCast S4096x384 g shapeCasts_S4096x6x64_S4096x384⟩, ⟨S4096x640, broadcastInDim S4096x640 ![] bcast_S_S4096x640 (constant S_ .f32 0x00000000#32)⟩] concatenates_S4096x384_S4096x640_S4096x1024_d1

variable (m : (ℓ : Loc nD τ sig) → Buf (Elt Ideal) ℓ) (ρ : Dev nD → PrngReg) (c : Dev nD)

theorem V5_q : V5 m ρ c main_v4 = qW (m ((c : Thread nD τ).loc main_arg0)) := by
  show W5 m ρ c (Proc.devRef .tc main_v4) = _
  simp only [W5, W4, W3, W2, W1, hostOps0, hostOps0_1, hostOps0_2, hostOps0_3, hostOps0_4, StableHlo.TRef.binary, StableHlo.TRef.unary, StableHlo.TRef.toBuf, StableHlo.TRef.ofBuf, cast_eq]
  after_results_simp <;> rfl

theorem V5_k : V5 m ρ c main_v7 = kW (m ((c : Thread nD τ).loc main_arg1)) := by
  show W5 m ρ c (Proc.devRef .tc main_v7) = _
  simp only [W5, W4, W3, W2, W1, hostOps0, hostOps0_1, hostOps0_2, hostOps0_3, hostOps0_4, StableHlo.TRef.binary, StableHlo.TRef.unary, StableHlo.TRef.toBuf, StableHlo.TRef.ofBuf, cast_eq]
  after_results_simp <;> rfl

theorem V5_kv : V5 m ρ c main_v10 = kvW (m ((c : Thread nD τ).loc main_arg1)) (m ((c : Thread nD τ).loc main_arg2)) := by
  show W5 m ρ c (Proc.devRef .tc main_v10) = _
  simp only [W5, W4, W3, W2, W1, hostOps0, hostOps0_1, hostOps0_2, hostOps0_3, hostOps0_4, StableHlo.TRef.binary, StableHlo.TRef.unary, StableHlo.TRef.toBuf, StableHlo.TRef.ofBuf, cast_eq]
  after_results_simp <;> rfl

theorem V5_g : V5 m ρ c main_v13 = gW (m ((c : Thread nD τ).loc main_arg3)) := by
  show W5 m ρ c (Proc.devRef .tc main_v13) = _
  simp only [W5, W4, W3, W2, W1, hostOps0, hostOps0_1, hostOps0_2, hostOps0_3, hostOps0_4, StableHlo.TRef.binary, StableHlo.TRef.unary, StableHlo.TRef.toBuf, StableHlo.TRef.ofBuf, cast_eq]
  after_results_simp <;> rfl

theorem W8_dq : W8 m ρ c (Proc.devRef .tc main_v17)
    = mulf (F := Ideal) (s := S4096x768) (φ := .f32) (W7 m ρ c (Proc.devRef .tc main_v15_0)) (broadcastInDim S4096x768 ![] bcast_S_S4096x768 (constant S_ .f32 0x3DD105EC#32)) := by
  after_results_simp <;> rfl

theorem padW_apply (x : FVec Ideal S4096x6x96 .f32) (r : Fin 4096) (l : Fin 768) :
    padW x (ix2 r l) = if h : l.val % 128 < 96 then (x (ix3 r ⟨l.val / 128, by omega⟩ ⟨l.val % 128, h⟩) : EReal) else 0 := by
  pointwise [padW]
  by_cases h : l.val % 128 < 96
  · rw [dif_pos h, dif_pos ⟨by omega, h⟩]
  · rw [dif_neg h, dif_neg (fun e => h e.2)]
    show (((0#32 : BitVec 32).toInt : ℝ) : EReal) = 0
    simp

theorem kvW_apply (x : FVec Ideal S4096x6x96 .f32) (v : FVec Ideal S4096x6x64 .f32) (r : Fin 4096) (l : Fin 1152) :
    kvW x v (ix2 r l) = if h : l.val < 768 then (kW x (ix2 r ⟨l.val, h⟩) : EReal) else v (ix3 r ⟨(l.val - 768) / 64, by omega⟩ ⟨(l.val - 768) % 64, by omega⟩) := by
  pointwise [kvW]

theorem gW_apply (x : FVec Ideal S4096x6x64 .f32) (r : Fin 4096) (l : Fin 1024) :
    gW x (ix2 r l) = if h : l.val < 384 then (x (ix3 r ⟨l.val / 64, by omega⟩ ⟨l.val % 64, by omega⟩) : EReal) else 0 := by
  pointwise [gW]

end Cert.Attn
-- ==== Proof.Spec.lean ====
/-
  The attention head by head over the reals: the scores, the probabilities and the four results.
-/
module

public import proofs.«01_k».proof.Proof.Softmax
public import Idealize.ShloMosaic.Lib.Pipeline.Value
public import Idealize.ShloMosaic.Lib.Pipeline.ValueKit

@[expose] public section

noncomputable section

open Idealize.ShloMosaic

namespace Cert.Attn

variable (sc : ℝ) (q k : Fin 4096 → Fin 6 → Fin 96 → ℝ) (v g : Fin 4096 → Fin 6 → Fin 64 → ℝ)

/-- The scaled score of query `i` and key `n`. -/
def zS (h : Fin 6) (i n : Fin 4096) : ℝ := (∑ d : Fin 96, q i h d * k n h d) * sc
/-- The probabilities. -/
def zP (h : Fin 6) (i n : Fin 4096) : ℝ := softmax (zS sc q k h i) n
/-- The gradient of the probabilities. -/
def zDP (h : Fin 6) (i n : Fin 4096) : ℝ := ∑ e : Fin 64, g i h e * v n h e
/-- The gradient of the scaled scores. -/
def zDS (h : Fin 6) (i n : Fin 4096) : ℝ := zP sc q k h i n * (zDP v g h i n - ∑ m : Fin 4096, zP sc q k h i m * zDP v g h i m)
/-- The output. -/
def zO (i : Fin 4096) (h : Fin 6) (e : Fin 64) : ℝ := ∑ n : Fin 4096, zP sc q k h i n * v n h e
/-- The queries' gradient. -/
def zDQ (i : Fin 4096) (h : Fin 6) (d : Fin 96) : ℝ := (∑ n : Fin 4096, zDS sc q k v g h i n * k n h d) * sc
/-- The keys' gradient. -/
def zDK (n : Fin 4096) (h : Fin 6) (d : Fin 96) : ℝ := (∑ i : Fin 4096, zDS sc q k v g h i n * q i h d) * sc
/-- The values' gradient. -/
def zDV (n : Fin 4096) (h : Fin 6) (e : Fin 64) : ℝ := ∑ i : Fin 4096, zP sc q k h i n * g i h e

/-- Differentiating the quotient `E n / L` with `L` the sum of the `E m` gives the usual form of the scores' gradient. -/
theorem grad_quotient {ι : Type*} [Fintype ι] (E D : ι → ℝ) (L : ℝ) (hL : L ≠ 0) (n : ι) :
    (D n * (1 / L) + -∑ m, D m * (1 / (L * L)) * E m) * E n = E n / L * (D n - ∑ m, E m / L * D m) := by
  have e : ∑ m, D m * (1 / (L * L)) * E m = (∑ m, E m / L * D m) / L := by
    rw [Finset.sum_div]
    exact Finset.sum_congr rfl fun m _ => by field_simp
  rw [e]
  field_simp
  ring

/-- The arguments and the scale constant are these reals. -/
structure Args (sc : ℝ) (q k : Fin 4096 → Fin 6 → Fin 96 → ℝ) (v g : Fin 4096 → Fin 6 → Fin 64 → ℝ)
    (x0 x1 : FVec Ideal ⟨3, ![4096, 6, 96]⟩ .f32) (x2 x3 : FVec Ideal ⟨3, ![4096, 6, 64]⟩ .f32) : Prop where
  c : Ideal.ofBits .f32 0x3DD105EC#32 = (sc : EReal)
  q : ∀ i h d, x0 (ix3 i h d) = (q i h d : EReal)
  k : ∀ i h d, x1 (ix3 i h d) = (k i h d : EReal)
  v : ∀ i h e, x2 (ix3 i h e) = (v i h e : EReal)
  g : ∀ i h e, x3 (ix3 i h e) = (g i h e : EReal)

end Cert.Attn
-- ==== Proof.LaneValue.lean ====
/-
  The padded lane layout the kernel works in, and its results head by head.
-/
module

public import proofs.«01_k».proof.Proof.BwdValue
public import proofs.«01_k».proof.Proof.Spec

@[expose] public section

set_option maxRecDepth 16384

noncomputable section

namespace Cert.Attn

/-- Six heads of 96 lanes padded to 128 lanes each, read at lane `l`. -/
def lanes (f : Fin 6 → Fin 96 → ℝ) (l : Fin 768) : ℝ := if h : l.val % 128 < 96 then f ⟨l.val / 128, by omega⟩ ⟨l.val % 128, h⟩ else 0

theorem lanes_low (f : Fin 6 → Fin 96 → ℝ) (H : Fin 6) (d : Fin 96) : lanes f (hl H (Fin.castAdd 32 d)) = f H d := by
  have e1 : (H.val * 128 + d.val) % 128 = d.val := by omega
  have e2 : (H.val * 128 + d.val) / 128 = H.val := by omega
  rw [lanes, dif_pos (show (hl H (Fin.castAdd 32 d)).val % 128 < 96 from by show (H.val * 128 + d.val) % 128 < 96; omega)]
  exact congr (congrArg f (Fin.ext e2)) (Fin.ext e1)

theorem lanes_high (f : Fin 6 → Fin 96 → ℝ) (H : Fin 6) (d : Fin 32) : lanes f (hl H (Fin.natAdd 96 d)) = 0 := by
  rw [lanes, dif_neg]
  show ¬ (H.val * 128 + (96 + d.val)) % 128 < 96
  omega

/-- A product of two padded heads over the 128 lanes is the product over the 96. -/
theorem lanes_dot (f f' : Fin 6 → Fin 96 → ℝ) (H : Fin 6) : ∑ d : Fin 128, lanes f (hl H d) * lanes f' (hl H d) = ∑ d : Fin 96, f H d * f' H d := by
  refine (Fin.sum_univ_add (a := 96) (b := 32) fun d => lanes f (hl H d) * lanes f' (hl H d)).trans ?_
  simp only [lanes_low, lanes_high, mul_zero, Finset.sum_const_zero, add_zero]

variable (sc : ℝ) (q k : Fin 4096 → Fin 6 → Fin 96 → ℝ) (v g : Fin 4096 → Fin 6 → Fin 64 → ℝ)

/-- The queries' operand: scaled. -/
def a0 (r : Fin 4096) (l : Fin 768) : ℝ := lanes (fun h d => q r h d * sc) l
/-- The keys' operand. -/
def a1 (r : Fin 4096) (l : Fin 768) : ℝ := lanes (k r) l
/-- The keys and the values side by side. -/
def a2 (r : Fin 4096) (l : Fin 1152) : ℝ := if h : l.val < 768 then a1 k r ⟨l.val, h⟩ else v r ⟨(l.val - 768) / 64, by omega⟩ ⟨(l.val - 768) % 64, by omega⟩
/-- The output's gradient, followed by lanes of zero. -/
def a3 (r : Fin 4096) (l : Fin 1024) : ℝ := if h : l.val < 384 then g r ⟨l.val / 64, by omega⟩ ⟨l.val % 64, by omega⟩ else 0

theorem a2_val (r : Fin 4096) (C : Fin 384) : a2 k v r (kvl C) = v r ⟨C.val / 64, by omega⟩ ⟨C.val % 64, by omega⟩ := by
  rw [a2, dif_neg (show ¬ (kvl C).val < 768 from by show ¬ 768 + C.val < 768; omega)]
  refine congr (congrArg (v r) (Fin.ext ?_)) (Fin.ext ?_)
  · show (768 + C.val - 768) / 64 = C.val / 64; omega
  · show (768 + C.val - 768) % 64 = C.val % 64; omega

theorem a3_val (r : Fin 4096) (C : Fin 384) : a3 g r (gl C) = g r ⟨C.val / 64, by omega⟩ ⟨C.val % 64, by omega⟩ :=
  dif_pos (show (gl C).val < 384 from C.isLt)

theorem at_head (x : Fin 4096 → Fin 6 → Fin 64 → ℝ) (r : Fin 4096) (H : Fin 6) (e : Fin 64) :
    x r ⟨(vl H e).val / 64, by omega⟩ ⟨(vl H e).val % 64, by omega⟩ = x r H e := by
  refine congr (congrArg (x r) (Fin.ext ?_)) (Fin.ext ?_)
  · show (H.val * 64 + e.val) / 64 = H.val; omega
  · show (H.val * 64 + e.val) % 64 = e.val; omega

theorem hS_eq (H : Fin 6) (r n : Fin 4096) : hS (a0 sc q) (a1 k) H r n = zS sc q k H r n := by
  refine (lanes_dot (fun h d => q r h d * sc) (k n) H).trans ?_
  rw [zS, Finset.sum_mul]
  exact Finset.sum_congr rfl fun d _ => by ring

theorem hP_eq (H : Fin 6) (r n : Fin 4096) : hP (a0 sc q) (a1 k) H r n = zP sc q k H r n :=
  congrArg (fun f => softmax f n) (funext fun m => hS_eq sc q k H r m)

theorem hDP_eq (H : Fin 6) (r n : Fin 4096) : hDP (a2 k v) (a3 g) H r n = zDP v g H r n :=
  Finset.sum_congr rfl fun e _ => by rw [a2_val, a3_val, at_head g, at_head v]

theorem hDS_eq (H : Fin 6) (r n : Fin 4096) : hDS (a0 sc q) (a1 k) (a2 k v) (a3 g) H r n = zDS sc q k v g H r n := by
  simp only [hDS, zDS, hP_eq, hDP_eq]

/-- The kernel's output is the attention's. -/
theorem hO_eq (r : Fin 4096) (C : Fin 384) : hO (a0 sc q) (a1 k) (a2 k v) r C = zO sc q k v r ⟨C.val / 64, by omega⟩ ⟨C.val % 64, by omega⟩ :=
  Finset.sum_congr rfl fun n _ => by rw [hP_eq, a2_val]

/-- The kernel's gradient of the values is the attention's. -/
theorem hDV_eq (n : Fin 4096) (C : Fin 384) : hDV (a0 sc q) (a1 k) (a3 g) n C = zDV sc q k g n ⟨C.val / 64, by omega⟩ ⟨C.val % 64, by omega⟩ :=
  Finset.sum_congr rfl fun r _ => by rw [hP_eq, a3_val]

/-- The kernel's gradient of the queries, times the scale, is the attention's; on the padding it is zero. -/
theorem hDQ_eq (r : Fin 4096) (l : Fin 768) : hDQ (a0 sc q) (a1 k) (a2 k v) (a3 g) r l * sc = if h : l.val % 128 < 96 then zDQ sc q k v g r ⟨l.val / 128, by omega⟩ ⟨l.val % 128, h⟩ else 0 := by
  simp only [hDQ, hDS_eq, a1, lanes]
  split
  · rfl
  · simp only [mul_zero, Finset.sum_const_zero, zero_mul]

/-- The kernel's gradient of the keys is the attention's; on the padding it is zero. -/
theorem hDK_eq (n : Fin 4096) (l : Fin 768) : hDK (a0 sc q) (a1 k) (a2 k v) (a3 g) n l = if h : l.val % 128 < 96 then zDK sc q k v g n ⟨l.val / 128, by omega⟩ ⟨l.val % 128, h⟩ else 0 := by
  simp only [hDK, hDS_eq, a0, lanes]
  split
  · rw [zDK, Finset.sum_mul]
    exact Finset.sum_congr rfl fun r _ => (mul_assoc _ _ _).symm
  · simp only [mul_zero, Finset.sum_const_zero]

end Cert.Attn
-- ==== Proof.KernelValue.lean ====
/-
  The kernel program's four results over the reals.
-/
module

public import proofs.«01_k».proof.Proof.HostValue
public import proofs.«01_k».proof.Proof.LaneValue

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Attn

theorem kW_apply (x : FVec Ideal S4096x6x96 .f32) (j : S4096x768.Idx) : kW x j = padW x j := rfl
theorem qW_apply (x : FVec Ideal S4096x6x96 .f32) (j : S4096x768.Idx) : qW x j = (padW x j : EReal) * Ideal.ofBits .f32 0x3DD105EC#32 := rfl

theorem scaled_apply (x : FVec Ideal S4096x768 .f32) (j : S4096x768.Idx) :
    mulf (F := Ideal) x (broadcastInDim S4096x768 ![] bcast_S_S4096x768 (constant S_ .f32 0x3DD105EC#32)) j = (x j : EReal) * Ideal.ofBits .f32 0x3DD105EC#32 := rfl

variable {sc : ℝ} {q k : Fin 4096 → Fin 6 → Fin 96 → ℝ} {v g : Fin 4096 → Fin 6 → Fin 64 → ℝ}
variable {x0 x1 : FVec Ideal S4096x6x96 .f32} {x2 x3 : FVec Ideal S4096x6x64 .f32}

theorem padW_real {x : FVec Ideal S4096x6x96 .f32} {f : Fin 4096 → Fin 6 → Fin 96 → ℝ} (hx : ∀ i h d, x (ix3 i h d) = (f i h d : EReal)) (r : Fin 4096) (l : Fin 768) :
    padW x (ix2 r l) = (lanes (f r) l : EReal) := by
  rw [padW_apply, lanes]
  split
  · exact hx _ _ _
  · rfl

theorem qW_real (A : Args sc q k v g x0 x1 x2 x3) (r : Fin 4096) (l : Fin 768) : qW x0 (ix2 r l) = (a0 sc q r l : EReal) := by
  rw [qW_apply, padW_real A.q, A.c, ← EReal.coe_mul, a0, lanes, lanes]
  split
  · rfl
  · rw [zero_mul]

theorem kW_real (A : Args sc q k v g x0 x1 x2 x3) (r : Fin 4096) (l : Fin 768) : kW x1 (ix2 r l) = (a1 k r l : EReal) := by
  rw [kW_apply, padW_real A.k, a1]

theorem kvW_real (A : Args sc q k v g x0 x1 x2 x3) (r : Fin 4096) (l : Fin 1152) : kvW x1 x2 (ix2 r l) = (a2 k v r l : EReal) := by
  rw [kvW_apply, a2]
  split
  · exact kW_real A _ _
  · exact A.v _ _ _

theorem gW_real (A : Args sc q k v g x0 x1 x2 x3) (r : Fin 4096) (l : Fin 1024) : gW x3 (ix2 r l) = (a3 g r l : EReal) := by
  rw [gW_apply, a3]
  split
  · exact A.g _ _ _
  · rfl

variable (m : (ℓ : Loc nD τ sig) → Buf (Elt Ideal) ℓ) (ρ : Dev nD → PrngReg) (c : Dev nD)

/-- The launch memory's arguments are these reals. -/
abbrev ArgsAt (sc : ℝ) (q k : Fin 4096 → Fin 6 → Fin 96 → ℝ) (v g : Fin 4096 → Fin 6 → Fin 64 → ℝ) : Prop :=
  Args sc q k v g (m ((c : Thread nD τ).loc main_arg0)) (m ((c : Thread nD τ).loc main_arg1)) (m ((c : Thread nD τ).loc main_arg2)) (m ((c : Thread nD τ).loc main_arg3))

variable {m c}

/-- What the forward call is given. -/
theorem fwdIn (A : ArgsAt m c sc q k v g) : FwdIn (a0 sc q) (a1 k) (a2 k v) (V5 m ρ) c where
  a0 r l := by rw [V5_q]; exact qW_real A r l
  a1 r l := by rw [V5_k]; exact kW_real A r l
  a2 r l := by rw [V5_kv]; exact kvW_real A r l

/-- What the backward call is given. -/
theorem bwdIn (A : ArgsAt m c sc q k v g) : BwdIn (a0 sc q) (a1 k) (a2 k v) (a3 g) (V6 m ρ) c where
  a0 r l := (congrFun (W6_of m ρ c main_v4 (by decide)) (ix2 r l)).trans ((fwdIn ρ A).a0 r l)
  a1 r l := (congrFun (W6_of m ρ c main_v7 (by decide)) (ix2 r l)).trans ((fwdIn ρ A).a1 r l)
  a2 r l := (congrFun (W6_of m ρ c main_v10 (by decide)) (ix2 r l)).trans ((fwdIn ρ A).a2 r l)
  a3 r l := (congrFun ((W6_of m ρ c main_v13 (by decide)).trans (V5_g m ρ c)) (ix2 r l)).trans (gW_real A r l)
  a4 r l := congrFun ((W6_arr m ρ c 3).trans (final0_3 (fwdIn ρ A))) (ix2 r l)
  a5 r l := congrFun ((W6_arr m ρ c 4).trans (final0_4 (fwdIn ρ A))) (ix2 r l)

/-- The output the program ends with. -/
theorem res_o (A : ArgsAt m c sc q k v g) (r : Fin 4096) (C : Fin 384) :
    W8 m ρ c (Proc.devRef .tc main_v14_0) (ix2 r C) = (zO sc q k v r ⟨C.val / 64, by omega⟩ ⟨C.val % 64, by omega⟩ : EReal) :=
  (congrFun ((W8_of m ρ c main_v14_0 (by decide)).trans ((W7_of m ρ c main_v14_0 (by decide)).trans
    ((W6_arr m ρ c 3).trans (final0_3 (fwdIn ρ A))))) (ix2 r C)).trans (congrArg _ (hO_eq sc q k v r C))

/-- The queries' gradient the program ends with. -/
theorem res_dq (A : ArgsAt m c sc q k v g) (r : Fin 4096) (l : Fin 768) :
    W8 m ρ c (Proc.devRef .tc main_v17) (ix2 r l) = ((if h : l.val % 128 < 96 then zDQ sc q k v g r ⟨l.val / 128, by omega⟩ ⟨l.val % 128, h⟩ else 0 : ℝ) : EReal) := by
  rw [W8_dq, ← hDQ_eq]
  refine (scaled_apply _ _).trans ?_
  rw [A.c, EReal.coe_mul]
  exact congrArg (· * (sc : EReal)) (congrFun ((W7_arr m ρ c 6).trans (final1_6 (bwdIn ρ A))) (ix2 r l))

/-- The keys' gradient the program ends with. -/
theorem res_dk (A : ArgsAt m c sc q k v g) (n : Fin 4096) (l : Fin 768) :
    W8 m ρ c (Proc.devRef .tc main_v15_1) (ix2 n l) = ((if h : l.val % 128 < 96 then zDK sc q k v g n ⟨l.val / 128, by omega⟩ ⟨l.val % 128, h⟩ else 0 : ℝ) : EReal) :=
  (congrFun ((W8_of m ρ c main_v15_1 (by decide)).trans ((W7_arr m ρ c 7).trans (final1_7 (bwdIn ρ A)))) (ix2 n l)).trans (congrArg _ (hDK_eq sc q k v g n l))

/-- The values' gradient the program ends with. -/
theorem res_dv (A : ArgsAt m c sc q k v g) (n : Fin 4096) (C : Fin 384) :
    W8 m ρ c (Proc.devRef .tc main_v15_2) (ix2 n C) = (zDV sc q k g n ⟨C.val / 64, by omega⟩ ⟨C.val % 64, by omega⟩ : EReal) :=
  (congrFun ((W8_of m ρ c main_v15_2 (by decide)).trans ((W7_arr m ρ c 8).trans (final1_8 (bwdIn ρ A)))) (ix2 n C)).trans (congrArg _ (hDV_eq sc q k g n C))

end Cert.Attn
-- ==== Proof.RefWord.lean ====
/-
  The reference's intermediate arrays, named in the order it computes them, each read at an index as extended-real
  arithmetic.
-/
module

public import proofs.«01_k».proof.Proof.Softmax
public import proofs.«01_k».proof.Proof.Gen.ReferenceIdeal.Run
public import Idealize.ShloMosaic.Lib.Pipeline.Value
public import Idealize.ShloMosaic.Lib.Pipeline.ValueKit
public import Idealize.ShloMosaic.Lib.ValueLayout
public import Idealize.ShloMosaic.Lib.IdealHost

@[expose] public section

set_option maxRecDepth 65536

noncomputable section

open Idealize.ShloMosaic Idealize.ShloMosaic.TcCoe Idealize.SL.Sem
open Cert.ReferenceIdeal Cert.ReferenceIdeal.Gen

namespace Cert.Ref

/-- The scaled scores. -/
def sW (q k : FVec Ideal S4096x6x96 .f32) : FVec Ideal S6x4096x4096 .f32 :=
  mulf (Host.dotGeneral dot_S4096x6x96_S4096x6x96_S6x4096x4096_2_2_0_0_1_1 none q k) (broadcastInDim S6x4096x4096 ![] bcast_S_S6x4096x4096 (constant S_ .f32 0x3DD105EC#32))
/-- The row maxima. -/
def mW (s : FVec Ideal S6x4096x4096 .f32) : FVec Ideal S6x4096 .f32 :=
  maximumf (broadcastInDim S6x4096 ![] bcast_S_S6x4096 (constant S_ .f32 0xFF800000#32)) (Host.reduce FloatOps.maximumf s (constant S_ .f32 0xFF800000#32) reducesTo_S6x4096x4096_S6x4096_d2 h_S_)
/-- The exponentials. -/
def eW (s : FVec Ideal S6x4096x4096 .f32) : FVec Ideal S6x4096x4096 .f32 :=
  Host.exp (subf s (broadcastInDim S6x4096x4096 ![0, 1, 2] bcast_S6x4096x1_S6x4096x4096_0_1_2 (broadcastInDim S6x4096x1 ![0, 1] bcast_S6x4096_S6x4096x1_0_1 (mW s))))
/-- Their row sums. -/
def lW (s : FVec Ideal S6x4096x4096 .f32) : FVec Ideal S6x4096x1 .f32 :=
  broadcastInDim S6x4096x1 ![0, 1] bcast_S6x4096_S6x4096x1_0_1 (Host.reduceAdd (eW s) (constant S_ .f32 0x00000000#32) reducesTo_S6x4096x4096_S6x4096_d2 h_S_)
/-- The probabilities. -/
def pW (s : FVec Ideal S6x4096x4096 .f32) : FVec Ideal S6x4096x4096 .f32 :=
  Host.divf (eW s) (broadcastInDim S6x4096x4096 ![0, 1, 2] bcast_S6x4096x1_S6x4096x4096_0_1_2 (lW s))
/-- The output gradient with its rows last. -/
def gW (g : FVec Ideal S4096x6x64 .f32) : FVec Ideal S6x64x4096 .f32 := transpose S6x64x4096 [1, 2, 0] g transposes_S4096x6x64_S6x64x4096_1_2_0
/-- The gradient of the probabilities. -/
def dpW (g v : FVec Ideal S4096x6x64 .f32) : FVec Ideal S6x4096x4096 .f32 :=
  Host.dotGeneral dot_S6x64x4096_S4096x6x64_S6x4096x4096_1_2_2_0_0_1 none (gW g) v
/-- One over the squared row sums. -/
def iW (s : FVec Ideal S6x4096x4096 .f32) : FVec Ideal S6x4096x1 .f32 :=
  Host.divf (broadcastInDim S6x4096x1 ![] bcast_S_S6x4096x1 (constant S_ .f32 0x3F800000#32)) (mulf (lW s) (lW s))
/-- The row sums' gradient, up to its sign. -/
def cW (s dp : FVec Ideal S6x4096x4096 .f32) : FVec Ideal S6x4096 .f32 :=
  Host.reduceAdd (mulf (mulf dp (broadcastInDim S6x4096x4096 ![0, 1, 2] bcast_S6x4096x1_S6x4096x4096_0_1_2 (iW s))) (eW s)) (constant S_ .f32 0x00000000#32) reducesTo_S6x4096x4096_S6x4096_d2 h_S_
/-- The row sums' gradient. -/
def nW (s dp : FVec Ideal S6x4096x4096 .f32) : FVec Ideal S6x4096 .f32 :=
  Host.reduceAdd (Host.negf (shapeCast S6x4096x1 (cW s dp) shapeCasts_S6x4096_S6x4096x1)) (constant S_ .f32 0x00000000#32) reducesTo_S6x4096x1_S6x4096_d2 h_S_
/-- The gradient of the unscaled scores. -/
def dsW (s dp : FVec Ideal S6x4096x4096 .f32) : FVec Ideal S6x4096x4096 .f32 :=
  mulf (mulf (addf (Host.divf dp (broadcastInDim S6x4096x4096 ![0, 1, 2] bcast_S6x4096x1_S6x4096x4096_0_1_2 (lW s))) (broadcastInDim S6x4096x4096 ![0, 1] bcast_S6x4096_S6x4096x4096_0_1 (nW s dp))) (eW s))
    (broadcastInDim S6x4096x4096 ![] bcast_S_S6x4096x4096 (constant S_ .f32 0x3DD105EC#32))
/-- Heads of 96 lanes padded to 128 lanes each and laid side by side. -/
def lanesW (x : FVec Ideal S6x4096x96 .f32) : FVec Ideal S4096x768 .f32 :=
  shapeCast S4096x768 (pad S4096x6x128 ![0, 0, 0] ![0, 0, 32] ![0, 0, 0] (transpose S4096x6x96 [1, 0, 2] x transposes_S6x4096x96_S4096x6x96_1_0_2) (sitofp .f32 (constantI S_ 32 0#32)) pads_S4096x6x96_S4096x6x128_000_000_0320 h_S_) shapeCasts_S4096x6x128_S4096x768
/-- The attention output. -/
def oW (s : FVec Ideal S6x4096x4096 .f32) (v : FVec Ideal S4096x6x64 .f32) : FVec Ideal S4096x384 .bf16 :=
  truncf .bf16 (shapeCast S4096x384 (transpose S4096x6x64 [2, 0, 1] (Host.dotGeneral dot_S4096x6x64_S6x4096x4096_S6x64x4096_0_2_2_1_1_0 none v (pW s)) transposes_S6x64x4096_S4096x6x64_2_0_1) shapeCasts_S4096x6x64_S4096x384) bitsLt_bf16_f32
/-- The queries' gradient. -/
def dqW (ds : FVec Ideal S6x4096x4096 .f32) (k : FVec Ideal S4096x6x96 .f32) : FVec Ideal S4096x768 .f32 :=
  lanesW (Host.dotGeneral dot_S6x4096x4096_S4096x6x96_S6x4096x96_2_0_1_2_0_1 none ds k)
/-- The keys' gradient. -/
def dkW (ds : FVec Ideal S6x4096x4096 .f32) (q : FVec Ideal S4096x6x96 .f32) : FVec Ideal S4096x768 .f32 :=
  lanesW (Host.dotGeneral dot_S6x4096x4096_S4096x6x96_S6x4096x96_1_0_2_2_0_1 none ds q)
/-- The values' gradient. -/
def dvW (s : FVec Ideal S6x4096x4096 .f32) (g : FVec Ideal S4096x6x64 .f32) : FVec Ideal S4096x384 .f32 :=
  shapeCast S4096x384 (transpose S4096x6x64 [2, 0, 1] (Host.dotGeneral dot_S6x64x4096_S6x4096x4096_S6x64x4096_2_1_1_2_0_0 none (gW g) (pW s)) transposes_S6x64x4096_S4096x6x64_2_0_1) shapeCasts_S4096x6x64_S4096x384

/-- The reference's run in the named arrays: its four results, and the arguments as they were. -/
theorem run_words (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v56) = oW (sW (m ((c : Thread nD τ).loc main_arg0)) (m ((c : Thread nD τ).loc main_arg1))) (m ((c : Thread nD τ).loc main_arg2))
      ∧ r.2.mem ((c : Thread nD τ).loc main_v58) = dqW (dsW (sW (m ((c : Thread nD τ).loc main_arg0)) (m ((c : Thread nD τ).loc main_arg1))) (dpW (m ((c : Thread nD τ).loc main_arg3)) (m ((c : Thread nD τ).loc main_arg2)))) (m ((c : Thread nD τ).loc main_arg1))
      ∧ r.2.mem ((c : Thread nD τ).loc main_v60) = dkW (dsW (sW (m ((c : Thread nD τ).loc main_arg0)) (m ((c : Thread nD τ).loc main_arg1))) (dpW (m ((c : Thread nD τ).loc main_arg3)) (m ((c : Thread nD τ).loc main_arg2)))) (m ((c : Thread nD τ).loc main_arg0))
      ∧ r.2.mem ((c : Thread nD τ).loc main_v61) = dvW (sW (m ((c : Thread nD τ).loc main_arg0)) (m ((c : Thread nD τ).loc main_arg1))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1, (h c).2.1, (h c).2.2.1, (h c).2.2.2.1, (h c).2.2.2.2⟩) (Cert.ReferenceIdeal.Value.run m ρ)

theorem sW_apply (q k : FVec Ideal S4096x6x96 .f32) (h : Fin 6) (i n : Fin 4096) :
    sW q k (ix3 h i n) = (∑ d : Fin 96, (q (ix3 i h d) : EReal) * k (ix3 n h d)) * Ideal.ofBits .f32 0x3DD105EC#32 := by
  pointwise [sW]
theorem negInf : Ideal.ofBits .f32 0xFF800000#32 = ⊥ := by simp [Ideal.ofBits, Ideal.ieee]
theorem reduceMax_apply (s : FVec Ideal S6x4096x4096 .f32) (c : FVec Ideal S_ .f32) (h : Fin 6) (i : Fin 4096) :
    Host.reduce FloatOps.maximumf s c reducesTo_S6x4096x4096_S6x4096_d2 h_S_ (ix2 h i)
      = Finset.univ.fold max (c (Shape.Idx.first h_S_) : EReal) fun n : Fin 4096 => (s (ix3 h i n) : EReal) := by
  pointwise
theorem maximum_apply (x y : FVec Ideal S6x4096 .f32) (j : S6x4096.Idx) : maximumf x y j = max (x j : EReal) (y j) := rfl
theorem mW_apply (s : FVec Ideal S6x4096x4096 .f32) (h : Fin 6) (i : Fin 4096) :
    mW s (ix2 h i) = Finset.univ.sup fun n : Fin 4096 => (s (ix3 h i n) : EReal) := by
  rw [mW, maximum_apply, reduceMax_apply]
  show max (Ideal.ofBits .f32 0xFF800000#32) (Finset.univ.fold max (Ideal.ofBits .f32 0xFF800000#32) _) = _
  rw [negInf]
  exact max_eq_right bot_le
theorem eW_apply (s : FVec Ideal S6x4096x4096 .f32) (h : Fin 6) (i n : Fin 4096) :
    eW s (ix3 h i n) = Ideal.exp ((s (ix3 h i n) : EReal) - mW s (ix2 h i)) := by
  pointwise [eW]
theorem lW_apply (s : FVec Ideal S6x4096x4096 .f32) (h : Fin 6) (i : Fin 4096) :
    lW s (ix3 h i 0) = ∑ n : Fin 4096, (eW s (ix3 h i n) : EReal) := by
  pointwise [lW]
theorem pW_apply (s : FVec Ideal S6x4096x4096 .f32) (h : Fin 6) (i n : Fin 4096) :
    pW s (ix3 h i n) = Ideal.div (eW s (ix3 h i n)) (lW s (ix3 h i 0)) := by
  pointwise [pW]
theorem gW_apply (g : FVec Ideal S4096x6x64 .f32) (h : Fin 6) (e : Fin 64) (i : Fin 4096) : gW g (ix3 h e i) = g (ix3 i h e) := by
  pointwise [gW]
theorem dpW_apply (g v : FVec Ideal S4096x6x64 .f32) (h : Fin 6) (i n : Fin 4096) :
    dpW g v (ix3 h i n) = ∑ e : Fin 64, (g (ix3 i h e) : EReal) * v (ix3 n h e) := by
  pointwise [dpW, gW]
theorem iW_apply (s : FVec Ideal S6x4096x4096 .f32) (h : Fin 6) (i : Fin 4096) :
    iW s (ix3 h i 0) = Ideal.div (Ideal.ofBits .f32 0x3F800000#32) ((lW s (ix3 h i 0) : EReal) * lW s (ix3 h i 0)) := by
  pointwise [iW]
theorem cW_apply (s dp : FVec Ideal S6x4096x4096 .f32) (h : Fin 6) (i : Fin 4096) :
    cW s dp (ix2 h i) = ∑ n : Fin 4096, (dp (ix3 h i n) : EReal) * iW s (ix3 h i 0) * eW s (ix3 h i n) := by
  pointwise [cW]
theorem nW_apply (s dp : FVec Ideal S6x4096x4096 .f32) (h : Fin 6) (i : Fin 4096) :
    nW s dp (ix2 h i) = -(cW s dp (ix2 h i) : EReal) := by
  pointwise [nW]
  exact Fin.sum_univ_one _
theorem dsW_apply (s dp : FVec Ideal S6x4096x4096 .f32) (h : Fin 6) (i n : Fin 4096) :
    dsW s dp (ix3 h i n) = (Ideal.div (dp (ix3 h i n)) (lW s (ix3 h i 0)) + nW s dp (ix2 h i)) * eW s (ix3 h i n) * Ideal.ofBits .f32 0x3DD105EC#32 := by
  pointwise [dsW]
theorem transpose_apply (x : FVec Ideal S6x4096x96 .f32) (r : Fin 4096) (h : Fin 6) (d : Fin 96) :
    transpose S4096x6x96 [1, 0, 2] x transposes_S6x4096x96_S4096x6x96_1_0_2 (ix3 r h d) = x (ix3 h r d) := by
  pointwise
theorem padded_apply (x : FVec Ideal S4096x6x96 .f32) (r : Fin 4096) (l : Fin 768) :
    shapeCast S4096x768 (pad S4096x6x128 ![0, 0, 0] ![0, 0, 32] ![0, 0, 0] x (sitofp .f32 (constantI S_ 32 0#32)) pads_S4096x6x96_S4096x6x128_000_000_0320 h_S_) shapeCasts_S4096x6x128_S4096x768 (ix2 r l)
      = if h : l.val % 128 < 96 then (x (ix3 r ⟨l.val / 128, by omega⟩ ⟨l.val % 128, h⟩) : EReal) else 0 := by
  pointwise
  by_cases h : l.val % 128 < 96
  · rw [dif_pos h, dif_pos ⟨by omega, h⟩]
  · rw [dif_neg h, dif_neg (fun e => h e.2)]
    show (((0#32 : BitVec 32).toInt : ℝ) : EReal) = 0
    simp
theorem lanesW_apply (x : FVec Ideal S6x4096x96 .f32) (r : Fin 4096) (l : Fin 768) :
    lanesW x (ix2 r l) = if h : l.val % 128 < 96 then (x (ix3 ⟨l.val / 128, by omega⟩ r ⟨l.val % 128, h⟩) : EReal) else 0 := by
  rw [lanesW, padded_apply]
  split
  · exact transpose_apply _ _ _ _
  · rfl
theorem oW_apply (s : FVec Ideal S6x4096x4096 .f32) (v : FVec Ideal S4096x6x64 .f32) (r : Fin 4096) (C : Fin 384) :
    oW s v (ix2 r C) = ∑ n : Fin 4096, (v (ix3 n ⟨C.val / 64, by omega⟩ ⟨C.val % 64, by omega⟩) : EReal) * pW s (ix3 ⟨C.val / 64, by omega⟩ r n) := by
  pointwise [oW]
theorem dqW_apply (ds : FVec Ideal S6x4096x4096 .f32) (k : FVec Ideal S4096x6x96 .f32) (r : Fin 4096) (l : Fin 768) :
    dqW ds k (ix2 r l) = if h : l.val % 128 < 96 then ∑ n : Fin 4096, (ds (ix3 ⟨l.val / 128, by omega⟩ r n) : EReal) * k (ix3 n ⟨l.val / 128, by omega⟩ ⟨l.val % 128, h⟩) else 0 := by
  rw [dqW, lanesW_apply]
  pointwise
theorem dkW_apply (ds : FVec Ideal S6x4096x4096 .f32) (q : FVec Ideal S4096x6x96 .f32) (n : Fin 4096) (l : Fin 768) :
    dkW ds q (ix2 n l) = if h : l.val % 128 < 96 then ∑ r : Fin 4096, (ds (ix3 ⟨l.val / 128, by omega⟩ r n) : EReal) * q (ix3 r ⟨l.val / 128, by omega⟩ ⟨l.val % 128, h⟩) else 0 := by
  rw [dkW, lanesW_apply]
  pointwise
theorem dvW_apply (s : FVec Ideal S6x4096x4096 .f32) (g : FVec Ideal S4096x6x64 .f32) (n : Fin 4096) (C : Fin 384) :
    dvW s g (ix2 n C) = ∑ r : Fin 4096, (g (ix3 r ⟨C.val / 64, by omega⟩ ⟨C.val % 64, by omega⟩) : EReal) * pW s (ix3 ⟨C.val / 64, by omega⟩ r n) := by
  pointwise [dvW, gW]

end Cert.Ref
-- ==== Proof.RefValue.lean ====
/-
  The reference's results over the reals.
-/
module

public import proofs.«01_k».proof.Proof.RefWord
public import proofs.«01_k».proof.Proof.Spec

@[expose] public section

set_option maxRecDepth 16384

noncomputable section

open Idealize.ShloMosaic Idealize.ShloMosaic.TcCoe Idealize.SL.Sem
open Cert.ReferenceIdeal Cert.ReferenceIdeal.Gen Cert.Attn

namespace Cert.Ref

variable {sc : ℝ} {q k : Fin 4096 → Fin 6 → Fin 96 → ℝ} {v g : Fin 4096 → Fin 6 → Fin 64 → ℝ}

variable {x0 x1 : FVec Ideal S4096x6x96 .f32} {x2 x3 : FVec Ideal S4096x6x64 .f32}

theorem one_word : Ideal.ofBits .f32 0x3F800000#32 = ((1 : ℝ) : EReal) := by
  simp [Ideal.ofBits, Ideal.ieee]
  rw [← EReal.coe_mul]
  norm_num

theorem sW_real (A : Args sc q k v g x0 x1 x2 x3) (h : Fin 6) (i n : Fin 4096) : sW x0 x1 (ix3 h i n) = (zS sc q k h i n : EReal) := by
  rw [sW_apply, A.c]
  simp only [A.q, A.k, coe_dot]
  exact (EReal.coe_mul _ _).symm

theorem dpW_real (A : Args sc q k v g x0 x1 x2 x3) (h : Fin 6) (i n : Fin 4096) : dpW x3 x2 (ix3 h i n) = (zDP v g h i n : EReal) := by
  rw [dpW_apply]
  simp only [A.g, A.v, coe_dot]
  rfl

/-- A row of exponentials: some real `M` was subtracted, and the row sum is the sum of the exponentials. -/
theorem row_real (A : Args sc q k v g x0 x1 x2 x3) (h : Fin 6) (i : Fin 4096) : ∃ M : ℝ,
    (∀ n, eW (sW x0 x1) (ix3 h i n) = (Real.exp (zS sc q k h i n - M) : EReal)) ∧ lW (sW x0 x1) (ix3 h i 0) = (sumExp (fun n => zS sc q k h i n - M) : EReal) := by
  obtain ⟨M, hM⟩ := sup_coe Finset.univ Finset.univ_nonempty (zS sc q k h i)
  have hm : mW (sW x0 x1) (ix2 h i) = (M : EReal) := by
    rw [mW_apply]
    simp only [sW_real A]
    exact hM
  have he : ∀ n, eW (sW x0 x1) (ix3 h i n) = (Real.exp (zS sc q k h i n - M) : EReal) := fun n => by
    rw [eW_apply, sW_real A, hm, ← EReal.coe_sub, Ideal.exp_coe]
  refine ⟨M, he, ?_⟩
  rw [lW_apply]
  simp only [he, coe_sum]
  rfl

theorem pW_real (A : Args sc q k v g x0 x1 x2 x3) (h : Fin 6) (i n : Fin 4096) : pW (sW x0 x1) (ix3 h i n) = (zP sc q k h i n : EReal) := by
  obtain ⟨M, he, hl⟩ := row_real A h i
  rw [pW_apply, he, hl, Ideal.div_coe (sumExp_pos _).ne', ← EReal.coe_mul, mul_one_div]
  exact congrArg _ (softmax_sub (zS sc q k h i) M n)

theorem dsW_real (A : Args sc q k v g x0 x1 x2 x3) (h : Fin 6) (i n : Fin 4096) :
    dsW (sW x0 x1) (dpW x3 x2) (ix3 h i n) = ((zDS sc q k v g h i n * sc : ℝ) : EReal) := by
  obtain ⟨M, he, hl⟩ := row_real A h i
  have hL := (sumExp_pos fun n => zS sc q k h i n - M).ne'
  have hi : iW (sW x0 x1) (ix3 h i 0) = ((1 / (sumExp (fun n => zS sc q k h i n - M) * sumExp (fun n => zS sc q k h i n - M)) : ℝ) : EReal) := by
    rw [iW_apply, hl, ← EReal.coe_mul, Ideal.div_coe (mul_ne_zero hL hL), one_word, ← EReal.coe_mul, one_mul]
  have hn : nW (sW x0 x1) (dpW x3 x2) (ix2 h i)
      = ((-∑ m, zDP v g h i m * (1 / (sumExp (fun n => zS sc q k h i n - M) * sumExp (fun n => zS sc q k h i n - M))) * Real.exp (zS sc q k h i m - M) : ℝ) : EReal) := by
    rw [nW_apply, cW_apply]
    simp only [dpW_real A, hi, he, ← EReal.coe_mul, coe_sum]
    exact (EReal.coe_neg _).symm
  rw [dsW_apply, dpW_real A, hl, hn, he, A.c, Ideal.div_coe hL, ← EReal.coe_mul, ← EReal.coe_add, ← EReal.coe_mul, ← EReal.coe_mul,
    grad_quotient (fun m => Real.exp (zS sc q k h i m - M)) (zDP v g h i) _ hL n]
  have hp : ∀ m, Real.exp (zS sc q k h i m - M) / sumExp (fun n => zS sc q k h i n - M) = zP sc q k h i m := softmax_sub (zS sc q k h i) M
  simp only [hp]
  rfl

/-- The reference's output. -/
theorem oW_real (A : Args sc q k v g x0 x1 x2 x3) (r : Fin 4096) (C : Fin 384) :
    oW (sW x0 x1) x2 (ix2 r C) = (zO sc q k v r ⟨C.val / 64, by omega⟩ ⟨C.val % 64, by omega⟩ : EReal) := by
  rw [oW_apply]
  simp only [A.v, pW_real A, coe_dot]
  exact congrArg _ (Finset.sum_congr rfl fun n _ => mul_comm _ _)

/-- The reference's gradient of the queries. -/
theorem dqW_real (A : Args sc q k v g x0 x1 x2 x3) (r : Fin 4096) (l : Fin 768) :
    dqW (dsW (sW x0 x1) (dpW x3 x2)) x1 (ix2 r l) = ((if h : l.val % 128 < 96 then zDQ sc q k v g r ⟨l.val / 128, by omega⟩ ⟨l.val % 128, h⟩ else 0 : ℝ) : EReal) := by
  rw [dqW_apply]
  split
  · simp only [A.k, dsW_real A, coe_dot]
    refine congrArg _ ?_
    rw [zDQ, Finset.sum_mul]
    exact Finset.sum_congr rfl fun n _ => by ring
  · rfl

/-- The reference's gradient of the keys. -/
theorem dkW_real (A : Args sc q k v g x0 x1 x2 x3) (n : Fin 4096) (l : Fin 768) :
    dkW (dsW (sW x0 x1) (dpW x3 x2)) x0 (ix2 n l) = ((if h : l.val % 128 < 96 then zDK sc q k v g n ⟨l.val / 128, by omega⟩ ⟨l.val % 128, h⟩ else 0 : ℝ) : EReal) := by
  rw [dkW_apply]
  split
  · simp only [A.q, dsW_real A, coe_dot]
    refine congrArg _ ?_
    rw [zDK, Finset.sum_mul]
    exact Finset.sum_congr rfl fun n _ => by ring
  · rfl

/-- The reference's gradient of the values. -/
theorem dvW_real (A : Args sc q k v g x0 x1 x2 x3) (n : Fin 4096) (C : Fin 384) :
    dvW (sW x0 x1) x3 (ix2 n C) = (zDV sc q k g n ⟨C.val / 64, by omega⟩ ⟨C.val % 64, by omega⟩ : EReal) := by
  rw [dvW_apply]
  simp only [A.g, pW_real A, coe_dot]
  exact congrArg _ (Finset.sum_congr rfl fun r _ => mul_comm _ _)

end Cert.Ref
-- ==== Proof.Finite.lean ====
/-
  What the precondition says: every argument entry is a real.
-/
module

public import proofs.«01_k».proof.Defs
public import proofs.«01_k».proof.Proof.Spec
public import proofs.«01_k».proof.Proof.Gen.Pre_finite
public import Idealize.ShloMosaic.Lib.ReduceAll
public import Idealize.ShloMosaic.Lib.IdealHost

@[expose] public section

set_option maxRecDepth 16384

noncomputable section

open Idealize.ShloMosaic Idealize.ShloMosaic.TcCoe Idealize.SL.Sem
open Cert.Pre_finite Cert.Pre_finite.Gen

namespace Cert.Attn

theorem inf_word : Ideal.ofBits .f32 0x7F800000#32 = ⊤ := by simp [Ideal.ofBits, Ideal.ieee]
/-- The scale constant is a real. -/
theorem scale_word : ∃ sc : ℝ, Ideal.ofBits .f32 0x3DD105EC#32 = (sc : EReal) := by
  refine ⟨(Ideal.ofBits .f32 0x3DD105EC#32).toReal, (EReal.coe_toReal ?_ ?_).symm⟩ <;> simp [Ideal.ofBits, Ideal.ieee] <;> rw [← EReal.coe_mul]
  · exact EReal.coe_ne_top _
  · exact EReal.coe_ne_bot _

theorem and_one (x y : BitVec 1) (h : x &&& y = 1#1) : x = 1#1 ∧ y = 1#1 := by revert x y; decide

/-- An entry whose absolute value is below infinity is a real. -/
theorem finite_entry {s : Shape} (x : FVec Ideal s .f32) (h : (⟨0, ![]⟩ : Shape).BroadcastsInDim s (![] : Fin 0 → Fin s.rank)) (i : s.Idx)
    (e : cmpf .olt (Host.absf x) (broadcastInDim s ![] h (constant ⟨0, ![]⟩ .f32 0x7F800000#32)) i = 1#1) : ∃ r : ℝ, x i = (r : EReal) := by
  have e' : BitVec.ofBool (decide (max (x i : EReal) (-(x i : EReal)) < Ideal.ofBits .f32 0x7F800000#32)) = 1#1 := e
  rw [inf_word] at e'
  have hlt : max (x i : EReal) (-(x i : EReal)) < ⊤ := by
    by_contra hc
    rw [decide_eq_false hc] at e'
    exact absurd e' (by decide)
  obtain ⟨h1, h2⟩ := max_lt_iff.1 hlt
  refine ⟨EReal.toReal (x i), (EReal.coe_toReal h1.ne ?_).symm⟩
  intro hb
  rw [hb] at h2
  exact absurd h2 (by simp)

/-- Under the precondition the four argument arrays and the scale constant are reals. -/
theorem args_real (x0 x1 : FVec Ideal S4096x6x96 .f32) (x2 x3 : FVec Ideal S4096x6x64 .f32) (h : Cert.Pre_finite.fn (F := Ideal) x0 x1 x2 x3 = fun _ => 1#1) :
    ∃ sc q k v g, Args sc q k v g x0 x1 x2 x3 := by
  have h0 := congrFun h (Shape.Idx.first h_S_)
  obtain ⟨h012, h3⟩ := and_one _ _ h0
  obtain ⟨h01, h2⟩ := and_one _ _ h012
  obtain ⟨h0, h1⟩ := and_one _ _ h01
  haveI : Subsingleton S_.Idx := ⟨fun a b => funext fun d => d.elim0⟩
  obtain ⟨sc, hsc⟩ := scale_word
  have r0 := fun i => finite_entry x0 bcast_S_S4096x6x96 i (Host.reduce_andi_all _ _ _ _ _ h0 i)
  have r1 := fun i => finite_entry x1 bcast_S_S4096x6x96 i (Host.reduce_andi_all _ _ _ _ _ h1 i)
  have r2 := fun i => finite_entry x2 bcast_S_S4096x6x64 i (Host.reduce_andi_all _ _ _ _ _ h2 i)
  have r3 := fun i => finite_entry x3 bcast_S_S4096x6x64 i (Host.reduce_andi_all _ _ _ _ _ h3 i)
  choose y0 e0 using r0
  choose y1 e1 using r1
  choose y2 e2 using r2
  choose y3 e3 using r3
  exact ⟨sc, fun i h d => y0 (ix3 i h d), fun i h d => y1 (ix3 i h d), fun i h e => y2 (ix3 i h e), fun i h e => y3 (ix3 i h e),
    hsc, fun _ _ _ => e0 _, fun _ _ _ => e1 _, fun _ _ _ => e2 _, fun _ _ _ => e3 _⟩

end Cert.Attn
-- ==== Proof.Claims.lean ====
/-
  The claims: the kernel programs and the reference end with their arguments unchanged and their counters at zero, and
  on finite arguments the kernel's results are the reference's.
-/
module

public import proofs.«01_k».proof.Defs
public import proofs.«01_k».proof.Proof.Run
public import proofs.«01_k».proof.Proof.KernelValue
public import proofs.«01_k».proof.Proof.RefValue
public import proofs.«01_k».proof.Proof.Finite
public import proofs.«01_k».proof.Proof.Gen.Kernel.Frame
public import Idealize.ShloMosaic.Lib.Quiescent

@[expose] public section

set_option maxRecDepth 16384

noncomputable section

namespace Cert.Attn

open Idealize.ShloMosaic Idealize.ShloMosaic.TcCoe Idealize.SL.Sem

/-- The kernel program's frame. -/
theorem frame_kernel : Cert.quiescent_Kernel (hKernel := Cert.Kernel.Gen.facts) := fun m ρ _ => Cert.Kernel.Gen.frame m ρ

/-- The ideal kernel's frame. -/
theorem frame_ideal : Cert.quiescent_KernelIdeal (hKernelIdeal := Cert.KernelIdeal.Gen.facts) := fun m ρ _ => run_args (F := Ideal) m ρ

/-- The reference's frame: it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩) (Cert.Ref.run_words m ρ)

/-- Two arrays of rank two that agree at every pair of coordinates are equal. -/
theorem ext2 {a b : ℕ} {α : Type} {x y : (⟨2, ![a, b]⟩ : Shape).Idx → α} (h : ∀ i j, x (ix2 i j) = y (ix2 i j)) : x = y := by
  funext t
  obtain ⟨i, j, e⟩ : ∃ (i : Fin a) (j : Fin b), t = ix2 i j := ⟨t 0, t 1, eq_ix2 t⟩
  rw [e]
  exact h i j

set_option maxHeartbeats 1000000 in
/-- On finite arguments the kernel's output and its three gradients are the reference's. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => Cert.KernelIdeal.Gen.W8 m ρ c (Proc.devRef .tc Cert.KernelIdeal.main_v14_0),
    fun c => Cert.KernelIdeal.Gen.W8 m ρ c (Proc.devRef .tc Cert.KernelIdeal.main_v17),
    fun c => Cert.KernelIdeal.Gen.W8 m ρ c (Proc.devRef .tc Cert.KernelIdeal.main_v15_1),
    fun c => Cert.KernelIdeal.Gen.W8 m ρ c (Proc.devRef .tc Cert.KernelIdeal.main_v15_2), ?_, ?_⟩
  · refine (θ_run Cert.KernelIdeal.defs _ _).mono (fun r h c => ?_) (run_main m ρ)
    exact ⟨h.1 c _ (Cert.KernelIdeal.Gen.mem_uc Cert.KernelIdeal.main_v14_0 (by decide)),
      h.1 c _ (Cert.KernelIdeal.Gen.mem_uc Cert.KernelIdeal.main_v17 (by decide)),
      h.1 c _ (Cert.KernelIdeal.Gen.mem_uc Cert.KernelIdeal.main_v15_1 (by decide)),
      h.1 c _ (Cert.KernelIdeal.Gen.mem_uc Cert.KernelIdeal.main_v15_2 (by decide)),
      (h.1 c _ (Cert.KernelIdeal.Gen.mem_uc Cert.KernelIdeal.main_arg0 (by decide))).trans (Cert.KernelIdeal.Gen.W8_main_arg0 m ρ c),
      (h.1 c _ (Cert.KernelIdeal.Gen.mem_uc Cert.KernelIdeal.main_arg1 (by decide))).trans (Cert.KernelIdeal.Gen.W8_main_arg1 m ρ c),
      (h.1 c _ (Cert.KernelIdeal.Gen.mem_uc Cert.KernelIdeal.main_arg2 (by decide))).trans (Cert.KernelIdeal.Gen.W8_main_arg2 m ρ c),
      (h.1 c _ (Cert.KernelIdeal.Gen.mem_uc Cert.KernelIdeal.main_arg3 (by decide))).trans (Cert.KernelIdeal.Gen.W8_main_arg3 m ρ c)⟩
  · refine (θ_run Cert.ReferenceIdeal.defs _ _).mono (fun r h c => ?_) (Cert.Ref.run_words m' ρ')
    obtain ⟨e0, e1, e2, e3⟩ := hargs c
    obtain ⟨sc, q, k, v, g, A⟩ := args_real _ _ _ _ (hpre c)
    obtain ⟨h0, h1, h2, h3, hr⟩ := h c
    rw [e0, e1, e2] at h0
    rw [e0, e1, e2, e3] at h1
    rw [e0, e1, e2, e3] at h2
    rw [e0, e1, e3] at h3
    exact ⟨h0.trans (ext2 fun i j => (Cert.Ref.oW_real A i j).trans (res_o ρ A i j).symm),
      h1.trans (ext2 fun i j => (Cert.Ref.dqW_real A i j).trans (res_dq ρ A i j).symm),
      h2.trans (ext2 fun i j => (Cert.Ref.dkW_real A i j).trans (res_dk ρ A i j).symm),
      h3.trans (ext2 fun i j => (Cert.Ref.dvW_real A i j).trans (res_dv ρ A i j).symm), hr⟩

end Cert.Attn
-- ==== Proof.MixRun.lean ====
/-
  The channel mixer program's run: it ends, every buffer holds what the last boundary of its segments holds, and every counter
  is zero.
-/
module

public import proofs.«01_k».proof.Proof.Gen.Kernel2Ideal.Frame
public import Idealize.ShloMosaic.Adequacy
public import Idealize.ShloMosaic.Init

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- plain definitions in a metavariable's type
set_option backward.isDefEq.respectTransparency.types false in
/-- From any memory with zero counters every weakly fair execution ends, each device's buffers at the last boundary's
    contents and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.Mix
-- ==== Proof.MixSpec.lean ====
/-
  The channel mixer over the reals: its hidden values, its output and its gradients. The 2816 hidden columns are also
  counted as 4 shards of 704.
-/
module

public import proofs.«01_k».proof.Proof.Softmax
public import Idealize.ShloMosaic.Lib.Pipeline.Value
public import Idealize.ShloMosaic.Lib.Pipeline.ValueKit

@[expose] public section

noncomputable section

open Idealize.ShloMosaic

namespace Cert.Mix

/-- The logistic function. -/
def lgst (g : ℝ) : ℝ := 1 / (1 + Real.exp (-g))
/-- The derivative of `g * lgst g`. -/
def dsilu (g : ℝ) : ℝ := lgst g * (1 + g * (1 - lgst g))

theorem one_add_exp_ne (g : ℝ) : 1 + Real.exp (-g) ≠ 0 := by positivity

variable (x z : Fin 4096 → Fin 1024 → ℝ) (wg wu : Fin 1024 → Fin 2816 → ℝ) (wd : Fin 2816 → Fin 1024 → ℝ)

/-- The gate's, or the other, hidden values. -/
def hid (w : Fin 1024 → Fin 2816 → ℝ) (s : Fin 4096) (j : Fin 2816) : ℝ := ∑ d : Fin 1024, x s d * w d j
/-- The gated hidden values. -/
def act (s : Fin 4096) (j : Fin 2816) : ℝ := hid x wg s j * lgst (hid x wg s j) * hid x wu s j
/-- The gradient of the gated hidden values. -/
def dact (s : Fin 4096) (j : Fin 2816) : ℝ := ∑ e : Fin 1024, z s e * wd j e
/-- The gradient of the gate's hidden values. -/
def dgate (s : Fin 4096) (j : Fin 2816) : ℝ := dact z wd s j * hid x wu s j * dsilu (hid x wg s j)
/-- The gradient of the other hidden values. -/
def dup (s : Fin 4096) (j : Fin 2816) : ℝ := dact z wd s j * (hid x wg s j * lgst (hid x wg s j))
/-- The output. -/
def outp (s : Fin 4096) (e : Fin 1024) : ℝ := ∑ j : Fin 2816, act x wg wu s j * wd j e
/-- The input's gradient. -/
def dinp (s : Fin 4096) (d : Fin 1024) : ℝ :=
  ∑ j : Fin 2816, (dgate x z wg wu wd s j * wg d j + dup x z wg wd s j * wu d j)
/-- The gradient of a weight whose rows are the hidden columns. -/
def dwt (h : Fin 4096 → Fin 2816 → ℝ) (y : Fin 4096 → Fin 1024 → ℝ) (j : Fin 2816) (d : Fin 1024) : ℝ := ∑ s : Fin 4096, h s j * y s d

/-- Column `f` of shard `k`. -/
abbrev col (k : Fin 4) (f : Fin 704) : Fin 2816 := ⟨k.val * 704 + f.val, by omega⟩

/-- A sum over the hidden columns is the sum of its four shards. -/
theorem sum_shards (F : Fin 2816 → ℝ) :
    ∑ j, F j = ∑ f, F (col 0 f) + ∑ f, F (col 1 f) + ∑ f, F (col 2 f) + ∑ f, F (col 3 f) := by
  have e : ∑ j, F j = ∑ p : Fin 4 × Fin 704, F (col p.1 p.2) := by
    refine (Equiv.sum_comp (finProdFinEquiv : Fin 4 × Fin 704 ≃ Fin (4 * 704)) (fun j => F j)).symm.trans (Finset.sum_congr rfl fun p _ => congrArg F (Fin.ext ?_))
    show p.2.val + 704 * p.1.val = p.1.val * 704 + p.2.val
    omega
  rw [e, Fintype.sum_prod_type, Fin.sum_univ_four]

/-- The input's gradient, shard by shard. -/
theorem dinp_shards (s : Fin 4096) (d : Fin 1024) (G U : Fin 4 → Fin 704 → ℝ)
    (hG : ∀ k f, G k f = dgate x z wg wu wd s (col k f)) (hU : ∀ k f, U k f = dup x z wg wd s (col k f)) :
    (∑ f, G 0 f * wg d (col 0 f)) + (∑ f, U 0 f * wu d (col 0 f)) + (∑ f, G 1 f * wg d (col 1 f)) + (∑ f, U 1 f * wu d (col 1 f))
      + (∑ f, G 2 f * wg d (col 2 f)) + (∑ f, U 2 f * wu d (col 2 f)) + (∑ f, G 3 f * wg d (col 3 f)) + (∑ f, U 3 f * wu d (col 3 f))
      = dinp x z wg wu wd s d := by
  rw [dinp, sum_shards]
  simp only [hG, hU, Finset.sum_add_distrib]
  ring

/-- The arguments are these reals. -/
structure Args (x0 : FVec Ideal ⟨2, ![4096, 1024]⟩ .f32) (x1 x2 : FVec Ideal ⟨2, ![1024, 2816]⟩ .f32) (x3 : FVec Ideal ⟨2, ![2816, 1024]⟩ .f32)
    (x4 : FVec Ideal ⟨2, ![4096, 1024]⟩ .f32) : Prop where
  x : ∀ s d, x0 (ix2 s d) = (x s d : EReal)
  wg : ∀ d j, x1 (ix2 d j) = (wg d j : EReal)
  wu : ∀ d j, x2 (ix2 d j) = (wu d j : EReal)
  wd : ∀ j e, x3 (ix2 j e) = (wd j e : EReal)
  z : ∀ s e, x4 (ix2 s e) = (z s e : EReal)

end Cert.Mix
-- ==== Proof.MixBlock.lean ====
/-
  The channel mixer's kernel bodies: what each leaves in its staging buffers, read at an index as extended-real
  arithmetic.
-/
module

public import proofs.«01_k».proof.Proof.MixSpec
public import proofs.«01_k».proof.Proof.Gen.Kernel2Ideal.Frame
public import Idealize.ShloMosaic.Lib.ValueLayout

@[expose] public section

set_option maxRecDepth 16384

noncomputable section

open Idealize.ShloMosaic Idealize.ShloMosaic.TcCoe Idealize.SL.Sem
open Cert.Kernel2Ideal Cert.Kernel2Ideal.Gen

namespace Cert.Mix

theorem one_word : Ideal.ofBits .f32 0x3F800000#32 = ((1 : ℝ) : EReal) := by
  simp [Ideal.ofBits, Ideal.ieee]
  rw [← EReal.coe_mul]
  norm_num
theorem zero_word : Ideal.ofBits .f32 0x00000000#32 = ((0 : ℝ) : EReal) := by simp [Ideal.ofBits, Ideal.ieee]

/-- The logistic function as the kernels compute it. -/
theorem sig_word (g : ℝ) (n : EReal) (r : ℝ) (hn : n = (r : EReal)) :
    Ideal.div n (Ideal.ofBits .f32 0x3F800000#32 + Ideal.exp (Ideal.ofBits .f32 0x00000000#32 - (g : EReal))) = ((r * lgst g : ℝ) : EReal) := by
  rw [hn, one_word, zero_word, ← EReal.coe_sub, Ideal.exp_coe, ← EReal.coe_add, zero_sub, Ideal.div_coe (one_add_exp_ne g), ← EReal.coe_mul, lgst]

section Up

variable (x0 : Vec Ideal S1024x1024 .bf16) (x1 x2 : Vec Ideal S1x704x1024 .bf16)

theorem k0_pay2_apply (i : Fin 1024) (f : Fin 704) :
    k0_pay2 x0 x1 (ix2 i f) = ∑ d : Fin 1024, (x0 (ix2 i d) : EReal) * x1 (ix3 0 f d) := by
  pointwise [k0_pay2, k0_pay1]
theorem k0_pay3_apply (i : Fin 1024) (f : Fin 704) :
    k0_pay3 x0 x1 (ix2 i f) = ∑ d : Fin 1024, (x0 (ix2 i d) : EReal) * x1 (ix3 0 f d) := by
  pointwise [k0_pay3, k0_pay1]
theorem out0_3_apply (i : Fin 1024) (f : Fin 704) :
    out0_3 x0 x1 x2 (ix3 0 i f) = ∑ d : Fin 1024, (x0 (ix2 i d) : EReal) * x1 (ix3 0 f d) := by
  rw [out0_3, View.canon_cons_unit_lit _ _ _ (by decide), View.ld_unit_lit _ _ (by decide), View.ld_unit_lit _ _ (by decide), ← k0_pay2_apply]
  pointwise [k0_pay4]
theorem out0_4_apply (i : Fin 1024) (f : Fin 704) :
    out0_4 x0 x1 x2 (ix3 0 i f) = ∑ d : Fin 1024, (x0 (ix2 i d) : EReal) * x2 (ix3 0 f d) := by
  rw [out0_4, View.canon_cons_unit_lit _ _ _ (by decide), View.ld_unit_lit _ _ (by decide), View.ld_unit_lit _ _ (by decide), ← k0_pay3_apply]
  pointwise [k0_pay5]
theorem out0_5_apply (i : Fin 1024) (f : Fin 704) :
    out0_5 x0 x1 x2 (ix3 0 i f) = Ideal.div (k0_pay2 x0 x1 (ix2 i f)) (Ideal.ofBits .f32 0x3F800000#32 + Ideal.exp (Ideal.ofBits .f32 0x00000000#32 - (k0_pay2 x0 x1 (ix2 i f) : EReal)))
      * k0_pay3 x0 x2 (ix2 i f) := by
  rw [out0_5, View.canon_cons_unit_lit _ _ _ (by decide), View.ld_unit_lit _ _ (by decide), View.ld_unit_lit _ _ (by decide), View.ld_unit_lit _ _ (by decide)]
  pointwise [k0_pay6]

end Up

section Weight

variable (x0 : Vec Ideal S1x4096x704 .bf16) (x1 : Vec Ideal S4096x1024 .bf16)

theorem out2_2_apply (f : Fin 704) (e : Fin 1024) :
    out2_2 x0 x1 (ix3 0 f e) = ∑ s : Fin 4096, (x0 (ix3 0 s f) : EReal) * x1 (ix2 s e) := by
  rw [out2_2, View.canon_cons_unit_lit _ _ _ (by decide), View.ld_unit_lit _ _ (by decide), View.ld_unit_lit _ _ (by decide)]
  pointwise [k2_pay1]
theorem out4_2_apply (f : Fin 704) (e : Fin 1024) :
    out4_2 x0 x1 (ix3 0 f e) = ∑ s : Fin 4096, (x0 (ix3 0 s f) : EReal) * x1 (ix2 s e) := by
  rw [out4_2, View.canon_cons_unit_lit _ _ _ (by decide), View.ld_unit_lit _ _ (by decide), View.ld_unit_lit _ _ (by decide)]
  pointwise [k4_pay1]
theorem out5_2_apply (f : Fin 704) (e : Fin 1024) :
    out5_2 x0 x1 (ix3 0 f e) = ∑ s : Fin 4096, (x0 (ix3 0 s f) : EReal) * x1 (ix2 s e) := by
  rw [out5_2, View.canon_cons_unit_lit _ _ _ (by decide), View.ld_unit_lit _ _ (by decide), View.ld_unit_lit _ _ (by decide)]
  pointwise [k5_pay1]

end Weight

section Down

variable (x0 : Vec Ideal S1024x1024 .bf16) (x1 : Vec Ideal S1x704x1024 .bf16) (x2 x3 : Vec Ideal S1x1024x704 .bf16)

theorem k3_pay2_apply (i : Fin 1024) (f : Fin 704) :
    k3_pay2 x0 x1 (ix2 i f) = ∑ d : Fin 1024, (x0 (ix2 i d) : EReal) * x1 (ix3 0 f d) := by
  pointwise [k3_pay2]
theorem k3_pay3_apply (i : Fin 1024) (f : Fin 704) : k3_pay3 x2 (ix2 i f) = x2 (ix3 0 i f) := by
  pointwise [k3_pay3]
theorem k3_pay4_apply (i : Fin 1024) (f : Fin 704) :
    k3_pay4 x2 (ix2 i f) = Ideal.div (Ideal.ofBits .f32 0x3F800000#32)
      (Ideal.ofBits .f32 0x3F800000#32 + Ideal.exp (Ideal.ofBits .f32 0x00000000#32 - (k3_pay3 x2 (ix2 i f) : EReal))) := by
  pointwise [k3_pay4]
theorem out3_4_apply (i : Fin 1024) (f : Fin 704) :
    out3_4 x0 x1 x2 x3 (ix3 0 i f) = (k3_pay2 x0 x1 (ix2 i f) : EReal) * x3 (ix3 0 i f)
      * ((k3_pay4 x2 (ix2 i f) : EReal) * (Ideal.ofBits .f32 0x3F800000#32 + (k3_pay3 x2 (ix2 i f) : EReal) * (Ideal.ofBits .f32 0x3F800000#32 - k3_pay4 x2 (ix2 i f)))) := by
  rw [out3_4, View.canon_cons_unit_lit _ _ _ (by decide), View.ld_unit_lit _ _ (by decide), View.ld_unit_lit _ _ (by decide), View.ld_unit_lit _ _ (by decide), View.ld_unit_lit _ _ (by decide)]
  pointwise [k3_pay5]
theorem out3_5_apply (i : Fin 1024) (f : Fin 704) :
    out3_5 x0 x1 x2 x3 (ix3 0 i f) = (k3_pay2 x0 x1 (ix2 i f) : EReal) * ((k3_pay3 x2 (ix2 i f) : EReal) * k3_pay4 x2 (ix2 i f)) := by
  rw [out3_5, View.canon_cons_unit_lit _ _ _ (by decide), View.ld_unit_lit _ _ (by decide), View.ld_unit_lit _ _ (by decide), View.ld_unit_lit _ _ (by decide)]
  pointwise [k3_pay1, k3_pay6]

end Down

/-- A load of shard `k` of a stack of shards. -/
theorem ld_shard {a b o : ℕ} (X : Vec Ideal ⟨3, ![4, a, b]⟩ .bf16) (inb : ∀ d, (![o, 0, 0] : Fin 3 → ℕ) d + (![1, a, b] : Fin 3 → ℕ) d ≤ (⟨3, ![4, a, b]⟩ : Shape).size d)
    (k : Fin 4) (hk : o = k.val) (i : Fin a) (j : Fin b) :
    View.ld X (Rect.unit (s := ⟨3, ![4, a, b]⟩) ![o, 0, 0] ![1, a, b] inb) (ix3 0 i j) = X (ix3 k i j) :=
  View.ld_unit_apply_of X _ _ inb _ _ fun d => by
    fin_cases d
    · exact hk.symm
    · exact (Nat.zero_add _).symm
    · exact (Nat.zero_add _).symm

/-- One shard's product. -/
abbrev prod {a : ℕ} (u : Vec Ideal ⟨3, ![1, a, 704]⟩ .bf16) (w : Vec Ideal S1x704x1024 .bf16) (i : Fin a) (e : Fin 1024) : EReal :=
  ∑ f : Fin 704, (u (ix3 0 i f) : EReal) * w (ix3 0 f e)

theorem k1_pay1_apply (u0 u1 u2 u3 : Vec Ideal S1x1024x704 .bf16) (w0 w1 w2 w3 : Vec Ideal S1x704x1024 .bf16) (i e : Fin 1024) :
    k1_pay1 u0 w0 u1 w1 u2 w2 u3 w3 (ix2 i e) = prod u0 w0 i e + prod u1 w1 i e + prod u2 w2 i e + prod u3 w3 i e := by
  pointwise [k1_pay1]
theorem k6_pay2_apply (u0 u1 u2 u3 : Vec Ideal S1x512x704 .bf16) (w0 w1 w2 w3 : Vec Ideal S1x704x1024 .bf16) (i : Fin 512) (e : Fin 1024) :
    k6_pay2 u0 w0 u1 w1 u2 w2 u3 w3 (ix2 i e) = prod u0 w0 i e + prod u1 w1 i e + prod u2 w2 i e + prod u3 w3 i e := by
  pointwise [k6_pay2]
theorem k6_pay1_apply (v : FVec Ideal S512x1024 .f32) (u0 u1 u2 u3 : Vec Ideal S1x512x704 .bf16) (w0 w1 w2 w3 : Vec Ideal S1x704x1024 .bf16) (i : Fin 512) (e : Fin 1024) :
    k6_pay1 v (k6_pay3 u0) w0 u1 w1 u2 w2 u3 w3 (ix2 i e) = v (ix2 i e) + prod u0 w0 i e + prod u1 w1 i e + prod u2 w2 i e + prod u3 w3 i e := by
  pointwise [k6_pay1, k6_pay3]

theorem out1_2_apply (x0 : Vec Ideal S4x1024x704 .bf16) (x1 : Vec Ideal S4x704x1024 .bf16) (i e : Fin 1024) :
    out1_2 x0 x1 (ix2 i e) = (∑ f : Fin 704, (x0 (ix3 0 i f) : EReal) * x1 (ix3 0 f e)) + (∑ f : Fin 704, (x0 (ix3 1 i f) : EReal) * x1 (ix3 1 f e))
      + (∑ f : Fin 704, (x0 (ix3 2 i f) : EReal) * x1 (ix3 2 f e)) + (∑ f : Fin 704, (x0 (ix3 3 i f) : EReal) * x1 (ix3 3 f e)) := by
  rw [out1_2, View.canon_cons_unit_lit _ _ _ (by decide), k1_pay1_apply]
  have a0 : ∀ f, View.ld x0 r1_0 (ix3 0 i f) = x0 (ix3 0 i f) := fun f => ld_shard x0 _ 0 rfl i f
  have a1 : ∀ f, View.ld x0 r1_2 (ix3 0 i f) = x0 (ix3 1 i f) := fun f => ld_shard x0 _ 1 rfl i f
  have a2 : ∀ f, View.ld x0 r1_4 (ix3 0 i f) = x0 (ix3 2 i f) := fun f => ld_shard x0 _ 2 rfl i f
  have a3 : ∀ f, View.ld x0 r1_6 (ix3 0 i f) = x0 (ix3 3 i f) := fun f => ld_shard x0 _ 3 rfl i f
  have b0 : ∀ f, View.ld x1 r1_1 (ix3 0 f e) = x1 (ix3 0 f e) := fun f => ld_shard x1 _ 0 rfl f e
  have b1 : ∀ f, View.ld x1 r1_3 (ix3 0 f e) = x1 (ix3 1 f e) := fun f => ld_shard x1 _ 1 rfl f e
  have b2 : ∀ f, View.ld x1 r1_5 (ix3 0 f e) = x1 (ix3 2 f e) := fun f => ld_shard x1 _ 2 rfl f e
  have b3 : ∀ f, View.ld x1 r1_7 (ix3 0 f e) = x1 (ix3 3 f e) := fun f => ld_shard x1 _ 3 rfl f e
  simp only [prod, a0, a1, a2, a3, b0, b1, b2, b3]

theorem out6_4_apply (x0 x1 : Vec Ideal S4x512x704 .bf16) (x2 x3 : Vec Ideal S4x704x1024 .bf16) (i : Fin 512) (e : Fin 1024) :
    out6_4 x0 x1 x2 x3 (ix2 i e) =
      (∑ f : Fin 704, (x0 (ix3 0 i f) : EReal) * x2 (ix3 0 f e)) + (∑ f : Fin 704, (x1 (ix3 0 i f) : EReal) * x3 (ix3 0 f e))
      + (∑ f : Fin 704, (x0 (ix3 1 i f) : EReal) * x2 (ix3 1 f e)) + (∑ f : Fin 704, (x1 (ix3 1 i f) : EReal) * x3 (ix3 1 f e))
      + (∑ f : Fin 704, (x0 (ix3 2 i f) : EReal) * x2 (ix3 2 f e)) + (∑ f : Fin 704, (x1 (ix3 2 i f) : EReal) * x3 (ix3 2 f e))
      + (∑ f : Fin 704, (x0 (ix3 3 i f) : EReal) * x2 (ix3 3 f e)) + (∑ f : Fin 704, (x1 (ix3 3 i f) : EReal) * x3 (ix3 3 f e)) := by
  rw [out6_4, View.canon_cons_unit_lit _ _ _ (by decide), k6_pay1_apply, k6_pay2_apply]
  have a0 : ∀ (y : Vec Ideal S4x512x704 .bf16) f, View.ld y r6_0 (ix3 0 i f) = y (ix3 0 i f) := fun y f => ld_shard y _ 0 rfl i f
  have a1 : ∀ (y : Vec Ideal S4x512x704 .bf16) f, View.ld y r6_2 (ix3 0 i f) = y (ix3 1 i f) := fun y f => ld_shard y _ 1 rfl i f
  have a2 : ∀ (y : Vec Ideal S4x512x704 .bf16) f, View.ld y r6_4 (ix3 0 i f) = y (ix3 2 i f) := fun y f => ld_shard y _ 2 rfl i f
  have a3 : ∀ (y : Vec Ideal S4x512x704 .bf16) f, View.ld y r6_6 (ix3 0 i f) = y (ix3 3 i f) := fun y f => ld_shard y _ 3 rfl i f
  have b0 : ∀ (y : Vec Ideal S4x704x1024 .bf16) f, View.ld y r6_1 (ix3 0 f e) = y (ix3 0 f e) := fun y f => ld_shard y _ 0 rfl f e
  have b1 : ∀ (y : Vec Ideal S4x704x1024 .bf16) f, View.ld y r6_3 (ix3 0 f e) = y (ix3 1 f e) := fun y f => ld_shard y _ 1 rfl f e
  have b2 : ∀ (y : Vec Ideal S4x704x1024 .bf16) f, View.ld y r6_5 (ix3 0 f e) = y (ix3 2 f e) := fun y f => ld_shard y _ 2 rfl f e
  have b3 : ∀ (y : Vec Ideal S4x704x1024 .bf16) f, View.ld y r6_7 (ix3 0 f e) = y (ix3 3 f e) := fun y f => ld_shard y _ 3 rfl f e
  simp only [prod, a0 x0, a0 x1, b0 x2, b0 x3, a1 x0, a1 x1, b1 x2, b1 x3, a2 x0, a2 x1, b2 x2, b2 x3, a3 x0, a3 x1, b3 x2, b3 x3]

end Cert.Mix
-- ==== Proof.MixIn.lean ====
/-
  The channel mixer's calls over real operands: each call's result arrays, index by index.
-/
module

public import proofs.«01_k».proof.Proof.MixBlock
public import proofs.«01_k».proof.Proof.Gen.Kernel2Ideal.Points

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Mix

variable {V : (c : Dev nD) → (b : Ref sig .tc) → Buf (Elt Ideal) ((c : Thread nD τ).loc b)} {c : Dev nD}
variable {X Z : Fin 4096 → Fin 1024 → ℝ} {Wg Wu Wd : Fin 4 → Fin 704 → Fin 1024 → ℝ} {A B : Fin 4 → Fin 4096 → Fin 704 → ℝ}

/-- Row `i` of row block `s` of 1024 rows. -/
abbrev row (s : Fin 4) (i : Fin 1024) : Fin 4096 := ⟨s.val * 1024 + i.val, by omega⟩
/-- Row `i` of row block `s` of 512 rows. -/
abbrev row8 (s : Fin 8) (i : Fin 512) : Fin 4096 := ⟨s.val * 512 + i.val, by omega⟩

theorem idx0 : ∀ t : Fin cfg0.N, win0_0.index t = ![t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)
theorem idx1 : ∀ t : Fin cfg1.N, win1_0.index t = ![0, t.val, 0] ∧ win1_1.index t = ![0, 0, 0] ∧ win1_2.index t = ![t.val, 0] :=
  (by decide +kernel : ∀ t : Fin grid1.N, _)
theorem idx2 : ∀ t : Fin cfg2.N, win2_0.index t = ![t.val, 0, 0] ∧ win2_1.index t = ![0, 0] ∧ win2_2.index t = ![t.val, 0, 0] :=
  (by decide +kernel : ∀ t : Fin grid2.N, _)
theorem idx4 : ∀ t : Fin cfg4.N, win4_0.index t = ![t.val, 0, 0] ∧ win4_1.index t = ![0, 0] ∧ win4_2.index t = ![t.val, 0, 0] :=
  (by decide +kernel : ∀ t : Fin grid4.N, _)
theorem idx5 : ∀ t : Fin cfg5.N, win5_0.index t = ![t.val, 0, 0] ∧ win5_1.index t = ![0, 0] ∧ win5_2.index t = ![t.val, 0, 0] :=
  (by decide +kernel : ∀ t : Fin grid5.N, _)
theorem idx3 : ∀ t : Fin cfg3.N, win3_0.index t = ![t.val % 4, 0] ∧ win3_1.index t = ![t.val / 4, 0, 0] ∧ win3_2.index t = ![t.val / 4, t.val % 4, 0]
    ∧ win3_3.index t = ![t.val / 4, t.val % 4, 0] ∧ win3_4.index t = ![t.val / 4, t.val % 4, 0] ∧ win3_5.index t = ![t.val / 4, t.val % 4, 0] :=
  (by decide +kernel : ∀ t : Fin grid3.N, _)
theorem idx6 : ∀ t : Fin cfg6.N, win6_0.index t = ![0, t.val, 0] ∧ win6_1.index t = ![0, t.val, 0] ∧ win6_2.index t = ![0, 0, 0]
    ∧ win6_3.index t = ![0, 0, 0] ∧ win6_4.index t = ![t.val, 0] :=
  (by decide +kernel : ∀ t : Fin grid6.N, _)

/-- An array of two axes is real. -/
abbrev Real2 {a b : ℕ} (v : (⟨2, ![a, b]⟩ : Shape).Idx → EReal) (X : Fin a → Fin b → ℝ) : Prop := ∀ i j, v (ix2 i j) = (X i j : EReal)
/-- An array of three axes is real. -/
abbrev Real3 {a b n : ℕ} (v : (⟨3, ![a, b, n]⟩ : Shape).Idx → EReal) (X : Fin a → Fin b → Fin n → ℝ) : Prop := ∀ i j k, v (ix3 i j k) = (X i j k : EReal)

/-- The shard at a grid point of call 0. -/
abbrev sh0 (t : Fin cfg0.N) : Fin 4 := ⟨t.val / 4, by have := t.isLt; have : cfg0.N = 16 := N_0; omega⟩
/-- The row block at a grid point of call 0. -/
abbrev rb0 (t : Fin cfg0.N) : Fin 4 := ⟨t.val % 4, by omega⟩

/-- The shard at a grid point of call 3. -/
abbrev sh3 (t : Fin cfg3.N) : Fin 4 := ⟨t.val / 4, by have := t.isLt; have : cfg3.N = 16 := N_3; omega⟩
/-- The row block at a grid point of call 3. -/
abbrev rb3 (t : Fin cfg3.N) : Fin 4 := ⟨t.val % 4, by omega⟩

/-- The block at a grid point of call 1. -/
abbrev pt1 (t : Fin cfg1.N) : Fin 4 := ⟨t.val, by have := t.isLt; have : cfg1.N = 4 := N_1; omega⟩

/-- The block at a grid point of call 2. -/
abbrev pt2 (t : Fin cfg2.N) : Fin 4 := ⟨t.val, by have := t.isLt; have : cfg2.N = 4 := N_2; omega⟩

/-- The block at a grid point of call 4. -/
abbrev pt4 (t : Fin cfg4.N) : Fin 4 := ⟨t.val, by have := t.isLt; have : cfg4.N = 4 := N_4; omega⟩

/-- The block at a grid point of call 5. -/
abbrev pt5 (t : Fin cfg5.N) : Fin 4 := ⟨t.val, by have := t.isLt; have : cfg5.N = 4 := N_5; omega⟩

/-- The block at a grid point of call 6. -/
abbrev pt6 (t : Fin cfg6.N) : Fin 8 := ⟨t.val, by have := t.isLt; have : cfg6.N = 8 := N_6; omega⟩

theorem in0_0 (h : Real2 (V c main_v0) X) (t : Fin cfg0.N) : Real2 (iblk0 V c 0 t) (fun i d => X (row (rb0 t) i) d) := by
  intro i d
  have hN : cfg0.N = 16 := N_0
  have ht := t.isLt
  show iblk0 V c 0 t (ix2 i d) = (X (row (rb0 t) i) d : EReal)
  rw [← h]
  blk_ext [iblk0, idx0 t]

theorem in0_1 (h : Real3 (V c main_v4) Wg) (t : Fin cfg0.N) : Real3 (iblk0 V c 1 t) (fun u f d => Wg (sh0 t) f d) := by
  intro u f d
  have hN : cfg0.N = 16 := N_0
  have ht := t.isLt
  show iblk0 V c 1 t (ix3 u f d) = (Wg (sh0 t) f d : EReal)
  rw [← h]
  blk_ext [iblk0, idx0 t]

theorem in0_2 (h : Real3 (V c main_v7) Wu) (t : Fin cfg0.N) : Real3 (iblk0 V c 2 t) (fun u f d => Wu (sh0 t) f d) := by
  intro u f d
  have hN : cfg0.N = 16 := N_0
  have ht := t.isLt
  show iblk0 V c 2 t (ix3 u f d) = (Wu (sh0 t) f d : EReal)
  rw [← h]
  blk_ext [iblk0, idx0 t]

theorem in1_0 (h : Real3 (V c main_v10_2) A) (t : Fin cfg1.N) : Real3 (iblk1 V c 0 t) (fun k i f => A k (row (pt1 t) i) f) := by
  intro k i f
  have hN : cfg1.N = 4 := N_1
  have ht := t.isLt
  show iblk1 V c 0 t (ix3 k i f) = (A k (row (pt1 t) i) f : EReal)
  rw [← h]
  blk_ext [iblk1, idx1 t]

theorem in1_1 (h : Real3 (V c main_v9) Wd) (t : Fin cfg1.N) : Real3 (iblk1 V c 1 t) (fun k f e => Wd k f e) := by
  intro k f e
  have hN : cfg1.N = 4 := N_1
  have ht := t.isLt
  show iblk1 V c 1 t (ix3 k f e) = (Wd k f e : EReal)
  rw [← h]
  blk_ext [iblk1, idx1 t]

theorem in2_0 (h : Real3 (V c main_v10_2) A) (t : Fin cfg2.N) : Real3 (iblk2 V c 0 t) (fun u s f => A (pt2 t) s f) := by
  intro u s f
  have hN : cfg2.N = 4 := N_2
  have ht := t.isLt
  show iblk2 V c 0 t (ix3 u s f) = (A (pt2 t) s f : EReal)
  rw [← h]
  blk_ext [iblk2, idx2 t]

theorem in2_1 (h : Real2 (V c main_v1) X) (t : Fin cfg2.N) : Real2 (iblk2 V c 1 t) (fun s d => X s d) := by
  intro s d
  have hN : cfg2.N = 4 := N_2
  have ht := t.isLt
  show iblk2 V c 1 t (ix2 s d) = (X s d : EReal)
  rw [← h]
  blk_ext [iblk2, idx2 t]

theorem in4_0 (h : Real3 (V c main_v13_0) A) (t : Fin cfg4.N) : Real3 (iblk4 V c 0 t) (fun u s f => A (pt4 t) s f) := by
  intro u s f
  have hN : cfg4.N = 4 := N_4
  have ht := t.isLt
  show iblk4 V c 0 t (ix3 u s f) = (A (pt4 t) s f : EReal)
  rw [← h]
  blk_ext [iblk4, idx4 t]

theorem in4_1 (h : Real2 (V c main_v0) X) (t : Fin cfg4.N) : Real2 (iblk4 V c 1 t) (fun s d => X s d) := by
  intro s d
  have hN : cfg4.N = 4 := N_4
  have ht := t.isLt
  show iblk4 V c 1 t (ix2 s d) = (X s d : EReal)
  rw [← h]
  blk_ext [iblk4, idx4 t]

theorem in5_0 (h : Real3 (V c main_v13_1) A) (t : Fin cfg5.N) : Real3 (iblk5 V c 0 t) (fun u s f => A (pt5 t) s f) := by
  intro u s f
  have hN : cfg5.N = 4 := N_5
  have ht := t.isLt
  show iblk5 V c 0 t (ix3 u s f) = (A (pt5 t) s f : EReal)
  rw [← h]
  blk_ext [iblk5, idx5 t]

theorem in5_1 (h : Real2 (V c main_v0) X) (t : Fin cfg5.N) : Real2 (iblk5 V c 1 t) (fun s d => X s d) := by
  intro s d
  have hN : cfg5.N = 4 := N_5
  have ht := t.isLt
  show iblk5 V c 1 t (ix2 s d) = (X s d : EReal)
  rw [← h]
  blk_ext [iblk5, idx5 t]

theorem in3_0 (h : Real2 (V c main_v1) Z) (t : Fin cfg3.N) : Real2 (iblk3 V c 0 t) (fun i d => Z (row (rb3 t) i) d) := by
  intro i d
  have hN : cfg3.N = 16 := N_3
  have ht := t.isLt
  show iblk3 V c 0 t (ix2 i d) = (Z (row (rb3 t) i) d : EReal)
  rw [← h]
  blk_ext [iblk3, idx3 t]

theorem in3_1 (h : Real3 (V c main_v9) Wd) (t : Fin cfg3.N) : Real3 (iblk3 V c 1 t) (fun u f d => Wd (sh3 t) f d) := by
  intro u f d
  have hN : cfg3.N = 16 := N_3
  have ht := t.isLt
  show iblk3 V c 1 t (ix3 u f d) = (Wd (sh3 t) f d : EReal)
  rw [← h]
  blk_ext [iblk3, idx3 t]

theorem in3_2 (h : Real3 (V c main_v10_0) A) (t : Fin cfg3.N) : Real3 (iblk3 V c 2 t) (fun u i f => A (sh3 t) (row (rb3 t) i) f) := by
  intro u i f
  have hN : cfg3.N = 16 := N_3
  have ht := t.isLt
  show iblk3 V c 2 t (ix3 u i f) = (A (sh3 t) (row (rb3 t) i) f : EReal)
  rw [← h]
  blk_ext [iblk3, idx3 t]

theorem in3_3 (h : Real3 (V c main_v10_1) B) (t : Fin cfg3.N) : Real3 (iblk3 V c 3 t) (fun u i f => B (sh3 t) (row (rb3 t) i) f) := by
  intro u i f
  have hN : cfg3.N = 16 := N_3
  have ht := t.isLt
  show iblk3 V c 3 t (ix3 u i f) = (B (sh3 t) (row (rb3 t) i) f : EReal)
  rw [← h]
  blk_ext [iblk3, idx3 t]

theorem in6_0 (h : Real3 (V c main_v13_0) A) (t : Fin cfg6.N) : Real3 (iblk6 V c 0 t) (fun k i f => A k (row8 (pt6 t) i) f) := by
  intro k i f
  have hN : cfg6.N = 8 := N_6
  have ht := t.isLt
  show iblk6 V c 0 t (ix3 k i f) = (A k (row8 (pt6 t) i) f : EReal)
  rw [← h]
  blk_ext [iblk6, idx6 t]

theorem in6_1 (h : Real3 (V c main_v13_1) B) (t : Fin cfg6.N) : Real3 (iblk6 V c 1 t) (fun k i f => B k (row8 (pt6 t) i) f) := by
  intro k i f
  have hN : cfg6.N = 8 := N_6
  have ht := t.isLt
  show iblk6 V c 1 t (ix3 k i f) = (B k (row8 (pt6 t) i) f : EReal)
  rw [← h]
  blk_ext [iblk6, idx6 t]

theorem in6_2 (h : Real3 (V c main_v4) Wg) (t : Fin cfg6.N) : Real3 (iblk6 V c 2 t) (fun k f d => Wg k f d) := by
  intro k f d
  have hN : cfg6.N = 8 := N_6
  have ht := t.isLt
  show iblk6 V c 2 t (ix3 k f d) = (Wg k f d : EReal)
  rw [← h]
  blk_ext [iblk6, idx6 t]

theorem in6_3 (h : Real3 (V c main_v7) Wu) (t : Fin cfg6.N) : Real3 (iblk6 V c 3 t) (fun k f d => Wu k f d) := by
  intro k f d
  have hN : cfg6.N = 8 := N_6
  have ht := t.isLt
  show iblk6 V c 3 t (ix3 k f d) = (Wu k f d : EReal)
  rw [← h]
  blk_ext [iblk6, idx6 t]

end Cert.Mix
-- ==== Proof.MixValue.lean ====
/-
  The result arrays of the channel mixer's calls over real operands.
-/
module

public import proofs.«01_k».proof.Proof.MixIn
public import proofs.«01_k».proof.Proof.Gen.Kernel2Ideal.Points

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Mix

open Cert.Attn (coe_dot)

variable {V : (c : Dev nD) → (b : Ref sig .tc) → Buf (Elt Ideal) ((c : Thread nD τ).loc b)} {c : Dev nD}
variable {X Z : Fin 4096 → Fin 1024 → ℝ} {Wg Wu Wd : Fin 4 → Fin 704 → Fin 1024 → ℝ} {A B : Fin 4 → Fin 4096 → Fin 704 → ℝ}

/-- A row times a row of a shard. -/
abbrev rowDot (X : Fin 4096 → Fin 1024 → ℝ) (W : Fin 4 → Fin 704 → Fin 1024 → ℝ) (k : Fin 4) (s : Fin 4096) (f : Fin 704) : ℝ := ∑ d : Fin 1024, X s d * W k f d

/-- The gate's hidden values. -/
theorem final0_3 (hx : Real2 (V c main_v0) X) (hg : Real3 (V c main_v4) Wg) :
    (dat0 V c).arrAt 3 cfg0.N = fun y => ((rowDot X Wg (y 0) (y 1) (y 2) : ℝ) : EReal) := by
  have hN : cfg0.N = 16 := N_0
  refine (dat0 V c).arrAt_eq_of_cover 3 _ (fun t _ => ?_) fun i => ?_
  · show (cfg0.win 3).cut (grid0.coords t) ((dat0 V c).after 3 t) = _
    rw [after0_3]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 1024 := a.isLt
    have lb : b.val < 704 := b.isLt
    have e0 : (win0_3.blk t).view.emb (ix3 0 a b) 0 = sh0 t := Fin.ext (by blk_simp [idx0 t] <;> rfl)
    have e1 : (win0_3.blk t).view.emb (ix3 0 a b) 1 = row (rb0 t) a := Fin.ext (by blk_simp [idx0 t] <;> rfl)
    have e2 : (win0_3.blk t).view.emb (ix3 0 a b) 2 = b := Fin.ext (by blk_simp [idx0 t] <;> rfl)
    rw [e]
    refine (out0_3_apply _ _ _ a b).trans ?_
    show _ = ((rowDot X Wg ((win0_3.blk t).view.emb (ix3 0 a b) 0) ((win0_3.blk t).view.emb (ix3 0 a b) 1) ((win0_3.blk t).view.emb (ix3 0 a b) 2) : ℝ) : EReal)
    rw [e0, e1, e2]
    simp only [in0_0 hx t _ _, in0_1 hg t _ _ _, coe_dot]
  · have h0 : (i 0).val < 4 := (i 0).isLt
    have h1 : (i 1).val < 4096 := (i 1).isLt
    have h2 : (i 2).val < 704 := (i 2).isLt
    refine ⟨⟨(i 0).val * 4 + (i 1).val / 1024, by omega⟩, flush0_3 _, ?_⟩
    mem_blk [idx0]
    simp only
    omega

/-- The other hidden values. -/
theorem final0_4 (hx : Real2 (V c main_v0) X) (hu : Real3 (V c main_v7) Wu) :
    (dat0 V c).arrAt 4 cfg0.N = fun y => ((rowDot X Wu (y 0) (y 1) (y 2) : ℝ) : EReal) := by
  have hN : cfg0.N = 16 := N_0
  refine (dat0 V c).arrAt_eq_of_cover 4 _ (fun t _ => ?_) fun i => ?_
  · show (cfg0.win 4).cut (grid0.coords t) ((dat0 V c).after 4 t) = _
    rw [after0_4]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 1024 := a.isLt
    have lb : b.val < 704 := b.isLt
    have e0 : (win0_4.blk t).view.emb (ix3 0 a b) 0 = sh0 t := Fin.ext (by blk_simp [idx0 t] <;> rfl)
    have e1 : (win0_4.blk t).view.emb (ix3 0 a b) 1 = row (rb0 t) a := Fin.ext (by blk_simp [idx0 t] <;> rfl)
    have e2 : (win0_4.blk t).view.emb (ix3 0 a b) 2 = b := Fin.ext (by blk_simp [idx0 t] <;> rfl)
    rw [e]
    refine (out0_4_apply _ _ _ a b).trans ?_
    show _ = ((rowDot X Wu ((win0_4.blk t).view.emb (ix3 0 a b) 0) ((win0_4.blk t).view.emb (ix3 0 a b) 1) ((win0_4.blk t).view.emb (ix3 0 a b) 2) : ℝ) : EReal)
    rw [e0, e1, e2]
    simp only [in0_0 hx t _ _, in0_2 hu t _ _ _, coe_dot]
  · have h0 : (i 0).val < 4 := (i 0).isLt
    have h1 : (i 1).val < 4096 := (i 1).isLt
    have h2 : (i 2).val < 704 := (i 2).isLt
    refine ⟨⟨(i 0).val * 4 + (i 1).val / 1024, by omega⟩, flush0_4 _, ?_⟩
    mem_blk [idx0]
    simp only
    omega

/-- The gated hidden values. -/
abbrev gated (G U : Fin 4 → Fin 4096 → Fin 704 → ℝ) (k : Fin 4) (s : Fin 4096) (f : Fin 704) : ℝ := G k s f * lgst (G k s f) * U k s f

/-- The gated hidden values. -/
theorem final0_5 (hx : Real2 (V c main_v0) X) (hg : Real3 (V c main_v4) Wg) (hu : Real3 (V c main_v7) Wu) :
    (dat0 V c).arrAt 5 cfg0.N = fun y => ((gated (rowDot X Wg) (rowDot X Wu) (y 0) (y 1) (y 2) : ℝ) : EReal) := by
  have hN : cfg0.N = 16 := N_0
  refine (dat0 V c).arrAt_eq_of_cover 5 _ (fun t _ => ?_) fun i => ?_
  · show (cfg0.win 5).cut (grid0.coords t) ((dat0 V c).after 5 t) = _
    rw [after0_5]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 1024 := a.isLt
    have lb : b.val < 704 := b.isLt
    have e0 : (win0_5.blk t).view.emb (ix3 0 a b) 0 = sh0 t := Fin.ext (by blk_simp [idx0 t] <;> rfl)
    have e1 : (win0_5.blk t).view.emb (ix3 0 a b) 1 = row (rb0 t) a := Fin.ext (by blk_simp [idx0 t] <;> rfl)
    have e2 : (win0_5.blk t).view.emb (ix3 0 a b) 2 = b := Fin.ext (by blk_simp [idx0 t] <;> rfl)
    rw [e]
    refine (out0_5_apply _ _ _ a b).trans ?_
    show _ = ((gated (rowDot X Wg) (rowDot X Wu) ((win0_5.blk t).view.emb (ix3 0 a b) 0) ((win0_5.blk t).view.emb (ix3 0 a b) 1) ((win0_5.blk t).view.emb (ix3 0 a b) 2) : ℝ) : EReal)
    rw [e0, e1, e2]
    rw [k0_pay2_apply, k0_pay3_apply]
    simp only [in0_0 hx t _ _, in0_1 hg t _ _ _, in0_2 hu t _ _ _, coe_dot]
    rw [sig_word _ _ _ rfl, ← EReal.coe_mul]
  · have h0 : (i 0).val < 4 := (i 0).isLt
    have h1 : (i 1).val < 4096 := (i 1).isLt
    have h2 : (i 2).val < 704 := (i 2).isLt
    refine ⟨⟨(i 0).val * 4 + (i 1).val / 1024, by omega⟩, flush0_5 _, ?_⟩
    mem_blk [idx0]
    simp only
    omega

/-- The product with the stack of shards, its four sums in order. -/
abbrev shardDot (A : Fin 4 → Fin 4096 → Fin 704 → ℝ) (W : Fin 4 → Fin 704 → Fin 1024 → ℝ) (s : Fin 4096) (e : Fin 1024) : ℝ :=
  (∑ f, A 0 s f * W 0 f e) + (∑ f, A 1 s f * W 1 f e) + (∑ f, A 2 s f * W 2 f e) + (∑ f, A 3 s f * W 3 f e)

/-- The output. -/
theorem final1_2 (ha : Real3 (V c main_v10_2) A) (hd : Real3 (V c main_v9) Wd) :
    (dat1 V c).arrAt 2 cfg1.N = fun y => ((shardDot A Wd (y 0) (y 1) : ℝ) : EReal) := by
  have hN : cfg1.N = 4 := N_1
  refine (dat1 V c).arrAt_eq_of_cover 2 _ (fun t _ => ?_) fun i => ?_
  · show (cfg1.win 2).cut (grid1.coords t) ((dat1 V c).after 2 t) = _
    rw [after1_2]
    funext y
    have ht := t.isLt
    obtain ⟨a, b, e⟩ : ∃ a b, y = ix2 a b := ⟨y 0, y 1, eq_ix2 y⟩
    have la : a.val < 1024 := a.isLt
    have lb : b.val < 1024 := b.isLt
    have e0 : (win1_2.blk t).view.emb (ix2 a b) 0 = row (pt1 t) a := Fin.ext (by blk_simp [idx1 t] <;> rfl)
    have e1 : (win1_2.blk t).view.emb (ix2 a b) 1 = b := Fin.ext (by blk_simp [idx1 t] <;> rfl)
    rw [e]
    refine (out1_2_apply _ _ a b).trans ?_
    show _ = ((shardDot A Wd ((win1_2.blk t).view.emb (ix2 a b) 0) ((win1_2.blk t).view.emb (ix2 a b) 1) : ℝ) : EReal)
    rw [e0, e1]
    simp only [in1_0 ha t _ _ _, in1_1 hd t _ _ _, coe_dot, ← EReal.coe_add]
  · have h0 : (i 0).val < 4096 := (i 0).isLt
    have h1 : (i 1).val < 1024 := (i 1).isLt
    refine ⟨⟨(i 0).val / 1024, by omega⟩, flush1_2 _, ?_⟩
    mem_blk [idx1]
    simp only
    omega

/-- A shard's columns times the rows of an array. -/
abbrev colDot (A : Fin 4 → Fin 4096 → Fin 704 → ℝ) (X : Fin 4096 → Fin 1024 → ℝ) (k : Fin 4) (f : Fin 704) (d : Fin 1024) : ℝ := ∑ s, A k s f * X s d

/-- The gradient of a weight. -/
theorem final2_2 (ha : Real3 (V c main_v10_2) A) (hx : Real2 (V c main_v1) X) :
    (dat2 V c).arrAt 2 cfg2.N = fun y => ((colDot A X (y 0) (y 1) (y 2) : ℝ) : EReal) := by
  have hN : cfg2.N = 4 := N_2
  refine (dat2 V c).arrAt_eq_of_cover 2 _ (fun t _ => ?_) fun i => ?_
  · show (cfg2.win 2).cut (grid2.coords t) ((dat2 V c).after 2 t) = _
    rw [after2_2]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 704 := a.isLt
    have lb : b.val < 1024 := b.isLt
    have e0 : (win2_2.blk t).view.emb (ix3 0 a b) 0 = pt2 t := Fin.ext (by blk_simp [idx2 t] <;> rfl)
    have e1 : (win2_2.blk t).view.emb (ix3 0 a b) 1 = a := Fin.ext (by blk_simp [idx2 t] <;> rfl)
    have e2 : (win2_2.blk t).view.emb (ix3 0 a b) 2 = b := Fin.ext (by blk_simp [idx2 t] <;> rfl)
    rw [e]
    refine (out2_2_apply _ _ a b).trans ?_
    show _ = ((colDot A X ((win2_2.blk t).view.emb (ix3 0 a b) 0) ((win2_2.blk t).view.emb (ix3 0 a b) 1) ((win2_2.blk t).view.emb (ix3 0 a b) 2) : ℝ) : EReal)
    rw [e0, e1, e2]
    simp only [in2_0 ha t _ _ _, in2_1 hx t _ _, coe_dot]
  · have h0 : (i 0).val < 4 := (i 0).isLt
    have h1 : (i 1).val < 704 := (i 1).isLt
    have h2 : (i 2).val < 1024 := (i 2).isLt
    refine ⟨⟨(i 0).val, by omega⟩, flush2_2 _, ?_⟩
    mem_blk [idx2]
    simp only
    omega

/-- The gradient of a weight. -/
theorem final4_2 (ha : Real3 (V c main_v13_0) A) (hx : Real2 (V c main_v0) X) :
    (dat4 V c).arrAt 2 cfg4.N = fun y => ((colDot A X (y 0) (y 1) (y 2) : ℝ) : EReal) := by
  have hN : cfg4.N = 4 := N_4
  refine (dat4 V c).arrAt_eq_of_cover 2 _ (fun t _ => ?_) fun i => ?_
  · show (cfg4.win 2).cut (grid4.coords t) ((dat4 V c).after 2 t) = _
    rw [after4_2]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 704 := a.isLt
    have lb : b.val < 1024 := b.isLt
    have e0 : (win4_2.blk t).view.emb (ix3 0 a b) 0 = pt4 t := Fin.ext (by blk_simp [idx4 t] <;> rfl)
    have e1 : (win4_2.blk t).view.emb (ix3 0 a b) 1 = a := Fin.ext (by blk_simp [idx4 t] <;> rfl)
    have e2 : (win4_2.blk t).view.emb (ix3 0 a b) 2 = b := Fin.ext (by blk_simp [idx4 t] <;> rfl)
    rw [e]
    refine (out4_2_apply _ _ a b).trans ?_
    show _ = ((colDot A X ((win4_2.blk t).view.emb (ix3 0 a b) 0) ((win4_2.blk t).view.emb (ix3 0 a b) 1) ((win4_2.blk t).view.emb (ix3 0 a b) 2) : ℝ) : EReal)
    rw [e0, e1, e2]
    simp only [in4_0 ha t _ _ _, in4_1 hx t _ _, coe_dot]
  · have h0 : (i 0).val < 4 := (i 0).isLt
    have h1 : (i 1).val < 704 := (i 1).isLt
    have h2 : (i 2).val < 1024 := (i 2).isLt
    refine ⟨⟨(i 0).val, by omega⟩, flush4_2 _, ?_⟩
    mem_blk [idx4]
    simp only
    omega

/-- The gradient of a weight. -/
theorem final5_2 (ha : Real3 (V c main_v13_1) A) (hx : Real2 (V c main_v0) X) :
    (dat5 V c).arrAt 2 cfg5.N = fun y => ((colDot A X (y 0) (y 1) (y 2) : ℝ) : EReal) := by
  have hN : cfg5.N = 4 := N_5
  refine (dat5 V c).arrAt_eq_of_cover 2 _ (fun t _ => ?_) fun i => ?_
  · show (cfg5.win 2).cut (grid5.coords t) ((dat5 V c).after 2 t) = _
    rw [after5_2]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 704 := a.isLt
    have lb : b.val < 1024 := b.isLt
    have e0 : (win5_2.blk t).view.emb (ix3 0 a b) 0 = pt5 t := Fin.ext (by blk_simp [idx5 t] <;> rfl)
    have e1 : (win5_2.blk t).view.emb (ix3 0 a b) 1 = a := Fin.ext (by blk_simp [idx5 t] <;> rfl)
    have e2 : (win5_2.blk t).view.emb (ix3 0 a b) 2 = b := Fin.ext (by blk_simp [idx5 t] <;> rfl)
    rw [e]
    refine (out5_2_apply _ _ a b).trans ?_
    show _ = ((colDot A X ((win5_2.blk t).view.emb (ix3 0 a b) 0) ((win5_2.blk t).view.emb (ix3 0 a b) 1) ((win5_2.blk t).view.emb (ix3 0 a b) 2) : ℝ) : EReal)
    rw [e0, e1, e2]
    simp only [in5_0 ha t _ _ _, in5_1 hx t _ _, coe_dot]
  · have h0 : (i 0).val < 4 := (i 0).isLt
    have h1 : (i 1).val < 704 := (i 1).isLt
    have h2 : (i 2).val < 1024 := (i 2).isLt
    refine ⟨⟨(i 0).val, by omega⟩, flush5_2 _, ?_⟩
    mem_blk [idx5]
    simp only
    omega

/-- The gradient of the gate's hidden values. -/
abbrev gateGrad (D G U : Fin 4 → Fin 4096 → Fin 704 → ℝ) (k : Fin 4) (s : Fin 4096) (f : Fin 704) : ℝ := D k s f * U k s f * dsilu (G k s f)
/-- The gradient of the other hidden values. -/
abbrev upGrad (D G : Fin 4 → Fin 4096 → Fin 704 → ℝ) (k : Fin 4) (s : Fin 4096) (f : Fin 704) : ℝ := D k s f * (G k s f * lgst (G k s f))

/-- The logistic function of the gate's hidden values, as the body computes it. -/
theorem sig3 (hA : Real3 (V c main_v10_0) A) (t : Fin cfg3.N) (i : Fin 1024) (f : Fin 704) :
    k3_pay4 (iblk3 V c 2 t) (ix2 i f) = (lgst (A (sh3 t) (row (rb3 t) i) f) : EReal) := by
  rw [k3_pay4_apply, k3_pay3_apply, in3_2 hA t _ _ _, sig_word _ _ 1 one_word, one_mul]

/-- The gradient of the gate's hidden values. -/
theorem final3_4 (hz : Real2 (V c main_v1) Z) (hd : Real3 (V c main_v9) Wd) (hA : Real3 (V c main_v10_0) A) (hB : Real3 (V c main_v10_1) B) :
    (dat3 V c).arrAt 4 cfg3.N = fun y => ((gateGrad (rowDot Z Wd) A B (y 0) (y 1) (y 2) : ℝ) : EReal) := by
  have hN : cfg3.N = 16 := N_3
  refine (dat3 V c).arrAt_eq_of_cover 4 _ (fun t _ => ?_) fun i => ?_
  · show (cfg3.win 4).cut (grid3.coords t) ((dat3 V c).after 4 t) = _
    rw [after3_4]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 1024 := a.isLt
    have lb : b.val < 704 := b.isLt
    have e0 : (win3_4.blk t).view.emb (ix3 0 a b) 0 = sh3 t := Fin.ext (by blk_simp [idx3 t] <;> rfl)
    have e1 : (win3_4.blk t).view.emb (ix3 0 a b) 1 = row (rb3 t) a := Fin.ext (by blk_simp [idx3 t] <;> rfl)
    have e2 : (win3_4.blk t).view.emb (ix3 0 a b) 2 = b := Fin.ext (by blk_simp [idx3 t] <;> rfl)
    rw [e]
    refine (out3_4_apply _ _ _ _ a b).trans ?_
    show _ = ((gateGrad (rowDot Z Wd) A B ((win3_4.blk t).view.emb (ix3 0 a b) 0) ((win3_4.blk t).view.emb (ix3 0 a b) 1) ((win3_4.blk t).view.emb (ix3 0 a b) 2) : ℝ) : EReal)
    rw [e0, e1, e2]
    rw [sig3 hA, k3_pay2_apply, k3_pay3_apply, one_word]
    simp only [in3_0 hz t _ _, in3_1 hd t _ _ _, in3_2 hA t _ _ _, in3_3 hB t _ _ _, coe_dot]
    simp only [← EReal.coe_sub, ← EReal.coe_mul, ← EReal.coe_add]
    rfl
  · have h0 : (i 0).val < 4 := (i 0).isLt
    have h1 : (i 1).val < 4096 := (i 1).isLt
    have h2 : (i 2).val < 704 := (i 2).isLt
    refine ⟨⟨(i 0).val * 4 + (i 1).val / 1024, by omega⟩, flush3_4 _, ?_⟩
    mem_blk [idx3]
    simp only
    omega

/-- The gradient of the other hidden values. -/
theorem final3_5 (hz : Real2 (V c main_v1) Z) (hd : Real3 (V c main_v9) Wd) (hA : Real3 (V c main_v10_0) A) :
    (dat3 V c).arrAt 5 cfg3.N = fun y => ((upGrad (rowDot Z Wd) A (y 0) (y 1) (y 2) : ℝ) : EReal) := by
  have hN : cfg3.N = 16 := N_3
  refine (dat3 V c).arrAt_eq_of_cover 5 _ (fun t _ => ?_) fun i => ?_
  · show (cfg3.win 5).cut (grid3.coords t) ((dat3 V c).after 5 t) = _
    rw [after3_5]
    funext y
    have ht := t.isLt
    obtain ⟨u, a, b, e⟩ : ∃ u a b, y = ix3 u a b := ⟨y 0, y 1, y 2, eq_ix3 y⟩
    obtain rfl : u = 0 := Fin.ext (Nat.lt_one_iff.1 u.isLt)
    have la : a.val < 1024 := a.isLt
    have lb : b.val < 704 := b.isLt
    have e0 : (win3_5.blk t).view.emb (ix3 0 a b) 0 = sh3 t := Fin.ext (by blk_simp [idx3 t] <;> rfl)
    have e1 : (win3_5.blk t).view.emb (ix3 0 a b) 1 = row (rb3 t) a := Fin.ext (by blk_simp [idx3 t] <;> rfl)
    have e2 : (win3_5.blk t).view.emb (ix3 0 a b) 2 = b := Fin.ext (by blk_simp [idx3 t] <;> rfl)
    rw [e]
    refine (out3_5_apply _ _ _ (iblk3 V c 3 t) a b).trans ?_
    show _ = ((upGrad (rowDot Z Wd) A ((win3_5.blk t).view.emb (ix3 0 a b) 0) ((win3_5.blk t).view.emb (ix3 0 a b) 1) ((win3_5.blk t).view.emb (ix3 0 a b) 2) : ℝ) : EReal)
    rw [e0, e1, e2]
    rw [sig3 hA, k3_pay2_apply, k3_pay3_apply]
    simp only [in3_0 hz t _ _, in3_1 hd t _ _ _, in3_2 hA t _ _ _, coe_dot]
    rw [← EReal.coe_mul, ← EReal.coe_mul]
  · have h0 : (i 0).val < 4 := (i 0).isLt
    have h1 : (i 1).val < 4096 := (i 1).isLt
    have h2 : (i 2).val < 704 := (i 2).isLt
    refine ⟨⟨(i 0).val * 4 + (i 1).val / 1024, by omega⟩, flush3_5 _, ?_⟩
    mem_blk [idx3]
    simp only
    omega

/-- Two products with stacks of shards, added shard by shard. -/
abbrev shardDot2 (A B : Fin 4 → Fin 4096 → Fin 704 → ℝ) (W W' : Fin 4 → Fin 704 → Fin 1024 → ℝ) (s : Fin 4096) (d : Fin 1024) : ℝ :=
  (∑ f, A 0 s f * W 0 f d) + (∑ f, B 0 s f * W' 0 f d) + (∑ f, A 1 s f * W 1 f d) + (∑ f, B 1 s f * W' 1 f d)
    + (∑ f, A 2 s f * W 2 f d) + (∑ f, B 2 s f * W' 2 f d) + (∑ f, A 3 s f * W 3 f d) + (∑ f, B 3 s f * W' 3 f d)

/-- The input's gradient. -/
theorem final6_4 (ha : Real3 (V c main_v13_0) A) (hb : Real3 (V c main_v13_1) B) (hg : Real3 (V c main_v4) Wg) (hu : Real3 (V c main_v7) Wu) :
    (dat6 V c).arrAt 4 cfg6.N = fun y => ((shardDot2 A B Wg Wu (y 0) (y 1) : ℝ) : EReal) := by
  have hN : cfg6.N = 8 := N_6
  refine (dat6 V c).arrAt_eq_of_cover 4 _ (fun t _ => ?_) fun i => ?_
  · show (cfg6.win 4).cut (grid6.coords t) ((dat6 V c).after 4 t) = _
    rw [after6_4]
    funext y
    have ht := t.isLt
    obtain ⟨a, b, e⟩ : ∃ a b, y = ix2 a b := ⟨y 0, y 1, eq_ix2 y⟩
    have la : a.val < 512 := a.isLt
    have lb : b.val < 1024 := b.isLt
    have e0 : (win6_4.blk t).view.emb (ix2 a b) 0 = row8 (pt6 t) a := Fin.ext (by blk_simp [idx6 t] <;> rfl)
    have e1 : (win6_4.blk t).view.emb (ix2 a b) 1 = b := Fin.ext (by blk_simp [idx6 t] <;> rfl)
    rw [e]
    refine (out6_4_apply _ _ _ _ a b).trans ?_
    show _ = ((shardDot2 A B Wg Wu ((win6_4.blk t).view.emb (ix2 a b) 0) ((win6_4.blk t).view.emb (ix2 a b) 1) : ℝ) : EReal)
    rw [e0, e1]
    simp only [in6_0 ha t _ _ _, in6_1 hb t _ _ _, in6_2 hg t _ _ _, in6_3 hu t _ _ _, coe_dot, ← EReal.coe_add]
  · have h0 : (i 0).val < 4096 := (i 0).isLt
    have h1 : (i 1).val < 1024 := (i 1).isLt
    refine ⟨⟨(i 0).val / 512, by omega⟩, flush6_4 _, ?_⟩
    mem_blk [idx6]
    simp only
    omega

end Cert.Mix
-- ==== Proof.MixKernel.lean ====
/-
  The channel mixer program's five results over the reals.
-/
module

public import proofs.«01_k».proof.Proof.MixValue
public import Idealize.ShloMosaic.Lib.StableHlo.Run
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Mix

/-- A weight with its axes swapped. -/
def swapW (w : FVec Ideal S1024x2816 .f32) : FVec Ideal S2816x1024 .f32 := transpose S2816x1024 [1, 0] w transposes_S1024x2816_S2816x1024_1_0
/-- A weight cut into shards. -/
def cutW (w : FVec Ideal S2816x1024 .f32) : FVec Ideal S4x704x1024 .bf16 :=
  truncf .bf16 (shapeCast S4x704x1024 w shapeCasts_S2816x1024_S4x704x1024) bitsLt_bf16_f32

theorem swapW_apply (w : FVec Ideal S1024x2816 .f32) (j : Fin 2816) (d : Fin 1024) : swapW w (ix2 j d) = w (ix2 d j) := by pointwise [swapW]
theorem cutW_apply (w : FVec Ideal S2816x1024 .f32) (k : Fin 4) (f : Fin 704) (d : Fin 1024) : cutW w (ix3 k f d) = w (ix2 (col k f) d) := by
  pointwise [cutW]

section Host
variable (m : (ℓ : Loc nD τ Cert.Kernel2Ideal.sig) → Buf (Elt Ideal) ℓ) (ρ : Dev nD → PrngReg) (c : Dev nD)

theorem V1_x : V1 m ρ c main_v0 = truncf (F := Ideal) (s := S4096x1024) (φ := .f32) .bf16 (m ((c : Thread nD τ).loc main_arg0)) bitsLt_bf16_f32 := by
  show W1 m ρ c (Proc.devRef .tc main_v0) = _
  simp only [W1, hostOps0, StableHlo.TRef.binary, StableHlo.TRef.unary, StableHlo.TRef.toBuf, StableHlo.TRef.ofBuf, cast_eq]
  after_results_simp <;> rfl
theorem V1_z : V1 m ρ c main_v1 = truncf (F := Ideal) (s := S4096x1024) (φ := .f32) .bf16 (m ((c : Thread nD τ).loc main_arg4)) bitsLt_bf16_f32 := by
  show W1 m ρ c (Proc.devRef .tc main_v1) = _
  simp only [W1, hostOps0, StableHlo.TRef.binary, StableHlo.TRef.unary, StableHlo.TRef.toBuf, StableHlo.TRef.ofBuf, cast_eq]
  after_results_simp <;> rfl
theorem V1_g : V1 m ρ c main_v4 = cutW (swapW (m ((c : Thread nD τ).loc main_arg1))) := by
  show W1 m ρ c (Proc.devRef .tc main_v4) = _
  simp only [W1, hostOps0, StableHlo.TRef.binary, StableHlo.TRef.unary, StableHlo.TRef.toBuf, StableHlo.TRef.ofBuf, cast_eq]
  after_results_simp <;> rfl
theorem V1_u : V1 m ρ c main_v7 = cutW (swapW (m ((c : Thread nD τ).loc main_arg2))) := by
  show W1 m ρ c (Proc.devRef .tc main_v7) = _
  simp only [W1, hostOps0, StableHlo.TRef.binary, StableHlo.TRef.unary, StableHlo.TRef.toBuf, StableHlo.TRef.ofBuf, cast_eq]
  after_results_simp <;> rfl
theorem V1_d : V1 m ρ c main_v9 = cutW (m ((c : Thread nD τ).loc main_arg3)) := by
  show W1 m ρ c (Proc.devRef .tc main_v9) = _
  simp only [W1, hostOps0, StableHlo.TRef.binary, StableHlo.TRef.unary, StableHlo.TRef.toBuf, StableHlo.TRef.ofBuf, cast_eq]
  after_results_simp <;> rfl

end Host

variable {x z : Fin 4096 → Fin 1024 → ℝ} {wg wu : Fin 1024 → Fin 2816 → ℝ} {wd : Fin 2816 → Fin 1024 → ℝ}
variable {m : (ℓ : Loc nD τ Cert.Kernel2Ideal.sig) → Buf (Elt Ideal) ℓ} (ρ : Dev nD → PrngReg) {c : Dev nD}

/-- The launch memory's arguments are these reals. -/
abbrev ArgsAt (m : (ℓ : Loc nD τ Cert.Kernel2Ideal.sig) → Buf (Elt Ideal) ℓ) (c : Dev nD) (x z : Fin 4096 → Fin 1024 → ℝ) (wg wu : Fin 1024 → Fin 2816 → ℝ) (wd : Fin 2816 → Fin 1024 → ℝ) : Prop :=
  Args x z wg wu wd (m ((c : Thread nD τ).loc main_arg0)) (m ((c : Thread nD τ).loc main_arg1)) (m ((c : Thread nD τ).loc main_arg2)) (m ((c : Thread nD τ).loc main_arg3)) (m ((c : Thread nD τ).loc main_arg4))

/-- A weight's shards, hidden columns first. -/
abbrev shardT (w : Fin 1024 → Fin 2816 → ℝ) (k : Fin 4) (f : Fin 704) (d : Fin 1024) : ℝ := w d (col k f)
/-- A weight's shards. -/
abbrev shard (w : Fin 2816 → Fin 1024 → ℝ) (k : Fin 4) (f : Fin 704) (d : Fin 1024) : ℝ := w (col k f) d
/-- An array of hidden columns, shard by shard. -/
abbrev cols (h : Fin 4096 → Fin 2816 → ℝ) (k : Fin 4) (s : Fin 4096) (f : Fin 704) : ℝ := h s (col k f)

theorem v1_x (A : ArgsAt m c x z wg wu wd) : Real2 (V1 m ρ c main_v0) x := fun i j => (congrFun (V1_x m ρ c) _).trans (A.x i j)
theorem v1_z (A : ArgsAt m c x z wg wu wd) : Real2 (V1 m ρ c main_v1) z := fun i j => (congrFun (V1_z m ρ c) _).trans (A.z i j)
theorem v1_g (A : ArgsAt m c x z wg wu wd) : Real3 (V1 m ρ c main_v4) (shardT wg) := fun k f d => by
  rw [V1_g, cutW_apply, swapW_apply]; exact A.wg _ _
theorem v1_u (A : ArgsAt m c x z wg wu wd) : Real3 (V1 m ρ c main_v7) (shardT wu) := fun k f d => by
  rw [V1_u, cutW_apply, swapW_apply]; exact A.wu _ _
theorem v1_d (A : ArgsAt m c x z wg wu wd) : Real3 (V1 m ρ c main_v9) (shard wd) := fun k f d => by
  rw [V1_d, cutW_apply]; exact A.wd _ _

theorem v2_hg (A : ArgsAt m c x z wg wu wd) : Real3 (V2 m ρ c main_v10_0) (cols (hid x wg)) := fun i j l =>
  congrFun ((W2_arr m ρ c 3).trans (final0_3 (v1_x ρ A) (v1_g ρ A))) (ix3 i j l)
theorem v2_hu (A : ArgsAt m c x z wg wu wd) : Real3 (V2 m ρ c main_v10_1) (cols (hid x wu)) := fun i j l =>
  congrFun ((W2_arr m ρ c 4).trans (final0_4 (v1_x ρ A) (v1_u ρ A))) (ix3 i j l)
theorem v2_a (A : ArgsAt m c x z wg wu wd) : Real3 (V2 m ρ c main_v10_2) (cols (act x wg wu)) := fun i j l =>
  congrFun ((W2_arr m ρ c 5).trans (final0_5 (v1_x ρ A) (v1_g ρ A) (v1_u ρ A))) (ix3 i j l)
theorem v2_d (A : ArgsAt m c x z wg wu wd) : Real3 (V2 m ρ c main_v9) (shard wd) := fun i j l =>
  (congrFun (W2_of m ρ c main_v9 (by decide)) (ix3 i j l)).trans (v1_d ρ A i j l)
theorem v3_a (A : ArgsAt m c x z wg wu wd) : Real3 (V3 m ρ c main_v10_2) (cols (act x wg wu)) := fun i j l =>
  (congrFun (W3_of m ρ c main_v10_2 (by decide)) (ix3 i j l)).trans (v2_a ρ A i j l)
theorem v3_z (A : ArgsAt m c x z wg wu wd) : Real2 (V3 m ρ c main_v1) (z) := fun i j =>
  (congrFun ((W3_of m ρ c main_v1 (by decide)).trans (W2_of m ρ c main_v1 (by decide))) (ix2 i j)).trans (v1_z ρ A i j)
theorem v4_z (A : ArgsAt m c x z wg wu wd) : Real2 (V4 m ρ c main_v1) (z) := fun i j =>
  (congrFun (((W4_of m ρ c main_v1 (by decide)).trans (W3_of m ρ c main_v1 (by decide))).trans (W2_of m ρ c main_v1 (by decide))) (ix2 i j)).trans (v1_z ρ A i j)
theorem v4_d (A : ArgsAt m c x z wg wu wd) : Real3 (V4 m ρ c main_v9) (shard wd) := fun i j l =>
  (congrFun (((W4_of m ρ c main_v9 (by decide)).trans (W3_of m ρ c main_v9 (by decide))).trans (W2_of m ρ c main_v9 (by decide))) (ix3 i j l)).trans (v1_d ρ A i j l)
theorem v4_hg (A : ArgsAt m c x z wg wu wd) : Real3 (V4 m ρ c main_v10_0) (cols (hid x wg)) := fun i j l =>
  (congrFun ((W4_of m ρ c main_v10_0 (by decide)).trans (W3_of m ρ c main_v10_0 (by decide))) (ix3 i j l)).trans (v2_hg ρ A i j l)
theorem v4_hu (A : ArgsAt m c x z wg wu wd) : Real3 (V4 m ρ c main_v10_1) (cols (hid x wu)) := fun i j l =>
  (congrFun ((W4_of m ρ c main_v10_1 (by decide)).trans (W3_of m ρ c main_v10_1 (by decide))) (ix3 i j l)).trans (v2_hu ρ A i j l)
theorem v5_dg (A : ArgsAt m c x z wg wu wd) : Real3 (V5 m ρ c main_v13_0) (cols (dgate x z wg wu wd)) := fun i j l =>
  congrFun ((W5_arr m ρ c 4).trans (final3_4 (v4_z ρ A) (v4_d ρ A) (v4_hg ρ A) (v4_hu ρ A))) (ix3 i j l)
theorem v5_du (A : ArgsAt m c x z wg wu wd) : Real3 (V5 m ρ c main_v13_1) (cols (dup x z wg wd)) := fun i j l =>
  congrFun ((W5_arr m ρ c 5).trans (final3_5 (v4_z ρ A) (v4_d ρ A) (v4_hg ρ A))) (ix3 i j l)
theorem v5_x (A : ArgsAt m c x z wg wu wd) : Real2 (V5 m ρ c main_v0) (x) := fun i j =>
  (congrFun ((((W5_of m ρ c main_v0 (by decide)).trans (W4_of m ρ c main_v0 (by decide))).trans (W3_of m ρ c main_v0 (by decide))).trans (W2_of m ρ c main_v0 (by decide))) (ix2 i j)).trans (v1_x ρ A i j)
theorem v6_du (A : ArgsAt m c x z wg wu wd) : Real3 (V6 m ρ c main_v13_1) (cols (dup x z wg wd)) := fun i j l =>
  (congrFun (W6_of m ρ c main_v13_1 (by decide)) (ix3 i j l)).trans (v5_du ρ A i j l)
theorem v6_x (A : ArgsAt m c x z wg wu wd) : Real2 (V6 m ρ c main_v0) (x) := fun i j =>
  (congrFun (((((W6_of m ρ c main_v0 (by decide)).trans (W5_of m ρ c main_v0 (by decide))).trans (W4_of m ρ c main_v0 (by decide))).trans (W3_of m ρ c main_v0 (by decide))).trans (W2_of m ρ c main_v0 (by decide))) (ix2 i j)).trans (v1_x ρ A i j)
theorem v7_dg (A : ArgsAt m c x z wg wu wd) : Real3 (V7 m ρ c main_v13_0) (cols (dgate x z wg wu wd)) := fun i j l =>
  (congrFun ((W7_of m ρ c main_v13_0 (by decide)).trans (W6_of m ρ c main_v13_0 (by decide))) (ix3 i j l)).trans (v5_dg ρ A i j l)
theorem v7_du (A : ArgsAt m c x z wg wu wd) : Real3 (V7 m ρ c main_v13_1) (cols (dup x z wg wd)) := fun i j l =>
  (congrFun ((W7_of m ρ c main_v13_1 (by decide)).trans (W6_of m ρ c main_v13_1 (by decide))) (ix3 i j l)).trans (v5_du ρ A i j l)
theorem v7_g (A : ArgsAt m c x z wg wu wd) : Real3 (V7 m ρ c main_v4) (shardT wg) := fun i j l =>
  (congrFun ((((((W7_of m ρ c main_v4 (by decide)).trans (W6_of m ρ c main_v4 (by decide))).trans (W5_of m ρ c main_v4 (by decide))).trans (W4_of m ρ c main_v4 (by decide))).trans (W3_of m ρ c main_v4 (by decide))).trans (W2_of m ρ c main_v4 (by decide))) (ix3 i j l)).trans (v1_g ρ A i j l)
theorem v7_u (A : ArgsAt m c x z wg wu wd) : Real3 (V7 m ρ c main_v7) (shardT wu) := fun i j l =>
  (congrFun ((((((W7_of m ρ c main_v7 (by decide)).trans (W6_of m ρ c main_v7 (by decide))).trans (W5_of m ρ c main_v7 (by decide))).trans (W4_of m ρ c main_v7 (by decide))).trans (W3_of m ρ c main_v7 (by decide))).trans (W2_of m ρ c main_v7 (by decide))) (ix3 i j l)).trans (v1_u ρ A i j l)

/-- The output the program ends with. -/
theorem res_o (A : ArgsAt m c x z wg wu wd) (i : Fin 4096) (j : Fin 1024) :
    W8 m ρ c (Proc.devRef .tc main_v11) (ix2 i j) = (outp x wg wu wd i j : EReal) :=
  (congrFun ((((((W8_of m ρ c main_v11 (by decide)).trans (W7_of m ρ c main_v11 (by decide))).trans (W6_of m ρ c main_v11 (by decide))).trans (W5_of m ρ c main_v11 (by decide))).trans (W4_of m ρ c main_v11 (by decide))).trans ((W3_arr m ρ c 2).trans (final1_2 (v2_a ρ A) (v2_d ρ A)))) (ix2 i j)).trans (congrArg _ ((sum_shards fun k => act x wg wu i k * wd k j).symm))

/-- The input's gradient the program ends with. -/
theorem res_dx (A : ArgsAt m c x z wg wu wd) (i : Fin 4096) (j : Fin 1024) :
    W8 m ρ c (Proc.devRef .tc main_v16) (ix2 i j) = (dinp x z wg wu wd i j : EReal) :=
  (congrFun ((W8_arr m ρ c 4).trans (final6_4 (v7_dg ρ A) (v7_du ρ A) (v7_g ρ A) (v7_u ρ A))) (ix2 i j)).trans (congrArg _ (dinp_shards x z wg wu wd i j (fun k f => cols (dgate x z wg wu wd) k i f) (fun k f => cols (dup x z wg wd) k i f) (fun _ _ => rfl) (fun _ _ => rfl)))

/-- The gate weight's gradient the program ends with. -/
theorem res_dg (A : ArgsAt m c x z wg wu wd) (i : Fin 4) (j : Fin 704) (l : Fin 1024) :
    W8 m ρ c (Proc.devRef .tc main_v14) (ix3 i j l) = (dwt (dgate x z wg wu wd) x (col i j) l : EReal) :=
  congrFun (((W8_of m ρ c main_v14 (by decide)).trans (W7_of m ρ c main_v14 (by decide))).trans ((W6_arr m ρ c 2).trans (final4_2 (v5_dg ρ A) (v5_x ρ A)))) (ix3 i j l)

/-- The other weight's gradient the program ends with. -/
theorem res_du (A : ArgsAt m c x z wg wu wd) (i : Fin 4) (j : Fin 704) (l : Fin 1024) :
    W8 m ρ c (Proc.devRef .tc main_v15) (ix3 i j l) = (dwt (dup x z wg wd) x (col i j) l : EReal) :=
  congrFun ((W8_of m ρ c main_v15 (by decide)).trans ((W7_arr m ρ c 2).trans (final5_2 (v6_du ρ A) (v6_x ρ A)))) (ix3 i j l)

/-- The output weight's gradient the program ends with. -/
theorem res_dd (A : ArgsAt m c x z wg wu wd) (i : Fin 4) (j : Fin 704) (l : Fin 1024) :
    W8 m ρ c (Proc.devRef .tc main_v12) (ix3 i j l) = (dwt (act x wg wu) z (col i j) l : EReal) :=
  congrFun (((((W8_of m ρ c main_v12 (by decide)).trans (W7_of m ρ c main_v12 (by decide))).trans (W6_of m ρ c main_v12 (by decide))).trans (W5_of m ρ c main_v12 (by decide))).trans ((W4_arr m ρ c 2).trans (final2_2 (v3_a ρ A) (v3_z ρ A)))) (ix3 i j l)

end Cert.Mix
-- ==== Proof.MixRef.lean ====
/-
  The channel mixer's reference: its intermediate arrays in the order it computes them, each read at an index, and its
  results over the reals.
-/
module

public import proofs.«01_k».proof.Proof.MixSpec
public import proofs.«01_k».proof.Proof.Gen.Reference2Ideal.Run
public import Idealize.ShloMosaic.Lib.ValueLayout
public import Idealize.ShloMosaic.Lib.IdealHost

@[expose] public section

set_option maxRecDepth 65536

noncomputable section

open Idealize.ShloMosaic Idealize.ShloMosaic.TcCoe Idealize.SL.Sem
open Cert.Reference2Ideal Cert.Reference2Ideal.Gen

namespace Cert.MixRef

open Cert.Mix (lgst dsilu hid act dact dgate dup outp dinp dwt col Args one_add_exp_ne)
open Cert.Attn (coe_dot)

/-- An array of ones. -/
def oneW : FVec Ideal S4096x2816 .f32 := broadcastInDim S4096x2816 ![] bcast_S_S4096x2816 (constant S_ .f32 0x3F800000#32)
/-- The hidden values. -/
def hW (x : FVec Ideal S4096x1024 .f32) (w : FVec Ideal S1024x2816 .f32) : FVec Ideal S4096x2816 .f32 :=
  Host.dotGeneral dot_S4096x1024_S1024x2816_S4096x2816_1_0_0_1_n_n none x w
/-- The logistic function. -/
def sW (g : FVec Ideal S4096x2816 .f32) : FVec Ideal S4096x2816 .f32 := Host.divf oneW (addf oneW (Host.exp (Host.negf g)))
/-- The gated hidden values. -/
def aW (g u : FVec Ideal S4096x2816 .f32) : FVec Ideal S4096x2816 .f32 := mulf (mulf g (sW g)) u
/-- The output. -/
def oW (a : FVec Ideal S4096x2816 .f32) (wd : FVec Ideal S2816x1024 .f32) : FVec Ideal S4096x1024 .f32 :=
  Host.dotGeneral dot_S4096x2816_S2816x1024_S4096x1024_1_0_0_1_n_n none a wd
/-- The gradient of the gated hidden values. -/
def daW (z : FVec Ideal S4096x1024 .f32) (wd : FVec Ideal S2816x1024 .f32) : FVec Ideal S4096x2816 .f32 :=
  Host.dotGeneral dot_S4096x1024_S2816x1024_S4096x2816_1_1_0_0_n_n none z wd
/-- The gradient of the ungated hidden values. -/
def duW (g da : FVec Ideal S4096x2816 .f32) : FVec Ideal S4096x2816 .f32 := mulf (mulf g (sW g)) da
/-- The gradient of the gate's hidden values. -/
def dgW (g u da : FVec Ideal S4096x2816 .f32) : FVec Ideal S4096x2816 .f32 :=
  addf (mulf (mulf da u) (sW g)) (mulf (mulf g (mulf da u)) (mulf (sW g) (subf oneW (sW g))))
/-- One part of the input's gradient. -/
def xW (d : FVec Ideal S4096x2816 .f32) (w : FVec Ideal S1024x2816 .f32) : FVec Ideal S4096x1024 .f32 :=
  Host.dotGeneral dot_S4096x2816_S1024x2816_S4096x1024_1_1_0_0_n_n none d w
/-- Hidden columns times an array's columns. -/
def tW (h : FVec Ideal S4096x2816 .f32) (x : FVec Ideal S4096x1024 .f32) : FVec Ideal S2816x1024 .f32 :=
  Host.dotGeneral dot_S4096x2816_S4096x1024_S2816x1024_0_0_1_1_n_n none h x
/-- The same with the axes swapped twice. -/
def ttW (h : FVec Ideal S4096x2816 .f32) (x : FVec Ideal S4096x1024 .f32) : FVec Ideal S2816x1024 .f32 :=
  transpose S2816x1024 [1, 0] (transpose S1024x2816 [1, 0] (tW h x) transposes_S2816x1024_S1024x2816_1_0) transposes_S1024x2816_S2816x1024_1_0
/-- The output weight's gradient. -/
def zW (z : FVec Ideal S4096x1024 .f32) (a : FVec Ideal S4096x2816 .f32) : FVec Ideal S2816x1024 .f32 :=
  transpose S2816x1024 [1, 0] (Host.dotGeneral dot_S4096x1024_S4096x2816_S1024x2816_0_0_1_1_n_n none z a) transposes_S1024x2816_S2816x1024_1_0
/-- A weight's gradient cut into shards. -/
def cutW (y : FVec Ideal S2816x1024 .f32) : FVec Ideal S4x704x1024 .bf16 :=
  truncf .bf16 (shapeCast S4x704x1024 y shapeCasts_S2816x1024_S4x704x1024) bitsLt_bf16_f32

set_option maxHeartbeats 2000000 in
/-- The reference's run in the named arrays: its five results, and the arguments as they were. -/
theorem run_words (m : (ℓ : Loc nD τ Cert.Reference2Ideal.sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = oW (aW (hW (m ((c : Thread nD τ).loc main_arg0)) (m ((c : Thread nD τ).loc main_arg1))) (hW (m ((c : Thread nD τ).loc main_arg0)) (m ((c : Thread nD τ).loc main_arg2)))) (m ((c : Thread nD τ).loc main_arg3))
      ∧ r.2.mem ((c : Thread nD τ).loc main_v17) = addf (F := Ideal) (s := S4096x1024) (φ := .f32) (xW (duW (hW (m ((c : Thread nD τ).loc main_arg0)) (m ((c : Thread nD τ).loc main_arg1))) (daW (m ((c : Thread nD τ).loc main_arg4)) (m ((c : Thread nD τ).loc main_arg3)))) (m ((c : Thread nD τ).loc main_arg2)))
          (xW (dgW (hW (m ((c : Thread nD τ).loc main_arg0)) (m ((c : Thread nD τ).loc main_arg1))) (hW (m ((c : Thread nD τ).loc main_arg0)) (m ((c : Thread nD τ).loc main_arg2))) (daW (m ((c : Thread nD τ).loc main_arg4)) (m ((c : Thread nD τ).loc main_arg3)))) (m ((c : Thread nD τ).loc main_arg1)))
      ∧ r.2.mem ((c : Thread nD τ).loc main_v20) = cutW (ttW (dgW (hW (m ((c : Thread nD τ).loc main_arg0)) (m ((c : Thread nD τ).loc main_arg1))) (hW (m ((c : Thread nD τ).loc main_arg0)) (m ((c : Thread nD τ).loc main_arg2))) (daW (m ((c : Thread nD τ).loc main_arg4)) (m ((c : Thread nD τ).loc main_arg3)))) (m ((c : Thread nD τ).loc main_arg0)))
      ∧ r.2.mem ((c : Thread nD τ).loc main_v23) = cutW (ttW (duW (hW (m ((c : Thread nD τ).loc main_arg0)) (m ((c : Thread nD τ).loc main_arg1))) (daW (m ((c : Thread nD τ).loc main_arg4)) (m ((c : Thread nD τ).loc main_arg3)))) (m ((c : Thread nD τ).loc main_arg0)))
      ∧ r.2.mem ((c : Thread nD τ).loc main_v25) = cutW (zW (m ((c : Thread nD τ).loc main_arg4)) (aW (hW (m ((c : Thread nD τ).loc main_arg0)) (m ((c : Thread nD τ).loc main_arg1))) (hW (m ((c : Thread nD τ).loc main_arg0)) (m ((c : Thread nD τ).loc main_arg2)))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1, (h c).2.1, (h c).2.2.1, (h c).2.2.2.1, (h c).2.2.2.2.1, (h c).2.2.2.2.2⟩) (Cert.Reference2Ideal.Value.run m ρ)

theorem one_word : Ideal.ofBits .f32 0x3F800000#32 = ((1 : ℝ) : EReal) := by
  simp [Ideal.ofBits, Ideal.ieee]
  rw [← EReal.coe_mul]
  norm_num

theorem oneW_apply (i : S4096x2816.Idx) : oneW i = ((1 : ℝ) : EReal) := one_word
theorem sW_apply (g : FVec Ideal S4096x2816 .f32) (i : S4096x2816.Idx) :
    sW g i = Ideal.div (oneW i) ((oneW i : EReal) + Ideal.exp (-(g i : EReal))) := rfl
theorem aW_apply (g u : FVec Ideal S4096x2816 .f32) (i : S4096x2816.Idx) : aW g u i = (g i : EReal) * sW g i * u i := rfl
theorem duW_apply (g u : FVec Ideal S4096x2816 .f32) (i : S4096x2816.Idx) : duW g u i = (g i : EReal) * sW g i * u i := rfl
theorem dgW_apply (g u da : FVec Ideal S4096x2816 .f32) (i : S4096x2816.Idx) :
    dgW g u da i = (da i : EReal) * u i * sW g i + (g i : EReal) * ((da i : EReal) * u i) * ((sW g i : EReal) * ((oneW i : EReal) - sW g i)) := rfl
theorem hW_apply (x : FVec Ideal S4096x1024 .f32) (w : FVec Ideal S1024x2816 .f32) (s : Fin 4096) (j : Fin 2816) :
    hW x w (ix2 s j) = ∑ d : Fin 1024, (x (ix2 s d) : EReal) * w (ix2 d j) := by pointwise [hW]
theorem oW_apply (a : FVec Ideal S4096x2816 .f32) (w : FVec Ideal S2816x1024 .f32) (s : Fin 4096) (e : Fin 1024) :
    oW a w (ix2 s e) = ∑ j : Fin 2816, (a (ix2 s j) : EReal) * w (ix2 j e) := by pointwise [oW]
theorem daW_apply (z : FVec Ideal S4096x1024 .f32) (w : FVec Ideal S2816x1024 .f32) (s : Fin 4096) (j : Fin 2816) :
    daW z w (ix2 s j) = ∑ e : Fin 1024, (z (ix2 s e) : EReal) * w (ix2 j e) := by pointwise [daW]
theorem xW_apply (h : FVec Ideal S4096x2816 .f32) (w : FVec Ideal S1024x2816 .f32) (s : Fin 4096) (d : Fin 1024) :
    xW h w (ix2 s d) = ∑ j : Fin 2816, (h (ix2 s j) : EReal) * w (ix2 d j) := by pointwise [xW]
theorem tW_apply (h : FVec Ideal S4096x2816 .f32) (x : FVec Ideal S4096x1024 .f32) (j : Fin 2816) (d : Fin 1024) :
    tW h x (ix2 j d) = ∑ s : Fin 4096, (h (ix2 s j) : EReal) * x (ix2 s d) := by pointwise [tW]
theorem ttW_apply (h : FVec Ideal S4096x2816 .f32) (x : FVec Ideal S4096x1024 .f32) (j : Fin 2816) (d : Fin 1024) :
    ttW h x (ix2 j d) = ∑ s : Fin 4096, (h (ix2 s j) : EReal) * x (ix2 s d) := by
  rw [← tW_apply]
  pointwise [ttW]
theorem zW_apply (z : FVec Ideal S4096x1024 .f32) (a : FVec Ideal S4096x2816 .f32) (j : Fin 2816) (e : Fin 1024) :
    zW z a (ix2 j e) = ∑ s : Fin 4096, (z (ix2 s e) : EReal) * a (ix2 s j) := by pointwise [zW]
theorem cutW_apply (y : FVec Ideal S2816x1024 .f32) (k : Fin 4) (f : Fin 704) (d : Fin 1024) : cutW y (ix3 k f d) = y (ix2 (col k f) d) := by
  pointwise [cutW]

variable {x z : Fin 4096 → Fin 1024 → ℝ} {wg wu : Fin 1024 → Fin 2816 → ℝ} {wd : Fin 2816 → Fin 1024 → ℝ}
variable {x0 : FVec Ideal S4096x1024 .f32} {x1 x2 : FVec Ideal S1024x2816 .f32} {x3 : FVec Ideal S2816x1024 .f32} {x4 : FVec Ideal S4096x1024 .f32}

theorem sW_real (g : FVec Ideal S4096x2816 .f32) (i : S4096x2816.Idx) (r : ℝ) (h : g i = (r : EReal)) : sW g i = (lgst r : EReal) := by
  rw [sW_apply, oneW_apply, h, ← EReal.coe_neg, Ideal.exp_coe, ← EReal.coe_add, Ideal.div_coe (one_add_exp_ne r), ← EReal.coe_mul, lgst, one_mul]

theorem g_real (A : Args x z wg wu wd x0 x1 x2 x3 x4) (s : Fin 4096) (j : Fin 2816) : hW x0 x1 (ix2 s j) = (hid x wg s j : EReal) := by
  rw [hW_apply]
  simp only [A.x, A.wg, coe_dot]
  rfl
theorem u_real (A : Args x z wg wu wd x0 x1 x2 x3 x4) (s : Fin 4096) (j : Fin 2816) : hW x0 x2 (ix2 s j) = (hid x wu s j : EReal) := by
  rw [hW_apply]
  simp only [A.x, A.wu, coe_dot]
  rfl
theorem da_real (A : Args x z wg wu wd x0 x1 x2 x3 x4) (s : Fin 4096) (j : Fin 2816) : daW x4 x3 (ix2 s j) = (dact z wd s j : EReal) := by
  rw [daW_apply]
  simp only [A.z, A.wd, coe_dot]
  rfl
theorem a_real (A : Args x z wg wu wd x0 x1 x2 x3 x4) (s : Fin 4096) (j : Fin 2816) : aW (hW x0 x1) (hW x0 x2) (ix2 s j) = (act x wg wu s j : EReal) := by
  rw [aW_apply, sW_real _ _ _ (g_real A s j), g_real A, u_real A, ← EReal.coe_mul, ← EReal.coe_mul]
  rfl
theorem du_real (A : Args x z wg wu wd x0 x1 x2 x3 x4) (s : Fin 4096) (j : Fin 2816) : duW (hW x0 x1) (daW x4 x3) (ix2 s j) = (dup x z wg wd s j : EReal) := by
  rw [duW_apply, sW_real _ _ _ (g_real A s j), g_real A, da_real A, ← EReal.coe_mul, ← EReal.coe_mul, dup, mul_comm]
theorem dg_real (A : Args x z wg wu wd x0 x1 x2 x3 x4) (s : Fin 4096) (j : Fin 2816) :
    dgW (hW x0 x1) (hW x0 x2) (daW x4 x3) (ix2 s j) = (dgate x z wg wu wd s j : EReal) := by
  rw [dgW_apply, sW_real _ _ _ (g_real A s j), g_real A, u_real A, da_real A, oneW_apply]
  simp only [← EReal.coe_mul, ← EReal.coe_add, ← EReal.coe_sub]
  rw [dgate, dsilu]
  congr 1
  ring

/-- The output. -/
theorem res_o (A : Args x z wg wu wd x0 x1 x2 x3 x4) (s : Fin 4096) (e : Fin 1024) : oW (aW (hW x0 x1) (hW x0 x2)) x3 (ix2 s e) = (outp x wg wu wd s e : EReal) := by
  rw [oW_apply]
  simp only [a_real A, A.wd, coe_dot]
  rfl
/-- The input's gradient. -/
theorem res_dx (A : Args x z wg wu wd x0 x1 x2 x3 x4) (s : Fin 4096) (d : Fin 1024) :
    addf (F := Ideal) (s := S4096x1024) (φ := .f32) (xW (duW (hW x0 x1) (daW x4 x3)) x2) (xW (dgW (hW x0 x1) (hW x0 x2) (daW x4 x3)) x1) (ix2 s d) = (dinp x z wg wu wd s d : EReal) := by
  refine (show _ = (xW (duW (hW x0 x1) (daW x4 x3)) x2 (ix2 s d) : EReal) + xW (dgW (hW x0 x1) (hW x0 x2) (daW x4 x3)) x1 (ix2 s d) from rfl).trans ?_
  rw [xW_apply, xW_apply]
  simp only [du_real A, dg_real A, A.wg, A.wu, coe_dot]
  rw [← EReal.coe_add, dinp, Finset.sum_add_distrib, add_comm]
/-- The gate weight's gradient. -/
theorem res_dg (A : Args x z wg wu wd x0 x1 x2 x3 x4) (k : Fin 4) (f : Fin 704) (d : Fin 1024) :
    cutW (ttW (dgW (hW x0 x1) (hW x0 x2) (daW x4 x3)) x0) (ix3 k f d) = (dwt (dgate x z wg wu wd) x (col k f) d : EReal) := by
  rw [cutW_apply, ttW_apply]
  simp only [dg_real A, A.x, coe_dot]
  rfl
/-- The other weight's gradient. -/
theorem res_du (A : Args x z wg wu wd x0 x1 x2 x3 x4) (k : Fin 4) (f : Fin 704) (d : Fin 1024) :
    cutW (ttW (duW (hW x0 x1) (daW x4 x3)) x0) (ix3 k f d) = (dwt (dup x z wg wd) x (col k f) d : EReal) := by
  rw [cutW_apply, ttW_apply]
  simp only [du_real A, A.x, coe_dot]
  rfl
/-- The output weight's gradient. -/
theorem res_dd (A : Args x z wg wu wd x0 x1 x2 x3 x4) (k : Fin 4) (f : Fin 704) (e : Fin 1024) :
    cutW (zW x4 (aW (hW x0 x1) (hW x0 x2))) (ix3 k f e) = (dwt (act x wg wu) z (col k f) e : EReal) := by
  rw [cutW_apply, zW_apply]
  simp only [a_real A, A.z, coe_dot]
  rw [dwt]
  simp only [mul_comm]

end Cert.MixRef
-- ==== Proof.MixFinite.lean ====
/-
  What the channel mixer's precondition says: every argument entry is a real.
-/
module

public import proofs.«01_k».proof.Defs
public import proofs.«01_k».proof.Proof.MixSpec
public import proofs.«01_k».proof.Proof.Finite
public import proofs.«01_k».proof.Proof.Gen.Pre_finite2

@[expose] public section

set_option maxRecDepth 16384

noncomputable section

open Idealize.ShloMosaic Idealize.ShloMosaic.TcCoe Idealize.SL.Sem
open Cert.Pre_finite2 Cert.Pre_finite2.Gen

namespace Cert.Mix

open Cert.Attn (and_one finite_entry)

/-- Under the precondition the five argument arrays are reals. -/
theorem args_real (x0 : FVec Ideal S4096x1024 .f32) (x1 x2 : FVec Ideal S1024x2816 .f32) (x3 : FVec Ideal S2816x1024 .f32) (x4 : FVec Ideal S4096x1024 .f32)
    (h : Cert.Pre_finite2.fn (F := Ideal) x0 x1 x2 x3 x4 = fun _ => 1#1) : ∃ x z wg wu wd, Args x z wg wu wd x0 x1 x2 x3 x4 := by
  have h0 := congrFun h (Shape.Idx.first h_S_)
  obtain ⟨h0123, h4⟩ := and_one _ _ h0
  obtain ⟨h012, h3⟩ := and_one _ _ h0123
  obtain ⟨h01, h2⟩ := and_one _ _ h012
  obtain ⟨h0, h1⟩ := and_one _ _ h01
  haveI : Subsingleton S_.Idx := ⟨fun a b => funext fun d => d.elim0⟩
  have r0 := fun i => finite_entry x0 bcast_S_S4096x1024 i (Host.reduce_andi_all _ _ _ _ _ h0 i)
  have r1 := fun i => finite_entry x1 bcast_S_S1024x2816 i (Host.reduce_andi_all _ _ _ _ _ h1 i)
  have r2 := fun i => finite_entry x2 bcast_S_S1024x2816 i (Host.reduce_andi_all _ _ _ _ _ h2 i)
  have r3 := fun i => finite_entry x3 bcast_S_S2816x1024 i (Host.reduce_andi_all _ _ _ _ _ h3 i)
  have r4 := fun i => finite_entry x4 bcast_S_S4096x1024 i (Host.reduce_andi_all _ _ _ _ _ h4 i)
  choose y0 e0 using r0
  choose y1 e1 using r1
  choose y2 e2 using r2
  choose y3 e3 using r3
  choose y4 e4 using r4
  exact ⟨fun i d => y0 (ix2 i d), fun i d => y4 (ix2 i d), fun i d => y1 (ix2 i d), fun i d => y2 (ix2 i d), fun i d => y3 (ix2 i d),
    ⟨fun _ _ => e0 _, fun _ _ => e1 _, fun _ _ => e2 _, fun _ _ => e3 _, fun _ _ => e4 _⟩⟩

end Cert.Mix
-- ==== Proof.MixClaims.lean ====
/-
  The channel mixer's claims: its programs and its reference end with their arguments unchanged and their counters at
  zero, and on finite arguments the kernels' results are the reference's.
-/
module

public import proofs.«01_k».proof.Defs
public import proofs.«01_k».proof.Proof.MixRun
public import proofs.«01_k».proof.Proof.MixKernel
public import proofs.«01_k».proof.Proof.MixRef
public import proofs.«01_k».proof.Proof.MixFinite
public import proofs.«01_k».proof.Proof.Gen.Kernel2.Frame
public import Idealize.ShloMosaic.Lib.Quiescent

@[expose] public section

set_option maxRecDepth 16384

noncomputable section

namespace Cert.Mix

open Idealize.ShloMosaic Idealize.ShloMosaic.TcCoe Idealize.SL.Sem

/-- The program's frame. -/
theorem frame_kernel : Cert.quiescent_Kernel2 (hKernel2 := Cert.Kernel2.Gen.facts) := fun m ρ _ => Cert.Kernel2.Gen.frame m ρ

/-- The ideal program's frame. -/
theorem frame_ideal : Cert.quiescent_Kernel2Ideal (hKernel2Ideal := Cert.Kernel2Ideal.Gen.facts) := fun m ρ _ => Cert.Kernel2Ideal.Gen.frame (F := Ideal) m ρ

/-- The reference's frame: it has no counters. -/
theorem frame_reference : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩) (Cert.MixRef.run_words m ρ)

/-- Two arrays of rank two that agree at every pair of coordinates are equal. -/
theorem ext2 {a b : ℕ} {α : Type} {x y : (⟨2, ![a, b]⟩ : Shape).Idx → α} (h : ∀ i j, x (ix2 i j) = y (ix2 i j)) : x = y := by
  funext t
  obtain ⟨i, j, e⟩ : ∃ (i : Fin a) (j : Fin b), t = ix2 i j := ⟨t 0, t 1, eq_ix2 t⟩
  rw [e]
  exact h i j
/-- Two arrays of rank three that agree at every triple of coordinates are equal. -/
theorem ext3 {a b n : ℕ} {α : Type} {x y : (⟨3, ![a, b, n]⟩ : Shape).Idx → α} (h : ∀ i j k, x (ix3 i j k) = y (ix3 i j k)) : x = y := by
  funext t
  obtain ⟨i, j, k, e⟩ : ∃ (i : Fin a) (j : Fin b) (k : Fin n), t = ix3 i j k := ⟨t 0, t 1, t 2, eq_ix3 t⟩
  rw [e]
  exact h i j k

set_option maxHeartbeats 1000000 in
/-- On finite arguments the output and the four gradients are the reference's. -/
theorem values : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hargs
  refine ⟨fun c => Cert.Kernel2Ideal.Gen.W8 m ρ c (Proc.devRef .tc Cert.Kernel2Ideal.main_v11),
    fun c => Cert.Kernel2Ideal.Gen.W8 m ρ c (Proc.devRef .tc Cert.Kernel2Ideal.main_v16),
    fun c => Cert.Kernel2Ideal.Gen.W8 m ρ c (Proc.devRef .tc Cert.Kernel2Ideal.main_v14),
    fun c => Cert.Kernel2Ideal.Gen.W8 m ρ c (Proc.devRef .tc Cert.Kernel2Ideal.main_v15),
    fun c => Cert.Kernel2Ideal.Gen.W8 m ρ c (Proc.devRef .tc Cert.Kernel2Ideal.main_v12), ?_, ?_⟩
  · refine (θ_run Cert.Kernel2Ideal.defs _ _).mono (fun r h c => ?_) (run_main m ρ)
    exact ⟨h.1 c _ (Cert.Kernel2Ideal.Gen.mem_uc Cert.Kernel2Ideal.main_v11 (by decide)),
      h.1 c _ (Cert.Kernel2Ideal.Gen.mem_uc Cert.Kernel2Ideal.main_v16 (by decide)),
      h.1 c _ (Cert.Kernel2Ideal.Gen.mem_uc Cert.Kernel2Ideal.main_v14 (by decide)),
      h.1 c _ (Cert.Kernel2Ideal.Gen.mem_uc Cert.Kernel2Ideal.main_v15 (by decide)),
      h.1 c _ (Cert.Kernel2Ideal.Gen.mem_uc Cert.Kernel2Ideal.main_v12 (by decide)),
      (h.1 c _ (Cert.Kernel2Ideal.Gen.mem_uc Cert.Kernel2Ideal.main_arg0 (by decide))).trans (Cert.Kernel2Ideal.Gen.W8_main_arg0 m ρ c),
      (h.1 c _ (Cert.Kernel2Ideal.Gen.mem_uc Cert.Kernel2Ideal.main_arg1 (by decide))).trans (Cert.Kernel2Ideal.Gen.W8_main_arg1 m ρ c),
      (h.1 c _ (Cert.Kernel2Ideal.Gen.mem_uc Cert.Kernel2Ideal.main_arg2 (by decide))).trans (Cert.Kernel2Ideal.Gen.W8_main_arg2 m ρ c),
      (h.1 c _ (Cert.Kernel2Ideal.Gen.mem_uc Cert.Kernel2Ideal.main_arg3 (by decide))).trans (Cert.Kernel2Ideal.Gen.W8_main_arg3 m ρ c),
      (h.1 c _ (Cert.Kernel2Ideal.Gen.mem_uc Cert.Kernel2Ideal.main_arg4 (by decide))).trans (Cert.Kernel2Ideal.Gen.W8_main_arg4 m ρ c)⟩
  · refine (θ_run Cert.Reference2Ideal.defs _ _).mono (fun r h c => ?_) (Cert.MixRef.run_words m' ρ')
    obtain ⟨e0, e1, e2, e3, e4⟩ := hargs c
    obtain ⟨x, z, wg, wu, wd, A⟩ := args_real _ _ _ _ _ (hpre c)
    obtain ⟨h0, h1, h2, h3, h4, hr⟩ := h c
    rw [e0, e1, e2, e3] at h0
    rw [e0, e1, e2, e3, e4] at h1
    rw [e0, e1, e2, e3, e4] at h2
    rw [e0, e1, e3, e4] at h3
    rw [e0, e1, e2, e4] at h4
    exact ⟨h0.trans (ext2 fun i j => (Cert.MixRef.res_o A i j).trans (res_o ρ A i j).symm),
      h1.trans (ext2 fun i j => (Cert.MixRef.res_dx A i j).trans (res_dx ρ A i j).symm),
      h2.trans (ext3 fun i j k => (Cert.MixRef.res_dg A i j k).trans (res_dg ρ A i j k).symm),
      h3.trans (ext3 fun i j k => (Cert.MixRef.res_du A i j k).trans (res_du ρ A i j k).symm),
      h4.trans (ext3 fun i j k => (Cert.MixRef.res_dd A i j k).trans (res_dd ρ A i j k).symm), hr⟩

end Cert.Mix
-- ==== Proof.GqaRun.lean ====
/-
  The grouped-query attention program's run: it ends, every buffer holds what the last boundary of its segments holds, and every counter
  is zero.
-/
module

public import proofs.«01_k».proof.Proof.Gen.Kernel3Ideal.Frame
public import Idealize.ShloMosaic.Adequacy
public import Idealize.ShloMosaic.Init

@[expose] public section

set_option maxRecDepth 16384

noncomputable section

namespace Cert.Gqa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- plain definitions in a metavariable's type
set_option backward.isDefEq.respectTransparency.types false in
/-- From any memory with zero counters every weakly fair execution ends, each device's buffers at the last boundary's
    contents and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Gqa
-- ==== Proof.GqaFwd.lean ====
/-
  The grouped-query attention's bodies on a block of 1024 query rows. Both heads of a pair read one block of 128 lanes,
  each with the other head's lanes of the queries at zero: the same as a pair of heads of 128 lanes each, of which the
  queries' are zero outside the head's own 64.
-/
module

public import proofs.«01_k».proof.Proof.FwdBlock
public import proofs.«01_k».proof.Proof.Gen.Kernel3Ideal.Frame

@[expose] public section

set_option maxRecDepth 16384

noncomputable section

open Idealize.ShloMosaic Idealize.ShloMosaic.TcCoe Idealize.SL.Sem
open Cert.Kernel3Ideal Cert.Kernel3Ideal.Gen
open Cert.Attn (lane row key headOf headOf_lane headV headV_lt headV_ge rowQ ld_at emb_at mk mk_apply dohW lseW dltW pW dsW dkW dkW_apply pW_ok dsW_ok SubOK KeyOK FOK piece_of sub_ok key_ok piece3 piece4 piece8 T6 T7 T8 G3 G4 G8 zeroW row_halves lane_chunks)

namespace Cert.Gqa

/-- The two heads' queries, 128 lanes each, zero outside the head's own lanes. -/
def vq (x0 : Vec Ideal S1024x128 .bf16) : Vec Ideal ⟨2, ![1024, 256]⟩ .bf16 := fun y =>
  if (y 1).val % 128 / 64 = (y 1).val / 128 then x0 (ix2 (y 0) ⟨(y 1).val % 128, Nat.mod_lt _ (by decide)⟩) else (0 : EReal)
/-- The two heads' keys: the same 128 lanes for each. -/
def vk (x1 : Vec Ideal S4096x128 .bf16) : Vec Ideal ⟨2, ![4096, 256]⟩ .bf16 := fun y => x1 (ix2 (y 0) ⟨(y 1).val % 128, Nat.mod_lt _ (by decide)⟩)

theorem vq_lane (x0 : Vec Ideal S1024x128 .bf16) (i : Fin 1024) (h : Fin 2) (d : Fin 128) :
    vq x0 (ix2 i (lane h d)) = if d.val / 64 = h.val then (x0 (ix2 i d) : EReal) else 0 := by
  have e : (h.val * 128 + d.val) % 128 = d.val := by omega
  have e' : (h.val * 128 + d.val) / 128 = h.val := by omega
  show (if (h.val * 128 + d.val) % 128 / 64 = (h.val * 128 + d.val) / 128 then x0 (ix2 i ⟨(h.val * 128 + d.val) % 128, _⟩) else (0 : EReal)) = _
  simp only [e, e', Fin.eta]

theorem vk_lane (x1 : Vec Ideal S4096x128 .bf16) (n : Fin 4096) (h : Fin 2) (d : Fin 128) : vk x1 (ix2 n (lane h d)) = x1 (ix2 n d) := by
  have e : (h.val * 128 + d.val) % 128 = d.val := by omega
  show x1 (ix2 n ⟨(h.val * 128 + d.val) % 128, _⟩) = _
  simp only [e, Fin.eta]

/-! ## The forward body -/

/-- Query rows with the other head's lanes at zero. -/
def fqW (m : IVec S1x128 1) (x : FVec Ideal S256x128 .bf16) : FVec Ideal S256x128 .bf16 :=
  select (broadcastTo S256x128 m broadcasts_S1x128_S256x128) x (broadcast S256x128 (Scalar.ofBits .bf16 0x0000#16))

theorem fqW_apply (h : Fin 2) (x : FVec Ideal S256x128 .bf16) (i : Fin 256) (d : Fin 128) :
    fqW (mk h) x (ix2 i d) = if d.val / 64 = h.val then (x (ix2 i d) : EReal) else 0 := by
  pointwise [fqW]
  rw [mk_apply]
  split <;> rfl

section Fwd

variable (x0 : Vec Ideal S1024x128 .bf16) (x1 : Vec Ideal S4096x128 .bf16) (x2 : Vec Ideal S4096x128 .bf16)

theorem fok (a : Fin 4) (h : Fin 2) {o : ℕ} (ho : o = a.val * 256) (i0 i1) :
    FOK (vq x0) (vk x1) a h (fqW (mk h) (View.ld x0 (Rect.unit (s := S1024x128) ![o, 0] ![256, 128] i0))) (View.ld x1 (Rect.unit (s := S4096x128) ![0, 0] ![4096, 128] i1)) := by
  subst ho
  refine ⟨fun i d => ?_, fun n d => ?_⟩
  · rw [fqW_apply, vq_lane, ld_at x0 i0 i d (rowQ a i) d rfl (by omega)]
  · rw [vk_lane]
    exact ld_at x1 i1 n d n d (by omega) (by omega)

theorem fvok (i2) (n : Fin 4096) (c : Fin 128) : View.ld x2 (Rect.unit (s := S4096x128) ![0, 0] ![4096, 128] i2) (ix2 n c) = x2 (ix2 n c) :=
  ld_at x2 i2 n c n c (by omega) (by omega)

theorem fok00 : FOK (vq x0) (vk x1) 0 0 (fqW k0_pay1 (View.ld x0 (Rect.unit (s := S1024x128) ![0, 0] ![256, 128] inb_S1024x128_S256x128_0_0))) (View.ld x1 (Rect.unit (s := S4096x128) ![0, 0] ![4096, 128] inb_S4096x128_S4096x128_0_0)) :=
  fok x0 x1 0 0 rfl _ _

theorem fok01 : FOK (vq x0) (vk x1) 0 1 (fqW k0_pay2 (View.ld x0 (Rect.unit (s := S1024x128) ![0, 0] ![256, 128] inb_S1024x128_S256x128_0_0))) (View.ld x1 (Rect.unit (s := S4096x128) ![0, 0] ![4096, 128] inb_S4096x128_S4096x128_0_0)) :=
  fok x0 x1 0 1 rfl _ _

theorem fok10 : FOK (vq x0) (vk x1) 1 0 (fqW k0_pay1 (View.ld x0 (Rect.unit (s := S1024x128) ![256, 0] ![256, 128] inb_S1024x128_S256x128_256_0))) (View.ld x1 (Rect.unit (s := S4096x128) ![0, 0] ![4096, 128] inb_S4096x128_S4096x128_0_0)) :=
  fok x0 x1 1 0 rfl _ _

theorem fok11 : FOK (vq x0) (vk x1) 1 1 (fqW k0_pay2 (View.ld x0 (Rect.unit (s := S1024x128) ![256, 0] ![256, 128] inb_S1024x128_S256x128_256_0))) (View.ld x1 (Rect.unit (s := S4096x128) ![0, 0] ![4096, 128] inb_S4096x128_S4096x128_0_0)) :=
  fok x0 x1 1 1 rfl _ _

theorem fok20 : FOK (vq x0) (vk x1) 2 0 (fqW k0_pay1 (View.ld x0 (Rect.unit (s := S1024x128) ![512, 0] ![256, 128] inb_S1024x128_S256x128_512_0))) (View.ld x1 (Rect.unit (s := S4096x128) ![0, 0] ![4096, 128] inb_S4096x128_S4096x128_0_0)) :=
  fok x0 x1 2 0 rfl _ _

theorem fok21 : FOK (vq x0) (vk x1) 2 1 (fqW k0_pay2 (View.ld x0 (Rect.unit (s := S1024x128) ![512, 0] ![256, 128] inb_S1024x128_S256x128_512_0))) (View.ld x1 (Rect.unit (s := S4096x128) ![0, 0] ![4096, 128] inb_S4096x128_S4096x128_0_0)) :=
  fok x0 x1 2 1 rfl _ _

theorem fok30 : FOK (vq x0) (vk x1) 3 0 (fqW k0_pay1 (View.ld x0 (Rect.unit (s := S1024x128) ![768, 0] ![256, 128] inb_S1024x128_S256x128_768_0))) (View.ld x1 (Rect.unit (s := S4096x128) ![0, 0] ![4096, 128] inb_S4096x128_S4096x128_0_0)) :=
  fok x0 x1 3 0 rfl _ _

theorem fok31 : FOK (vq x0) (vk x1) 3 1 (fqW k0_pay2 (View.ld x0 (Rect.unit (s := S1024x128) ![768, 0] ![256, 128] inb_S1024x128_S256x128_768_0))) (View.ld x1 (Rect.unit (s := S4096x128) ![0, 0] ![4096, 128] inb_S4096x128_S4096x128_0_0)) :=
  fok x0 x1 3 1 rfl _ _

/-- The forward body leaves the block's output. -/
theorem out_3 : out0_3 x0 x1 x2 = G3 (vq x0) (vk x1) x2 := by
  funext y
  unfold out0_3
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, shapeCast_self]
  refine View.canon_append_of_piecesOf (G3 (vq x0) (vk x1) x2) [] [_, _, _, _] ⟨?_, ?_, ?_, ?_, trivial⟩ y (cover0_3 _ _ _ _ y)
  · exact piece_of inb_S1024x128_S256x128_768_0 (G := G3 (vq x0) (vk x1) x2) (rowQ 3) (fun c => c) (fun n => by simp only; omega) (fun d => by omega) fun i c => piece3 (fok30 x0 x1) (fok31 x0 x1) (fvok x2 _) (fvok x2 _) i c
  · exact piece_of inb_S1024x128_S256x128_512_0 (G := G3 (vq x0) (vk x1) x2) (rowQ 2) (fun c => c) (fun n => by simp only; omega) (fun d => by omega) fun i c => piece3 (fok20 x0 x1) (fok21 x0 x1) (fvok x2 _) (fvok x2 _) i c
  · exact piece_of inb_S1024x128_S256x128_256_0 (G := G3 (vq x0) (vk x1) x2) (rowQ 1) (fun c => c) (fun n => by simp only; omega) (fun d => by omega) fun i c => piece3 (fok10 x0 x1) (fok11 x0 x1) (fvok x2 _) (fvok x2 _) i c
  · exact piece_of inb_S1024x128_S256x128_0_0 (G := G3 (vq x0) (vk x1) x2) (rowQ 0) (fun c => c) (fun n => by simp only; omega) (fun d => by omega) fun i c => piece3 (fok00 x0 x1) (fok01 x0 x1) (fvok x2 _) (fvok x2 _) i c

/-- The forward body leaves the block's log-sum-exp. -/
theorem out_4 : out0_4 x0 x1 x2 = G4 (vq x0) (vk x1) := by
  funext y
  unfold out0_4
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, shapeCast_self]
  refine View.canon_append_of_piecesOf (G4 (vq x0) (vk x1)) [] [_, _, _, _] ⟨?_, ?_, ?_, ?_, trivial⟩ y (cover0_4 _ _ _ _ y)
  · exact piece_of inb_S1024x128_S256x128_768_0 (G := G4 (vq x0) (vk x1)) (rowQ 3) (fun c => c) (fun n => by simp only; omega) (fun d => by omega) fun i c => piece4 (fok30 x0 x1) (fok31 x0 x1) i c
  · exact piece_of inb_S1024x128_S256x128_512_0 (G := G4 (vq x0) (vk x1)) (rowQ 2) (fun c => c) (fun n => by simp only; omega) (fun d => by omega) fun i c => piece4 (fok20 x0 x1) (fok21 x0 x1) i c
  · exact piece_of inb_S1024x128_S256x128_256_0 (G := G4 (vq x0) (vk x1)) (rowQ 1) (fun c => c) (fun n => by simp only; omega) (fun d => by omega) fun i c => piece4 (fok10 x0 x1) (fok11 x0 x1) i c
  · exact piece_of inb_S1024x128_S256x128_0_0 (G := G4 (vq x0) (vk x1)) (rowQ 0) (fun c => c) (fun n => by simp only; omega) (fun d => by omega) fun i c => piece4 (fok00 x0 x1) (fok01 x0 x1) i c

end Fwd

end Cert.Gqa
-- ==== Proof.GqaBwd.lean ====
/-
  The grouped-query attention's backward body on a block of 1024 query rows: the queries' gradient of both heads, and
  what the block adds to the gradients of the keys and the values that all heads of the block share.
-/
module

public import proofs.«01_k».proof.Proof.GqaFwd

@[expose] public section

set_option maxRecDepth 16384

noncomputable section

open Idealize.ShloMosaic Idealize.ShloMosaic.TcCoe Idealize.SL.Sem
open Cert.Kernel3Ideal Cert.Kernel3Ideal.Gen
open Cert.Attn (lane row key headOf headOf_lane headV headV_lt headV_ge rowQ ld_at emb_at mk mk_apply dohW lseW dltW pW dsW dkW dkW_apply pW_ok dsW_ok SubOK KeyOK FOK piece_of sub_ok key_ok piece3 piece4 piece8 T6 T7 T8 G3 G4 G8 zeroW row_halves lane_chunks)

namespace Cert.Gqa

/-- Query rows with the other head's lanes at zero. -/
def bqW (m : IVec S1x128 1) (x : FVec Ideal S512x128 .bf16) : FVec Ideal S512x128 .bf16 :=
  select (broadcastTo S512x128 m broadcasts_S1x128_S512x128) x (broadcast S512x128 (Scalar.ofBits .bf16 0x0000#16))
/-- One term of the query gradient added, on the head's own lanes. -/
def mqW (m : IVec S1x128 1) (acc : FVec Ideal S512x128 .f32) (ds : FVec Ideal S512x1024 .bf16) (k : FVec Ideal S1024x128 .bf16) : FVec Ideal S512x128 .f32 :=
  addf acc (select (broadcastTo S512x128 m broadcasts_S1x128_S512x128) (matmul dot_S512x1024_S1024x128_S512x128_1_0_0_1_n_n none ds k (constant S512x128 .f32 0x00000000#32)) (broadcast S512x128 (Scalar.ofBits .f32 0x00000000#32)))

theorem bqW_apply (h : Fin 2) (x : FVec Ideal S512x128 .bf16) (i : Fin 512) (d : Fin 128) :
    bqW (mk h) x (ix2 i d) = if d.val / 64 = h.val then (x (ix2 i d) : EReal) else 0 := by
  pointwise [bqW]
  rw [mk_apply]
  split <;> rfl

theorem mqW_apply (h : Fin 2) (acc : FVec Ideal S512x128 .f32) (ds : FVec Ideal S512x1024 .bf16) (k : FVec Ideal S1024x128 .bf16) (i : Fin 512) (d : Fin 128) :
    mqW (mk h) acc ds k (ix2 i d) = (acc (ix2 i d) : EReal) + if d.val / 64 = h.val then ∑ n : Fin 1024, (ds (ix2 i n) : EReal) * k (ix2 n d) else 0 := by
  pointwise [mqW]
  rw [mk_apply]
  split <;> rfl

section

variable (x0 : Vec Ideal S1024x128 .bf16) (x1 : Vec Ideal S4096x128 .bf16) (x2 : Vec Ideal S4096x128 .bf16)
  (x3 : Vec Ideal S1024x128 .f32) (x4 : Vec Ideal S1024x128 .bf16) (x5 : Vec Ideal S1024x128 .f32)

/-- The loaded words of half `j` and head `h` of the block are the block's rows. -/
theorem sub_gqa (j h : Fin 2) {a : ℕ} (ha : a = j.val * 512) (i0) :
    SubOK (vq x0) x3 x4 x5 j h (bqW (mk h) (View.ld x0 (Rect.unit (s := S1024x128) ![a, 0] ![512, 128] i0)))
      (truncf .bf16 (dohW (mk h) (View.ld x3 (Rect.unit (s := S1024x128) ![a, 0] ![512, 128] i0))) bitsLt_bf16_f32)
      (lseW (mk h) (View.ld x5 (Rect.unit (s := S1024x128) ![a, 0] ![512, 128] i0)))
      (dltW (dohW (mk h) (View.ld x3 (Rect.unit (s := S1024x128) ![a, 0] ![512, 128] i0))) (View.ld x4 (Rect.unit (s := S1024x128) ![a, 0] ![512, 128] i0))) := by
  have S := sub_ok (vq x0) x3 x4 x5 j h ha rfl (fun k => by
    match k with
    | ⟨0, _⟩ => show a + 512 ≤ 1024; omega
    | ⟨1, _⟩ => show h.val * 128 + 128 ≤ 256; omega) i0 i0 i0
  refine ⟨fun i d => ?_, S.g, S.l, S.D⟩
  subst ha
  rw [bqW_apply, vq_lane, ld_at x0 i0 i d (row j i) d rfl (by omega)]

/-- The loaded words of key chunk `b` are the keys' and the values' rows, for either head. -/
theorem key_gqa (b : Fin 4) (h : Fin 2) {a : ℕ} (ha : a = b.val * 1024) (i1) :
    KeyOK (vk x1) x2 b h (View.ld x2 (Rect.unit (s := S4096x128) ![a, 0] ![1024, 128] i1)) (View.ld x1 (Rect.unit (s := S4096x128) ![a, 0] ![1024, 128] i1)) := by
  subst ha
  refine ⟨fun n d => ?_, fun n c => ld_at x2 i1 n c (key b n) c rfl (by omega)⟩
  rw [vk_lane]
  exact ld_at x1 i1 n d (key b n) d rfl (by omega)

theorem sub00 : SubOK (vq x0) x3 x4 x5 0 0 (bqW k1_pay3 (View.ld x0 (Rect.unit (s := S1024x128) ![0, 0] ![512, 128] inb_S1024x128_S512x128_0_0))) (truncf .bf16 (dohW k1_pay3 (View.ld x3 (Rect.unit (s := S1024x128) ![0, 0] ![512, 128] inb_S1024x128_S512x128_0_0))) bitsLt_bf16_f32) (lseW k1_pay3 (View.ld x5 (Rect.unit (s := S1024x128) ![0, 0] ![512, 128] inb_S1024x128_S512x128_0_0)))
      (dltW (dohW k1_pay3 (View.ld x3 (Rect.unit (s := S1024x128) ![0, 0] ![512, 128] inb_S1024x128_S512x128_0_0))) (View.ld x4 (Rect.unit (s := S1024x128) ![0, 0] ![512, 128] inb_S1024x128_S512x128_0_0))) :=
  sub_gqa x0 x3 x4 x5 0 0 rfl _

theorem sub01 : SubOK (vq x0) x3 x4 x5 0 1 (bqW k1_pay4 (View.ld x0 (Rect.unit (s := S1024x128) ![0, 0] ![512, 128] inb_S1024x128_S512x128_0_0))) (truncf .bf16 (dohW k1_pay4 (View.ld x3 (Rect.unit (s := S1024x128) ![0, 0] ![512, 128] inb_S1024x128_S512x128_0_0))) bitsLt_bf16_f32) (lseW k1_pay4 (View.ld x5 (Rect.unit (s := S1024x128) ![0, 0] ![512, 128] inb_S1024x128_S512x128_0_0)))
      (dltW (dohW k1_pay4 (View.ld x3 (Rect.unit (s := S1024x128) ![0, 0] ![512, 128] inb_S1024x128_S512x128_0_0))) (View.ld x4 (Rect.unit (s := S1024x128) ![0, 0] ![512, 128] inb_S1024x128_S512x128_0_0))) :=
  sub_gqa x0 x3 x4 x5 0 1 rfl _

theorem sub10 : SubOK (vq x0) x3 x4 x5 1 0 (bqW k1_pay3 (View.ld x0 (Rect.unit (s := S1024x128) ![512, 0] ![512, 128] inb_S1024x128_S512x128_512_0))) (truncf .bf16 (dohW k1_pay3 (View.ld x3 (Rect.unit (s := S1024x128) ![512, 0] ![512, 128] inb_S1024x128_S512x128_512_0))) bitsLt_bf16_f32) (lseW k1_pay3 (View.ld x5 (Rect.unit (s := S1024x128) ![512, 0] ![512, 128] inb_S1024x128_S512x128_512_0)))
      (dltW (dohW k1_pay3 (View.ld x3 (Rect.unit (s := S1024x128) ![512, 0] ![512, 128] inb_S1024x128_S512x128_512_0))) (View.ld x4 (Rect.unit (s := S1024x128) ![512, 0] ![512, 128] inb_S1024x128_S512x128_512_0))) :=
  sub_gqa x0 x3 x4 x5 1 0 rfl _

theorem sub11 : SubOK (vq x0) x3 x4 x5 1 1 (bqW k1_pay4 (View.ld x0 (Rect.unit (s := S1024x128) ![512, 0] ![512, 128] inb_S1024x128_S512x128_512_0))) (truncf .bf16 (dohW k1_pay4 (View.ld x3 (Rect.unit (s := S1024x128) ![512, 0] ![512, 128] inb_S1024x128_S512x128_512_0))) bitsLt_bf16_f32) (lseW k1_pay4 (View.ld x5 (Rect.unit (s := S1024x128) ![512, 0] ![512, 128] inb_S1024x128_S512x128_512_0)))
      (dltW (dohW k1_pay4 (View.ld x3 (Rect.unit (s := S1024x128) ![512, 0] ![512, 128] inb_S1024x128_S512x128_512_0))) (View.ld x4 (Rect.unit (s := S1024x128) ![512, 0] ![512, 128] inb_S1024x128_S512x128_512_0))) :=
  sub_gqa x0 x3 x4 x5 1 1 rfl _

theorem key00 : KeyOK (vk x1) x2 0 0 (View.ld x2 (Rect.unit (s := S4096x128) ![0, 0] ![1024, 128] inb_S4096x128_S1024x128_0_0)) (View.ld x1 (Rect.unit (s := S4096x128) ![0, 0] ![1024, 128] inb_S4096x128_S1024x128_0_0)) :=
  key_gqa x1 x2 0 0 rfl _

theorem key01 : KeyOK (vk x1) x2 0 1 (View.ld x2 (Rect.unit (s := S4096x128) ![0, 0] ![1024, 128] inb_S4096x128_S1024x128_0_0)) (View.ld x1 (Rect.unit (s := S4096x128) ![0, 0] ![1024, 128] inb_S4096x128_S1024x128_0_0)) :=
  key_gqa x1 x2 0 1 rfl _

theorem key10 : KeyOK (vk x1) x2 1 0 (View.ld x2 (Rect.unit (s := S4096x128) ![1024, 0] ![1024, 128] inb_S4096x128_S1024x128_1024_0)) (View.ld x1 (Rect.unit (s := S4096x128) ![1024, 0] ![1024, 128] inb_S4096x128_S1024x128_1024_0)) :=
  key_gqa x1 x2 1 0 rfl _

theorem key11 : KeyOK (vk x1) x2 1 1 (View.ld x2 (Rect.unit (s := S4096x128) ![1024, 0] ![1024, 128] inb_S4096x128_S1024x128_1024_0)) (View.ld x1 (Rect.unit (s := S4096x128) ![1024, 0] ![1024, 128] inb_S4096x128_S1024x128_1024_0)) :=
  key_gqa x1 x2 1 1 rfl _

theorem key20 : KeyOK (vk x1) x2 2 0 (View.ld x2 (Rect.unit (s := S4096x128) ![2048, 0] ![1024, 128] inb_S4096x128_S1024x128_2048_0)) (View.ld x1 (Rect.unit (s := S4096x128) ![2048, 0] ![1024, 128] inb_S4096x128_S1024x128_2048_0)) :=
  key_gqa x1 x2 2 0 rfl _

theorem key21 : KeyOK (vk x1) x2 2 1 (View.ld x2 (Rect.unit (s := S4096x128) ![2048, 0] ![1024, 128] inb_S4096x128_S1024x128_2048_0)) (View.ld x1 (Rect.unit (s := S4096x128) ![2048, 0] ![1024, 128] inb_S4096x128_S1024x128_2048_0)) :=
  key_gqa x1 x2 2 1 rfl _

theorem key30 : KeyOK (vk x1) x2 3 0 (View.ld x2 (Rect.unit (s := S4096x128) ![3072, 0] ![1024, 128] inb_S4096x128_S1024x128_3072_0)) (View.ld x1 (Rect.unit (s := S4096x128) ![3072, 0] ![1024, 128] inb_S4096x128_S1024x128_3072_0)) :=
  key_gqa x1 x2 3 0 rfl _

theorem key31 : KeyOK (vk x1) x2 3 1 (View.ld x2 (Rect.unit (s := S4096x128) ![3072, 0] ![1024, 128] inb_S4096x128_S1024x128_3072_0)) (View.ld x1 (Rect.unit (s := S4096x128) ![3072, 0] ![1024, 128] inb_S4096x128_S1024x128_3072_0)) :=
  key_gqa x1 x2 3 1 rfl _

/-- The query gradient of a block, as a matrix. -/
def G6 : Vec Ideal S1024x128 .f32 := fun y => T6 (vq x0) (vk x1) x2 x3 x4 x5 (y 0) (lane (headV (y 1)) (y 1))
/-- The key gradient after a block, `A` being what was held before it. -/
def G7 (A : Fin 4096 → Fin 128 → EReal) : Vec Ideal S4096x128 .f32 := fun y => A (y 0) (y 1) + T7 (vq x0) (vk x1) x2 x3 x4 x5 (y 0) (lane (headV (y 1)) (y 1))

end

section Pieces

variable {x0 : Vec Ideal S1024x128 .bf16} {x1 : Vec Ideal S4096x128 .bf16} {x2 : Vec Ideal S4096x128 .bf16}
  {x3 : Vec Ideal S1024x128 .f32} {x4 : Vec Ideal S1024x128 .bf16} {x5 : Vec Ideal S1024x128 .f32}

theorem half {d : Fin 128} (hd : d.val < 64) : (d.val / 64 = (0 : Fin 2).val) ∧ ¬ d.val / 64 = (1 : Fin 2).val := by
  constructor <;> simp only [Fin.val_zero, Fin.val_one] <;> omega
theorem half' {d : Fin 128} (hd : ¬ d.val < 64) : (d.val / 64 = (1 : Fin 2).val) ∧ ¬ d.val / 64 = (0 : Fin 2).val := by
  constructor <;> simp only [Fin.val_zero, Fin.val_one] <;> omega

/-- One stored piece of the query gradient: the four chunks of keys added up, each head on its own lanes. -/
theorem piece6 {j : Fin 2} {q g q' g' : FVec Ideal S512x128 .bf16} {l D l' D' : FVec Ideal S512x1 .f32}
    {v0 v1 v2 v3 k0 k1 k2 k3 w0 w1 w2 w3 m0 m1 m2 m3 : FVec Ideal S1024x128 .bf16} {Z Z' : FVec Ideal S512x128 .f32}
    (S : SubOK (vq x0) x3 x4 x5 j 0 q g l D) (S' : SubOK (vq x0) x3 x4 x5 j 1 q' g' l' D')
    (K0 : KeyOK (vk x1) x2 0 0 v0 k0) (K1 : KeyOK (vk x1) x2 1 0 v1 k1) (K2 : KeyOK (vk x1) x2 2 0 v2 k2) (K3 : KeyOK (vk x1) x2 3 0 v3 k3)
    (L0 : KeyOK (vk x1) x2 0 1 w0 m0) (L1 : KeyOK (vk x1) x2 1 1 w1 m1) (L2 : KeyOK (vk x1) x2 2 1 w2 m2) (L3 : KeyOK (vk x1) x2 3 1 w3 m3)
    (hZ : ∀ j, Z j = (0 : EReal)) (hZ' : ∀ j, Z' j = (0 : EReal)) (i : Fin 512) (d : Fin 128) :
    addf (mqW (mk 0) (mqW (mk 0) (mqW (mk 0) (mqW (mk 0) Z (dsW q g l D v0 k0) k0) (dsW q g l D v1 k1) k1) (dsW q g l D v2 k2) k2) (dsW q g l D v3 k3) k3)
        (mqW (mk 1) (mqW (mk 1) (mqW (mk 1) (mqW (mk 1) Z' (dsW q' g' l' D' w0 m0) m0) (dsW q' g' l' D' w1 m1) m1) (dsW q' g' l' D' w2 m2) m2) (dsW q' g' l' D' w3 m3) m3) (ix2 i d)
      = G6 x0 x1 x2 x3 x4 x5 (ix2 (row j i) d) := by
  show (mqW (mk 0) _ _ _ (ix2 i d) : EReal) + mqW (mk 1) _ _ _ (ix2 i d) = T6 (vq x0) (vk x1) x2 x3 x4 x5 (row j i) (lane (headV d) d)
  rw [mqW_apply, mqW_apply, mqW_apply, mqW_apply, mqW_apply, mqW_apply, mqW_apply, mqW_apply, hZ, hZ', T6, lane_chunks, headOf_lane, zero_add, zero_add]
  by_cases hd : d.val < 64
  · simp only [if_pos (half hd).1, if_neg (half hd).2, add_zero, headV_lt hd, dsW_ok S K0, dsW_ok S K1, dsW_ok S K2, dsW_ok S K3, K0.k, K1.k, K2.k, K3.k]
  · simp only [if_pos (half' hd).1, if_neg (half' hd).2, zero_add, add_zero, headV_ge hd, dsW_ok S' L0, dsW_ok S' L1, dsW_ok S' L2, dsW_ok S' L3, L0.k, L1.k, L2.k, L3.k]

/-- One stored piece of the key gradient: what was held plus the block's term, both heads and both halves added. -/
theorem piece7 {b : Fin 4} {q0 q1 g0 g1 q0' q1' g0' g1' : FVec Ideal S512x128 .bf16} {l0 l1 D0 D1 l0' l1' D0' D1' : FVec Ideal S512x1 .f32}
    {v0 v1 v0' v1' k0 k1 k0' k1' : FVec Ideal S1024x128 .bf16}
    {acc : FVec Ideal S1024x128 .f32} {A : Fin 4096 → Fin 128 → EReal}
    (S0 : SubOK (vq x0) x3 x4 x5 0 0 q0 g0 l0 D0) (K0 : KeyOK (vk x1) x2 b 0 v0 k0) (S1 : SubOK (vq x0) x3 x4 x5 0 1 q1 g1 l1 D1) (K1 : KeyOK (vk x1) x2 b 1 v1 k1)
    (S0' : SubOK (vq x0) x3 x4 x5 1 0 q0' g0' l0' D0') (K0' : KeyOK (vk x1) x2 b 0 v0' k0') (S1' : SubOK (vq x0) x3 x4 x5 1 1 q1' g1' l1' D1') (K1' : KeyOK (vk x1) x2 b 1 v1' k1')
    (hacc : ∀ n c, acc (ix2 n c) = A (key b n) c) (n : Fin 1024) (d : Fin 128) :
    dkW (dkW (dkW (dkW acc (dsW q0 g0 l0 D0 v0 k0) q0) (dsW q1 g1 l1 D1 v1 k1) q1) (dsW q0' g0' l0' D0' v0' k0') q0') (dsW q1' g1' l1' D1' v1' k1') q1' (ix2 n d)
      = G7 x0 x1 x2 x3 x4 x5 A (ix2 (key b n) d) := by
  show _ = A (key b n) d + T7 (vq x0) (vk x1) x2 x3 x4 x5 (key b n) (lane (headV d) d)
  rw [dkW_apply, dkW_apply, dkW_apply, dkW_apply, hacc, T7, row_halves, headOf_lane]
  by_cases hd : d.val < 64
  · simp only [S0.q, S1.q, S0'.q, S1'.q, vq_lane, if_pos (half hd).1, if_neg (half hd).2, mul_zero, Finset.sum_const_zero, add_zero, headV_lt hd, dsW_ok S0 K0, dsW_ok S0' K0', add_assoc]
  · simp only [S0.q, S1.q, S0'.q, S1'.q, vq_lane, if_pos (half' hd).1, if_neg (half' hd).2, mul_zero, Finset.sum_const_zero, add_zero, headV_ge hd, dsW_ok S1 K1, dsW_ok S1' K1', add_assoc]

/-- A second store to the rectangle just stored leaves only the second. -/
theorem canon_pair {s : Shape} {e : EltTy} {G : s.Idx → Elt Ideal e} {r : Rect s}
    {w w' : r.shape.Idx → Elt Ideal e} {L : List (View.Piece (Elt Ideal) s e)} {y : s.Idx}
    (h : ∀ x, w x = G (r.emb x)) (hL : y ∉ r.set → View.canon L y = G y) : View.canon (⟨r, w⟩ :: ⟨r, w'⟩ :: L) y = G y := by
  by_cases hy : y ∈ r.set
  · obtain ⟨x, hx⟩ := r.exists_idx_of_mem hy
    have e1 := View.canon_cons_emb r w (⟨r, w'⟩ :: L) x
    rw [show r.emb x = y from hx] at e1
    rw [e1, h, show r.emb x = y from hx]
  · exact ((View.canon_cons_of_not_mem ⟨r, w⟩ (⟨r, w'⟩ :: L) hy).trans (View.canon_cons_of_not_mem ⟨r, w'⟩ L hy)).trans (hL hy)

/-- The four chunks' rectangles together are the whole block. -/
theorem chunks (y : S4096x128.Idx) (h3 : y ∉ (Rect.unit (s := S4096x128) ![3072, 0] S1024x128.size inb_S4096x128_S1024x128_3072_0).set)
    (h2 : y ∉ (Rect.unit (s := S4096x128) ![2048, 0] S1024x128.size inb_S4096x128_S1024x128_2048_0).set)
    (h1 : y ∉ (Rect.unit (s := S4096x128) ![1024, 0] S1024x128.size inb_S4096x128_S1024x128_1024_0).set)
    (h0 : y ∉ (Rect.unit (s := S4096x128) ![0, 0] S1024x128.size inb_S4096x128_S1024x128_0_0).set) : False := by
  obtain ⟨pc, hpc, hy⟩ := View.cover_of_tiledL (Val := Elt Ideal) (s := S4096x128) (e := .f32)
    [⟨Rect.unit (s := S4096x128) ![3072, 0] S1024x128.size inb_S4096x128_S1024x128_3072_0, fun _ => (0 : EReal)⟩,
     ⟨Rect.unit (s := S4096x128) ![2048, 0] S1024x128.size inb_S4096x128_S1024x128_2048_0, fun _ => (0 : EReal)⟩,
     ⟨Rect.unit (s := S4096x128) ![1024, 0] S1024x128.size inb_S4096x128_S1024x128_1024_0, fun _ => (0 : EReal)⟩,
     ⟨Rect.unit (s := S4096x128) ![0, 0] S1024x128.size inb_S4096x128_S1024x128_0_0, fun _ => (0 : EReal)⟩] ![1024, 128] (by sl_kernel_rfl) y
  simp only [List.mem_cons, List.not_mem_nil, or_false] at hpc
  rcases hpc with rfl | rfl | rfl | rfl
  · exact h3 hy
  · exact h2 hy
  · exact h1 hy
  · exact h0 hy

end Pieces

set_option maxHeartbeats 4000000 in
/-- A later grid point leaves the block's query gradient. -/
theorem out_B_6 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : ¬cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) (xo7 xo8 : Vec Ideal S4096x128 .f32) :
    out1_B_6 c i arg2 harg2 arg3 harg3 arg4 harg4 arg5 harg5 arg6 harg6 arg7 harg7 arg8 harg8 arg9 harg9 arg10 harg10 hc0 x0 x1 x2 x3 x4 x5 xo7 xo8 = G6 x0 x1 x2 x3 x4 x5 := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine View.canon_append_of_piecesOf (G6 x0 x1 x2 x3 x4 x5) [] [_, _] ⟨?_, ?_, trivial⟩ y (View.cover_of_tiledL _ ![512, 128] (by sl_kernel_rfl) y)
  · exact piece_of inb_S1024x128_S512x128_512_0 (G := G6 x0 x1 x2 x3 x4 x5) (row 1) (fun d => d) (fun n => by simp only; omega) (fun d => by omega) fun n d => piece6 (sub10 x0 x3 x4 x5) (sub11 x0 x3 x4 x5) (key00 x1 x2) (key10 x1 x2) (key20 x1 x2) (key30 x1 x2) (key01 x1 x2) (key11 x1 x2) (key21 x1 x2) (key31 x1 x2) zeroW zeroW n d
  · exact piece_of inb_S1024x128_S512x128_0_0 (G := G6 x0 x1 x2 x3 x4 x5) (row 0) (fun d => d) (fun n => by simp only; omega) (fun d => by omega) fun n d => piece6 (sub00 x0 x3 x4 x5) (sub01 x0 x3 x4 x5) (key00 x1 x2) (key10 x1 x2) (key20 x1 x2) (key30 x1 x2) (key01 x1 x2) (key11 x1 x2) (key21 x1 x2) (key31 x1 x2) zeroW zeroW n d

set_option maxHeartbeats 4000000 in
/-- The first grid point leaves the block's query gradient. -/
theorem out_A_6 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) :
    out1_A_6 c i arg2 harg2 arg3 harg3 arg4 harg4 arg5 harg5 arg6 harg6 arg7 harg7 arg8 harg8 arg9 harg9 arg10 harg10 hc0 x0 x1 x2 x3 x4 x5 = G6 x0 x1 x2 x3 x4 x5 := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine View.canon_append_of_piecesOf (G6 x0 x1 x2 x3 x4 x5) [] [_, _] ⟨?_, ?_, trivial⟩ y (View.cover_of_tiledL _ ![512, 128] (by sl_kernel_rfl) y)
  · exact piece_of inb_S1024x128_S512x128_512_0 (G := G6 x0 x1 x2 x3 x4 x5) (row 1) (fun d => d) (fun n => by simp only; omega) (fun d => by omega) fun n d => piece6 (sub10 x0 x3 x4 x5) (sub11 x0 x3 x4 x5) (key00 x1 x2) (key10 x1 x2) (key20 x1 x2) (key30 x1 x2) (key01 x1 x2) (key11 x1 x2) (key21 x1 x2) (key31 x1 x2) zeroW zeroW n d
  · exact piece_of inb_S1024x128_S512x128_0_0 (G := G6 x0 x1 x2 x3 x4 x5) (row 0) (fun d => d) (fun n => by simp only; omega) (fun d => by omega) fun n d => piece6 (sub00 x0 x3 x4 x5) (sub01 x0 x3 x4 x5) (key00 x1 x2) (key10 x1 x2) (key20 x1 x2) (key30 x1 x2) (key01 x1 x2) (key11 x1 x2) (key21 x1 x2) (key31 x1 x2) zeroW zeroW n d

set_option maxHeartbeats 4000000 in
/-- A later grid point leaves the block's key gradient, added to what was held. -/
theorem out_B_7 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : ¬cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) (xo7 xo8 : Vec Ideal S4096x128 .f32) :
    out1_B_7 c i arg2 harg2 arg3 harg3 arg4 harg4 arg5 harg5 arg6 harg6 arg7 harg7 arg8 harg8 arg9 harg9 arg10 harg10 hc0 x0 x1 x2 x3 x4 x5 xo7 xo8 = G7 x0 x1 x2 x3 x4 x5 (fun n l => xo7 (ix2 n l)) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine canon_pair (G := G7 x0 x1 x2 x3 x4 x5 (fun n l => xo7 (ix2 n l))) ?_ fun h3 => canon_pair (G := G7 x0 x1 x2 x3 x4 x5 (fun n l => xo7 (ix2 n l))) ?_ fun h2 => canon_pair (G := G7 x0 x1 x2 x3 x4 x5 (fun n l => xo7 (ix2 n l))) ?_ fun h1 => canon_pair (G := G7 x0 x1 x2 x3 x4 x5 (fun n l => xo7 (ix2 n l))) ?_ fun h0 => (chunks y h3 h2 h1 h0).elim
  · exact piece_of inb_S4096x128_S1024x128_3072_0 (G := G7 x0 x1 x2 x3 x4 x5 (fun n l => xo7 (ix2 n l))) (key 3) (fun d => d) (fun n => by simp only; omega) (fun d => by omega) fun n d => piece7 (A := (fun n l => xo7 (ix2 n l))) (sub00 x0 x3 x4 x5) (key30 x1 x2) (sub01 x0 x3 x4 x5) (key31 x1 x2) (sub10 x0 x3 x4 x5) (key30 x1 x2) (sub11 x0 x3 x4 x5) (key31 x1 x2) (fun n d => ld_at xo7 _ n d (key 3 n) d (by simp only; omega) (by omega)) n d
  · exact piece_of inb_S4096x128_S1024x128_2048_0 (G := G7 x0 x1 x2 x3 x4 x5 (fun n l => xo7 (ix2 n l))) (key 2) (fun d => d) (fun n => by simp only; omega) (fun d => by omega) fun n d => piece7 (A := (fun n l => xo7 (ix2 n l))) (sub00 x0 x3 x4 x5) (key20 x1 x2) (sub01 x0 x3 x4 x5) (key21 x1 x2) (sub10 x0 x3 x4 x5) (key20 x1 x2) (sub11 x0 x3 x4 x5) (key21 x1 x2) (fun n d => ld_at xo7 _ n d (key 2 n) d (by simp only; omega) (by omega)) n d
  · exact piece_of inb_S4096x128_S1024x128_1024_0 (G := G7 x0 x1 x2 x3 x4 x5 (fun n l => xo7 (ix2 n l))) (key 1) (fun d => d) (fun n => by simp only; omega) (fun d => by omega) fun n d => piece7 (A := (fun n l => xo7 (ix2 n l))) (sub00 x0 x3 x4 x5) (key10 x1 x2) (sub01 x0 x3 x4 x5) (key11 x1 x2) (sub10 x0 x3 x4 x5) (key10 x1 x2) (sub11 x0 x3 x4 x5) (key11 x1 x2) (fun n d => ld_at xo7 _ n d (key 1 n) d (by simp only; omega) (by omega)) n d
  · exact piece_of inb_S4096x128_S1024x128_0_0 (G := G7 x0 x1 x2 x3 x4 x5 (fun n l => xo7 (ix2 n l))) (key 0) (fun d => d) (fun n => by simp only; omega) (fun d => by omega) fun n d => piece7 (A := (fun n l => xo7 (ix2 n l))) (sub00 x0 x3 x4 x5) (key00 x1 x2) (sub01 x0 x3 x4 x5) (key01 x1 x2) (sub10 x0 x3 x4 x5) (key00 x1 x2) (sub11 x0 x3 x4 x5) (key01 x1 x2) (fun n d => ld_at xo7 _ n d (key 0 n) d (by simp only; omega) (by omega)) n d

set_option maxHeartbeats 4000000 in
/-- The first grid point leaves the block's key gradient. -/
theorem out_A_7 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) :
    out1_A_7 c i arg2 harg2 arg3 harg3 arg4 harg4 arg5 harg5 arg6 harg6 arg7 harg7 arg8 harg8 arg9 harg9 arg10 harg10 hc0 x0 x1 x2 x3 x4 x5 = G7 x0 x1 x2 x3 x4 x5 (fun _ _ => 0) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine canon_pair (G := G7 x0 x1 x2 x3 x4 x5 (fun _ _ => 0)) ?_ fun h3 => canon_pair (G := G7 x0 x1 x2 x3 x4 x5 (fun _ _ => 0)) ?_ fun h2 => canon_pair (G := G7 x0 x1 x2 x3 x4 x5 (fun _ _ => 0)) ?_ fun h1 => canon_pair (G := G7 x0 x1 x2 x3 x4 x5 (fun _ _ => 0)) ?_ fun h0 => (chunks y h3 h2 h1 h0).elim
  · exact piece_of inb_S4096x128_S1024x128_3072_0 (G := G7 x0 x1 x2 x3 x4 x5 (fun _ _ => 0)) (key 3) (fun d => d) (fun n => by simp only; omega) (fun d => by omega) fun n d => piece7 (A := (fun _ _ => 0)) (sub00 x0 x3 x4 x5) (key30 x1 x2) (sub01 x0 x3 x4 x5) (key31 x1 x2) (sub10 x0 x3 x4 x5) (key30 x1 x2) (sub11 x0 x3 x4 x5) (key31 x1 x2) (fun n d => zeroW _) n d
  · exact piece_of inb_S4096x128_S1024x128_2048_0 (G := G7 x0 x1 x2 x3 x4 x5 (fun _ _ => 0)) (key 2) (fun d => d) (fun n => by simp only; omega) (fun d => by omega) fun n d => piece7 (A := (fun _ _ => 0)) (sub00 x0 x3 x4 x5) (key20 x1 x2) (sub01 x0 x3 x4 x5) (key21 x1 x2) (sub10 x0 x3 x4 x5) (key20 x1 x2) (sub11 x0 x3 x4 x5) (key21 x1 x2) (fun n d => zeroW _) n d
  · exact piece_of inb_S4096x128_S1024x128_1024_0 (G := G7 x0 x1 x2 x3 x4 x5 (fun _ _ => 0)) (key 1) (fun d => d) (fun n => by simp only; omega) (fun d => by omega) fun n d => piece7 (A := (fun _ _ => 0)) (sub00 x0 x3 x4 x5) (key10 x1 x2) (sub01 x0 x3 x4 x5) (key11 x1 x2) (sub10 x0 x3 x4 x5) (key10 x1 x2) (sub11 x0 x3 x4 x5) (key11 x1 x2) (fun n d => zeroW _) n d
  · exact piece_of inb_S4096x128_S1024x128_0_0 (G := G7 x0 x1 x2 x3 x4 x5 (fun _ _ => 0)) (key 0) (fun d => d) (fun n => by simp only; omega) (fun d => by omega) fun n d => piece7 (A := (fun _ _ => 0)) (sub00 x0 x3 x4 x5) (key00 x1 x2) (sub01 x0 x3 x4 x5) (key01 x1 x2) (sub10 x0 x3 x4 x5) (key00 x1 x2) (sub11 x0 x3 x4 x5) (key01 x1 x2) (fun n d => zeroW _) n d

set_option maxHeartbeats 4000000 in
/-- A later grid point leaves the block's value gradient, added to what was held. -/
theorem out_B_8 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : ¬cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) (xo7 xo8 : Vec Ideal S4096x128 .f32) :
    out1_B_8 c i arg2 harg2 arg3 harg3 arg4 harg4 arg5 harg5 arg6 harg6 arg7 harg7 arg8 harg8 arg9 harg9 arg10 harg10 hc0 x0 x1 x2 x3 x4 x5 xo7 xo8 = G8 (vq x0) (vk x1) x3 x5 (fun n l => xo8 (ix2 n l)) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread, harg9.read_unread, harg10.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine View.canon_append_of_piecesOf (G8 (vq x0) (vk x1) x3 x5 (fun n l => xo8 (ix2 n l))) (_ :: _) [_, _, _, _] ⟨?_, ?_, ?_, ?_, trivial⟩ y (View.cover_of_tiledL _ ![1024, 128] (by sl_kernel_rfl) y)
  · exact piece_of inb_S4096x128_S1024x128_3072_0 (G := G8 (vq x0) (vk x1) x3 x5 (fun n l => xo8 (ix2 n l))) (key 3) (fun d => d) (fun n => by simp only; omega) (fun d => by omega) fun n d => piece8 (A := (fun n l => xo8 (ix2 n l))) (sub00 x0 x3 x4 x5) (key30 x1 x2) (sub01 x0 x3 x4 x5) (key31 x1 x2) (sub10 x0 x3 x4 x5) (key30 x1 x2) (sub11 x0 x3 x4 x5) (key31 x1 x2) zeroW zeroW (fun n d => ld_at xo8 _ n d (key 3 n) d (by simp only; omega) (by omega)) n d
  · exact piece_of inb_S4096x128_S1024x128_2048_0 (G := G8 (vq x0) (vk x1) x3 x5 (fun n l => xo8 (ix2 n l))) (key 2) (fun d => d) (fun n => by simp only; omega) (fun d => by omega) fun n d => piece8 (A := (fun n l => xo8 (ix2 n l))) (sub00 x0 x3 x4 x5) (key20 x1 x2) (sub01 x0 x3 x4 x5) (key21 x1 x2) (sub10 x0 x3 x4 x5) (key20 x1 x2) (sub11 x0 x3 x4 x5) (key21 x1 x2) zeroW zeroW (fun n d => ld_at xo8 _ n d (key 2 n) d (by simp only; omega) (by omega)) n d
  · exact piece_of inb_S4096x128_S1024x128_1024_0 (G := G8 (vq x0) (vk x1) x3 x5 (fun n l => xo8 (ix2 n l))) (key 1) (fun d => d) (fun n => by simp only; omega) (fun d => by omega) fun n d => piece8 (A := (fun n l => xo8 (ix2 n l))) (sub00 x0 x3 x4 x5) (key10 x1 x2) (sub01 x0 x3 x4 x5) (key11 x1 x2) (sub10 x0 x3 x4 x5) (key10 x1 x2) (sub11 x0 x3 x4 x5) (key11 x1 x2) zeroW zeroW (fun n d => ld_at xo8 _ n d (key 1 n) d (by simp only; omega) (by omega)) n d
  · exact piece_of inb_S4096x128_S1024x128_0_0 (G := G8 (vq x0) (vk x1) x3 x5 (fun n l => xo8 (ix2 n l))) (key 0) (fun d => d) (fun n => by simp only; omega) (fun d => by omega) fun n d => piece8 (A := (fun n l => xo8 (ix2 n l))) (sub00 x0 x3 x4 x5) (key00 x1 x2) (sub01 x0 x3 x4 x5) (key01 x1 x2) (sub10 x0 x3 x4 x5) (key00 x1 x2) (sub11 x0 x3 x4 x5) (key01 x1 x2) zeroW zeroW (fun n d => ld_at xo8 _ n d (key 0 n) d (by simp only; omega) (by omega)) n d

set_option maxHeartbeats 4000000 in
/-- The first grid point leaves the block's value gradient. -/
theorem out_A_8 (c : Dev nD) (i : grid1.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x128 .f32) (harg9 : arg9.IsWhole) (arg10 : Memref sig .tc .vmem S4096x128 .f32) (harg10 : arg10.IsWhole) (hc0 : cond1_0 i)
    (x0 : Vec Ideal S1024x128 .bf16) (x1 : Vec Ideal S4096x128 .bf16) (x2 : Vec Ideal S4096x128 .bf16) (x3 : Vec Ideal S1024x128 .f32) (x4 : Vec Ideal S1024x128 .bf16) (x5 : Vec Ideal S1024x128 .f32) :
    out1_A_8 c i arg2 harg2 arg3 harg3 arg4 harg4 arg5 harg5 arg6 harg6 arg7 harg7 arg8 harg8 arg9 harg9 arg10 harg10 hc0 x0 x1 x2 x3 x4 x5 = G8 (vq x0) (vk x1) x3 x5 (fun _ _ => 0) := by
  funext y
  frame_open
  rw [View.read_writes_junk_eq_canon]
  simp (disch := decide) only [↓ View.readCov_skip, ↓ View.readCov_cons_toLoadRect, ↓ View.readCov_fill]
  simp only [View.readAt_eq_ld, harg2.read_unread, harg3.read_unread, harg4.read_unread, harg5.read_unread, harg6.read_unread, harg7.read_unread]
  simp only [k1_pay1, k1_pay2, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, k1_pay125, k1_pay126, k1_pay127, k1_pay128, k1_pay129, k1_pay130, k1_pay131, k1_pay132, k1_pay133, k1_pay134, k1_pay135, k1_pay136, k1_pay137, k1_pay138, k1_pay139, k1_pay140, k1_pay141, k1_pay142, k1_pay143, k1_pay144, k1_pay145, shapeCast_self]
  refine View.canon_append_of_piecesOf (G8 (vq x0) (vk x1) x3 x5 (fun _ _ => 0)) (_ :: _) [_, _, _, _] ⟨?_, ?_, ?_, ?_, trivial⟩ y (View.cover_of_tiledL _ ![1024, 128] (by sl_kernel_rfl) y)
  · exact piece_of inb_S4096x128_S1024x128_3072_0 (G := G8 (vq x0) (vk x1) x3 x5 (fun _ _ => 0)) (key 3) (fun d => d) (fun n => by simp only; omega) (fun d => by omega) fun n d => piece8 (A := (fun _ _ => 0)) (sub00 x0 x3 x4 x5) (key30 x1 x2) (sub01 x0 x3 x4 x5) (key31 x1 x2) (sub10 x0 x3 x4 x5) (key30 x1 x2) (sub11 x0 x3 x4 x5) (key31 x1 x2) zeroW zeroW (fun n d => zeroW _) n d
  · exact piece_of inb_S4096x128_S1024x128_2048_0 (G := G8 (vq x0) (vk x1) x3 x5 (fun _ _ => 0)) (key 2) (fun d => d) (fun n => by simp only; omega) (fun d => by omega) fun n d => piece8 (A := (fun _ _ => 0)) (sub00 x0 x3 x4 x5) (key20 x1 x2) (sub01 x0 x3 x4 x5) (key21 x1 x2) (sub10 x0 x3 x4 x5) (key20 x1 x2) (sub11 x0 x3 x4 x5) (key21 x1 x2) zeroW zeroW (fun n d => zeroW _) n d
  · exact piece_of inb_S4096x128_S1024x128_1024_0 (G := G8 (vq x0) (vk x1) x3 x5 (fun _ _ => 0)) (key 1) (fun d => d) (fun n => by simp only; omega) (fun d => by omega) fun n d => piece8 (A := (fun _ _ => 0)) (sub00 x0 x3 x4 x5) (key10 x1 x2) (sub01 x0 x3 x4 x5) (key11 x1 x2) (sub10 x0 x3 x4 x5) (key10 x1 x2) (sub11 x0 x3 x4 x5) (key11 x1 x2) zeroW zeroW (fun n d => zeroW _) n d
  · exact piece_of inb_S4096x128_S1024x128_0_0 (G := G8 (vq x0) (vk x1) x3 x5 (fun _ _ => 0)) (key 0) (fun d => d) (fun n => by simp only; omega) (fun d => by omega) fun n d => piece8 (A := (fun _ _ => 0)) (sub00 x0 x3 x4 x5) (key00 x1 x2) (sub01 x0 x3 x4 x5) (key01 x1 x2) (sub10 x0 x3 x4 x5) (key00 x1 x2) (sub11 x0 x3 x4 x5) (key01 x1 x2) zeroW zeroW (fun n d => zeroW _) n d

end Cert.Gqa
-- ==== Proof.GqaSpec.lean ====
/-
  The grouped-query attention head by head over the reals: four heads, two of them on one head of keys and values.
-/
module

public import proofs.«01_k».proof.Proof.Softmax
public import Idealize.ShloMosaic.Lib.Pipeline.Value
public import Idealize.ShloMosaic.Lib.Pipeline.ValueKit

@[expose] public section

noncomputable section

open Idealize.ShloMosaic
open Cert.Attn (softmax sumExp)

namespace Cert.Gqa

/-- Head `p` of the two that read the keys' head `K`. -/
abbrev hd (K p : Fin 2) : Fin 4 := ⟨K.val * 2 + p.val, by omega⟩
/-- The keys' head that a head reads. -/
abbrev kv (h : Fin 4) : Fin 2 := ⟨h.val / 2, by omega⟩
/-- The head of a column of the heads' row: first the first head of each pair, then the second. -/
abbrev hC (C : Fin 256) : Fin 4 := ⟨C.val % 128 / 64 * 2 + C.val / 128, by omega⟩
/-- Its lane. -/
abbrev eC (C : Fin 256) : Fin 64 := ⟨C.val % 64, by omega⟩
/-- The head of a column of the keys' row. -/
abbrev kC (c : Fin 128) : Fin 2 := ⟨c.val / 64, by omega⟩
/-- Its lane. -/
abbrev lC (c : Fin 128) : Fin 64 := ⟨c.val % 64, by omega⟩

theorem kv_hd (K p : Fin 2) : kv (hd K p) = K := Fin.ext (by simp only; omega)

variable (sc : ℝ) (q : Fin 4096 → Fin 4 → Fin 64 → ℝ) (k v : Fin 4096 → Fin 2 → Fin 64 → ℝ) (g : Fin 4096 → Fin 4 → Fin 64 → ℝ)

/-- The scaled score of query `i` and key `n`. -/
def zS (h : Fin 4) (i n : Fin 4096) : ℝ := (∑ d : Fin 64, q i h d * k n (kv h) d) * sc
/-- The probabilities. -/
def zP (h : Fin 4) (i n : Fin 4096) : ℝ := softmax (zS sc q k h i) n
/-- The gradient of the probabilities. -/
def zDP (h : Fin 4) (i n : Fin 4096) : ℝ := ∑ e : Fin 64, g i h e * v n (kv h) e
/-- The gradient of the scaled scores. -/
def zDS (h : Fin 4) (i n : Fin 4096) : ℝ := zP sc q k h i n * (zDP v g h i n - ∑ m : Fin 4096, zP sc q k h i m * zDP v g h i m)
/-- The output. -/
def zO (i : Fin 4096) (h : Fin 4) (e : Fin 64) : ℝ := ∑ n : Fin 4096, zP sc q k h i n * v n (kv h) e
/-- The queries' gradient, before the scale. -/
def zDQ (i : Fin 4096) (h : Fin 4) (d : Fin 64) : ℝ := ∑ n : Fin 4096, zDS sc q k v g h i n * k n (kv h) d
/-- The keys' gradient: both heads that read them. -/
def zDK (n : Fin 4096) (K : Fin 2) (d : Fin 64) : ℝ := ∑ p : Fin 2, ∑ i : Fin 4096, zDS sc q k v g (hd K p) i n * (q i (hd K p) d * sc)
/-- The values' gradient. -/
def zDV (n : Fin 4096) (K : Fin 2) (e : Fin 64) : ℝ := ∑ p : Fin 2, ∑ i : Fin 4096, zP sc q k (hd K p) i n * g i (hd K p) e

/-- The arguments and the scale constant are these reals. -/
structure Args (sc : ℝ) (q : Fin 4096 → Fin 4 → Fin 64 → ℝ) (k v : Fin 4096 → Fin 2 → Fin 64 → ℝ) (g : Fin 4096 → Fin 4 → Fin 64 → ℝ)
    (x0 : FVec Ideal ⟨3, ![4096, 4, 64]⟩ .f32) (x1 x2 : FVec Ideal ⟨3, ![4096, 2, 64]⟩ .f32) (x3 : FVec Ideal ⟨3, ![4096, 4, 64]⟩ .f32) : Prop where
  c : Ideal.ofBits .f32 0x3E000000#32 = (sc : EReal)
  q : ∀ i h d, x0 (ix3 i h d) = (q i h d : EReal)
  k : ∀ i h d, x1 (ix3 i h d) = (k i h d : EReal)
  v : ∀ i h e, x2 (ix3 i h e) = (v i h e : EReal)
  g : ∀ i h e, x3 (ix3 i h e) = (g i h e : EReal)

end Cert.Gqa
-- ==== Proof.GqaValue.lean ====
/-
  The grouped-query attention calls' result arrays over real operands, head by head, the accumulation over the whole grid
  included.
-/
module

public import proofs.«01_k».proof.Proof.GqaBwd
public import proofs.«01_k».proof.Proof.GqaSpec
public import proofs.«01_k».proof.Proof.RealBlock

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen
open Cert.Attn (softmax sumExp coe_sum coe_dot lane headOf headV G3 G4 G8 T6 T7 T8 rS rP rG rDP rDS RealIn RealBwd G3_real G4_real T6_real T7_real T8_real)

namespace Cert.Gqa

/-- Column `c` of pair `p` in the heads' row. -/
abbrev po (p : Fin 2) (c : Fin 128) : Fin 256 := ⟨p.val * 128 + c.val, by omega⟩
/-- Row `i` of row block `s`. -/
abbrev rr (s : Fin 4) (i : Fin 1024) : Fin 4096 := ⟨s.val * 1024 + i.val, by omega⟩
/-- The heads' row inside the array of all cotangents. -/
abbrev gl (C : Fin 256) : Fin 1024 := ⟨768 + C.val, by omega⟩

theorem hC_po (p : Fin 2) (c : Fin 128) : hC (po p c) = hd (headV c) p := Fin.ext (by simp only; omega)
theorem eC_po (p : Fin 2) (c : Fin 128) : eC (po p c) = lC c := Fin.ext (by simp only; omega)

section Spec

variable (sc : ℝ) (q : Fin 4096 → Fin 4 → Fin 64 → ℝ) (k v : Fin 4096 → Fin 2 → Fin 64 → ℝ) (g : Fin 4096 → Fin 4 → Fin 64 → ℝ) (p : Fin 2) (s : Fin 4)

/-- The queries' block of pair `p` and row block `s`, each head's zero outside its own lanes. -/
def X0 (i : Fin 1024) (l : Fin 256) : ℝ :=
  if l.val % 128 / 64 = l.val / 128 then q (rr s i) (hd (headOf l) p) ⟨l.val % 64, by omega⟩ * sc else 0
/-- The keys, once for each head. -/
def X1 (n : Fin 4096) (l : Fin 256) : ℝ := k n ⟨l.val % 128 / 64, by omega⟩ ⟨l.val % 64, by omega⟩
/-- The values. -/
def X2 (n : Fin 4096) (c : Fin 128) : ℝ := v n (kC c) (lC c)
/-- The output gradient's block. -/
def X3 (i : Fin 1024) (c : Fin 128) : ℝ := g (rr s i) (hd (headV c) p) (lC c)

/-- Lane `e` of head `h` in the shared row. -/
abbrev own (h : Fin 2) (e : Fin 64) : Fin 128 := ⟨h.val * 64 + e.val, by omega⟩

/-- A sum over the shared row of what is zero outside head `h`'s lanes is the sum over these. -/
theorem sum_own (f : Fin 128 → ℝ) (h : Fin 2) (hf : ∀ c : Fin 128, ¬ c.val / 64 = h.val → f c = 0) : ∑ c : Fin 128, f c = ∑ e : Fin 64, f (own h e) := by
  rw [← Fin.sum_mul_add_fin 2 64 f, Finset.sum_eq_single h]
  · intro h' _ hne
    exact Finset.sum_eq_zero fun e _ => hf _ fun e' => hne (Fin.ext (by simp only at e'; omega))
  · exact fun hn => absurd (Finset.mem_univ _) hn

theorem rS_eq (h : Fin 2) (i : Fin 1024) (n : Fin 4096) : rS (X0 sc q p s) (X1 k) h i n = zS sc q k (hd h p) (rr s i) n := by
  unfold rS zS
  rw [sum_own (fun d => X0 sc q p s i (lane h d) * X1 k n (lane h d)) h, Finset.sum_mul]
  · refine Finset.sum_congr rfl fun e _ => ?_
    unfold X0 X1
    rw [if_pos (by simp only; omega)]
    have e1 : headOf (lane h (own h e)) = h := Fin.ext (by simp only; omega)
    have e2 : (⟨(lane h (own h e)).val % 64, by omega⟩ : Fin 64) = e := Fin.ext (by simp only; omega)
    have e3 : (⟨(lane h (own h e)).val % 128 / 64, by omega⟩ : Fin 2) = h := Fin.ext (by simp only; omega)
    rw [e1, e2, e3, kv_hd]
    ring
  · intro c hc
    unfold X0
    rw [if_neg (fun e => hc (by simp only at e; omega)), zero_mul]

theorem rP_eq (h : Fin 2) (i : Fin 1024) (n : Fin 4096) : rP (X0 sc q p s) (X1 k) h i n = zP sc q k (hd h p) (rr s i) n := by
  rw [rP, zP, show rS (X0 sc q p s) (X1 k) h i = zS sc q k (hd h p) (rr s i) from funext fun n => rS_eq sc q k p s h i n]

theorem rDP_eq (h : Fin 2) (i : Fin 1024) (n : Fin 4096) : rDP (X2 v) (X3 g p s) h i n = zDP v g (hd h p) (rr s i) n := by
  unfold rDP zDP
  rw [sum_own (fun c => rG (X3 g p s) h i c * X2 v n c) h]
  · refine Finset.sum_congr rfl fun e _ => ?_
    rw [rG, if_pos (by simp only; omega)]
    unfold X3 X2
    have e1 : headV (own h e) = h := Fin.ext (by simp only; omega)
    have e2 : lC (own h e) = e := Fin.ext (by simp only; omega)
    have e3 : kC (own h e) = h := Fin.ext (by simp only; omega)
    rw [e1, e2, e3, kv_hd]
  · intro c hc
    rw [rG, if_neg hc, zero_mul]

theorem rDS_eq (h : Fin 2) (i : Fin 1024) (n : Fin 4096) :
    rDS (X0 sc q p s) (X1 k) (X2 v) (X3 g p s) h i n = zDS sc q k v g (hd h p) (rr s i) n := by
  simp only [rDS, zDS, rDP_eq, rP_eq]

/-- The four row blocks together are all rows. -/
theorem rows_sum (f : Fin 4096 → ℝ) : ∑ s : Fin 4, ∑ i : Fin 1024, f (rr s i) = ∑ r : Fin 4096, f r :=
  Fin.sum_mul_add_fin 4 1024 f

theorem X0_own (i : Fin 1024) (c : Fin 128) : X0 sc q p s i (lane (headV c) c) = q (rr s i) (hd (headV c) p) (lC c) * sc := by
  unfold X0
  rw [if_pos (by simp only; omega)]
  have e1 : headOf (lane (headV c) c) = headV c := Fin.ext (by simp only; omega)
  have e2 : (⟨(lane (headV c) c).val % 64, by omega⟩ : Fin 64) = lC c := Fin.ext (by simp only; omega)
  rw [e1, e2]

theorem X1_own (n : Fin 4096) (c : Fin 128) : X1 k n (lane (headV c) c) = k n (kC c) (lC c) := by
  unfold X1
  have e2 : (⟨(lane (headV c) c).val % 64, by omega⟩ : Fin 64) = lC c := Fin.ext (by simp only; omega)
  have e3 : (⟨(lane (headV c) c).val % 128 / 64, by omega⟩ : Fin 2) = kC c := Fin.ext (by simp only; omega)
  rw [e2, e3]

end Spec

/-- The grid point's row block and pair, for every window of the forward call. -/
theorem idx0 : ∀ t : Fin cfg0.N, win0_0.index t = ![t.val % 4, t.val / 4] ∧ win0_1.index t = ![0, 0] ∧ win0_2.index t = ![0, 0]
    ∧ win0_3.index t = ![t.val % 4, t.val / 4] ∧ win0_4.index t = ![t.val % 4, t.val / 4] :=
  (by decide +kernel : ∀ t : Fin grid0.N, _)

/-- The same of the backward call. -/
theorem idx1 : ∀ t : Fin cfg1.N, win1_0.index t = ![t.val % 4, t.val / 4] ∧ win1_1.index t = ![0, 0] ∧ win1_2.index t = ![0, 0]
    ∧ win1_3.index t = ![t.val % 4, 6 + t.val / 4] ∧ win1_4.index t = ![t.val % 4, t.val / 4] ∧ win1_5.index t = ![t.val % 4, t.val / 4]
    ∧ win1_6.index t = ![t.val % 4, t.val / 4] ∧ win1_7.index t = ![0, 0] ∧ win1_8.index t = ![0, 0] :=
  (by decide +kernel : ∀ t : Fin grid1.N, _)

/-- The operands of the forward call are real. -/
structure FwdIn (sc : ℝ) (q : Fin 4096 → Fin 4 → Fin 64 → ℝ) (k v : Fin 4096 → Fin 2 → Fin 64 → ℝ)
    (V : (c : Dev nD) → (b : Ref sig .tc) → Buf (Elt Ideal) ((c : Thread nD τ).loc b)) (c : Dev nD) : Prop where
  a0 : ∀ r C, V c main_v5 (ix2 r C) = ((q r (hC C) (eC C) * sc : ℝ) : EReal)
  a1 : ∀ n d, V c main_v7 (ix2 n d) = (k n (kC d) (lC d) : EReal)
  a2 : ∀ n d, V c main_v9 (ix2 n d) = (v n (kC d) (lC d) : EReal)

/-- The operands of the backward call are real, the output and the log-sum-exp being the forward call's. -/
structure BwdIn (sc : ℝ) (q : Fin 4096 → Fin 4 → Fin 64 → ℝ) (k v : Fin 4096 → Fin 2 → Fin 64 → ℝ) (g : Fin 4096 → Fin 4 → Fin 64 → ℝ)
    (V : (c : Dev nD) → (b : Ref sig .tc) → Buf (Elt Ideal) ((c : Thread nD τ).loc b)) (c : Dev nD) : Prop extends FwdIn sc q k v V c where
  a3 : ∀ r C, V c main_v14 (ix2 r (gl C)) = (g r (hC C) (eC C) : EReal)
  a4 : ∀ r C, V c main_v15_0 (ix2 r C) = (zO sc q k v r (hC C) (eC C) : EReal)
  a5 : ∀ r C, V c main_v15_1 (ix2 r C) = (Real.log (sumExp (zS sc q k (hC C) r)) : EReal)

variable {sc : ℝ} {q : Fin 4096 → Fin 4 → Fin 64 → ℝ} {k v : Fin 4096 → Fin 2 → Fin 64 → ℝ} {g : Fin 4096 → Fin 4 → Fin 64 → ℝ}
  {V : (c : Dev nD) → (b : Ref sig .tc) → Buf (Elt Ideal) ((c : Thread nD τ).loc b)} {c : Dev nD}

/-- The pair at a grid point. -/
abbrev pt0 (t : Fin cfg0.N) : Fin 2 := ⟨t.val / 4, by have := t.isLt; have : cfg0.N = 8 := N_0; omega⟩
/-- The row block at a grid point. -/
abbrev st0 (t : Fin cfg0.N) : Fin 4 := ⟨t.val % 4, by omega⟩
abbrev pt1 (t : Fin cfg1.N) : Fin 2 := ⟨t.val / 4, by have := t.isLt; have : cfg1.N = 8 := N_1; omega⟩
abbrev st1 (t : Fin cfg1.N) : Fin 4 := ⟨t.val % 4, by omega⟩

/-- Blocks of real queries and keys are real when read as two heads of 128 lanes each. -/
theorem virtual {p : Fin 2} {s : Fin 4} {x0 : Vec Ideal S1024x128 .bf16} {x1 x2 : Vec Ideal S4096x128 .bf16}
    (h0 : ∀ i d, x0 (ix2 i d) = ((q (rr s i) (hC (po p d)) (eC (po p d)) * sc : ℝ) : EReal))
    (h1 : ∀ n d, x1 (ix2 n d) = (k n (kC d) (lC d) : EReal)) (h2 : ∀ n d, x2 (ix2 n d) = (v n (kC d) (lC d) : EReal)) :
    RealIn (X0 sc q p s) (X1 k) (X2 v) (vq x0) (vk x1) x2 := by
  refine ⟨fun i l => ?_, fun n l => ?_, fun n d => h2 n d⟩
  · show (if l.val % 128 / 64 = l.val / 128 then x0 (ix2 i ⟨l.val % 128, _⟩) else (0 : EReal)) = _
    unfold X0
    split
    · rename_i hl
      rw [h0]
      have e1 : hC (po p ⟨l.val % 128, Nat.mod_lt _ (by decide)⟩) = hd (headOf l) p := Fin.ext (by simp only; omega)
      have e2 : eC (po p ⟨l.val % 128, Nat.mod_lt _ (by decide)⟩) = ⟨l.val % 64, by omega⟩ := Fin.ext (by simp only; omega)
      rw [e1, e2]
    · rfl
  · show x1 (ix2 n ⟨l.val % 128, _⟩) = _
    rw [h1, X1]
    have e2 : lC ⟨l.val % 128, Nat.mod_lt _ (by decide)⟩ = ⟨l.val % 64, by omega⟩ := Fin.ext (by simp only; omega)
    rw [e2]

/-- The blocks at a grid point are real. -/
theorem blk0 (H : FwdIn sc q k v V c) (t : Fin cfg0.N) :
    RealIn (X0 sc q (pt0 t) (st0 t)) (X1 k) (X2 v) (vq (iblk0 V c 0 t)) (vk (iblk0 V c 1 t)) (iblk0 V c 2 t) := by
  have hN : cfg0.N = 8 := N_0
  have ht := t.isLt
  refine virtual (fun i d => ?_) (fun n d => ?_) fun n d => ?_
  · rw [← H.a0]
    blk_ext [iblk0, idx0 t]
  · rw [← H.a1]
    blk_ext [iblk0, idx0 t]
  · rw [← H.a2]
    blk_ext [iblk0, idx0 t]

/-- The forward call's output array. -/
theorem final0_3 (H : FwdIn sc q k v V c) :
    (dat0 V c).arrAt 3 cfg0.N = fun y => (zO sc q k v (y 0) (hC (y 1)) (eC (y 1)) : EReal) := by
  have hN : cfg0.N = 8 := N_0
  refine (dat0 V c).arrAt_eq_of_cover 3 _ (fun t _ => ?_) fun i => ?_
  · show (cfg0.win 3).cut (grid0.coords t) ((dat0 V c).after 3 t) = _
    rw [after0_3, out_3]
    funext y
    obtain ⟨a, b, e⟩ : ∃ a b, y = ix2 a b := ⟨y 0, y 1, eq_ix2 y⟩
    have ha : a.val < 1024 := a.isLt
    have hb : b.val < 128 := b.isLt
    have ht := t.isLt
    have e0 : (win0_3.blk t).view.emb (ix2 a b) 0 = rr (st0 t) a := Fin.ext (by blk_simp [idx0 t])
    have e1 : (win0_3.blk t).view.emb (ix2 a b) 1 = po (pt0 t) b := Fin.ext (by blk_simp [idx0 t])
    rw [e]
    refine (G3_real (blk0 H t) a b).trans ?_
    show _ = (zO sc q k v ((win0_3.blk t).view.emb (ix2 a b) 0) (hC ((win0_3.blk t).view.emb (ix2 a b) 1)) (eC ((win0_3.blk t).view.emb (ix2 a b) 1)) : EReal)
    rw [e0, e1, hC_po, eC_po]
    simp only [rP_eq, zO, X2, kv_hd]
  · have h0 : (i 0).val < 4096 := (i 0).isLt
    have h1 : (i 1).val < 256 := (i 1).isLt
    refine ⟨⟨(i 1).val / 128 * 4 + (i 0).val / 1024, by omega⟩, flush0_3 _, ?_⟩
    mem_blk [idx0]
    simp only
    omega

/-- The forward call's log-sum-exp array. -/
theorem final0_4 (H : FwdIn sc q k v V c) :
    (dat0 V c).arrAt 4 cfg0.N = fun y => (Real.log (sumExp (zS sc q k (hC (y 1)) (y 0))) : EReal) := by
  have hN : cfg0.N = 8 := N_0
  refine (dat0 V c).arrAt_eq_of_cover 4 _ (fun t _ => ?_) fun i => ?_
  · show (cfg0.win 4).cut (grid0.coords t) ((dat0 V c).after 4 t) = _
    rw [after0_4, out_4]
    funext y
    obtain ⟨a, b, e⟩ : ∃ a b, y = ix2 a b := ⟨y 0, y 1, eq_ix2 y⟩
    have ha : a.val < 1024 := a.isLt
    have hb : b.val < 128 := b.isLt
    have ht := t.isLt
    have e0 : (win0_4.blk t).view.emb (ix2 a b) 0 = rr (st0 t) a := Fin.ext (by blk_simp [idx0 t])
    have e1 : (win0_4.blk t).view.emb (ix2 a b) 1 = po (pt0 t) b := Fin.ext (by blk_simp [idx0 t])
    rw [e]
    refine (G4_real (blk0 H t) a b).trans ?_
    show _ = (Real.log (sumExp (zS sc q k (hC ((win0_4.blk t).view.emb (ix2 a b) 1)) ((win0_4.blk t).view.emb (ix2 a b) 0))) : EReal)
    rw [e0, e1, hC_po, show rS (X0 sc q (pt0 t) (st0 t)) (X1 k) (headV b) a = zS sc q k (hd (headV b) (pt0 t)) (rr (st0 t) a) from funext fun n => rS_eq sc q k _ _ _ _ n]
  · have h0 : (i 0).val < 4096 := (i 0).isLt
    have h1 : (i 1).val < 256 := (i 1).isLt
    refine ⟨⟨(i 1).val / 128 * 4 + (i 0).val / 1024, by omega⟩, flush0_4 _, ?_⟩
    mem_blk [idx0]
    simp only
    omega

/-- The backward blocks at a grid point are real. -/
theorem blk1 (H : BwdIn sc q k v g V c) (t : Fin cfg1.N) :
    RealBwd (X0 sc q (pt1 t) (st1 t)) (X1 k) (X2 v) (X3 g (pt1 t) (st1 t))
      (vq (iblk1 V c 0 t)) (vk (iblk1 V c 1 t)) (iblk1 V c 2 t) (iblk1 V c 3 t) (iblk1 V c 4 t) (iblk1 V c 5 t) := by
  have hN : cfg1.N = 8 := N_1
  have ht := t.isLt
  refine ⟨virtual (fun i d => ?_) (fun n d => ?_) fun n d => ?_, fun i d => ?_, fun i d => ?_, fun i d => ?_⟩
  · rw [← H.a0]
    blk_ext [iblk1, idx1 t]
  · rw [← H.a1]
    blk_ext [iblk1, idx1 t]
  · rw [← H.a2]
    blk_ext [iblk1, idx1 t]
  · rw [X3, ← hC_po, ← eC_po (pt1 t), ← H.a3]
    blk_ext [iblk1, idx1 t]
  · have e := H.a4 (rr (st1 t) i) (po (pt1 t) d)
    rw [hC_po, eC_po] at e
    simp only [zO, kv_hd] at e
    simp only [rP_eq, X2]
    refine Eq.trans ?_ e
    blk_ext [iblk1, idx1 t]
  · have e := H.a5 (rr (st1 t) i) (po (pt1 t) d)
    rw [hC_po] at e
    rw [show rS (X0 sc q (pt1 t) (st1 t)) (X1 k) (headV d) i = zS sc q k (hd (headV d) (pt1 t)) (rr (st1 t) i) from funext fun n => rS_eq sc q k _ _ _ _ n]
    refine Eq.trans ?_ e
    blk_ext [iblk1, idx1 t]

/-- What the queries' gradient buffer holds after a grid point. -/
theorem acc6 (H : BwdIn sc q k v g V c) (t : Fin cfg1.N) (i : Fin 1024) (d : Fin 128) :
    (outsAt1 V c t.val t.isLt).1 (ix2 i d) = (zDQ sc q k v g (rr (st1 t) i) (hC (po (pt1 t) d)) (eC (po (pt1 t) d)) : EReal) := by
  have e : (outsAt1 V c t.val t.isLt).1 = G6 (iblk1 V c 0 t) (iblk1 V c 1 t) (iblk1 V c 2 t) (iblk1 V c 3 t) (iblk1 V c 4 t) (iblk1 V c 5 t) := by
    by_cases h0 : t.val % 8 = 0
    · rw [outsAt1_A V c t h0]
      dsimp only
      rw [out_A_6]
    · rw [outsAt1_B V c t h0]
      dsimp only
      rw [out_B_6]
  rw [e, hC_po, eC_po]
  refine (T6_real (blk1 H t) i (lane (headV d) d)).trans ?_
  simp only [rDS_eq, zDQ, X1_own, Cert.Attn.headOf_lane, kv_hd]

/-- What a grid point adds to the keys' gradient. -/
theorem term7 (H : BwdIn sc q k v g V c) (t : Fin cfg1.N) (n : Fin 4096) (d : Fin 128) :
    T7 (vq (iblk1 V c 0 t)) (vk (iblk1 V c 1 t)) (iblk1 V c 2 t) (iblk1 V c 3 t) (iblk1 V c 4 t) (iblk1 V c 5 t) n (lane (headV d) d)
      = ((∑ i : Fin 1024, zDS sc q k v g (hd (headV d) (pt1 t)) (rr (st1 t) i) n * (q (rr (st1 t) i) (hd (headV d) (pt1 t)) (lC d) * sc) : ℝ) : EReal) := by
  rw [T7_real (blk1 H t)]
  simp only [rDS_eq, X0_own, Cert.Attn.headOf_lane]

/-- What a grid point adds to the values' gradient. -/
theorem term8 (H : BwdIn sc q k v g V c) (t : Fin cfg1.N) (n : Fin 4096) (d : Fin 128) :
    T8 (vq (iblk1 V c 0 t)) (vk (iblk1 V c 1 t)) (iblk1 V c 3 t) (iblk1 V c 5 t) n d
      = ((∑ i : Fin 1024, zP sc q k (hd (headV d) (pt1 t)) (rr (st1 t) i) n * g (rr (st1 t) i) (hd (headV d) (pt1 t)) (lC d) : ℝ) : EReal) := by
  rw [T8_real (blk1 H t)]
  simp only [rP_eq, X3]

/-- The grid's points, pair by pair. -/
theorem points_sum (f : Fin 8 → ℝ) : ∑ t : Fin 8, f t = ∑ p : Fin 2, ∑ s : Fin 4, f ⟨p.val * 4 + s.val, by omega⟩ :=
  (Fin.sum_mul_add_fin 2 4 f).symm

/-- The sum over the grid's points of what each adds is the sum over pairs and rows. -/
theorem grid_sum (t : Fin cfg1.N) (f : Fin 2 → Fin 4096 → ℝ) (hb : ∀ s : Fin 8, 8 * (t.val / 8) + s.val < cfg1.N) :
    ∑ s : Fin 8, ∑ i : Fin 1024, f (pt1 ⟨8 * (t.val / 8) + s.val, hb s⟩) (rr (st1 ⟨8 * (t.val / 8) + s.val, hb s⟩) i) = ∑ p : Fin 2, ∑ r : Fin 4096, f p r := by
  have hN : cfg1.N = 8 := N_1
  have ht := t.isLt
  rw [points_sum]
  refine Finset.sum_congr rfl fun p _ => ?_
  rw [← rows_sum]
  refine Finset.sum_congr rfl fun s _ => ?_
  have e1 : pt1 ⟨8 * (t.val / 8) + (p.val * 4 + s.val), hb ⟨p.val * 4 + s.val, by omega⟩⟩ = p := Fin.ext (by simp only; omega)
  have e2 : st1 ⟨8 * (t.val / 8) + (p.val * 4 + s.val), hb ⟨p.val * 4 + s.val, by omega⟩⟩ = s := Fin.ext (by simp only; omega)
  simp only [e1, e2]

/-- What the keys' gradient buffer holds when it is written back. -/
theorem acc7 (H : BwdIn sc q k v g V c) (t : Fin cfg1.N) (hf : t.val % 8 = 7) (n : Fin 4096) (d : Fin 128) :
    (outsAt1 V c t.val t.isLt).2.1 (ix2 n d) = (zDK sc q k v g n (kC d) (lC d) : EReal) := by
  have e := Pipeline.eq_sum_fin_of_reset_step_apply_of_flush (fun n h => (outsAt1 V c n h).2.1) 8 (fun _ => (0 : EReal))
    (fun t y => T7 (vq (iblk1 V c 0 t)) (vk (iblk1 V c 1 t)) (iblk1 V c 2 t) (iblk1 V c 3 t) (iblk1 V c 4 t) (iblk1 V c 5 t) (y 0) (lane (headV (y 1)) (y 1)))
    (fun t h j => by
      rw [outsAt1_A V c t h]
      dsimp only
      rw [out_A_7, G7])
    (fun t h j => by
      rw [outsAt1_B V c t h]
      dsimp only
      rw [out_B_7, G7, ← eq_ix2 j]) t hf (ix2 n d)
  refine e.trans ?_
  rw [zero_add]
  refine (Finset.sum_congr rfl fun s _ => term7 H _ n d).trans ?_
  rw [coe_sum]
  exact congrArg _ (grid_sum t (fun p r => zDS sc q k v g (hd (headV d) p) r n * (q r (hd (headV d) p) (lC d) * sc)) _)

/-- What the values' gradient buffer holds when it is written back. -/
theorem acc8 (H : BwdIn sc q k v g V c) (t : Fin cfg1.N) (hf : t.val % 8 = 7) (n : Fin 4096) (d : Fin 128) :
    (outsAt1 V c t.val t.isLt).2.2 (ix2 n d) = (zDV sc q k g n (kC d) (lC d) : EReal) := by
  have e := Pipeline.eq_sum_fin_of_reset_step_apply_of_flush (fun n h => (outsAt1 V c n h).2.2) 8 (fun _ => (0 : EReal))
    (fun t y => T8 (vq (iblk1 V c 0 t)) (vk (iblk1 V c 1 t)) (iblk1 V c 3 t) (iblk1 V c 5 t) (y 0) (y 1))
    (fun t h j => by
      rw [outsAt1_A V c t h]
      dsimp only
      rw [out_A_8, G8])
    (fun t h j => by
      rw [outsAt1_B V c t h]
      dsimp only
      rw [out_B_8, G8, ← eq_ix2 j]) t hf (ix2 n d)
  refine e.trans ?_
  rw [zero_add]
  refine (Finset.sum_congr rfl fun s _ => term8 H _ n d).trans ?_
  rw [coe_sum]
  exact congrArg _ (grid_sum t (fun p r => zP sc q k (hd (headV d) p) r n * g r (hd (headV d) p) (lC d)) _)

/-- The queries' gradient array. -/
theorem final1_6 (H : BwdIn sc q k v g V c) :
    (dat1 V c).arrAt 6 cfg1.N = fun y => (zDQ sc q k v g (y 0) (hC (y 1)) (eC (y 1)) : EReal) := by
  have hN : cfg1.N = 8 := N_1
  refine (dat1 V c).arrAt_eq_of_cover 6 _ (fun t hf => ?_) fun i => ?_
  · show (cfg1.win 6).cut (grid1.coords t) ((dat1 V c).after 6 t) = _
    rw [after1_6]
    funext y
    obtain ⟨a, b, e⟩ : ∃ (a : Fin 1024) (b : Fin 128), y = ix2 a b := ⟨y 0, y 1, eq_ix2 y⟩
    have ha := a.isLt
    have hb := b.isLt
    have ht := t.isLt
    have e0 : (win1_6.blk t).view.emb (ix2 a b) 0 = rr (st1 t) a := Fin.ext (by blk_simp [idx1 t])
    have e1 : (win1_6.blk t).view.emb (ix2 a b) 1 = po (pt1 t) b := Fin.ext (by blk_simp [idx1 t])
    rw [e]
    refine (acc6 H t a b).trans ?_
    show _ = (zDQ sc q k v g ((win1_6.blk t).view.emb (ix2 a b) 0) (hC ((win1_6.blk t).view.emb (ix2 a b) 1)) (eC ((win1_6.blk t).view.emb (ix2 a b) 1)) : EReal)
    rw [e0, e1]
  · have h0 : (i 0).val < 4096 := (i 0).isLt
    have h1 : (i 1).val < 256 := (i 1).isLt
    refine ⟨⟨(i 1).val / 128 * 4 + (i 0).val / 1024, by omega⟩, flush1_6 _, ?_⟩
    mem_blk [idx1]
    simp only
    omega

/-- The keys' gradient array. -/
theorem final1_7 (H : BwdIn sc q k v g V c) :
    (dat1 V c).arrAt 7 cfg1.N = fun y => (zDK sc q k v g (y 0) (kC (y 1)) (lC (y 1)) : EReal) := by
  have hN : cfg1.N = 8 := N_1
  refine (dat1 V c).arrAt_eq_of_cover 7 _ (fun t hf => ?_) fun i => ?_
  · show (cfg1.win 7).cut (grid1.coords t) ((dat1 V c).after 7 t) = _
    rw [after1_7]
    funext y
    obtain ⟨a, b, e⟩ : ∃ (a : Fin 4096) (b : Fin 128), y = ix2 a b := ⟨y 0, y 1, eq_ix2 y⟩
    have ha := a.isLt
    have hb := b.isLt
    have ht := t.isLt
    have e0 : (win1_7.blk t).view.emb (ix2 a b) 0 = a := Fin.ext (by blk_simp [idx1 t])
    have e1 : (win1_7.blk t).view.emb (ix2 a b) 1 = b := Fin.ext (by blk_simp [idx1 t])
    rw [e]
    refine (acc7 H t ((flush1_7 t).mp hf) a b).trans ?_
    show _ = (zDK sc q k v g ((win1_7.blk t).view.emb (ix2 a b) 0) (kC ((win1_7.blk t).view.emb (ix2 a b) 1)) (lC ((win1_7.blk t).view.emb (ix2 a b) 1)) : EReal)
    rw [e0, e1]
  · have h0 : (i 0).val < 4096 := (i 0).isLt
    have h1 : (i 1).val < 128 := (i 1).isLt
    refine ⟨⟨(i 1).val / 128 + 7, by omega⟩, (flush1_7 _).mpr (by simp only; omega), ?_⟩
    mem_blk [idx1]
    omega

/-- The values' gradient array. -/
theorem final1_8 (H : BwdIn sc q k v g V c) :
    (dat1 V c).arrAt 8 cfg1.N = fun y => (zDV sc q k g (y 0) (kC (y 1)) (lC (y 1)) : EReal) := by
  have hN : cfg1.N = 8 := N_1
  refine (dat1 V c).arrAt_eq_of_cover 8 _ (fun t hf => ?_) fun i => ?_
  · show (cfg1.win 8).cut (grid1.coords t) ((dat1 V c).after 8 t) = _
    rw [after1_8]
    funext y
    obtain ⟨a, b, e⟩ : ∃ (a : Fin 4096) (b : Fin 128), y = ix2 a b := ⟨y 0, y 1, eq_ix2 y⟩
    have ha := a.isLt
    have hb := b.isLt
    have ht := t.isLt
    have e0 : (win1_8.blk t).view.emb (ix2 a b) 0 = a := Fin.ext (by blk_simp [idx1 t])
    have e1 : (win1_8.blk t).view.emb (ix2 a b) 1 = b := Fin.ext (by blk_simp [idx1 t])
    rw [e]
    refine (acc8 H t ((flush1_8 t).mp hf) a b).trans ?_
    show _ = (zDV sc q k g ((win1_8.blk t).view.emb (ix2 a b) 0) (kC ((win1_8.blk t).view.emb (ix2 a b) 1)) (lC ((win1_8.blk t).view.emb (ix2 a b) 1)) : EReal)
    rw [e0, e1]
  · have h0 : (i 0).val < 4096 := (i 0).isLt
    have h1 : (i 1).val < 128 := (i 1).isLt
    refine ⟨⟨(i 1).val / 128 + 7, by omega⟩, (flush1_8 _).mpr (by simp only; omega), ?_⟩
    mem_blk [idx1]
    omega

end Cert.Gqa
-- ==== Proof.GqaKernel.lean ====
/-
  The grouped-query attention's program: what the host code prepares for the two calls, and the four results over the
  reals.
-/
module

public import proofs.«01_k».proof.Proof.GqaValue
public import Idealize.ShloMosaic.Lib.StableHlo.Run
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen
open Cert.Attn (softmax sumExp)

namespace Cert.Gqa

/-- The heads side by side: first the first head of each pair, then the second. -/
def prW (x : FVec Ideal S4096x4x64 .f32) : FVec Ideal S4096x256 .f32 :=
  shapeCast S4096x256 (transpose S4096x2x2x64 [0, 2, 1, 3] (shapeCast S4096x2x2x64 x shapeCasts_S4096x4x64_S4096x2x2x64) transposes_S4096x2x2x64_S4096x2x2x64_0_2_1_3) shapeCasts_S4096x2x2x64_S4096x256
/-- The queries' operand: scaled, in the kernel's element type. -/
def qW (x : FVec Ideal S4096x4x64 .f32) : FVec Ideal S4096x256 .bf16 :=
  truncf .bf16 (mulf (prW x) (broadcastInDim S4096x256 ![] bcast_S_S4096x256 (constant S_ .f32 0x3E000000#32))) bitsLt_bf16_f32
/-- The keys' and the values' operand. -/
def kW (x : FVec Ideal S4096x2x64 .f32) : FVec Ideal S4096x128 .bf16 := truncf .bf16 (shapeCast S4096x128 x shapeCasts_S4096x2x64_S4096x128) bitsLt_bf16_f32
/-- The output's gradient, after lanes of zero. -/
def gW (x : FVec Ideal S4096x4x64 .f32) : FVec Ideal S4096x1024 .f32 :=
  concatenate S4096x1024 1 [⟨S4096x768, broadcastInDim S4096x768 ![] bcast_S_S4096x768 (constant S_ .f32 0x00000000#32)⟩, ⟨S4096x256, prW x⟩] concatenates_S4096x768_S4096x256_S4096x1024_d1

theorem split_apply (x : FVec Ideal S4096x4x64 .f32) (r : Fin 4096) (K p : Fin 2) (e : Fin 64) :
    shapeCast S4096x2x2x64 x shapeCasts_S4096x4x64_S4096x2x2x64 (ix4 r K p e) = x (ix3 r (hd K p) e) := by
  pointwise
theorem swap_apply (x : FVec Ideal S4096x2x2x64 .f32) (r : Fin 4096) (K p : Fin 2) (e : Fin 64) :
    transpose S4096x2x2x64 [0, 2, 1, 3] x transposes_S4096x2x2x64_S4096x2x2x64_0_2_1_3 (ix4 r p K e) = x (ix4 r K p e) := by
  pointwise
theorem join_apply (x : FVec Ideal S4096x2x2x64 .f32) (r : Fin 4096) (C : Fin 256) :
    shapeCast S4096x256 x shapeCasts_S4096x2x2x64_S4096x256 (ix2 r C) = x (ix4 r ⟨C.val / 128, by omega⟩ ⟨C.val % 128 / 64, by omega⟩ (eC C)) := by
  pointwise
  rw [show (⟨C.val % 128 / 64, by omega⟩ : Fin 2) = ⟨C.val / 64 % 2, by omega⟩ from Fin.ext (by simp only; omega)]
theorem prW_apply (x : FVec Ideal S4096x4x64 .f32) (r : Fin 4096) (C : Fin 256) : prW x (ix2 r C) = x (ix3 r (hC C) (eC C)) := by
  rw [prW, join_apply, swap_apply, split_apply]
theorem qW_apply (x : FVec Ideal S4096x4x64 .f32) (j : S4096x256.Idx) : qW x j = (prW x j : EReal) * Ideal.ofBits .f32 0x3E000000#32 := rfl
theorem kW_apply (x : FVec Ideal S4096x2x64 .f32) (r : Fin 4096) (c : Fin 128) : kW x (ix2 r c) = x (ix3 r (kC c) (lC c)) := by
  pointwise [kW]
theorem gW_apply (x : FVec Ideal S4096x4x64 .f32) (r : Fin 4096) (C : Fin 256) : gW x (ix2 r (gl C)) = prW x (ix2 r C) := by
  pointwise [gW]
theorem scaled_apply (x : FVec Ideal S4096x256 .f32) (j : S4096x256.Idx) :
    mulf (F := Ideal) x (broadcastInDim S4096x256 ![] bcast_S_S4096x256 (constant S_ .f32 0x3E000000#32)) j = (x j : EReal) * Ideal.ofBits .f32 0x3E000000#32 := rfl

variable (m : (ℓ : Loc nD τ sig) → Buf (Elt Ideal) ℓ) (ρ : Dev nD → PrngReg) (c : Dev nD)

theorem V1_q : V1 m ρ c main_v5 = qW (m ((c : Thread nD τ).loc main_arg0)) := by
  show W1 m ρ c (Proc.devRef .tc main_v5) = _
  simp only [W1, hostOps0, StableHlo.TRef.binary, StableHlo.TRef.unary, StableHlo.TRef.toBuf, StableHlo.TRef.ofBuf, cast_eq]
  after_results_simp <;> rfl

theorem V1_k : V1 m ρ c main_v7 = kW (m ((c : Thread nD τ).loc main_arg1)) := by
  show W1 m ρ c (Proc.devRef .tc main_v7) = _
  simp only [W1, hostOps0, StableHlo.TRef.binary, StableHlo.TRef.unary, StableHlo.TRef.toBuf, StableHlo.TRef.ofBuf, cast_eq]
  after_results_simp <;> rfl

theorem V1_v : V1 m ρ c main_v9 = kW (m ((c : Thread nD τ).loc main_arg2)) := by
  show W1 m ρ c (Proc.devRef .tc main_v9) = _
  simp only [W1, hostOps0, StableHlo.TRef.binary, StableHlo.TRef.unary, StableHlo.TRef.toBuf, StableHlo.TRef.ofBuf, cast_eq]
  after_results_simp <;> rfl

theorem V1_g : V1 m ρ c main_v14 = gW (m ((c : Thread nD τ).loc main_arg3)) := by
  show W1 m ρ c (Proc.devRef .tc main_v14) = _
  simp only [W1, hostOps0, StableHlo.TRef.binary, StableHlo.TRef.unary, StableHlo.TRef.toBuf, StableHlo.TRef.ofBuf, cast_eq]
  after_results_simp <;> rfl

theorem W4_dq : W4 m ρ c (Proc.devRef .tc main_v18)
    = mulf (F := Ideal) (s := S4096x256) (φ := .f32) (W3 m ρ c (Proc.devRef .tc main_v16_0)) (broadcastInDim S4096x256 ![] bcast_S_S4096x256 (constant S_ .f32 0x3E000000#32)) := by
  after_results_simp <;> rfl

/-- The launch memory's arguments are these reals. -/
abbrev ArgsAt (sc : ℝ) (q : Fin 4096 → Fin 4 → Fin 64 → ℝ) (k v : Fin 4096 → Fin 2 → Fin 64 → ℝ) (g : Fin 4096 → Fin 4 → Fin 64 → ℝ) : Prop :=
  Args sc q k v g (m ((c : Thread nD τ).loc main_arg0)) (m ((c : Thread nD τ).loc main_arg1)) (m ((c : Thread nD τ).loc main_arg2)) (m ((c : Thread nD τ).loc main_arg3))

variable {m c} {sc : ℝ} {q : Fin 4096 → Fin 4 → Fin 64 → ℝ} {k v : Fin 4096 → Fin 2 → Fin 64 → ℝ} {g : Fin 4096 → Fin 4 → Fin 64 → ℝ}

/-- What the forward call is given. -/
theorem fwdIn (A : ArgsAt m c sc q k v g) : FwdIn sc q k v (V1 m ρ) c where
  a0 r C := by rw [V1_q, qW_apply, prW_apply, A.q, A.c, ← EReal.coe_mul]
  a1 r C := by rw [V1_k, kW_apply, A.k]
  a2 r C := by rw [V1_v, kW_apply, A.v]

/-- What the backward call is given. -/
theorem bwdIn (A : ArgsAt m c sc q k v g) : BwdIn sc q k v g (V2 m ρ) c where
  a0 r l := (congrFun (W2_of m ρ c main_v5 (by decide)) (ix2 r l)).trans ((fwdIn ρ A).a0 r l)
  a1 r l := (congrFun (W2_of m ρ c main_v7 (by decide)) (ix2 r l)).trans ((fwdIn ρ A).a1 r l)
  a2 r l := (congrFun (W2_of m ρ c main_v9 (by decide)) (ix2 r l)).trans ((fwdIn ρ A).a2 r l)
  a3 r C := (congrFun ((W2_of m ρ c main_v14 (by decide)).trans (V1_g m ρ c)) (ix2 r (gl C))).trans (by rw [gW_apply, prW_apply, A.g])
  a4 r l := congrFun ((W2_arr m ρ c 3).trans (final0_3 (fwdIn ρ A))) (ix2 r l)
  a5 r l := congrFun ((W2_arr m ρ c 4).trans (final0_4 (fwdIn ρ A))) (ix2 r l)

/-- The output the program ends with. -/
theorem res_o (A : ArgsAt m c sc q k v g) (r : Fin 4096) (C : Fin 256) :
    W4 m ρ c (Proc.devRef .tc main_v15_0) (ix2 r C) = (zO sc q k v r (hC C) (eC C) : EReal) :=
  congrFun ((W4_of m ρ c main_v15_0 (by decide)).trans ((W3_of m ρ c main_v15_0 (by decide)).trans
    ((W2_arr m ρ c 3).trans (final0_3 (fwdIn ρ A))))) (ix2 r C)

/-- The queries' gradient the program ends with. -/
theorem res_dq (A : ArgsAt m c sc q k v g) (r : Fin 4096) (C : Fin 256) :
    W4 m ρ c (Proc.devRef .tc main_v18) (ix2 r C) = ((zDQ sc q k v g r (hC C) (eC C) * sc : ℝ) : EReal) := by
  rw [W4_dq]
  refine (scaled_apply _ _).trans ?_
  rw [A.c, EReal.coe_mul]
  exact congrArg (· * (sc : EReal)) (congrFun ((W3_arr m ρ c 6).trans (final1_6 (bwdIn ρ A))) (ix2 r C))

/-- The keys' gradient the program ends with. -/
theorem res_dk (A : ArgsAt m c sc q k v g) (n : Fin 4096) (d : Fin 128) :
    W4 m ρ c (Proc.devRef .tc main_v16_1) (ix2 n d) = (zDK sc q k v g n (kC d) (lC d) : EReal) :=
  congrFun ((W4_of m ρ c main_v16_1 (by decide)).trans ((W3_arr m ρ c 7).trans (final1_7 (bwdIn ρ A)))) (ix2 n d)

/-- The values' gradient the program ends with. -/
theorem res_dv (A : ArgsAt m c sc q k v g) (n : Fin 4096) (d : Fin 128) :
    W4 m ρ c (Proc.devRef .tc main_v16_2) (ix2 n d) = (zDV sc q k g n (kC d) (lC d) : EReal) :=
  congrFun ((W4_of m ρ c main_v16_2 (by decide)).trans ((W3_arr m ρ c 8).trans (final1_8 (bwdIn ρ A)))) (ix2 n d)

end Cert.Gqa
-- ==== Proof.GqaRefWord.lean ====
/-
  The grouped-query attention's reference: its intermediate arrays, named in the order it computes them, each read at an
  index as extended-real arithmetic.
-/
module

public import proofs.«01_k».proof.Proof.GqaSpec
public import proofs.«01_k».proof.Proof.Gen.Reference3Ideal.Run
public import Idealize.ShloMosaic.Lib.Pipeline.Value
public import Idealize.ShloMosaic.Lib.Pipeline.ValueKit
public import Idealize.ShloMosaic.Lib.ValueLayout
public import Idealize.ShloMosaic.Lib.IdealHost

@[expose] public section

set_option maxRecDepth 65536

noncomputable section

open Idealize.ShloMosaic Idealize.ShloMosaic.TcCoe Idealize.SL.Sem
open Cert.Reference3Ideal Cert.Reference3Ideal.Gen

namespace Cert.GqaRef

open Cert.Gqa (hd kv hC eC kC lC)

/-- Every head of keys or values, once for each head that reads it. -/
def xW (x : FVec Ideal S4096x2x64 .f32) : FVec Ideal S4096x4x64 .f32 :=
  shapeCast S4096x4x64 (broadcastInDim S4096x2x2x64 ![0, 1, 2, 3] bcast_S4096x2x1x64_S4096x2x2x64_0_1_2_3 (broadcastInDim S4096x2x1x64 ![0, 1, 3] bcast_S4096x2x64_S4096x2x1x64_0_1_3 x)) shapeCasts_S4096x2x2x64_S4096x4x64
/-- The scaled scores. -/
def sW (q k : FVec Ideal S4096x4x64 .f32) : FVec Ideal S4x4096x4096 .f32 :=
  mulf (Host.dotGeneral dot_S4096x4x64_S4096x4x64_S4x4096x4096_2_2_0_0_1_1 none q k) (broadcastInDim S4x4096x4096 ![] bcast_S_S4x4096x4096 (constant S_ .f32 0x3E000000#32))
/-- The row maxima. -/
def mW (s : FVec Ideal S4x4096x4096 .f32) : FVec Ideal S4x4096 .f32 :=
  maximumf (broadcastInDim S4x4096 ![] bcast_S_S4x4096 (constant S_ .f32 0xFF800000#32)) (Host.reduce FloatOps.maximumf s (constant S_ .f32 0xFF800000#32) reducesTo_S4x4096x4096_S4x4096_d2 h_S_)
/-- The exponentials. -/
def eW (s : FVec Ideal S4x4096x4096 .f32) : FVec Ideal S4x4096x4096 .f32 :=
  Host.exp (subf s (broadcastInDim S4x4096x4096 ![0, 1, 2] bcast_S4x4096x1_S4x4096x4096_0_1_2 (broadcastInDim S4x4096x1 ![0, 1] bcast_S4x4096_S4x4096x1_0_1 (mW s))))
/-- Their row sums. -/
def lW (s : FVec Ideal S4x4096x4096 .f32) : FVec Ideal S4x4096x1 .f32 :=
  broadcastInDim S4x4096x1 ![0, 1] bcast_S4x4096_S4x4096x1_0_1 (Host.reduceAdd (eW s) (constant S_ .f32 0x00000000#32) reducesTo_S4x4096x4096_S4x4096_d2 h_S_)
/-- The probabilities. -/
def pW (s : FVec Ideal S4x4096x4096 .f32) : FVec Ideal S4x4096x4096 .f32 :=
  Host.divf (eW s) (broadcastInDim S4x4096x4096 ![0, 1, 2] bcast_S4x4096x1_S4x4096x4096_0_1_2 (lW s))
/-- The output gradient with its rows last. -/
def gW (g : FVec Ideal S4096x4x64 .f32) : FVec Ideal S4x64x4096 .f32 := transpose S4x64x4096 [1, 2, 0] g transposes_S4096x4x64_S4x64x4096_1_2_0
/-- The gradient of the probabilities. -/
def dpW (g v : FVec Ideal S4096x4x64 .f32) : FVec Ideal S4x4096x4096 .f32 :=
  Host.dotGeneral dot_S4x64x4096_S4096x4x64_S4x4096x4096_1_2_2_0_0_1 none (gW g) v
/-- One over the squared row sums. -/
def iW (s : FVec Ideal S4x4096x4096 .f32) : FVec Ideal S4x4096x1 .f32 :=
  Host.divf (broadcastInDim S4x4096x1 ![] bcast_S_S4x4096x1 (constant S_ .f32 0x3F800000#32)) (mulf (lW s) (lW s))
/-- The row sums' gradient, up to its sign. -/
def cW (s dp : FVec Ideal S4x4096x4096 .f32) : FVec Ideal S4x4096 .f32 :=
  Host.reduceAdd (mulf (mulf dp (broadcastInDim S4x4096x4096 ![0, 1, 2] bcast_S4x4096x1_S4x4096x4096_0_1_2 (iW s))) (eW s)) (constant S_ .f32 0x00000000#32) reducesTo_S4x4096x4096_S4x4096_d2 h_S_
/-- The row sums' gradient. -/
def nW (s dp : FVec Ideal S4x4096x4096 .f32) : FVec Ideal S4x4096 .f32 :=
  Host.reduceAdd (Host.negf (shapeCast S4x4096x1 (cW s dp) shapeCasts_S4x4096_S4x4096x1)) (constant S_ .f32 0x00000000#32) reducesTo_S4x4096x1_S4x4096_d2 h_S_
/-- The gradient of the unscaled scores. -/
def dsW (s dp : FVec Ideal S4x4096x4096 .f32) : FVec Ideal S4x4096x4096 .f32 :=
  mulf (mulf (addf (Host.divf dp (broadcastInDim S4x4096x4096 ![0, 1, 2] bcast_S4x4096x1_S4x4096x4096_0_1_2 (lW s))) (broadcastInDim S4x4096x4096 ![0, 1] bcast_S4x4096_S4x4096x4096_0_1 (nW s dp))) (eW s))
    (broadcastInDim S4x4096x4096 ![] bcast_S_S4x4096x4096 (constant S_ .f32 0x3E000000#32))
/-- The heads side by side: first the first head of each pair, then the second. -/
def lanesW (x : FVec Ideal S4096x4x64 .f32) : FVec Ideal S4096x256 .f32 :=
  shapeCast S4096x256 (transpose S4096x2x2x64 [0, 2, 1, 3] (shapeCast S4096x2x2x64 x shapeCasts_S4096x4x64_S4096x2x2x64) transposes_S4096x2x2x64_S4096x2x2x64_0_2_1_3) shapeCasts_S4096x2x2x64_S4096x256
/-- The sum over the heads that read each head of keys or values. -/
def foldW (x : FVec Ideal S4096x4x64 .f32) : FVec Ideal S4096x128 .f32 :=
  shapeCast S4096x128 (Host.reduceAdd (broadcastInDim S4096x2x1x64 ![0, 1, 3] bcast_S4096x2x64_S4096x2x1x64_0_1_3 (Host.reduceAdd (shapeCast S4096x2x2x64 x shapeCasts_S4096x4x64_S4096x2x2x64) (constant S_ .f32 0x00000000#32) reducesTo_S4096x2x2x64_S4096x2x64_d2 h_S_)) (constant S_ .f32 0x00000000#32) reducesTo_S4096x2x1x64_S4096x2x64_d2 h_S_) shapeCasts_S4096x2x64_S4096x128
/-- The attention output. -/
def oW (s : FVec Ideal S4x4096x4096 .f32) (v : FVec Ideal S4096x4x64 .f32) : FVec Ideal S4096x256 .bf16 :=
  truncf .bf16 (lanesW (transpose S4096x4x64 [2, 0, 1] (Host.dotGeneral dot_S4096x4x64_S4x4096x4096_S4x64x4096_0_2_2_1_1_0 none v (pW s)) transposes_S4x64x4096_S4096x4x64_2_0_1)) bitsLt_bf16_f32
/-- The queries' gradient. -/
def dqW (ds : FVec Ideal S4x4096x4096 .f32) (k : FVec Ideal S4096x4x64 .f32) : FVec Ideal S4096x256 .f32 :=
  lanesW (transpose S4096x4x64 [1, 0, 2] (Host.dotGeneral dot_S4x4096x4096_S4096x4x64_S4x4096x64_2_0_1_2_0_1 none ds k) transposes_S4x4096x64_S4096x4x64_1_0_2)
/-- The keys' gradient. -/
def dkW (ds : FVec Ideal S4x4096x4096 .f32) (q : FVec Ideal S4096x4x64 .f32) : FVec Ideal S4096x128 .f32 :=
  foldW (transpose S4096x4x64 [1, 0, 2] (Host.dotGeneral dot_S4x4096x4096_S4096x4x64_S4x4096x64_1_0_2_2_0_1 none ds q) transposes_S4x4096x64_S4096x4x64_1_0_2)
/-- The values' gradient. -/
def dvW (s : FVec Ideal S4x4096x4096 .f32) (g : FVec Ideal S4096x4x64 .f32) : FVec Ideal S4096x128 .f32 :=
  foldW (transpose S4096x4x64 [2, 0, 1] (Host.dotGeneral dot_S4x64x4096_S4x4096x4096_S4x64x4096_2_1_1_2_0_0 none (gW g) (pW s)) transposes_S4x64x4096_S4096x4x64_2_0_1)

/-- The reference's run in the named arrays: its four results, and the arguments as they were. -/
theorem run_words (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v72) = oW (sW (m ((c : Thread nD τ).loc main_arg0)) (xW (m ((c : Thread nD τ).loc main_arg1)))) (xW (m ((c : Thread nD τ).loc main_arg2)))
      ∧ r.2.mem ((c : Thread nD τ).loc main_v75) = dqW (dsW (sW (m ((c : Thread nD τ).loc main_arg0)) (xW (m ((c : Thread nD τ).loc main_arg1)))) (dpW (m ((c : Thread nD τ).loc main_arg3)) (xW (m ((c : Thread nD τ).loc main_arg2))))) (xW (m ((c : Thread nD τ).loc main_arg1)))
      ∧ r.2.mem ((c : Thread nD τ).loc main_v76) = dkW (dsW (sW (m ((c : Thread nD τ).loc main_arg0)) (xW (m ((c : Thread nD τ).loc main_arg1)))) (dpW (m ((c : Thread nD τ).loc main_arg3)) (xW (m ((c : Thread nD τ).loc main_arg2))))) (m ((c : Thread nD τ).loc main_arg0))
      ∧ r.2.mem ((c : Thread nD τ).loc main_v77) = dvW (sW (m ((c : Thread nD τ).loc main_arg0)) (xW (m ((c : Thread nD τ).loc main_arg1)))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1, (h c).2.1, (h c).2.2.1, (h c).2.2.2.1, (h c).2.2.2.2⟩) (Cert.Reference3Ideal.Value.run m ρ)

theorem sW_apply (q k : FVec Ideal S4096x4x64 .f32) (h : Fin 4) (i n : Fin 4096) :
    sW q k (ix3 h i n) = (∑ d : Fin 64, (q (ix3 i h d) : EReal) * k (ix3 n h d)) * Ideal.ofBits .f32 0x3E000000#32 := by
  pointwise [sW]
theorem negInf : Ideal.ofBits .f32 0xFF800000#32 = ⊥ := by simp [Ideal.ofBits, Ideal.ieee]
theorem reduceMax_apply (s : FVec Ideal S4x4096x4096 .f32) (c : FVec Ideal S_ .f32) (h : Fin 4) (i : Fin 4096) :
    Host.reduce FloatOps.maximumf s c reducesTo_S4x4096x4096_S4x4096_d2 h_S_ (ix2 h i)
      = Finset.univ.fold max (c (Shape.Idx.first h_S_) : EReal) fun n : Fin 4096 => (s (ix3 h i n) : EReal) := by
  pointwise
theorem maximum_apply (x y : FVec Ideal S4x4096 .f32) (j : S4x4096.Idx) : maximumf x y j = max (x j : EReal) (y j) := rfl
theorem mW_apply (s : FVec Ideal S4x4096x4096 .f32) (h : Fin 4) (i : Fin 4096) :
    mW s (ix2 h i) = Finset.univ.sup fun n : Fin 4096 => (s (ix3 h i n) : EReal) := by
  rw [mW, maximum_apply, reduceMax_apply]
  show max (Ideal.ofBits .f32 0xFF800000#32) (Finset.univ.fold max (Ideal.ofBits .f32 0xFF800000#32) _) = _
  rw [negInf]
  exact max_eq_right bot_le
theorem eW_apply (s : FVec Ideal S4x4096x4096 .f32) (h : Fin 4) (i n : Fin 4096) :
    eW s (ix3 h i n) = Ideal.exp ((s (ix3 h i n) : EReal) - mW s (ix2 h i)) := by
  pointwise [eW]
theorem lW_apply (s : FVec Ideal S4x4096x4096 .f32) (h : Fin 4) (i : Fin 4096) :
    lW s (ix3 h i 0) = ∑ n : Fin 4096, (eW s (ix3 h i n) : EReal) := by
  pointwise [lW]
theorem pW_apply (s : FVec Ideal S4x4096x4096 .f32) (h : Fin 4) (i n : Fin 4096) :
    pW s (ix3 h i n) = Ideal.div (eW s (ix3 h i n)) (lW s (ix3 h i 0)) := by
  pointwise [pW]
theorem gW_apply (g : FVec Ideal S4096x4x64 .f32) (h : Fin 4) (e : Fin 64) (i : Fin 4096) : gW g (ix3 h e i) = g (ix3 i h e) := by
  pointwise [gW]
theorem dpW_apply (g v : FVec Ideal S4096x4x64 .f32) (h : Fin 4) (i n : Fin 4096) :
    dpW g v (ix3 h i n) = ∑ e : Fin 64, (g (ix3 i h e) : EReal) * v (ix3 n h e) := by
  pointwise [dpW, gW]
theorem iW_apply (s : FVec Ideal S4x4096x4096 .f32) (h : Fin 4) (i : Fin 4096) :
    iW s (ix3 h i 0) = Ideal.div (Ideal.ofBits .f32 0x3F800000#32) ((lW s (ix3 h i 0) : EReal) * lW s (ix3 h i 0)) := by
  pointwise [iW]
theorem cW_apply (s dp : FVec Ideal S4x4096x4096 .f32) (h : Fin 4) (i : Fin 4096) :
    cW s dp (ix2 h i) = ∑ n : Fin 4096, (dp (ix3 h i n) : EReal) * iW s (ix3 h i 0) * eW s (ix3 h i n) := by
  pointwise [cW]
theorem nW_apply (s dp : FVec Ideal S4x4096x4096 .f32) (h : Fin 4) (i : Fin 4096) :
    nW s dp (ix2 h i) = -(cW s dp (ix2 h i) : EReal) := by
  pointwise [nW]
  exact Fin.sum_univ_one _
theorem dsW_apply (s dp : FVec Ideal S4x4096x4096 .f32) (h : Fin 4) (i n : Fin 4096) :
    dsW s dp (ix3 h i n) = (Ideal.div (dp (ix3 h i n)) (lW s (ix3 h i 0)) + nW s dp (ix2 h i)) * eW s (ix3 h i n) * Ideal.ofBits .f32 0x3E000000#32 := by
  pointwise [dsW]
theorem xW_apply (x : FVec Ideal S4096x2x64 .f32) (n : Fin 4096) (h : Fin 4) (d : Fin 64) : xW x (ix3 n h d) = x (ix3 n (kv h) d) := by
  pointwise [xW]
theorem split_apply (x : FVec Ideal S4096x4x64 .f32) (r : Fin 4096) (K p : Fin 2) (e : Fin 64) :
    shapeCast S4096x2x2x64 x shapeCasts_S4096x4x64_S4096x2x2x64 (ix4 r K p e) = x (ix3 r (hd K p) e) := by
  pointwise
theorem swap_apply (x : FVec Ideal S4096x2x2x64 .f32) (r : Fin 4096) (K p : Fin 2) (e : Fin 64) :
    transpose S4096x2x2x64 [0, 2, 1, 3] x transposes_S4096x2x2x64_S4096x2x2x64_0_2_1_3 (ix4 r p K e) = x (ix4 r K p e) := by
  pointwise
theorem join_apply (x : FVec Ideal S4096x2x2x64 .f32) (r : Fin 4096) (C : Fin 256) :
    shapeCast S4096x256 x shapeCasts_S4096x2x2x64_S4096x256 (ix2 r C) = x (ix4 r ⟨C.val / 128, by omega⟩ ⟨C.val % 128 / 64, by omega⟩ (eC C)) := by
  pointwise
  rw [show (⟨C.val % 128 / 64, by omega⟩ : Fin 2) = ⟨C.val / 64 % 2, by omega⟩ from Fin.ext (by simp only; omega)]
theorem lanesW_apply (x : FVec Ideal S4096x4x64 .f32) (r : Fin 4096) (C : Fin 256) : lanesW x (ix2 r C) = x (ix3 r (hC C) (eC C)) := by
  rw [lanesW, join_apply, swap_apply, split_apply]
theorem pair_apply (y : FVec Ideal S4096x2x2x64 .f32) (n : Fin 4096) (K : Fin 2) (e : Fin 64) :
    Host.reduceAdd y (constant S_ .f32 0x00000000#32) reducesTo_S4096x2x2x64_S4096x2x64_d2 h_S_ (ix3 n K e) = ∑ p : Fin 2, (y (ix4 n K p e) : EReal) := by
  pointwise
theorem single_apply (z : FVec Ideal S4096x2x64 .f32) (n : Fin 4096) (c : Fin 128) :
    shapeCast S4096x128 (Host.reduceAdd (broadcastInDim S4096x2x1x64 ![0, 1, 3] bcast_S4096x2x64_S4096x2x1x64_0_1_3 z) (constant S_ .f32 0x00000000#32) reducesTo_S4096x2x1x64_S4096x2x64_d2 h_S_) shapeCasts_S4096x2x64_S4096x128 (ix2 n c)
      = z (ix3 n (kC c) (lC c)) := by
  pointwise
  exact Fin.sum_univ_one _
theorem foldW_apply (x : FVec Ideal S4096x4x64 .f32) (n : Fin 4096) (c : Fin 128) :
    foldW x (ix2 n c) = ∑ p : Fin 2, (x (ix3 n (hd (kC c) p) (lC c)) : EReal) := by
  rw [foldW, single_apply, pair_apply]
  exact Finset.sum_congr rfl fun p _ => split_apply _ _ _ _ _
theorem o_at (s : FVec Ideal S4x4096x4096 .f32) (v : FVec Ideal S4096x4x64 .f32) (r : Fin 4096) (h : Fin 4) (e : Fin 64) :
    transpose S4096x4x64 [2, 0, 1] (Host.dotGeneral dot_S4096x4x64_S4x4096x4096_S4x64x4096_0_2_2_1_1_0 none v (pW s)) transposes_S4x64x4096_S4096x4x64_2_0_1 (ix3 r h e)
      = ∑ n : Fin 4096, (v (ix3 n h e) : EReal) * pW s (ix3 h r n) := by
  pointwise
theorem cast_apply (x : FVec Ideal S4096x256 .f32) (i : S4096x256.Idx) : (truncf .bf16 x bitsLt_bf16_f32 : FVec Ideal S4096x256 .bf16) i = x i := rfl
theorem oW_apply (s : FVec Ideal S4x4096x4096 .f32) (v : FVec Ideal S4096x4x64 .f32) (r : Fin 4096) (C : Fin 256) :
    oW s v (ix2 r C) = ∑ n : Fin 4096, (v (ix3 n (hC C) (eC C)) : EReal) * pW s (ix3 (hC C) r n) := by
  rw [oW, cast_apply]
  exact (lanesW_apply _ r C).trans (o_at s v r (hC C) (eC C))
theorem dqW_apply (ds : FVec Ideal S4x4096x4096 .f32) (k : FVec Ideal S4096x4x64 .f32) (r : Fin 4096) (C : Fin 256) :
    dqW ds k (ix2 r C) = ∑ n : Fin 4096, (ds (ix3 (hC C) r n) : EReal) * k (ix3 n (hC C) (eC C)) := by
  rw [dqW, lanesW_apply]
  pointwise
theorem dk_at (ds : FVec Ideal S4x4096x4096 .f32) (q : FVec Ideal S4096x4x64 .f32) (n : Fin 4096) (h : Fin 4) (d : Fin 64) :
    transpose S4096x4x64 [1, 0, 2] (Host.dotGeneral dot_S4x4096x4096_S4096x4x64_S4x4096x64_1_0_2_2_0_1 none ds q) transposes_S4x4096x64_S4096x4x64_1_0_2 (ix3 n h d)
      = ∑ r : Fin 4096, (ds (ix3 h r n) : EReal) * q (ix3 r h d) := by
  pointwise
theorem dv_at (s : FVec Ideal S4x4096x4096 .f32) (g : FVec Ideal S4096x4x64 .f32) (n : Fin 4096) (h : Fin 4) (e : Fin 64) :
    transpose S4096x4x64 [2, 0, 1] (Host.dotGeneral dot_S4x64x4096_S4x4096x4096_S4x64x4096_2_1_1_2_0_0 none (gW g) (pW s)) transposes_S4x64x4096_S4096x4x64_2_0_1 (ix3 n h e)
      = ∑ r : Fin 4096, (g (ix3 r h e) : EReal) * pW s (ix3 h r n) := by
  pointwise [gW]
theorem dkW_apply (ds : FVec Ideal S4x4096x4096 .f32) (q : FVec Ideal S4096x4x64 .f32) (n : Fin 4096) (c : Fin 128) :
    dkW ds q (ix2 n c) = ∑ p : Fin 2, ∑ r : Fin 4096, (ds (ix3 (hd (kC c) p) r n) : EReal) * q (ix3 r (hd (kC c) p) (lC c)) := by
  rw [dkW, foldW_apply]
  exact Finset.sum_congr rfl fun p _ => dk_at _ _ _ _ _
theorem dvW_apply (s : FVec Ideal S4x4096x4096 .f32) (g : FVec Ideal S4096x4x64 .f32) (n : Fin 4096) (c : Fin 128) :
    dvW s g (ix2 n c) = ∑ p : Fin 2, ∑ r : Fin 4096, (g (ix3 r (hd (kC c) p) (lC c)) : EReal) * pW s (ix3 (hd (kC c) p) r n) := by
  rw [dvW, foldW_apply]
  exact Finset.sum_congr rfl fun p _ => dv_at _ _ _ _ _

end Cert.GqaRef
-- ==== Proof.GqaRef.lean ====
/-
  The grouped-query attention's reference over the reals.
-/
module

public import proofs.«01_k».proof.Proof.GqaRefWord
public import proofs.«01_k».proof.Proof.Spec

@[expose] public section

set_option maxRecDepth 16384

noncomputable section

open Idealize.ShloMosaic Idealize.ShloMosaic.TcCoe Idealize.SL.Sem
open Cert.Reference3Ideal Cert.Reference3Ideal.Gen Cert.Gqa
open Cert.Attn (softmax sumExp sumExp_pos softmax_sub sup_coe coe_sum coe_dot grad_quotient)

namespace Cert.GqaRef

variable {sc : ℝ} {q : Fin 4096 → Fin 4 → Fin 64 → ℝ} {k v : Fin 4096 → Fin 2 → Fin 64 → ℝ} {g : Fin 4096 → Fin 4 → Fin 64 → ℝ}

variable {x0 x3 : FVec Ideal S4096x4x64 .f32} {x1 x2 : FVec Ideal S4096x2x64 .f32}

theorem one_word : Ideal.ofBits .f32 0x3F800000#32 = ((1 : ℝ) : EReal) := by
  simp [Ideal.ofBits, Ideal.ieee]
  rw [← EReal.coe_mul]
  norm_num

theorem sW_real (A : Args sc q k v g x0 x1 x2 x3) (h : Fin 4) (i n : Fin 4096) : sW x0 (xW x1) (ix3 h i n) = (zS sc q k h i n : EReal) := by
  rw [sW_apply, A.c]
  simp only [xW_apply, A.q, A.k, coe_dot]
  exact (EReal.coe_mul _ _).symm

theorem dpW_real (A : Args sc q k v g x0 x1 x2 x3) (h : Fin 4) (i n : Fin 4096) : dpW x3 (xW x2) (ix3 h i n) = (zDP v g h i n : EReal) := by
  rw [dpW_apply]
  simp only [xW_apply, A.g, A.v, coe_dot]
  rfl

/-- A row of exponentials: some real `M` was subtracted, and the row sum is the sum of the exponentials. -/
theorem row_real (A : Args sc q k v g x0 x1 x2 x3) (h : Fin 4) (i : Fin 4096) : ∃ M : ℝ,
    (∀ n, eW (sW x0 (xW x1)) (ix3 h i n) = (Real.exp (zS sc q k h i n - M) : EReal)) ∧ lW (sW x0 (xW x1)) (ix3 h i 0) = (sumExp (fun n => zS sc q k h i n - M) : EReal) := by
  obtain ⟨M, hM⟩ := sup_coe Finset.univ Finset.univ_nonempty (zS sc q k h i)
  have hm : mW (sW x0 (xW x1)) (ix2 h i) = (M : EReal) := by
    rw [mW_apply]
    simp only [sW_real A]
    exact hM
  have he : ∀ n, eW (sW x0 (xW x1)) (ix3 h i n) = (Real.exp (zS sc q k h i n - M) : EReal) := fun n => by
    rw [eW_apply, sW_real A, hm, ← EReal.coe_sub, Ideal.exp_coe]
  refine ⟨M, he, ?_⟩
  rw [lW_apply]
  simp only [he, coe_sum]
  rfl

theorem pW_real (A : Args sc q k v g x0 x1 x2 x3) (h : Fin 4) (i n : Fin 4096) : pW (sW x0 (xW x1)) (ix3 h i n) = (zP sc q k h i n : EReal) := by
  obtain ⟨M, he, hl⟩ := row_real A h i
  rw [pW_apply, he, hl, Ideal.div_coe (sumExp_pos _).ne', ← EReal.coe_mul, mul_one_div]
  exact congrArg _ (softmax_sub (zS sc q k h i) M n)

theorem dsW_real (A : Args sc q k v g x0 x1 x2 x3) (h : Fin 4) (i n : Fin 4096) :
    dsW (sW x0 (xW x1)) (dpW x3 (xW x2)) (ix3 h i n) = ((zDS sc q k v g h i n * sc : ℝ) : EReal) := by
  obtain ⟨M, he, hl⟩ := row_real A h i
  have hL := (sumExp_pos fun n => zS sc q k h i n - M).ne'
  have hi : iW (sW x0 (xW x1)) (ix3 h i 0) = ((1 / (sumExp (fun n => zS sc q k h i n - M) * sumExp (fun n => zS sc q k h i n - M)) : ℝ) : EReal) := by
    rw [iW_apply, hl, ← EReal.coe_mul, Ideal.div_coe (mul_ne_zero hL hL), one_word, ← EReal.coe_mul, one_mul]
  have hn : nW (sW x0 (xW x1)) (dpW x3 (xW x2)) (ix2 h i)
      = ((-∑ m, zDP v g h i m * (1 / (sumExp (fun n => zS sc q k h i n - M) * sumExp (fun n => zS sc q k h i n - M))) * Real.exp (zS sc q k h i m - M) : ℝ) : EReal) := by
    rw [nW_apply, cW_apply]
    simp only [dpW_real A, hi, he, ← EReal.coe_mul, coe_sum]
    exact (EReal.coe_neg _).symm
  rw [dsW_apply, dpW_real A, hl, hn, he, A.c, Ideal.div_coe hL, ← EReal.coe_mul, ← EReal.coe_add, ← EReal.coe_mul, ← EReal.coe_mul,
    grad_quotient (fun m => Real.exp (zS sc q k h i m - M)) (zDP v g h i) _ hL n]
  have hp : ∀ m, Real.exp (zS sc q k h i m - M) / sumExp (fun n => zS sc q k h i n - M) = zP sc q k h i m := softmax_sub (zS sc q k h i) M
  simp only [hp]
  rfl

/-- The reference's output. -/
theorem oW_real (A : Args sc q k v g x0 x1 x2 x3) (r : Fin 4096) (C : Fin 256) :
    oW (sW x0 (xW x1)) (xW x2) (ix2 r C) = (zO sc q k v r (hC C) (eC C) : EReal) := by
  rw [oW_apply]
  simp only [xW_apply, A.v, pW_real A, coe_dot]
  exact congrArg _ (Finset.sum_congr rfl fun n _ => mul_comm _ _)

/-- The reference's gradient of the queries. -/
theorem dqW_real (A : Args sc q k v g x0 x1 x2 x3) (r : Fin 4096) (C : Fin 256) :
    dqW (dsW (sW x0 (xW x1)) (dpW x3 (xW x2))) (xW x1) (ix2 r C) = ((zDQ sc q k v g r (hC C) (eC C) * sc : ℝ) : EReal) := by
  rw [dqW_apply]
  simp only [xW_apply, A.k, dsW_real A, coe_dot]
  refine congrArg _ ?_
  rw [zDQ, Finset.sum_mul]
  exact Finset.sum_congr rfl fun n _ => by ring

/-- The reference's gradient of the keys. -/
theorem dkW_real (A : Args sc q k v g x0 x1 x2 x3) (n : Fin 4096) (c : Fin 128) :
    dkW (dsW (sW x0 (xW x1)) (dpW x3 (xW x2))) x0 (ix2 n c) = (zDK sc q k v g n (kC c) (lC c) : EReal) := by
  rw [dkW_apply]
  simp only [A.q, dsW_real A, coe_dot, coe_sum]
  exact congrArg _ (Finset.sum_congr rfl fun p _ => Finset.sum_congr rfl fun i _ => by ring)

/-- The reference's gradient of the values. -/
theorem dvW_real (A : Args sc q k v g x0 x1 x2 x3) (n : Fin 4096) (c : Fin 128) :
    dvW (sW x0 (xW x1)) x3 (ix2 n c) = (zDV sc q k g n (kC c) (lC c) : EReal) := by
  rw [dvW_apply]
  simp only [A.g, pW_real A, coe_dot, coe_sum]
  exact congrArg _ (Finset.sum_congr rfl fun p _ => Finset.sum_congr rfl fun r _ => mul_comm _ _)

end Cert.GqaRef
-- ==== Proof.GqaFinite.lean ====
/-
  The precondition of the grouped-query attention's claims: every entry of the four argument arrays is a real.
-/
module

public import proofs.«01_k».proof.Defs
public import proofs.«01_k».proof.Proof.Finite
public import proofs.«01_k».proof.Proof.GqaSpec
public import proofs.«01_k».proof.Proof.Gen.Pre_finite3

@[expose] public section

set_option maxRecDepth 16384

noncomputable section

open Idealize.ShloMosaic Idealize.ShloMosaic.TcCoe Idealize.SL.Sem
open Cert.Pre_finite3 Cert.Pre_finite3.Gen

namespace Cert.Gqa

open Cert.Attn (and_one finite_entry)

/-- The scale constant is a real. -/
theorem scale_word : ∃ sc : ℝ, Ideal.ofBits .f32 0x3E000000#32 = (sc : EReal) := by
  refine ⟨(Ideal.ofBits .f32 0x3E000000#32).toReal, (EReal.coe_toReal ?_ ?_).symm⟩ <;> simp [Ideal.ofBits, Ideal.ieee] <;> rw [← EReal.coe_mul]
  · exact EReal.coe_ne_top _
  · exact EReal.coe_ne_bot _

/-- Under the precondition the four argument arrays and the scale constant are reals. -/
theorem args_real (x0 : FVec Ideal S4096x4x64 .f32) (x1 x2 : FVec Ideal S4096x2x64 .f32) (x3 : FVec Ideal S4096x4x64 .f32) (h : Cert.Pre_finite3.fn (F := Ideal) x0 x1 x2 x3 = fun _ => 1#1) :
    ∃ sc q k v g, Args sc q k v g x0 x1 x2 x3 := by
  have h0 := congrFun h (Shape.Idx.first h_S_)
  obtain ⟨h012, h3⟩ := and_one _ _ h0
  obtain ⟨h01, h2⟩ := and_one _ _ h012
  obtain ⟨h0, h1⟩ := and_one _ _ h01
  haveI : Subsingleton S_.Idx := ⟨fun a b => funext fun d => d.elim0⟩
  obtain ⟨sc, hsc⟩ := scale_word
  have r0 := fun i => finite_entry x0 bcast_S_S4096x4x64 i (Host.reduce_andi_all _ _ _ _ _ h0 i)
  have r1 := fun i => finite_entry x1 bcast_S_S4096x2x64 i (Host.reduce_andi_all _ _ _ _ _ h1 i)
  have r2 := fun i => finite_entry x2 bcast_S_S4096x2x64 i (Host.reduce_andi_all _ _ _ _ _ h2 i)
  have r3 := fun i => finite_entry x3 bcast_S_S4096x4x64 i (Host.reduce_andi_all _ _ _ _ _ h3 i)
  choose y0 e0 using r0
  choose y1 e1 using r1
  choose y2 e2 using r2
  choose y3 e3 using r3
  exact ⟨sc, fun i h d => y0 (ix3 i h d), fun i h d => y1 (ix3 i h d), fun i h e => y2 (ix3 i h e), fun i h e => y3 (ix3 i h e),
    hsc, fun _ _ _ => e0 _, fun _ _ _ => e1 _, fun _ _ _ => e2 _, fun _ _ _ => e3 _⟩

end Cert.Gqa
-- ==== Proof.GqaClaims.lean ====
/-
  The grouped-query attention's claims: its programs and its reference end with their arguments unchanged and their counters at zero, and
  on finite arguments the kernel's results are the reference's.
-/
module

public import proofs.«01_k».proof.Defs
public import proofs.«01_k».proof.Proof.Claims
public import proofs.«01_k».proof.Proof.GqaRun
public import proofs.«01_k».proof.Proof.GqaKernel
public import proofs.«01_k».proof.Proof.GqaRef
public import proofs.«01_k».proof.Proof.GqaFinite
public import proofs.«01_k».proof.Proof.Gen.Kernel3.Frame
public import Idealize.ShloMosaic.Lib.Quiescent

@[expose] public section

set_option maxRecDepth 16384

noncomputable section

namespace Cert.Gqa

open Idealize.ShloMosaic Idealize.ShloMosaic.TcCoe Idealize.SL.Sem
open Cert.Attn (ext2)

/-- The kernel program's frame. -/
theorem frame_kernel : Cert.quiescent_Kernel3 (hKernel3 := Cert.Kernel3.Gen.facts) := fun m ρ _ => Cert.Kernel3.Gen.frame m ρ

/-- The ideal kernel's frame. -/
theorem frame_ideal : Cert.quiescent_Kernel3Ideal (hKernel3Ideal := Cert.Kernel3Ideal.Gen.facts) := fun m ρ _ => Cert.Kernel3Ideal.Gen.frame (F := Ideal) m ρ

/-- The reference's frame: it has no counters. -/
theorem frame_reference : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩) (Cert.GqaRef.run_words m ρ)

set_option maxHeartbeats 1000000 in
/-- On finite arguments the kernel's output and its three gradients are the reference's. -/
theorem values : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hpre hargs
  refine ⟨fun c => Cert.Kernel3Ideal.Gen.W4 m ρ c (Proc.devRef .tc Cert.Kernel3Ideal.main_v15_0),
    fun c => Cert.Kernel3Ideal.Gen.W4 m ρ c (Proc.devRef .tc Cert.Kernel3Ideal.main_v18),
    fun c => Cert.Kernel3Ideal.Gen.W4 m ρ c (Proc.devRef .tc Cert.Kernel3Ideal.main_v16_1),
    fun c => Cert.Kernel3Ideal.Gen.W4 m ρ c (Proc.devRef .tc Cert.Kernel3Ideal.main_v16_2), ?_, ?_⟩
  · refine (θ_run Cert.Kernel3Ideal.defs _ _).mono (fun r h c => ?_) (run_main m ρ)
    exact ⟨h.1 c _ (Cert.Kernel3Ideal.Gen.mem_uc Cert.Kernel3Ideal.main_v15_0 (by decide)),
      h.1 c _ (Cert.Kernel3Ideal.Gen.mem_uc Cert.Kernel3Ideal.main_v18 (by decide)),
      h.1 c _ (Cert.Kernel3Ideal.Gen.mem_uc Cert.Kernel3Ideal.main_v16_1 (by decide)),
      h.1 c _ (Cert.Kernel3Ideal.Gen.mem_uc Cert.Kernel3Ideal.main_v16_2 (by decide)),
      (h.1 c _ (Cert.Kernel3Ideal.Gen.mem_uc Cert.Kernel3Ideal.main_arg0 (by decide))).trans (Cert.Kernel3Ideal.Gen.W4_main_arg0 m ρ c),
      (h.1 c _ (Cert.Kernel3Ideal.Gen.mem_uc Cert.Kernel3Ideal.main_arg1 (by decide))).trans (Cert.Kernel3Ideal.Gen.W4_main_arg1 m ρ c),
      (h.1 c _ (Cert.Kernel3Ideal.Gen.mem_uc Cert.Kernel3Ideal.main_arg2 (by decide))).trans (Cert.Kernel3Ideal.Gen.W4_main_arg2 m ρ c),
      (h.1 c _ (Cert.Kernel3Ideal.Gen.mem_uc Cert.Kernel3Ideal.main_arg3 (by decide))).trans (Cert.Kernel3Ideal.Gen.W4_main_arg3 m ρ c)⟩
  · refine (θ_run Cert.Reference3Ideal.defs _ _).mono (fun r h c => ?_) (Cert.GqaRef.run_words m' ρ')
    obtain ⟨e0, e1, e2, e3⟩ := hargs c
    obtain ⟨sc, q, k, v, g, A⟩ := args_real _ _ _ _ (hpre c)
    obtain ⟨h0, h1, h2, h3, hr⟩ := h c
    rw [e0, e1, e2] at h0
    rw [e0, e1, e2, e3] at h1
    rw [e0, e1, e2, e3] at h2
    rw [e0, e1, e3] at h3
    exact ⟨h0.trans (ext2 fun i j => (Cert.GqaRef.oW_real A i j).trans (res_o ρ A i j).symm),
      h1.trans (ext2 fun i j => (Cert.GqaRef.dqW_real A i j).trans (res_dq ρ A i j).symm),
      h2.trans (ext2 fun i j => (Cert.GqaRef.dkW_real A i j).trans (res_dk ρ A i j).symm),
      h3.trans (ext2 fun i j => (Cert.GqaRef.dvW_real A i j).trans (res_dv ρ A i j).symm), hr⟩

end Cert.Gqa
-- ==== Proof.PrjRun.lean ====
/-
  The projections' program's run: it ends, every buffer holds what the last boundary of its segments holds, and every counter
  is zero.
-/
module

public import proofs.«01_k».proof.Proof.Gen.Kernel4Ideal.Frame
public import Idealize.ShloMosaic.Adequacy
public import Idealize.ShloMosaic.Init

@[expose] public section

set_option maxRecDepth 16384

noncomputable section

namespace Cert.Prj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- plain definitions in a metavariable's type
set_option backward.isDefEq.respectTransparency.types false in
/-- From any memory with zero counters every weakly fair execution ends, each device's buffers at the last boundary's
    contents and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

end Cert.Prj
-- ==== Proof.PrjBlock.lean ====
/-
  The projections' kernel bodies: what each leaves in its staging buffer, read at an index as extended-real arithmetic.
-/
module

public import proofs.«01_k».proof.Proof.Gen.Kernel4Ideal.Frame
public import Idealize.ShloMosaic.Lib.Pipeline.Value
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Cert.Kernel4Ideal Cert.Kernel4Ideal.Gen

namespace Cert.Prj

/-- The product of two matrices. -/
def nn {a b n : ℕ} (X : Fin a → Fin n → EReal) (W : Fin n → Fin b → EReal) (i : Fin a) (j : Fin b) : EReal := ∑ q : Fin n, X i q * W q j
/-- The product of a matrix and a transposed one. -/
def nt {a b n : ℕ} (X : Fin a → Fin n → EReal) (W : Fin b → Fin n → EReal) (i : Fin a) (j : Fin b) : EReal := ∑ q : Fin n, X i q * W j q
/-- The product of a transposed matrix and another. -/
def tn {a b n : ℕ} (X : Fin n → Fin a → EReal) (W : Fin n → Fin b → EReal) (i : Fin a) (j : Fin b) : EReal := ∑ q : Fin n, X q i * W q j
/-- An array's entries by row and column. -/
abbrev ar {a b : ℕ} (v : (⟨2, ![a, b]⟩ : Shape).Idx → EReal) (i : Fin a) (j : Fin b) : EReal := v (ix2 i j)

theorem out0_2_apply (x0 : Vec Ideal S512x1024 .bf16) (x1 : Vec Ideal S2176x1024 .bf16) (i : Fin 512) (j : Fin 2176) :
    out0_2 x0 x1 (ix2 i j) = ∑ q : Fin 1024, (x0 (ix2 i q) : EReal) * x1 (ix2 j q) := by
  rw [out0_2, View.canon_cons_unit_lit _ _ _ (by decide), View.ld_unit_lit _ _ (by decide), View.ld_unit_lit _ _ (by decide)]
  pointwise [k0_pay1]
theorem out1_2_apply (x0 : Vec Ideal S1024x256 .bf16) (x1 : Vec Ideal S768x256 .bf16) (i : Fin 1024) (j : Fin 768) :
    out1_2 x0 x1 (ix2 i j) = ∑ q : Fin 256, (x0 (ix2 i q) : EReal) * x1 (ix2 j q) := by
  rw [out1_2, View.canon_cons_unit_lit _ _ _ (by decide), View.ld_unit_lit _ _ (by decide), View.ld_unit_lit _ _ (by decide)]
  pointwise [k1_pay1]
theorem out2_2_apply (x0 : Vec Ideal S1024x128 .bf16) (x1 : Vec Ideal S1152x128 .bf16) (i : Fin 1024) (j : Fin 1152) :
    out2_2 x0 x1 (ix2 i j) = ∑ q : Fin 128, (x0 (ix2 i q) : EReal) * x1 (ix2 j q) := by
  rw [out2_2, View.canon_cons_unit_lit _ _ _ (by decide), View.ld_unit_lit _ _ (by decide), View.ld_unit_lit _ _ (by decide)]
  pointwise [k2_pay1]
theorem out3_2_apply (x0 : Vec Ideal S1024x1024 .bf16) (x1 : Vec Ideal S1024x1024 .bf16) (i : Fin 1024) (j : Fin 1024) :
    out3_2 x0 x1 (ix2 i j) = ∑ q : Fin 1024, (x0 (ix2 i q) : EReal) * x1 (ix2 q j) := by
  rw [out3_2, View.canon_cons_unit_lit _ _ _ (by decide), View.ld_unit_lit _ _ (by decide), View.ld_unit_lit _ _ (by decide)]
  pointwise [k3_pay1]
theorem out4_2_apply (x0 : Vec Ideal S4096x1024 .bf16) (x1 : Vec Ideal S4096x1024 .bf16) (i : Fin 1024) (j : Fin 1024) :
    out4_2 x0 x1 (ix2 i j) = ∑ q : Fin 4096, (x0 (ix2 q i) : EReal) * x1 (ix2 q j) := by
  rw [out4_2, View.canon_cons_unit_lit _ _ _ (by decide), View.ld_unit_lit _ _ (by decide), View.ld_unit_lit _ _ (by decide)]
  pointwise [k4_pay1]
theorem out5_2_apply (x0 : Vec Ideal S1024x1024 .bf16) (x1 : Vec Ideal S1024x1024 .bf16) (i : Fin 1024) (j : Fin 1024) :
    out5_2 x0 x1 (ix2 i j) = ∑ q : Fin 1024, (x0 (ix2 i q) : EReal) * x1 (ix2 j q) := by
  rw [out5_2, View.canon_cons_unit_lit _ _ _ (by decide), View.ld_unit_lit _ _ (by decide), View.ld_unit_lit _ _ (by decide)]
  pointwise [k5_pay1]
theorem out6_2_apply (x0 : Vec Ideal S4096x768 .bf16) (x1 : Vec Ideal S4096x256 .bf16) (i : Fin 768) (j : Fin 256) :
    out6_2 x0 x1 (ix2 i j) = ∑ q : Fin 4096, (x0 (ix2 q i) : EReal) * x1 (ix2 q j) := by
  rw [out6_2, View.canon_cons_unit_lit _ _ _ (by decide), View.ld_unit_lit _ _ (by decide), View.ld_unit_lit _ _ (by decide)]
  pointwise [k6_pay1]
theorem out7_2_apply (x0 : Vec Ideal S1024x768 .bf16) (x1 : Vec Ideal S768x256 .bf16) (i : Fin 1024) (j : Fin 256) :
    out7_2 x0 x1 (ix2 i j) = ∑ q : Fin 768, (x0 (ix2 i q) : EReal) * x1 (ix2 q j) := by
  rw [out7_2, View.canon_cons_unit_lit _ _ _ (by decide), View.ld_unit_lit _ _ (by decide), View.ld_unit_lit _ _ (by decide)]
  pointwise [k7_pay1]
theorem out8_2_apply (x0 : Vec Ideal S4096x1152 .bf16) (x1 : Vec Ideal S4096x128 .bf16) (i : Fin 1152) (j : Fin 128) :
    out8_2 x0 x1 (ix2 i j) = ∑ q : Fin 4096, (x0 (ix2 q i) : EReal) * x1 (ix2 q j) := by
  rw [out8_2, View.canon_cons_unit_lit _ _ _ (by decide), View.ld_unit_lit _ _ (by decide), View.ld_unit_lit _ _ (by decide)]
  pointwise [k8_pay1]
theorem out9_2_apply (x0 : Vec Ideal S1024x1152 .bf16) (x1 : Vec Ideal S1152x128 .bf16) (i : Fin 1024) (j : Fin 128) :
    out9_2 x0 x1 (ix2 i j) = ∑ q : Fin 1152, (x0 (ix2 i q) : EReal) * x1 (ix2 q j) := by
  rw [out9_2, View.canon_cons_unit_lit _ _ _ (by decide), View.ld_unit_lit _ _ (by decide), View.ld_unit_lit _ _ (by decide)]
  pointwise [k9_pay1]
theorem out10_2_apply (x0 : Vec Ideal S1024x2176 .bf16) (x1 : Vec Ideal S2176x1024 .bf16) (i : Fin 1024) (j : Fin 1024) :
    out10_2 x0 x1 (ix2 i j) = ∑ q : Fin 2176, (x0 (ix2 i q) : EReal) * x1 (ix2 q j) := by
  rw [out10_2, View.canon_cons_unit_lit _ _ _ (by decide), View.ld_unit_lit _ _ (by decide), View.ld_unit_lit _ _ (by decide)]
  pointwise [k10_pay1]

end Cert.Prj

end
-- ==== Proof.PrjValue.lean ====
/-
  The projections' calls: each call's result array, index by index.
-/
module

public import proofs.«01_k».proof.Proof.PrjBlock
public import proofs.«01_k».proof.Proof.Gen.Kernel4Ideal.Points

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Prj

variable {V : (c : Dev nD) → (b : Ref sig .tc) → Buf (Elt Ideal) ((c : Thread nD τ).loc b)} {c : Dev nD}

/-- An array of two axes has these entries. -/
abbrev At2 {a b : ℕ} (v : (⟨2, ![a, b]⟩ : Shape).Idx → EReal) (X : Fin a → Fin b → EReal) : Prop := ∀ i j, v (ix2 i j) = X i j

theorem idx0 : ∀ t : Fin cfg0.N, win0_0.index t = ![t.val, 0] ∧ win0_1.index t = ![0, 0] ∧ win0_2.index t = ![t.val, 0] :=
  (by decide +kernel : ∀ t : Fin grid0.N, _)
/-- Row `i` of the rows of a grid point of call 0. -/
abbrev row0 (t : Fin cfg0.N) (i : Fin 512) : Fin 4096 := ⟨t.val * 512 + i.val, by have := t.isLt; have : cfg0.N = 8 := N_0; omega⟩
theorem in0_0 {X : Fin 4096 → Fin 1024 → EReal} (h : At2 (V c main_v0) X) (t : Fin cfg0.N) : At2 (iblk0 V c 0 t) (fun i d => X (row0 t i) d) := by
  intro i d
  have hN : cfg0.N = 8 := N_0
  have ht := t.isLt
  show iblk0 V c 0 t (ix2 i d) = X (row0 t i) d
  rw [← h]
  blk_ext [iblk0, idx0 t]
theorem in0_1 {W : Fin 2176 → Fin 1024 → EReal} (h : At2 (V c main_v9) W) (t : Fin cfg0.N) : At2 (iblk0 V c 1 t) W := by
  intro i d
  have hN : cfg0.N = 8 := N_0
  have ht := t.isLt
  show iblk0 V c 1 t (ix2 i d) = W i d
  rw [← h]
  blk_ext [iblk0, idx0 t]
theorem final0_2 {X : Fin 4096 → Fin 1024 → EReal} {W : Fin 2176 → Fin 1024 → EReal} (hx : At2 (V c main_v0) X) (hw : At2 (V c main_v9) W) :
    (dat0 V c).arrAt 2 cfg0.N = fun y => nt X W (y 0) (y 1) := by
  have hN : cfg0.N = 8 := N_0
  refine (dat0 V c).arrAt_eq_of_cover 2 _ (fun t _ => ?_) fun i => ?_
  · show (cfg0.win 2).cut (grid0.coords t) ((dat0 V c).after 2 t) = _
    rw [after0_2]
    funext y
    have ht := t.isLt
    obtain ⟨a, b, e⟩ : ∃ a b, y = ix2 a b := ⟨y 0, y 1, eq_ix2 y⟩
    have la : a.val < 512 := a.isLt
    have lb : b.val < 2176 := b.isLt
    have e0 : (win0_2.blk t).view.emb (ix2 a b) 0 = (row0 t a) := Fin.ext (by blk_simp [idx0 t] <;> rfl)
    have e1 : (win0_2.blk t).view.emb (ix2 a b) 1 = b := Fin.ext (by blk_simp [idx0 t] <;> rfl)
    rw [e]
    refine (out0_2_apply _ _ a b).trans ?_
    show _ = nt X W ((win0_2.blk t).view.emb (ix2 a b) 0) ((win0_2.blk t).view.emb (ix2 a b) 1)
    rw [e0, e1]
    simp only [in0_0 hx t _ _, in0_1 hw t _ _, nt]
  · have h0 : (i 0).val < 4096 := (i 0).isLt
    have h1 : (i 1).val < 2176 := (i 1).isLt
    refine ⟨⟨(i 0).val / 512, by omega⟩, flush0_2 _, ?_⟩
    mem_blk [idx0]
    simp only
    omega

theorem idx1 : ∀ t : Fin cfg1.N, win1_0.index t = ![t.val, 0] ∧ win1_1.index t = ![0, 0] ∧ win1_2.index t = ![t.val, 0] :=
  (by decide +kernel : ∀ t : Fin grid1.N, _)
/-- Row `i` of the rows of a grid point of call 1. -/
abbrev row1 (t : Fin cfg1.N) (i : Fin 1024) : Fin 4096 := ⟨t.val * 1024 + i.val, by have := t.isLt; have : cfg1.N = 4 := N_1; omega⟩
theorem in1_0 {X : Fin 4096 → Fin 256 → EReal} (h : At2 (V c main_v1) X) (t : Fin cfg1.N) : At2 (iblk1 V c 0 t) (fun i d => X (row1 t i) d) := by
  intro i d
  have hN : cfg1.N = 4 := N_1
  have ht := t.isLt
  show iblk1 V c 0 t (ix2 i d) = X (row1 t i) d
  rw [← h]
  blk_ext [iblk1, idx1 t]
theorem in1_1 {W : Fin 768 → Fin 256 → EReal} (h : At2 (V c main_v11) W) (t : Fin cfg1.N) : At2 (iblk1 V c 1 t) W := by
  intro i d
  have hN : cfg1.N = 4 := N_1
  have ht := t.isLt
  show iblk1 V c 1 t (ix2 i d) = W i d
  rw [← h]
  blk_ext [iblk1, idx1 t]
theorem final1_2 {X : Fin 4096 → Fin 256 → EReal} {W : Fin 768 → Fin 256 → EReal} (hx : At2 (V c main_v1) X) (hw : At2 (V c main_v11) W) :
    (dat1 V c).arrAt 2 cfg1.N = fun y => nt X W (y 0) (y 1) := by
  have hN : cfg1.N = 4 := N_1
  refine (dat1 V c).arrAt_eq_of_cover 2 _ (fun t _ => ?_) fun i => ?_
  · show (cfg1.win 2).cut (grid1.coords t) ((dat1 V c).after 2 t) = _
    rw [after1_2]
    funext y
    have ht := t.isLt
    obtain ⟨a, b, e⟩ : ∃ a b, y = ix2 a b := ⟨y 0, y 1, eq_ix2 y⟩
    have la : a.val < 1024 := a.isLt
    have lb : b.val < 768 := b.isLt
    have e0 : (win1_2.blk t).view.emb (ix2 a b) 0 = (row1 t a) := Fin.ext (by blk_simp [idx1 t] <;> rfl)
    have e1 : (win1_2.blk t).view.emb (ix2 a b) 1 = b := Fin.ext (by blk_simp [idx1 t] <;> rfl)
    rw [e]
    refine (out1_2_apply _ _ a b).trans ?_
    show _ = nt X W ((win1_2.blk t).view.emb (ix2 a b) 0) ((win1_2.blk t).view.emb (ix2 a b) 1)
    rw [e0, e1]
    simp only [in1_0 hx t _ _, in1_1 hw t _ _, nt]
  · have h0 : (i 0).val < 4096 := (i 0).isLt
    have h1 : (i 1).val < 768 := (i 1).isLt
    refine ⟨⟨(i 0).val / 1024, by omega⟩, flush1_2 _, ?_⟩
    mem_blk [idx1]
    simp only
    omega

theorem idx2 : ∀ t : Fin cfg2.N, win2_0.index t = ![t.val, 0] ∧ win2_1.index t = ![0, 0] ∧ win2_2.index t = ![t.val, 0] :=
  (by decide +kernel : ∀ t : Fin grid2.N, _)
/-- Row `i` of the rows of a grid point of call 2. -/
abbrev row2 (t : Fin cfg2.N) (i : Fin 1024) : Fin 4096 := ⟨t.val * 1024 + i.val, by have := t.isLt; have : cfg2.N = 4 := N_2; omega⟩
theorem in2_0 {X : Fin 4096 → Fin 128 → EReal} (h : At2 (V c main_v2) X) (t : Fin cfg2.N) : At2 (iblk2 V c 0 t) (fun i d => X (row2 t i) d) := by
  intro i d
  have hN : cfg2.N = 4 := N_2
  have ht := t.isLt
  show iblk2 V c 0 t (ix2 i d) = X (row2 t i) d
  rw [← h]
  blk_ext [iblk2, idx2 t]
theorem in2_1 {W : Fin 1152 → Fin 128 → EReal} (h : At2 (V c main_v13) W) (t : Fin cfg2.N) : At2 (iblk2 V c 1 t) W := by
  intro i d
  have hN : cfg2.N = 4 := N_2
  have ht := t.isLt
  show iblk2 V c 1 t (ix2 i d) = W i d
  rw [← h]
  blk_ext [iblk2, idx2 t]
theorem final2_2 {X : Fin 4096 → Fin 128 → EReal} {W : Fin 1152 → Fin 128 → EReal} (hx : At2 (V c main_v2) X) (hw : At2 (V c main_v13) W) :
    (dat2 V c).arrAt 2 cfg2.N = fun y => nt X W (y 0) (y 1) := by
  have hN : cfg2.N = 4 := N_2
  refine (dat2 V c).arrAt_eq_of_cover 2 _ (fun t _ => ?_) fun i => ?_
  · show (cfg2.win 2).cut (grid2.coords t) ((dat2 V c).after 2 t) = _
    rw [after2_2]
    funext y
    have ht := t.isLt
    obtain ⟨a, b, e⟩ : ∃ a b, y = ix2 a b := ⟨y 0, y 1, eq_ix2 y⟩
    have la : a.val < 1024 := a.isLt
    have lb : b.val < 1152 := b.isLt
    have e0 : (win2_2.blk t).view.emb (ix2 a b) 0 = (row2 t a) := Fin.ext (by blk_simp [idx2 t] <;> rfl)
    have e1 : (win2_2.blk t).view.emb (ix2 a b) 1 = b := Fin.ext (by blk_simp [idx2 t] <;> rfl)
    rw [e]
    refine (out2_2_apply _ _ a b).trans ?_
    show _ = nt X W ((win2_2.blk t).view.emb (ix2 a b) 0) ((win2_2.blk t).view.emb (ix2 a b) 1)
    rw [e0, e1]
    simp only [in2_0 hx t _ _, in2_1 hw t _ _, nt]
  · have h0 : (i 0).val < 4096 := (i 0).isLt
    have h1 : (i 1).val < 1152 := (i 1).isLt
    refine ⟨⟨(i 0).val / 1024, by omega⟩, flush2_2 _, ?_⟩
    mem_blk [idx2]
    simp only
    omega

theorem idx3 : ∀ t : Fin cfg3.N, win3_0.index t = ![t.val, 0] ∧ win3_1.index t = ![0, 0] ∧ win3_2.index t = ![t.val, 0] :=
  (by decide +kernel : ∀ t : Fin grid3.N, _)
/-- Row `i` of the rows of a grid point of call 3. -/
abbrev row3 (t : Fin cfg3.N) (i : Fin 1024) : Fin 4096 := ⟨t.val * 1024 + i.val, by have := t.isLt; have : cfg3.N = 4 := N_3; omega⟩
theorem in3_0 {X : Fin 4096 → Fin 1024 → EReal} (h : At2 (V c main_v3) X) (t : Fin cfg3.N) : At2 (iblk3 V c 0 t) (fun i d => X (row3 t i) d) := by
  intro i d
  have hN : cfg3.N = 4 := N_3
  have ht := t.isLt
  show iblk3 V c 0 t (ix2 i d) = X (row3 t i) d
  rw [← h]
  blk_ext [iblk3, idx3 t]
theorem in3_1 {W : Fin 1024 → Fin 1024 → EReal} (h : At2 (V c main_v14) W) (t : Fin cfg3.N) : At2 (iblk3 V c 1 t) W := by
  intro i d
  have hN : cfg3.N = 4 := N_3
  have ht := t.isLt
  show iblk3 V c 1 t (ix2 i d) = W i d
  rw [← h]
  blk_ext [iblk3, idx3 t]
theorem final3_2 {X : Fin 4096 → Fin 1024 → EReal} {W : Fin 1024 → Fin 1024 → EReal} (hx : At2 (V c main_v3) X) (hw : At2 (V c main_v14) W) :
    (dat3 V c).arrAt 2 cfg3.N = fun y => nn X W (y 0) (y 1) := by
  have hN : cfg3.N = 4 := N_3
  refine (dat3 V c).arrAt_eq_of_cover 2 _ (fun t _ => ?_) fun i => ?_
  · show (cfg3.win 2).cut (grid3.coords t) ((dat3 V c).after 2 t) = _
    rw [after3_2]
    funext y
    have ht := t.isLt
    obtain ⟨a, b, e⟩ : ∃ a b, y = ix2 a b := ⟨y 0, y 1, eq_ix2 y⟩
    have la : a.val < 1024 := a.isLt
    have lb : b.val < 1024 := b.isLt
    have e0 : (win3_2.blk t).view.emb (ix2 a b) 0 = (row3 t a) := Fin.ext (by blk_simp [idx3 t] <;> rfl)
    have e1 : (win3_2.blk t).view.emb (ix2 a b) 1 = b := Fin.ext (by blk_simp [idx3 t] <;> rfl)
    rw [e]
    refine (out3_2_apply _ _ a b).trans ?_
    show _ = nn X W ((win3_2.blk t).view.emb (ix2 a b) 0) ((win3_2.blk t).view.emb (ix2 a b) 1)
    rw [e0, e1]
    simp only [in3_0 hx t _ _, in3_1 hw t _ _, nn]
  · have h0 : (i 0).val < 4096 := (i 0).isLt
    have h1 : (i 1).val < 1024 := (i 1).isLt
    refine ⟨⟨(i 0).val / 1024, by omega⟩, flush3_2 _, ?_⟩
    mem_blk [idx3]
    simp only
    omega

theorem idx4 : ∀ t : Fin cfg4.N, win4_0.index t = ![0, 0] ∧ win4_1.index t = ![0, 0] ∧ win4_2.index t = ![0, 0] :=
  (by decide +kernel : ∀ t : Fin grid4.N, _)
theorem in4_0 {X : Fin 4096 → Fin 1024 → EReal} (h : At2 (V c main_v3) X) (t : Fin cfg4.N) : At2 (iblk4 V c 0 t) (fun i d => X i d) := by
  intro i d
  have hN : cfg4.N = 1 := N_4
  have ht := t.isLt
  show iblk4 V c 0 t (ix2 i d) = X i d
  rw [← h]
  blk_ext [iblk4, idx4 t]
theorem in4_1 {W : Fin 4096 → Fin 1024 → EReal} (h : At2 (V c main_v7) W) (t : Fin cfg4.N) : At2 (iblk4 V c 1 t) W := by
  intro i d
  have hN : cfg4.N = 1 := N_4
  have ht := t.isLt
  show iblk4 V c 1 t (ix2 i d) = W i d
  rw [← h]
  blk_ext [iblk4, idx4 t]
theorem final4_2 {X : Fin 4096 → Fin 1024 → EReal} {W : Fin 4096 → Fin 1024 → EReal} (hx : At2 (V c main_v3) X) (hw : At2 (V c main_v7) W) :
    (dat4 V c).arrAt 2 cfg4.N = fun y => tn X W (y 0) (y 1) := by
  have hN : cfg4.N = 1 := N_4
  refine (dat4 V c).arrAt_eq_of_cover 2 _ (fun t _ => ?_) fun i => ?_
  · show (cfg4.win 2).cut (grid4.coords t) ((dat4 V c).after 2 t) = _
    rw [after4_2]
    funext y
    have ht := t.isLt
    obtain ⟨a, b, e⟩ : ∃ a b, y = ix2 a b := ⟨y 0, y 1, eq_ix2 y⟩
    have la : a.val < 1024 := a.isLt
    have lb : b.val < 1024 := b.isLt
    have e0 : (win4_2.blk t).view.emb (ix2 a b) 0 = a := Fin.ext (by blk_simp [idx4 t] <;> rfl)
    have e1 : (win4_2.blk t).view.emb (ix2 a b) 1 = b := Fin.ext (by blk_simp [idx4 t] <;> rfl)
    rw [e]
    refine (out4_2_apply _ _ a b).trans ?_
    show _ = tn X W ((win4_2.blk t).view.emb (ix2 a b) 0) ((win4_2.blk t).view.emb (ix2 a b) 1)
    rw [e0, e1]
    simp only [in4_0 hx t _ _, in4_1 hw t _ _, tn]
  · have h0 : (i 0).val < 1024 := (i 0).isLt
    have h1 : (i 1).val < 1024 := (i 1).isLt
    refine ⟨⟨(i 0).val / 1024, by omega⟩, flush4_2 _, ?_⟩
    mem_blk [idx4]
    simp only
    omega

theorem idx5 : ∀ t : Fin cfg5.N, win5_0.index t = ![t.val, 0] ∧ win5_1.index t = ![0, 0] ∧ win5_2.index t = ![t.val, 0] :=
  (by decide +kernel : ∀ t : Fin grid5.N, _)
/-- Row `i` of the rows of a grid point of call 5. -/
abbrev row5 (t : Fin cfg5.N) (i : Fin 1024) : Fin 4096 := ⟨t.val * 1024 + i.val, by have := t.isLt; have : cfg5.N = 4 := N_5; omega⟩
theorem in5_0 {X : Fin 4096 → Fin 1024 → EReal} (h : At2 (V c main_v7) X) (t : Fin cfg5.N) : At2 (iblk5 V c 0 t) (fun i d => X (row5 t i) d) := by
  intro i d
  have hN : cfg5.N = 4 := N_5
  have ht := t.isLt
  show iblk5 V c 0 t (ix2 i d) = X (row5 t i) d
  rw [← h]
  blk_ext [iblk5, idx5 t]
theorem in5_1 {W : Fin 1024 → Fin 1024 → EReal} (h : At2 (V c main_v14) W) (t : Fin cfg5.N) : At2 (iblk5 V c 1 t) W := by
  intro i d
  have hN : cfg5.N = 4 := N_5
  have ht := t.isLt
  show iblk5 V c 1 t (ix2 i d) = W i d
  rw [← h]
  blk_ext [iblk5, idx5 t]
theorem final5_2 {X : Fin 4096 → Fin 1024 → EReal} {W : Fin 1024 → Fin 1024 → EReal} (hx : At2 (V c main_v7) X) (hw : At2 (V c main_v14) W) :
    (dat5 V c).arrAt 2 cfg5.N = fun y => nt X W (y 0) (y 1) := by
  have hN : cfg5.N = 4 := N_5
  refine (dat5 V c).arrAt_eq_of_cover 2 _ (fun t _ => ?_) fun i => ?_
  · show (cfg5.win 2).cut (grid5.coords t) ((dat5 V c).after 2 t) = _
    rw [after5_2]
    funext y
    have ht := t.isLt
    obtain ⟨a, b, e⟩ : ∃ a b, y = ix2 a b := ⟨y 0, y 1, eq_ix2 y⟩
    have la : a.val < 1024 := a.isLt
    have lb : b.val < 1024 := b.isLt
    have e0 : (win5_2.blk t).view.emb (ix2 a b) 0 = (row5 t a) := Fin.ext (by blk_simp [idx5 t] <;> rfl)
    have e1 : (win5_2.blk t).view.emb (ix2 a b) 1 = b := Fin.ext (by blk_simp [idx5 t] <;> rfl)
    rw [e]
    refine (out5_2_apply _ _ a b).trans ?_
    show _ = nt X W ((win5_2.blk t).view.emb (ix2 a b) 0) ((win5_2.blk t).view.emb (ix2 a b) 1)
    rw [e0, e1]
    simp only [in5_0 hx t _ _, in5_1 hw t _ _, nt]
  · have h0 : (i 0).val < 4096 := (i 0).isLt
    have h1 : (i 1).val < 1024 := (i 1).isLt
    refine ⟨⟨(i 0).val / 1024, by omega⟩, flush5_2 _, ?_⟩
    mem_blk [idx5]
    simp only
    omega

theorem idx6 : ∀ t : Fin cfg6.N, win6_0.index t = ![0, 0] ∧ win6_1.index t = ![0, 0] ∧ win6_2.index t = ![0, 0] :=
  (by decide +kernel : ∀ t : Fin grid6.N, _)
theorem in6_0 {X : Fin 4096 → Fin 768 → EReal} (h : At2 (V c main_v5) X) (t : Fin cfg6.N) : At2 (iblk6 V c 0 t) (fun i d => X i d) := by
  intro i d
  have hN : cfg6.N = 1 := N_6
  have ht := t.isLt
  show iblk6 V c 0 t (ix2 i d) = X i d
  rw [← h]
  blk_ext [iblk6, idx6 t]
theorem in6_1 {W : Fin 4096 → Fin 256 → EReal} (h : At2 (V c main_v1) W) (t : Fin cfg6.N) : At2 (iblk6 V c 1 t) W := by
  intro i d
  have hN : cfg6.N = 1 := N_6
  have ht := t.isLt
  show iblk6 V c 1 t (ix2 i d) = W i d
  rw [← h]
  blk_ext [iblk6, idx6 t]
theorem final6_2 {X : Fin 4096 → Fin 768 → EReal} {W : Fin 4096 → Fin 256 → EReal} (hx : At2 (V c main_v5) X) (hw : At2 (V c main_v1) W) :
    (dat6 V c).arrAt 2 cfg6.N = fun y => tn X W (y 0) (y 1) := by
  have hN : cfg6.N = 1 := N_6
  refine (dat6 V c).arrAt_eq_of_cover 2 _ (fun t _ => ?_) fun i => ?_
  · show (cfg6.win 2).cut (grid6.coords t) ((dat6 V c).after 2 t) = _
    rw [after6_2]
    funext y
    have ht := t.isLt
    obtain ⟨a, b, e⟩ : ∃ a b, y = ix2 a b := ⟨y 0, y 1, eq_ix2 y⟩
    have la : a.val < 768 := a.isLt
    have lb : b.val < 256 := b.isLt
    have e0 : (win6_2.blk t).view.emb (ix2 a b) 0 = a := Fin.ext (by blk_simp [idx6 t] <;> rfl)
    have e1 : (win6_2.blk t).view.emb (ix2 a b) 1 = b := Fin.ext (by blk_simp [idx6 t] <;> rfl)
    rw [e]
    refine (out6_2_apply _ _ a b).trans ?_
    show _ = tn X W ((win6_2.blk t).view.emb (ix2 a b) 0) ((win6_2.blk t).view.emb (ix2 a b) 1)
    rw [e0, e1]
    simp only [in6_0 hx t _ _, in6_1 hw t _ _, tn]
  · have h0 : (i 0).val < 768 := (i 0).isLt
    have h1 : (i 1).val < 256 := (i 1).isLt
    refine ⟨⟨(i 0).val / 768, by omega⟩, flush6_2 _, ?_⟩
    mem_blk [idx6]
    simp only
    omega

theorem idx7 : ∀ t : Fin cfg7.N, win7_0.index t = ![t.val, 0] ∧ win7_1.index t = ![0, 0] ∧ win7_2.index t = ![t.val, 0] :=
  (by decide +kernel : ∀ t : Fin grid7.N, _)
/-- Row `i` of the rows of a grid point of call 7. -/
abbrev row7 (t : Fin cfg7.N) (i : Fin 1024) : Fin 4096 := ⟨t.val * 1024 + i.val, by have := t.isLt; have : cfg7.N = 4 := N_7; omega⟩
theorem in7_0 {X : Fin 4096 → Fin 768 → EReal} (h : At2 (V c main_v5) X) (t : Fin cfg7.N) : At2 (iblk7 V c 0 t) (fun i d => X (row7 t i) d) := by
  intro i d
  have hN : cfg7.N = 4 := N_7
  have ht := t.isLt
  show iblk7 V c 0 t (ix2 i d) = X (row7 t i) d
  rw [← h]
  blk_ext [iblk7, idx7 t]
theorem in7_1 {W : Fin 768 → Fin 256 → EReal} (h : At2 (V c main_v11) W) (t : Fin cfg7.N) : At2 (iblk7 V c 1 t) W := by
  intro i d
  have hN : cfg7.N = 4 := N_7
  have ht := t.isLt
  show iblk7 V c 1 t (ix2 i d) = W i d
  rw [← h]
  blk_ext [iblk7, idx7 t]
theorem final7_2 {X : Fin 4096 → Fin 768 → EReal} {W : Fin 768 → Fin 256 → EReal} (hx : At2 (V c main_v5) X) (hw : At2 (V c main_v11) W) :
    (dat7 V c).arrAt 2 cfg7.N = fun y => nn X W (y 0) (y 1) := by
  have hN : cfg7.N = 4 := N_7
  refine (dat7 V c).arrAt_eq_of_cover 2 _ (fun t _ => ?_) fun i => ?_
  · show (cfg7.win 2).cut (grid7.coords t) ((dat7 V c).after 2 t) = _
    rw [after7_2]
    funext y
    have ht := t.isLt
    obtain ⟨a, b, e⟩ : ∃ a b, y = ix2 a b := ⟨y 0, y 1, eq_ix2 y⟩
    have la : a.val < 1024 := a.isLt
    have lb : b.val < 256 := b.isLt
    have e0 : (win7_2.blk t).view.emb (ix2 a b) 0 = (row7 t a) := Fin.ext (by blk_simp [idx7 t] <;> rfl)
    have e1 : (win7_2.blk t).view.emb (ix2 a b) 1 = b := Fin.ext (by blk_simp [idx7 t] <;> rfl)
    rw [e]
    refine (out7_2_apply _ _ a b).trans ?_
    show _ = nn X W ((win7_2.blk t).view.emb (ix2 a b) 0) ((win7_2.blk t).view.emb (ix2 a b) 1)
    rw [e0, e1]
    simp only [in7_0 hx t _ _, in7_1 hw t _ _, nn]
  · have h0 : (i 0).val < 4096 := (i 0).isLt
    have h1 : (i 1).val < 256 := (i 1).isLt
    refine ⟨⟨(i 0).val / 1024, by omega⟩, flush7_2 _, ?_⟩
    mem_blk [idx7]
    simp only
    omega

theorem idx8 : ∀ t : Fin cfg8.N, win8_0.index t = ![0, 0] ∧ win8_1.index t = ![0, 0] ∧ win8_2.index t = ![0, 0] :=
  (by decide +kernel : ∀ t : Fin grid8.N, _)
theorem in8_0 {X : Fin 4096 → Fin 1152 → EReal} (h : At2 (V c main_v6) X) (t : Fin cfg8.N) : At2 (iblk8 V c 0 t) (fun i d => X i d) := by
  intro i d
  have hN : cfg8.N = 1 := N_8
  have ht := t.isLt
  show iblk8 V c 0 t (ix2 i d) = X i d
  rw [← h]
  blk_ext [iblk8, idx8 t]
theorem in8_1 {W : Fin 4096 → Fin 128 → EReal} (h : At2 (V c main_v2) W) (t : Fin cfg8.N) : At2 (iblk8 V c 1 t) W := by
  intro i d
  have hN : cfg8.N = 1 := N_8
  have ht := t.isLt
  show iblk8 V c 1 t (ix2 i d) = W i d
  rw [← h]
  blk_ext [iblk8, idx8 t]
theorem final8_2 {X : Fin 4096 → Fin 1152 → EReal} {W : Fin 4096 → Fin 128 → EReal} (hx : At2 (V c main_v6) X) (hw : At2 (V c main_v2) W) :
    (dat8 V c).arrAt 2 cfg8.N = fun y => tn X W (y 0) (y 1) := by
  have hN : cfg8.N = 1 := N_8
  refine (dat8 V c).arrAt_eq_of_cover 2 _ (fun t _ => ?_) fun i => ?_
  · show (cfg8.win 2).cut (grid8.coords t) ((dat8 V c).after 2 t) = _
    rw [after8_2]
    funext y
    have ht := t.isLt
    obtain ⟨a, b, e⟩ : ∃ a b, y = ix2 a b := ⟨y 0, y 1, eq_ix2 y⟩
    have la : a.val < 1152 := a.isLt
    have lb : b.val < 128 := b.isLt
    have e0 : (win8_2.blk t).view.emb (ix2 a b) 0 = a := Fin.ext (by blk_simp [idx8 t] <;> rfl)
    have e1 : (win8_2.blk t).view.emb (ix2 a b) 1 = b := Fin.ext (by blk_simp [idx8 t] <;> rfl)
    rw [e]
    refine (out8_2_apply _ _ a b).trans ?_
    show _ = tn X W ((win8_2.blk t).view.emb (ix2 a b) 0) ((win8_2.blk t).view.emb (ix2 a b) 1)
    rw [e0, e1]
    simp only [in8_0 hx t _ _, in8_1 hw t _ _, tn]
  · have h0 : (i 0).val < 1152 := (i 0).isLt
    have h1 : (i 1).val < 128 := (i 1).isLt
    refine ⟨⟨(i 0).val / 1152, by omega⟩, flush8_2 _, ?_⟩
    mem_blk [idx8]
    simp only
    omega

theorem idx9 : ∀ t : Fin cfg9.N, win9_0.index t = ![t.val, 0] ∧ win9_1.index t = ![0, 0] ∧ win9_2.index t = ![t.val, 0] :=
  (by decide +kernel : ∀ t : Fin grid9.N, _)
/-- Row `i` of the rows of a grid point of call 9. -/
abbrev row9 (t : Fin cfg9.N) (i : Fin 1024) : Fin 4096 := ⟨t.val * 1024 + i.val, by have := t.isLt; have : cfg9.N = 4 := N_9; omega⟩
theorem in9_0 {X : Fin 4096 → Fin 1152 → EReal} (h : At2 (V c main_v6) X) (t : Fin cfg9.N) : At2 (iblk9 V c 0 t) (fun i d => X (row9 t i) d) := by
  intro i d
  have hN : cfg9.N = 4 := N_9
  have ht := t.isLt
  show iblk9 V c 0 t (ix2 i d) = X (row9 t i) d
  rw [← h]
  blk_ext [iblk9, idx9 t]
theorem in9_1 {W : Fin 1152 → Fin 128 → EReal} (h : At2 (V c main_v13) W) (t : Fin cfg9.N) : At2 (iblk9 V c 1 t) W := by
  intro i d
  have hN : cfg9.N = 4 := N_9
  have ht := t.isLt
  show iblk9 V c 1 t (ix2 i d) = W i d
  rw [← h]
  blk_ext [iblk9, idx9 t]
theorem final9_2 {X : Fin 4096 → Fin 1152 → EReal} {W : Fin 1152 → Fin 128 → EReal} (hx : At2 (V c main_v6) X) (hw : At2 (V c main_v13) W) :
    (dat9 V c).arrAt 2 cfg9.N = fun y => nn X W (y 0) (y 1) := by
  have hN : cfg9.N = 4 := N_9
  refine (dat9 V c).arrAt_eq_of_cover 2 _ (fun t _ => ?_) fun i => ?_
  · show (cfg9.win 2).cut (grid9.coords t) ((dat9 V c).after 2 t) = _
    rw [after9_2]
    funext y
    have ht := t.isLt
    obtain ⟨a, b, e⟩ : ∃ a b, y = ix2 a b := ⟨y 0, y 1, eq_ix2 y⟩
    have la : a.val < 1024 := a.isLt
    have lb : b.val < 128 := b.isLt
    have e0 : (win9_2.blk t).view.emb (ix2 a b) 0 = (row9 t a) := Fin.ext (by blk_simp [idx9 t] <;> rfl)
    have e1 : (win9_2.blk t).view.emb (ix2 a b) 1 = b := Fin.ext (by blk_simp [idx9 t] <;> rfl)
    rw [e]
    refine (out9_2_apply _ _ a b).trans ?_
    show _ = nn X W ((win9_2.blk t).view.emb (ix2 a b) 0) ((win9_2.blk t).view.emb (ix2 a b) 1)
    rw [e0, e1]
    simp only [in9_0 hx t _ _, in9_1 hw t _ _, nn]
  · have h0 : (i 0).val < 4096 := (i 0).isLt
    have h1 : (i 1).val < 128 := (i 1).isLt
    refine ⟨⟨(i 0).val / 1024, by omega⟩, flush9_2 _, ?_⟩
    mem_blk [idx9]
    simp only
    omega

theorem idx10 : ∀ t : Fin cfg10.N, win10_0.index t = ![t.val, 0] ∧ win10_1.index t = ![0, 0] ∧ win10_2.index t = ![t.val, 0] :=
  (by decide +kernel : ∀ t : Fin grid10.N, _)
/-- Row `i` of the rows of a grid point of call 10. -/
abbrev row10 (t : Fin cfg10.N) (i : Fin 1024) : Fin 4096 := ⟨t.val * 1024 + i.val, by have := t.isLt; have : cfg10.N = 4 := N_10; omega⟩
theorem in10_0 {X : Fin 4096 → Fin 2176 → EReal} (h : At2 (V c main_v4) X) (t : Fin cfg10.N) : At2 (iblk10 V c 0 t) (fun i d => X (row10 t i) d) := by
  intro i d
  have hN : cfg10.N = 4 := N_10
  have ht := t.isLt
  show iblk10 V c 0 t (ix2 i d) = X (row10 t i) d
  rw [← h]
  blk_ext [iblk10, idx10 t]
theorem in10_1 {W : Fin 2176 → Fin 1024 → EReal} (h : At2 (V c main_v9) W) (t : Fin cfg10.N) : At2 (iblk10 V c 1 t) W := by
  intro i d
  have hN : cfg10.N = 4 := N_10
  have ht := t.isLt
  show iblk10 V c 1 t (ix2 i d) = W i d
  rw [← h]
  blk_ext [iblk10, idx10 t]
theorem final10_2 {X : Fin 4096 → Fin 2176 → EReal} {W : Fin 2176 → Fin 1024 → EReal} (hx : At2 (V c main_v4) X) (hw : At2 (V c main_v9) W) :
    (dat10 V c).arrAt 2 cfg10.N = fun y => nn X W (y 0) (y 1) := by
  have hN : cfg10.N = 4 := N_10
  refine (dat10 V c).arrAt_eq_of_cover 2 _ (fun t _ => ?_) fun i => ?_
  · show (cfg10.win 2).cut (grid10.coords t) ((dat10 V c).after 2 t) = _
    rw [after10_2]
    funext y
    have ht := t.isLt
    obtain ⟨a, b, e⟩ : ∃ a b, y = ix2 a b := ⟨y 0, y 1, eq_ix2 y⟩
    have la : a.val < 1024 := a.isLt
    have lb : b.val < 1024 := b.isLt
    have e0 : (win10_2.blk t).view.emb (ix2 a b) 0 = (row10 t a) := Fin.ext (by blk_simp [idx10 t] <;> rfl)
    have e1 : (win10_2.blk t).view.emb (ix2 a b) 1 = b := Fin.ext (by blk_simp [idx10 t] <;> rfl)
    rw [e]
    refine (out10_2_apply _ _ a b).trans ?_
    show _ = nn X W ((win10_2.blk t).view.emb (ix2 a b) 0) ((win10_2.blk t).view.emb (ix2 a b) 1)
    rw [e0, e1]
    simp only [in10_0 hx t _ _, in10_1 hw t _ _, nn]
  · have h0 : (i 0).val < 4096 := (i 0).isLt
    have h1 : (i 1).val < 1024 := (i 1).isLt
    refine ⟨⟨(i 0).val / 1024, by omega⟩, flush10_2 _, ?_⟩
    mem_blk [idx10]
    simp only
    omega

end Cert.Prj

end
-- ==== Proof.PrjKernel.lean ====
/-
  The projections' program: its host arrays, its calls one after the other, and its eleven results.
-/
module

public import proofs.«01_k».proof.Proof.PrjValue
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Prj

variable (m : (ℓ : Loc nD τ Cert.Kernel4Ideal.sig) → Buf (Elt Ideal) ℓ) (ρ : Dev nD → PrngReg) (c : Dev nD)

theorem V1_v0 : V1 m ρ c main_v0 = truncf (F := Ideal) (s := S4096x1024) (φ := .f32) .bf16 (m ((c : Thread nD τ).loc main_arg0)) bitsLt_bf16_f32 := by
  show W1 m ρ c (Proc.devRef .tc main_v0) = _
  simp only [W1, hostOps0, StableHlo.TRef.binary, StableHlo.TRef.unary, StableHlo.TRef.toBuf, StableHlo.TRef.ofBuf, cast_eq]
  after_results_simp <;> rfl
theorem v1_v0 : At2 (V1 m ρ c main_v0) (ar (m ((c : Thread nD τ).loc main_arg0))) := fun i j => congrFun (V1_v0 m ρ c) _
theorem V1_v1 : V1 m ρ c main_v1 = truncf (F := Ideal) (s := S4096x256) (φ := .f32) .bf16 (m ((c : Thread nD τ).loc main_arg1)) bitsLt_bf16_f32 := by
  show W1 m ρ c (Proc.devRef .tc main_v1) = _
  simp only [W1, hostOps0, StableHlo.TRef.binary, StableHlo.TRef.unary, StableHlo.TRef.toBuf, StableHlo.TRef.ofBuf, cast_eq]
  after_results_simp <;> rfl
theorem v1_v1 : At2 (V1 m ρ c main_v1) (ar (m ((c : Thread nD τ).loc main_arg1))) := fun i j => congrFun (V1_v1 m ρ c) _
theorem V1_v2 : V1 m ρ c main_v2 = truncf (F := Ideal) (s := S4096x128) (φ := .f32) .bf16 (m ((c : Thread nD τ).loc main_arg2)) bitsLt_bf16_f32 := by
  show W1 m ρ c (Proc.devRef .tc main_v2) = _
  simp only [W1, hostOps0, StableHlo.TRef.binary, StableHlo.TRef.unary, StableHlo.TRef.toBuf, StableHlo.TRef.ofBuf, cast_eq]
  after_results_simp <;> rfl
theorem v1_v2 : At2 (V1 m ρ c main_v2) (ar (m ((c : Thread nD τ).loc main_arg2))) := fun i j => congrFun (V1_v2 m ρ c) _
theorem V1_v3 : V1 m ρ c main_v3 = truncf (F := Ideal) (s := S4096x1024) (φ := .f32) .bf16 (m ((c : Thread nD τ).loc main_arg3)) bitsLt_bf16_f32 := by
  show W1 m ρ c (Proc.devRef .tc main_v3) = _
  simp only [W1, hostOps0, StableHlo.TRef.binary, StableHlo.TRef.unary, StableHlo.TRef.toBuf, StableHlo.TRef.ofBuf, cast_eq]
  after_results_simp <;> rfl
theorem v1_v3 : At2 (V1 m ρ c main_v3) (ar (m ((c : Thread nD τ).loc main_arg3))) := fun i j => congrFun (V1_v3 m ρ c) _
theorem V1_v4 : V1 m ρ c main_v4 = truncf (F := Ideal) (s := S4096x2176) (φ := .f32) .bf16 (m ((c : Thread nD τ).loc main_arg8)) bitsLt_bf16_f32 := by
  show W1 m ρ c (Proc.devRef .tc main_v4) = _
  simp only [W1, hostOps0, StableHlo.TRef.binary, StableHlo.TRef.unary, StableHlo.TRef.toBuf, StableHlo.TRef.ofBuf, cast_eq]
  after_results_simp <;> rfl
theorem v1_v4 : At2 (V1 m ρ c main_v4) (ar (m ((c : Thread nD τ).loc main_arg8))) := fun i j => congrFun (V1_v4 m ρ c) _
theorem V1_v5 : V1 m ρ c main_v5 = truncf (F := Ideal) (s := S4096x768) (φ := .f32) .bf16 (m ((c : Thread nD τ).loc main_arg9)) bitsLt_bf16_f32 := by
  show W1 m ρ c (Proc.devRef .tc main_v5) = _
  simp only [W1, hostOps0, StableHlo.TRef.binary, StableHlo.TRef.unary, StableHlo.TRef.toBuf, StableHlo.TRef.ofBuf, cast_eq]
  after_results_simp <;> rfl
theorem v1_v5 : At2 (V1 m ρ c main_v5) (ar (m ((c : Thread nD τ).loc main_arg9))) := fun i j => congrFun (V1_v5 m ρ c) _
theorem V1_v6 : V1 m ρ c main_v6 = truncf (F := Ideal) (s := S4096x1152) (φ := .f32) .bf16 (m ((c : Thread nD τ).loc main_arg10)) bitsLt_bf16_f32 := by
  show W1 m ρ c (Proc.devRef .tc main_v6) = _
  simp only [W1, hostOps0, StableHlo.TRef.binary, StableHlo.TRef.unary, StableHlo.TRef.toBuf, StableHlo.TRef.ofBuf, cast_eq]
  after_results_simp <;> rfl
theorem v1_v6 : At2 (V1 m ρ c main_v6) (ar (m ((c : Thread nD τ).loc main_arg10))) := fun i j => congrFun (V1_v6 m ρ c) _
theorem V1_v7 : V1 m ρ c main_v7 = truncf (F := Ideal) (s := S4096x1024) (φ := .f32) .bf16 (m ((c : Thread nD τ).loc main_arg11)) bitsLt_bf16_f32 := by
  show W1 m ρ c (Proc.devRef .tc main_v7) = _
  simp only [W1, hostOps0, StableHlo.TRef.binary, StableHlo.TRef.unary, StableHlo.TRef.toBuf, StableHlo.TRef.ofBuf, cast_eq]
  after_results_simp <;> rfl
theorem v1_v7 : At2 (V1 m ρ c main_v7) (ar (m ((c : Thread nD τ).loc main_arg11))) := fun i j => congrFun (V1_v7 m ρ c) _
/-- The weight of argument 4 with its axes swapped. -/
def swap4 (w : FVec Ideal S1024x2176 .f32) : FVec Ideal S2176x1024 .bf16 := truncf .bf16 (transpose S2176x1024 [1, 0] w transposes_S1024x2176_S2176x1024_1_0) bitsLt_bf16_f32
theorem swap4_apply (w : FVec Ideal S1024x2176 .f32) (i : Fin 2176) (j : Fin 1024) : swap4 w (ix2 i j) = w (ix2 j i) := by pointwise [swap4]
theorem V1_v9 : V1 m ρ c main_v9 = swap4 (m ((c : Thread nD τ).loc main_arg4)) := by
  show W1 m ρ c (Proc.devRef .tc main_v9) = _
  simp only [W1, hostOps0, StableHlo.TRef.binary, StableHlo.TRef.unary, StableHlo.TRef.toBuf, StableHlo.TRef.ofBuf, cast_eq]
  after_results_simp <;> rfl
theorem v1_v9 : At2 (V1 m ρ c main_v9) (fun i j => ar (m ((c : Thread nD τ).loc main_arg4)) j i) := fun i j => (congrFun (V1_v9 m ρ c) _).trans (swap4_apply _ i j)
/-- The weight of argument 5 with its axes swapped. -/
def swap5 (w : FVec Ideal S256x768 .f32) : FVec Ideal S768x256 .bf16 := truncf .bf16 (transpose S768x256 [1, 0] w transposes_S256x768_S768x256_1_0) bitsLt_bf16_f32
theorem swap5_apply (w : FVec Ideal S256x768 .f32) (i : Fin 768) (j : Fin 256) : swap5 w (ix2 i j) = w (ix2 j i) := by pointwise [swap5]
theorem V1_v11 : V1 m ρ c main_v11 = swap5 (m ((c : Thread nD τ).loc main_arg5)) := by
  show W1 m ρ c (Proc.devRef .tc main_v11) = _
  simp only [W1, hostOps0, StableHlo.TRef.binary, StableHlo.TRef.unary, StableHlo.TRef.toBuf, StableHlo.TRef.ofBuf, cast_eq]
  after_results_simp <;> rfl
theorem v1_v11 : At2 (V1 m ρ c main_v11) (fun i j => ar (m ((c : Thread nD τ).loc main_arg5)) j i) := fun i j => (congrFun (V1_v11 m ρ c) _).trans (swap5_apply _ i j)
/-- The weight of argument 6 with its axes swapped. -/
def swap6 (w : FVec Ideal S128x1152 .f32) : FVec Ideal S1152x128 .bf16 := truncf .bf16 (transpose S1152x128 [1, 0] w transposes_S128x1152_S1152x128_1_0) bitsLt_bf16_f32
theorem swap6_apply (w : FVec Ideal S128x1152 .f32) (i : Fin 1152) (j : Fin 128) : swap6 w (ix2 i j) = w (ix2 j i) := by pointwise [swap6]
theorem V1_v13 : V1 m ρ c main_v13 = swap6 (m ((c : Thread nD τ).loc main_arg6)) := by
  show W1 m ρ c (Proc.devRef .tc main_v13) = _
  simp only [W1, hostOps0, StableHlo.TRef.binary, StableHlo.TRef.unary, StableHlo.TRef.toBuf, StableHlo.TRef.ofBuf, cast_eq]
  after_results_simp <;> rfl
theorem v1_v13 : At2 (V1 m ρ c main_v13) (fun i j => ar (m ((c : Thread nD τ).loc main_arg6)) j i) := fun i j => (congrFun (V1_v13 m ρ c) _).trans (swap6_apply _ i j)
theorem V1_v14 : V1 m ρ c main_v14 = truncf (F := Ideal) (s := S1024x1024) (φ := .f32) .bf16 (m ((c : Thread nD τ).loc main_arg7)) bitsLt_bf16_f32 := by
  show W1 m ρ c (Proc.devRef .tc main_v14) = _
  simp only [W1, hostOps0, StableHlo.TRef.binary, StableHlo.TRef.unary, StableHlo.TRef.toBuf, StableHlo.TRef.ofBuf, cast_eq]
  after_results_simp <;> rfl
theorem v1_v14 : At2 (V1 m ρ c main_v14) (ar (m ((c : Thread nD τ).loc main_arg7))) := fun i j => congrFun (V1_v14 m ρ c) _
/-- What call 0 leaves. -/
theorem res_v15 (i : Fin 4096) (j : Fin 2176) : W12 m ρ c (Proc.devRef .tc main_v15) (ix2 i j) = nn (ar (m ((c : Thread nD τ).loc main_arg0))) (ar (m ((c : Thread nD τ).loc main_arg4))) i j :=
  congrFun ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans ((W6_of m ρ c main_v15 (by decide)).trans ((W5_of m ρ c main_v15 (by decide)).trans ((W4_of m ρ c main_v15 (by decide)).trans ((W3_of m ρ c main_v15 (by decide)).trans ((W2_arr m ρ c 2).trans (final0_2 (v1_v0 m ρ c) (v1_v9 m ρ c))))))))))))) (ix2 i j)
/-- What call 1 leaves. -/
theorem res_v16 (i : Fin 4096) (j : Fin 768) : W12 m ρ c (Proc.devRef .tc main_v16) (ix2 i j) = nn (ar (m ((c : Thread nD τ).loc main_arg1))) (ar (m ((c : Thread nD τ).loc main_arg5))) i j :=
  congrFun ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_arr m ρ c 2).trans (final1_2 (fun i j => (congrFun (W2_of m ρ c main_v1 (by decide)) (ix2 i j)).trans (v1_v1 m ρ c i j)) (fun i j => (congrFun (W2_of m ρ c main_v11 (by decide)) (ix2 i j)).trans (v1_v11 m ρ c i j))))))))))))) (ix2 i j)
/-- What call 2 leaves. -/
theorem res_v17 (i : Fin 4096) (j : Fin 1152) : W12 m ρ c (Proc.devRef .tc main_v17) (ix2 i j) = nn (ar (m ((c : Thread nD τ).loc main_arg2))) (ar (m ((c : Thread nD τ).loc main_arg6))) i j :=
  congrFun ((W12_of m ρ c main_v17 (by decide)).trans ((W11_of m ρ c main_v17 (by decide)).trans ((W10_of m ρ c main_v17 (by decide)).trans ((W9_of m ρ c main_v17 (by decide)).trans ((W8_of m ρ c main_v17 (by decide)).trans ((W7_of m ρ c main_v17 (by decide)).trans ((W6_of m ρ c main_v17 (by decide)).trans ((W5_of m ρ c main_v17 (by decide)).trans ((W4_arr m ρ c 2).trans (final2_2 (fun i j => (congrFun ((W3_of m ρ c main_v2 (by decide)).trans (W2_of m ρ c main_v2 (by decide))) (ix2 i j)).trans (v1_v2 m ρ c i j)) (fun i j => (congrFun ((W3_of m ρ c main_v13 (by decide)).trans (W2_of m ρ c main_v13 (by decide))) (ix2 i j)).trans (v1_v13 m ρ c i j)))))))))))) (ix2 i j)
/-- What call 3 leaves. -/
theorem res_v18 (i : Fin 4096) (j : Fin 1024) : W12 m ρ c (Proc.devRef .tc main_v18) (ix2 i j) = nn (ar (m ((c : Thread nD τ).loc main_arg3))) (ar (m ((c : Thread nD τ).loc main_arg7))) i j :=
  congrFun ((W12_of m ρ c main_v18 (by decide)).trans ((W11_of m ρ c main_v18 (by decide)).trans ((W10_of m ρ c main_v18 (by decide)).trans ((W9_of m ρ c main_v18 (by decide)).trans ((W8_of m ρ c main_v18 (by decide)).trans ((W7_of m ρ c main_v18 (by decide)).trans ((W6_of m ρ c main_v18 (by decide)).trans ((W5_arr m ρ c 2).trans (final3_2 (fun i j => (congrFun ((W4_of m ρ c main_v3 (by decide)).trans ((W3_of m ρ c main_v3 (by decide)).trans (W2_of m ρ c main_v3 (by decide)))) (ix2 i j)).trans (v1_v3 m ρ c i j)) (fun i j => (congrFun ((W4_of m ρ c main_v14 (by decide)).trans ((W3_of m ρ c main_v14 (by decide)).trans (W2_of m ρ c main_v14 (by decide)))) (ix2 i j)).trans (v1_v14 m ρ c i j))))))))))) (ix2 i j)
/-- What call 4 leaves. -/
theorem res_v19 (i : Fin 1024) (j : Fin 1024) : W12 m ρ c (Proc.devRef .tc main_v19) (ix2 i j) = tn (ar (m ((c : Thread nD τ).loc main_arg3))) (ar (m ((c : Thread nD τ).loc main_arg11))) i j :=
  congrFun ((W12_of m ρ c main_v19 (by decide)).trans ((W11_of m ρ c main_v19 (by decide)).trans ((W10_of m ρ c main_v19 (by decide)).trans ((W9_of m ρ c main_v19 (by decide)).trans ((W8_of m ρ c main_v19 (by decide)).trans ((W7_of m ρ c main_v19 (by decide)).trans ((W6_arr m ρ c 2).trans (final4_2 (fun i j => (congrFun ((W5_of m ρ c main_v3 (by decide)).trans ((W4_of m ρ c main_v3 (by decide)).trans ((W3_of m ρ c main_v3 (by decide)).trans (W2_of m ρ c main_v3 (by decide))))) (ix2 i j)).trans (v1_v3 m ρ c i j)) (fun i j => (congrFun ((W5_of m ρ c main_v7 (by decide)).trans ((W4_of m ρ c main_v7 (by decide)).trans ((W3_of m ρ c main_v7 (by decide)).trans (W2_of m ρ c main_v7 (by decide))))) (ix2 i j)).trans (v1_v7 m ρ c i j)))))))))) (ix2 i j)
/-- What call 5 leaves. -/
theorem res_v20 (i : Fin 4096) (j : Fin 1024) : W12 m ρ c (Proc.devRef .tc main_v20) (ix2 i j) = nt (ar (m ((c : Thread nD τ).loc main_arg11))) (ar (m ((c : Thread nD τ).loc main_arg7))) i j :=
  congrFun ((W12_of m ρ c main_v20 (by decide)).trans ((W11_of m ρ c main_v20 (by decide)).trans ((W10_of m ρ c main_v20 (by decide)).trans ((W9_of m ρ c main_v20 (by decide)).trans ((W8_of m ρ c main_v20 (by decide)).trans ((W7_arr m ρ c 2).trans (final5_2 (fun i j => (congrFun ((W6_of m ρ c main_v7 (by decide)).trans ((W5_of m ρ c main_v7 (by decide)).trans ((W4_of m ρ c main_v7 (by decide)).trans ((W3_of m ρ c main_v7 (by decide)).trans (W2_of m ρ c main_v7 (by decide)))))) (ix2 i j)).trans (v1_v7 m ρ c i j)) (fun i j => (congrFun ((W6_of m ρ c main_v14 (by decide)).trans ((W5_of m ρ c main_v14 (by decide)).trans ((W4_of m ρ c main_v14 (by decide)).trans ((W3_of m ρ c main_v14 (by decide)).trans (W2_of m ρ c main_v14 (by decide)))))) (ix2 i j)).trans (v1_v14 m ρ c i j))))))))) (ix2 i j)
/-- What call 6 leaves. -/
theorem res_v21 (i : Fin 768) (j : Fin 256) : W12 m ρ c (Proc.devRef .tc main_v21) (ix2 i j) = tn (ar (m ((c : Thread nD τ).loc main_arg9))) (ar (m ((c : Thread nD τ).loc main_arg1))) i j :=
  congrFun ((W12_of m ρ c main_v21 (by decide)).trans ((W11_of m ρ c main_v21 (by decide)).trans ((W10_of m ρ c main_v21 (by decide)).trans ((W9_of m ρ c main_v21 (by decide)).trans ((W8_arr m ρ c 2).trans (final6_2 (fun i j => (congrFun ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide))))))) (ix2 i j)).trans (v1_v5 m ρ c i j)) (fun i j => (congrFun ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))) (ix2 i j)).trans (v1_v1 m ρ c i j)))))))) (ix2 i j)
/-- What call 7 leaves. -/
theorem res_v22 (i : Fin 4096) (j : Fin 256) : W12 m ρ c (Proc.devRef .tc main_v22) (ix2 i j) = nt (ar (m ((c : Thread nD τ).loc main_arg9))) (ar (m ((c : Thread nD τ).loc main_arg5))) i j :=
  congrFun ((W12_of m ρ c main_v22 (by decide)).trans ((W11_of m ρ c main_v22 (by decide)).trans ((W10_of m ρ c main_v22 (by decide)).trans ((W9_arr m ρ c 2).trans (final7_2 (fun i j => (congrFun ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide)))))))) (ix2 i j)).trans (v1_v5 m ρ c i j)) (fun i j => (congrFun ((W8_of m ρ c main_v11 (by decide)).trans ((W7_of m ρ c main_v11 (by decide)).trans ((W6_of m ρ c main_v11 (by decide)).trans ((W5_of m ρ c main_v11 (by decide)).trans ((W4_of m ρ c main_v11 (by decide)).trans ((W3_of m ρ c main_v11 (by decide)).trans (W2_of m ρ c main_v11 (by decide)))))))) (ix2 i j)).trans (v1_v11 m ρ c i j))))))) (ix2 i j)
/-- What call 8 leaves. -/
theorem res_v23 (i : Fin 1152) (j : Fin 128) : W12 m ρ c (Proc.devRef .tc main_v23) (ix2 i j) = tn (ar (m ((c : Thread nD τ).loc main_arg10))) (ar (m ((c : Thread nD τ).loc main_arg2))) i j :=
  congrFun ((W12_of m ρ c main_v23 (by decide)).trans ((W11_of m ρ c main_v23 (by decide)).trans ((W10_arr m ρ c 2).trans (final8_2 (fun i j => (congrFun ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide))))))))) (ix2 i j)).trans (v1_v6 m ρ c i j)) (fun i j => (congrFun ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide))))))))) (ix2 i j)).trans (v1_v2 m ρ c i j)))))) (ix2 i j)
/-- What call 9 leaves. -/
theorem res_v24 (i : Fin 4096) (j : Fin 128) : W12 m ρ c (Proc.devRef .tc main_v24) (ix2 i j) = nt (ar (m ((c : Thread nD τ).loc main_arg10))) (ar (m ((c : Thread nD τ).loc main_arg6))) i j :=
  congrFun ((W12_of m ρ c main_v24 (by decide)).trans ((W11_arr m ρ c 2).trans (final9_2 (fun i j => (congrFun ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))))) (ix2 i j)).trans (v1_v6 m ρ c i j)) (fun i j => (congrFun ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)).trans ((W4_of m ρ c main_v13 (by decide)).trans ((W3_of m ρ c main_v13 (by decide)).trans (W2_of m ρ c main_v13 (by decide)))))))))) (ix2 i j)).trans (v1_v13 m ρ c i j))))) (ix2 i j)
/-- What call 10 leaves. -/
theorem res_v25 (i : Fin 4096) (j : Fin 1024) : W12 m ρ c (Proc.devRef .tc main_v25) (ix2 i j) = nt (ar (m ((c : Thread nD τ).loc main_arg8))) (ar (m ((c : Thread nD τ).loc main_arg4))) i j :=
  congrFun ((W12_arr m ρ c 2).trans (final10_2 (fun i j => (congrFun ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (W2_of m ρ c main_v4 (by decide))))))))))) (ix2 i j)).trans (v1_v4 m ρ c i j)) (fun i j => (congrFun ((W11_of m ρ c main_v9 (by decide)).trans ((W10_of m ρ c main_v9 (by decide)).trans ((W9_of m ρ c main_v9 (by decide)).trans ((W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (W2_of m ρ c main_v9 (by decide))))))))))) (ix2 i j)).trans (v1_v9 m ρ c i j)))) (ix2 i j)

end Cert.Prj

end
-- ==== Proof.PrjRef.lean ====
/-
  The projections' reference: its run and its results, each read at an index.
-/
module

public import proofs.«01_k».proof.Proof.PrjBlock
public import proofs.«01_k».proof.Proof.Gen.Reference4Ideal.Run
public import Idealize.ShloMosaic.Lib.IdealHost

@[expose] public section

set_option maxRecDepth 65536

noncomputable section

open Idealize.ShloMosaic Idealize.ShloMosaic.TcCoe Idealize.SL.Sem
open Cert.Reference4Ideal Cert.Reference4Ideal.Gen

namespace Cert.PrjRef

open Cert.Prj (nn nt tn ar)

/-- The input projection. -/
def hW (x : FVec Ideal S4096x1024 .f32) (w : FVec Ideal S1024x2176 .f32) : FVec Ideal S4096x2176 .f32 :=
  Host.dotGeneral dot_S4096x1024_S1024x2176_S4096x2176_1_0_0_1_n_n none x w
theorem hW_apply (x : FVec Ideal S4096x1024 .f32) (w : FVec Ideal S1024x2176 .f32) (i : Fin 4096) (j : Fin 2176) :
    hW x w (ix2 i j) = nn (ar x) (ar w) i j := by
  show _ = ∑ q : Fin 1024, (x (ix2 i q) : EReal) * w (ix2 q j)
  pointwise [hW]
/-- The latent queries. -/
def qW (x : FVec Ideal S4096x256 .f32) (w : FVec Ideal S256x768 .f32) : FVec Ideal S4096x768 .f32 :=
  Host.dotGeneral dot_S4096x256_S256x768_S4096x768_1_0_0_1_n_n none x w
theorem qW_apply (x : FVec Ideal S4096x256 .f32) (w : FVec Ideal S256x768 .f32) (i : Fin 4096) (j : Fin 768) :
    qW x w (ix2 i j) = nn (ar x) (ar w) i j := by
  show _ = ∑ q : Fin 256, (x (ix2 i q) : EReal) * w (ix2 q j)
  pointwise [qW]
/-- The latent keys and values. -/
def kvW (x : FVec Ideal S4096x128 .f32) (w : FVec Ideal S128x1152 .f32) : FVec Ideal S4096x1152 .bf16 :=
  truncf .bf16 (Host.dotGeneral dot_S4096x128_S128x1152_S4096x1152_1_0_0_1_n_n none x w) bitsLt_bf16_f32
theorem kvW_apply (x : FVec Ideal S4096x128 .f32) (w : FVec Ideal S128x1152 .f32) (i : Fin 4096) (j : Fin 1152) :
    kvW x w (ix2 i j) = nn (ar x) (ar w) i j := by
  show _ = ∑ q : Fin 128, (x (ix2 i q) : EReal) * w (ix2 q j)
  pointwise [kvW]
/-- The output projection. -/
def mixW (x : FVec Ideal S4096x1024 .f32) (w : FVec Ideal S1024x1024 .f32) : FVec Ideal S4096x1024 .f32 :=
  Host.dotGeneral dot_S4096x1024_S1024x1024_S4096x1024_1_0_0_1_n_n none x w
theorem mixW_apply (x : FVec Ideal S4096x1024 .f32) (w : FVec Ideal S1024x1024 .f32) (i : Fin 4096) (j : Fin 1024) :
    mixW x w (ix2 i j) = nn (ar x) (ar w) i j := by
  show _ = ∑ q : Fin 1024, (x (ix2 i q) : EReal) * w (ix2 q j)
  pointwise [mixW]
/-- The output projection weight's gradient: of the input and the cotangent. -/
def goutW (x : FVec Ideal S4096x1024 .f32) (w : FVec Ideal S4096x1024 .f32) : FVec Ideal S1024x1024 .bf16 :=
  truncf .bf16 (transpose S1024x1024 [1, 0] (Host.dotGeneral dot_S4096x1024_S4096x1024_S1024x1024_0_0_1_1_n_n none w x) transposes_S1024x1024_S1024x1024_1_0) bitsLt_bf16_f32
theorem goutW_apply (x : FVec Ideal S4096x1024 .f32) (w : FVec Ideal S4096x1024 .f32) (i : Fin 1024) (j : Fin 1024) :
    goutW x w (ix2 i j) = tn (ar x) (ar w) i j := by
  have e : goutW x w (ix2 i j) = ∑ q : Fin 4096, (w (ix2 q j) : EReal) * x (ix2 q i) := by pointwise [goutW]
  rw [e]
  exact Finset.sum_congr rfl fun q _ => mul_comm _ _
/-- The output projection input's gradient. -/
def dcatW (x : FVec Ideal S4096x1024 .f32) (w : FVec Ideal S1024x1024 .f32) : FVec Ideal S4096x1024 .f32 :=
  Host.dotGeneral dot_S4096x1024_S1024x1024_S4096x1024_1_1_0_0_n_n none x w
theorem dcatW_apply (x : FVec Ideal S4096x1024 .f32) (w : FVec Ideal S1024x1024 .f32) (i : Fin 4096) (j : Fin 1024) :
    dcatW x w (ix2 i j) = nt (ar x) (ar w) i j := by
  show _ = ∑ q : Fin 1024, (x (ix2 i q) : EReal) * w (ix2 j q)
  pointwise [dcatW]
/-- The latent queries weight's gradient. -/
def guqW (x : FVec Ideal S4096x768 .f32) (w : FVec Ideal S4096x256 .f32) : FVec Ideal S768x256 .bf16 :=
  truncf .bf16 (transpose S768x256 [1, 0] (transpose S256x768 [1, 0] (Host.dotGeneral dot_S4096x768_S4096x256_S768x256_0_0_1_1_n_n none x w) transposes_S768x256_S256x768_1_0) transposes_S256x768_S768x256_1_0) bitsLt_bf16_f32
theorem guqW_apply (x : FVec Ideal S4096x768 .f32) (w : FVec Ideal S4096x256 .f32) (i : Fin 768) (j : Fin 256) :
    guqW x w (ix2 i j) = tn (ar x) (ar w) i j := by
  show _ = ∑ q : Fin 4096, (x (ix2 q i) : EReal) * w (ix2 q j)
  pointwise [guqW]
/-- The latent queries input's gradient. -/
def dcqW (x : FVec Ideal S4096x768 .f32) (w : FVec Ideal S256x768 .f32) : FVec Ideal S4096x256 .f32 :=
  Host.dotGeneral dot_S4096x768_S256x768_S4096x256_1_1_0_0_n_n none x w
theorem dcqW_apply (x : FVec Ideal S4096x768 .f32) (w : FVec Ideal S256x768 .f32) (i : Fin 4096) (j : Fin 256) :
    dcqW x w (ix2 i j) = nt (ar x) (ar w) i j := by
  show _ = ∑ q : Fin 768, (x (ix2 i q) : EReal) * w (ix2 j q)
  pointwise [dcqW]
/-- The latent keys and values weight's gradient. -/
def gukvW (x : FVec Ideal S4096x1152 .f32) (w : FVec Ideal S4096x128 .f32) : FVec Ideal S1152x128 .bf16 :=
  truncf .bf16 (transpose S1152x128 [1, 0] (transpose S128x1152 [1, 0] (Host.dotGeneral dot_S4096x1152_S4096x128_S1152x128_0_0_1_1_n_n none x w) transposes_S1152x128_S128x1152_1_0) transposes_S128x1152_S1152x128_1_0) bitsLt_bf16_f32
theorem gukvW_apply (x : FVec Ideal S4096x1152 .f32) (w : FVec Ideal S4096x128 .f32) (i : Fin 1152) (j : Fin 128) :
    gukvW x w (ix2 i j) = tn (ar x) (ar w) i j := by
  show _ = ∑ q : Fin 4096, (x (ix2 q i) : EReal) * w (ix2 q j)
  pointwise [gukvW]
/-- The latent keys and values input's gradient. -/
def dckvW (x : FVec Ideal S4096x1152 .f32) (w : FVec Ideal S128x1152 .f32) : FVec Ideal S4096x128 .f32 :=
  Host.dotGeneral dot_S4096x1152_S128x1152_S4096x128_1_1_0_0_n_n none x w
theorem dckvW_apply (x : FVec Ideal S4096x1152 .f32) (w : FVec Ideal S128x1152 .f32) (i : Fin 4096) (j : Fin 128) :
    dckvW x w (ix2 i j) = nt (ar x) (ar w) i j := by
  show _ = ∑ q : Fin 1152, (x (ix2 i q) : EReal) * w (ix2 j q)
  pointwise [dckvW]
/-- The input projection input's gradient. -/
def dxW (x : FVec Ideal S4096x2176 .f32) (w : FVec Ideal S1024x2176 .f32) : FVec Ideal S4096x1024 .f32 :=
  Host.dotGeneral dot_S4096x2176_S1024x2176_S4096x1024_1_1_0_0_n_n none x w
theorem dxW_apply (x : FVec Ideal S4096x2176 .f32) (w : FVec Ideal S1024x2176 .f32) (i : Fin 4096) (j : Fin 1024) :
    dxW x w (ix2 i j) = nt (ar x) (ar w) i j := by
  show _ = ∑ q : Fin 2176, (x (ix2 i q) : EReal) * w (ix2 j q)
  pointwise [dxW]

set_option maxHeartbeats 2000000 in
/-- The reference's run in the named arrays: its eleven results, and the arguments as they were. -/
theorem run_words (m : (ℓ : Loc nD τ Cert.Reference4Ideal.sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = hW (m ((c : Thread nD τ).loc main_arg0)) (m ((c : Thread nD τ).loc main_arg4))
      ∧ r.2.mem ((c : Thread nD τ).loc main_v1) = qW (m ((c : Thread nD τ).loc main_arg1)) (m ((c : Thread nD τ).loc main_arg5))
      ∧ r.2.mem ((c : Thread nD τ).loc main_v16) = kvW (m ((c : Thread nD τ).loc main_arg2)) (m ((c : Thread nD τ).loc main_arg6))
      ∧ r.2.mem ((c : Thread nD τ).loc main_v3) = mixW (m ((c : Thread nD τ).loc main_arg3)) (m ((c : Thread nD τ).loc main_arg7))
      ∧ r.2.mem ((c : Thread nD τ).loc main_v17) = goutW (m ((c : Thread nD τ).loc main_arg3)) (m ((c : Thread nD τ).loc main_arg11))
      ∧ r.2.mem ((c : Thread nD τ).loc main_v6) = dcatW (m ((c : Thread nD τ).loc main_arg11)) (m ((c : Thread nD τ).loc main_arg7))
      ∧ r.2.mem ((c : Thread nD τ).loc main_v19) = guqW (m ((c : Thread nD τ).loc main_arg9)) (m ((c : Thread nD τ).loc main_arg1))
      ∧ r.2.mem ((c : Thread nD τ).loc main_v12) = dcqW (m ((c : Thread nD τ).loc main_arg9)) (m ((c : Thread nD τ).loc main_arg5))
      ∧ r.2.mem ((c : Thread nD τ).loc main_v21) = gukvW (m ((c : Thread nD τ).loc main_arg10)) (m ((c : Thread nD τ).loc main_arg2))
      ∧ r.2.mem ((c : Thread nD τ).loc main_v9) = dckvW (m ((c : Thread nD τ).loc main_arg10)) (m ((c : Thread nD τ).loc main_arg6))
      ∧ r.2.mem ((c : Thread nD τ).loc main_v15) = dxW (m ((c : Thread nD τ).loc main_arg8)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Cert.Reference4Ideal.Value.run m ρ)

end Cert.PrjRef

end
-- ==== Proof.PrjClaims.lean ====
/-
  The projections' claims: their programs and their reference end with their arguments unchanged and their counters at zero,
  and the kernels' results are the reference's.
-/
module

public import proofs.«01_k».proof.Defs
public import proofs.«01_k».proof.Proof.PrjRun
public import proofs.«01_k».proof.Proof.PrjKernel
public import proofs.«01_k».proof.Proof.PrjRef
public import proofs.«01_k».proof.Proof.MixClaims
public import proofs.«01_k».proof.Proof.Gen.Kernel4.Frame
public import Idealize.ShloMosaic.Lib.Quiescent

@[expose] public section

set_option maxRecDepth 16384

noncomputable section

namespace Cert.Prj

open Idealize.ShloMosaic Idealize.ShloMosaic.TcCoe Idealize.SL.Sem
open Cert.Mix (ext2)

/-- The program's frame. -/
theorem frame_kernel : Cert.quiescent_Kernel4 (hKernel4 := Cert.Kernel4.Gen.facts) := fun m ρ _ => Cert.Kernel4.Gen.frame m ρ

/-- The ideal program's frame. -/
theorem frame_ideal : Cert.quiescent_Kernel4Ideal (hKernel4Ideal := Cert.Kernel4Ideal.Gen.facts) := fun m ρ _ => Cert.Kernel4Ideal.Gen.frame (F := Ideal) m ρ

/-- The reference's frame: it has no counters. -/
theorem frame_reference : Cert.quiescent_Reference4Ideal (hReference4Ideal := Cert.Reference4Ideal.Gen.facts) := fun m ρ _ =>
  (θ_run Cert.Reference4Ideal.defs _ _).mono (fun r h => ⟨fun c => (h c).2.2.2.2.2.2.2.2.2.2.2, sem_eq_zero_of_no_sems (by decide) r.2⟩) (Cert.PrjRef.run_words m ρ)

set_option maxHeartbeats 1000000 in
/-- The eleven results are the reference's. -/
theorem values : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.Gen.W12 m ρ c (Proc.devRef .tc Cert.Kernel4Ideal.main_v15),
    fun c => Cert.Kernel4Ideal.Gen.W12 m ρ c (Proc.devRef .tc Cert.Kernel4Ideal.main_v16),
    fun c => Cert.Kernel4Ideal.Gen.W12 m ρ c (Proc.devRef .tc Cert.Kernel4Ideal.main_v17),
    fun c => Cert.Kernel4Ideal.Gen.W12 m ρ c (Proc.devRef .tc Cert.Kernel4Ideal.main_v18),
    fun c => Cert.Kernel4Ideal.Gen.W12 m ρ c (Proc.devRef .tc Cert.Kernel4Ideal.main_v19),
    fun c => Cert.Kernel4Ideal.Gen.W12 m ρ c (Proc.devRef .tc Cert.Kernel4Ideal.main_v20),
    fun c => Cert.Kernel4Ideal.Gen.W12 m ρ c (Proc.devRef .tc Cert.Kernel4Ideal.main_v21),
    fun c => Cert.Kernel4Ideal.Gen.W12 m ρ c (Proc.devRef .tc Cert.Kernel4Ideal.main_v22),
    fun c => Cert.Kernel4Ideal.Gen.W12 m ρ c (Proc.devRef .tc Cert.Kernel4Ideal.main_v23),
    fun c => Cert.Kernel4Ideal.Gen.W12 m ρ c (Proc.devRef .tc Cert.Kernel4Ideal.main_v24),
    fun c => Cert.Kernel4Ideal.Gen.W12 m ρ c (Proc.devRef .tc Cert.Kernel4Ideal.main_v25), ?_, ?_⟩
  · refine (θ_run Cert.Kernel4Ideal.defs _ _).mono (fun r h c => ?_) (run_main m ρ)
    exact ⟨h.1 c _ (Cert.Kernel4Ideal.Gen.mem_uc Cert.Kernel4Ideal.main_v15 (by decide)),
      h.1 c _ (Cert.Kernel4Ideal.Gen.mem_uc Cert.Kernel4Ideal.main_v16 (by decide)),
      h.1 c _ (Cert.Kernel4Ideal.Gen.mem_uc Cert.Kernel4Ideal.main_v17 (by decide)),
      h.1 c _ (Cert.Kernel4Ideal.Gen.mem_uc Cert.Kernel4Ideal.main_v18 (by decide)),
      h.1 c _ (Cert.Kernel4Ideal.Gen.mem_uc Cert.Kernel4Ideal.main_v19 (by decide)),
      h.1 c _ (Cert.Kernel4Ideal.Gen.mem_uc Cert.Kernel4Ideal.main_v20 (by decide)),
      h.1 c _ (Cert.Kernel4Ideal.Gen.mem_uc Cert.Kernel4Ideal.main_v21 (by decide)),
      h.1 c _ (Cert.Kernel4Ideal.Gen.mem_uc Cert.Kernel4Ideal.main_v22 (by decide)),
      h.1 c _ (Cert.Kernel4Ideal.Gen.mem_uc Cert.Kernel4Ideal.main_v23 (by decide)),
      h.1 c _ (Cert.Kernel4Ideal.Gen.mem_uc Cert.Kernel4Ideal.main_v24 (by decide)),
      h.1 c _ (Cert.Kernel4Ideal.Gen.mem_uc Cert.Kernel4Ideal.main_v25 (by decide)),
      (h.1 c _ (Cert.Kernel4Ideal.Gen.mem_uc Cert.Kernel4Ideal.main_arg0 (by decide))).trans (Cert.Kernel4Ideal.Gen.W12_main_arg0 m ρ c),
      (h.1 c _ (Cert.Kernel4Ideal.Gen.mem_uc Cert.Kernel4Ideal.main_arg1 (by decide))).trans (Cert.Kernel4Ideal.Gen.W12_main_arg1 m ρ c),
      (h.1 c _ (Cert.Kernel4Ideal.Gen.mem_uc Cert.Kernel4Ideal.main_arg2 (by decide))).trans (Cert.Kernel4Ideal.Gen.W12_main_arg2 m ρ c),
      (h.1 c _ (Cert.Kernel4Ideal.Gen.mem_uc Cert.Kernel4Ideal.main_arg3 (by decide))).trans (Cert.Kernel4Ideal.Gen.W12_main_arg3 m ρ c),
      (h.1 c _ (Cert.Kernel4Ideal.Gen.mem_uc Cert.Kernel4Ideal.main_arg4 (by decide))).trans (Cert.Kernel4Ideal.Gen.W12_main_arg4 m ρ c),
      (h.1 c _ (Cert.Kernel4Ideal.Gen.mem_uc Cert.Kernel4Ideal.main_arg5 (by decide))).trans (Cert.Kernel4Ideal.Gen.W12_main_arg5 m ρ c),
      (h.1 c _ (Cert.Kernel4Ideal.Gen.mem_uc Cert.Kernel4Ideal.main_arg6 (by decide))).trans (Cert.Kernel4Ideal.Gen.W12_main_arg6 m ρ c),
      (h.1 c _ (Cert.Kernel4Ideal.Gen.mem_uc Cert.Kernel4Ideal.main_arg7 (by decide))).trans (Cert.Kernel4Ideal.Gen.W12_main_arg7 m ρ c),
      (h.1 c _ (Cert.Kernel4Ideal.Gen.mem_uc Cert.Kernel4Ideal.main_arg8 (by decide))).trans (Cert.Kernel4Ideal.Gen.W12_main_arg8 m ρ c),
      (h.1 c _ (Cert.Kernel4Ideal.Gen.mem_uc Cert.Kernel4Ideal.main_arg9 (by decide))).trans (Cert.Kernel4Ideal.Gen.W12_main_arg9 m ρ c),
      (h.1 c _ (Cert.Kernel4Ideal.Gen.mem_uc Cert.Kernel4Ideal.main_arg10 (by decide))).trans (Cert.Kernel4Ideal.Gen.W12_main_arg10 m ρ c),
      (h.1 c _ (Cert.Kernel4Ideal.Gen.mem_uc Cert.Kernel4Ideal.main_arg11 (by decide))).trans (Cert.Kernel4Ideal.Gen.W12_main_arg11 m ρ c)⟩
  · refine (θ_run Cert.Reference4Ideal.defs _ _).mono (fun r h c => ?_) (Cert.PrjRef.run_words m' ρ')
    obtain ⟨e0, e1, e2, e3, e4, e5, e6, e7, e8, e9, e10, e11⟩ := hargs c
    obtain ⟨h0, h1, h2, h3, h4, h5, h6, h7, h8, h9, h10, hr⟩ := h c
    rw [e0, e4] at h0
    rw [e1, e5] at h1
    rw [e2, e6] at h2
    rw [e3, e7] at h3
    rw [e3, e11] at h4
    rw [e11, e7] at h5
    rw [e9, e1] at h6
    rw [e9, e5] at h7
    rw [e10, e2] at h8
    rw [e10, e6] at h9
    rw [e8, e4] at h10
    exact ⟨h0.trans (ext2 fun i j => (Cert.PrjRef.hW_apply _ _ i j).trans (res_v15 m ρ c i j).symm),
      h1.trans (ext2 fun i j => (Cert.PrjRef.qW_apply _ _ i j).trans (res_v16 m ρ c i j).symm),
      h2.trans (ext2 fun i j => (Cert.PrjRef.kvW_apply _ _ i j).trans (res_v17 m ρ c i j).symm),
      h3.trans (ext2 fun i j => (Cert.PrjRef.mixW_apply _ _ i j).trans (res_v18 m ρ c i j).symm),
      h4.trans (ext2 fun i j => (Cert.PrjRef.goutW_apply _ _ i j).trans (res_v19 m ρ c i j).symm),
      h5.trans (ext2 fun i j => (Cert.PrjRef.dcatW_apply _ _ i j).trans (res_v20 m ρ c i j).symm),
      h6.trans (ext2 fun i j => (Cert.PrjRef.guqW_apply _ _ i j).trans (res_v21 m ρ c i j).symm),
      h7.trans (ext2 fun i j => (Cert.PrjRef.dcqW_apply _ _ i j).trans (res_v22 m ρ c i j).symm),
      h8.trans (ext2 fun i j => (Cert.PrjRef.gukvW_apply _ _ i j).trans (res_v23 m ρ c i j).symm),
      h9.trans (ext2 fun i j => (Cert.PrjRef.dckvW_apply _ _ i j).trans (res_v24 m ρ c i j).symm),
      h10.trans (ext2 fun i j => (Cert.PrjRef.dxW_apply _ _ i j).trans (res_v25 m ρ c i j).symm), hr⟩

end Cert.Prj

end
-- ==== Proof.DwValue.lean ====
/-
  The input projection's weight gradient: the call's result array, the sum over the rows in two chunks.
-/
module

public import proofs.«01_k».proof.Proof.PrjValue
public import proofs.«01_k».proof.Proof.Gen.Kernel5Ideal.Frame
public import Idealize.ShloMosaic.Lib.Pipeline.Value
public import Idealize.ShloMosaic.Lib.Pipeline.ValueKit
public import Idealize.ShloMosaic.Lib.Pipeline.ReadBack
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen

namespace Cert.Dw

open Cert.Prj (tn ar At2)

/-- A chunk's product, index by index. -/
theorem pay1_apply (x0 : Vec Ideal S2048x2176 .bf16) (x1 : Vec Ideal S2048x1024 .bf16) (i : Fin 2176) (j : Fin 1024) :
    k0_pay1 x0 x1 (ix2 i j) = ∑ q : Fin 2048, (x0 (ix2 q i) : EReal) * x1 (ix2 q j) := by
  pointwise [k0_pay1]

/-- The first chunk's product is left in the scratch. -/
theorem sout_A (c : Dev nD) (i : grid0.Coords) (arg4 : Memref sig .tc .vmem S2048x2176 .bf16) (harg4 : arg4.IsWhole) (arg5 : Memref sig .tc .vmem S2048x1024 .bf16) (harg5 : arg5.IsWhole) (arg6 : Memref sig .tc .vmem S2176x1024 .bf16) (harg6 : arg6.IsWhole) (arg7 : Memref sig .tc .vmem S2176x1024 .f32) (harg7 : arg7.IsWhole) (hc0 : cond0_0 i) (hc1 : ¬cond0_1 i) (hc2 : ¬cond0_2 i)
    (x0 : Vec Ideal S2048x2176 .bf16) (x1 : Vec Ideal S2048x1024 .bf16) :
    sout0_A_0 c i arg4 harg4 arg5 harg5 arg6 harg6 arg7 harg7 hc0 hc1 hc2 x0 x1 = k0_pay1 x0 x1 := by
  frame_open
  rw [View.read_writes_junk_eq_canon, View.canon_cons_unit_lit _ _ _ (by decide)]
  simp only [View.readAt_eq_ld, harg4.read_unread, harg5.read_unread]
  rw [View.ld_unit_lit _ _ (by decide), View.ld_unit_lit _ _ (by decide), k0_pay2, shapeCast_self]

/-- The second chunk's product is added to the scratch, and the sum is the result. -/
theorem out_B (c : Dev nD) (i : grid0.Coords) (arg4 : Memref sig .tc .vmem S2048x2176 .bf16) (harg4 : arg4.IsWhole) (arg5 : Memref sig .tc .vmem S2048x1024 .bf16) (harg5 : arg5.IsWhole) (arg6 : Memref sig .tc .vmem S2176x1024 .bf16) (harg6 : arg6.IsWhole) (arg7 : Memref sig .tc .vmem S2176x1024 .f32) (harg7 : arg7.IsWhole) (hc0 : ¬cond0_0 i) (hc1 : cond0_1 i) (hc2 : cond0_2 i)
    (x0 : Vec Ideal S2048x2176 .bf16) (x1 : Vec Ideal S2048x1024 .bf16) (xs0 : Vec Ideal S2176x1024 .f32) :
    out0_B_2 c i arg4 harg4 arg5 harg5 arg6 harg6 arg7 harg7 hc0 hc1 hc2 x0 x1 xs0 = k0_pay4 (addf xs0 (k0_pay1 x0 x1)) := by
  frame_open
  rw [View.read_writes_junk_eq_canon, View.canon_cons_unit_lit _ _ _ (by decide)]
  simp (disch := decide) only [↓ View.readCov_skip, ↓ View.readCov_cons_toLoadRect, ↓ View.readCov_fill]
  simp only [View.readAt_eq_ld, harg4.read_unread, harg5.read_unread, harg7.read_unread]
  simp (disch := decide) only [View.ld_unit_lit, k0_pay3, shapeCast_self]

variable (m : (ℓ : Loc nD τ Cert.Kernel5Ideal.sig) → Buf (Elt Ideal) ℓ) (ρ : Dev nD → PrngReg) (c : Dev nD)

theorem V_v0 : V m c main_v0 = truncf (F := Ideal) (s := S4096x2176) (φ := .f32) .bf16 (m ((c : Thread nD τ).loc main_arg1)) bitsLt_bf16_f32 := by
  simp only [V, hostOps0, StableHlo.TRef.binary, StableHlo.TRef.unary, StableHlo.TRef.toBuf, StableHlo.TRef.ofBuf, cast_eq]
  after_results_simp <;> rfl
theorem v_v0 : At2 (V m c main_v0) (ar (m ((c : Thread nD τ).loc main_arg1))) := fun i j => congrFun (V_v0 m c) _
theorem V_v1 : V m c main_v1 = truncf (F := Ideal) (s := S4096x1024) (φ := .f32) .bf16 (m ((c : Thread nD τ).loc main_arg0)) bitsLt_bf16_f32 := by
  simp only [V, hostOps0, StableHlo.TRef.binary, StableHlo.TRef.unary, StableHlo.TRef.toBuf, StableHlo.TRef.ofBuf, cast_eq]
  after_results_simp <;> rfl
theorem v_v1 : At2 (V m c main_v1) (ar (m ((c : Thread nD τ).loc main_arg0))) := fun i j => congrFun (V_v1 m c) _

theorem idx : ∀ t : Fin cfg0.N, win0_0.index t = ![t.val, 0] ∧ win0_1.index t = ![t.val, 0] ∧ win0_2.index t = ![0, 0] :=
  (by decide +kernel : ∀ t : Fin grid0.N, _)

/-- Row `q` of the chunk of a grid point. -/
abbrev row (t : Fin cfg0.N) (q : Fin 2048) : Fin 4096 := ⟨t.val * 2048 + q.val, by have := t.isLt; have : cfg0.N = 2 := N_0; omega⟩

theorem in_0 (t : Fin cfg0.N) (q : Fin 2048) (i : Fin 2176) : iblk m c 0 t (ix2 q i) = ar (m ((c : Thread nD τ).loc main_arg1)) (row t q) i := by
  have hN : cfg0.N = 2 := N_0
  have ht := t.isLt
  rw [← v_v0]
  blk_ext [iblk, idx t]
theorem in_1 (t : Fin cfg0.N) (q : Fin 2048) (j : Fin 1024) : iblk m c 1 t (ix2 q j) = ar (m ((c : Thread nD τ).loc main_arg0)) (row t q) j := by
  have hN : cfg0.N = 2 := N_0
  have ht := t.isLt
  rw [← v_v1]
  blk_ext [iblk, idx t]

/-- A sum over the rows, chunk by chunk. -/
theorem two_chunks (f : Fin 4096 → EReal) :
    ∑ q : Fin 2048, f ⟨0 * 2048 + q.val, by omega⟩ + ∑ q : Fin 2048, f ⟨1 * 2048 + q.val, by omega⟩ = ∑ q, f q := by
  rw [show ∑ q : Fin 4096, f q = ∑ q : Fin (2048 + 2048), f q from rfl, Fin.sum_univ_add]
  congr 1

/-- What the result's buffer holds after the last point. -/
theorem acc (t : Fin cfg0.N) (h1 : t.val % 2 = 1) (i : Fin 2176) (j : Fin 1024) :
    (outsAt0 m c t.val t.isLt).1 (ix2 i j) = tn (ar (m ((c : Thread nD τ).loc main_arg1))) (ar (m ((c : Thread nD τ).loc main_arg0))) i j := by
  have hN : cfg0.N = 2 := N_0
  obtain ⟨n, h⟩ := t
  obtain rfl : n = 1 := by simp only at h1; omega
  have h0 : 0 < cfg0.N := by omega
  have eB := outsAt0_B m c ⟨1, h⟩ (show ¬1 % 2 = 0 by decide) (show 1 % 2 = 1 by decide) (show 1 % 2 = 1 by decide)
  have eA := outsAt0_A m c ⟨0, h0⟩ (show 0 % 2 = 0 by decide) (show ¬0 % 2 = 1 by decide) (show ¬0 % 2 = 1 by decide)
  simp only [] at eA eB
  rw [show (outsAt0 m c 1 h).1 = _ from congrArg Prod.fst eB]
  dsimp only
  rw [out_B, show (outsAt0 m c (1 - 1) _).2 = _ from congrArg Prod.snd eA]
  dsimp only
  rw [sout_A]
  have e : ∀ (a b : FVec Ideal S2176x1024 .f32), k0_pay4 (addf a b) (ix2 i j) = (a (ix2 i j) + b (ix2 i j) : EReal) := fun a b => by pointwise [k0_pay4]
  rw [e, pay1_apply, pay1_apply]
  simp only [in_0, in_1, tn]
  exact two_chunks fun q => ar (m ((c : Thread nD τ).loc main_arg1)) q i * ar (m ((c : Thread nD τ).loc main_arg0)) q j

/-- The result array. -/
theorem final :
    (dats m 0 c).arrAt 2 cfg0.N = fun y => tn (ar (m ((c : Thread nD τ).loc main_arg1))) (ar (m ((c : Thread nD τ).loc main_arg0))) (y 0) (y 1) := by
  have hN : cfg0.N = 2 := N_0
  refine (dats m 0 c).arrAt_eq_of_cover 2 _ (fun t hf => ?_) fun i => ?_
  · have h1 := (flush0_2 t).mp hf
    have ht := t.isLt
    show (cfg0.win 2).cut (grid0.coords t) ((dats m 0 c).after 2 t) = _
    rw [after0_2]
    funext y
    obtain ⟨a, b, e⟩ : ∃ a b, y = ix2 a b := ⟨y 0, y 1, eq_ix2 y⟩
    have la : a.val < 2176 := a.isLt
    have lb : b.val < 1024 := b.isLt
    have e0 : (win0_2.blk t).view.emb (ix2 a b) 0 = a := Fin.ext (by blk_simp [idx t] <;> rfl)
    have e1 : (win0_2.blk t).view.emb (ix2 a b) 1 = b := Fin.ext (by blk_simp [idx t] <;> rfl)
    rw [e]
    refine (acc m c t h1 a b).trans ?_
    show _ = tn (ar (m ((c : Thread nD τ).loc main_arg1))) (ar (m ((c : Thread nD τ).loc main_arg0))) ((win0_2.blk t).view.emb (ix2 a b) 0) ((win0_2.blk t).view.emb (ix2 a b) 1)
    rw [e0, e1]
  · have h0 : (i 0).val < 2176 := (i 0).isLt
    have h1 : (i 1).val < 1024 := (i 1).isLt
    refine ⟨⟨(i 0).val / 2176 + 1, by omega⟩, (flush0_2 _).mpr (by simp only; omega), ?_⟩
    mem_blk [idx]
    simp only
    omega

end Cert.Dw

end
-- ==== Proof.DwClaims.lean ====
/-
  The claims about the input projection's weight gradient: its programs and its reference end with their arguments unchanged
  and their counters at zero, and the kernel's result is the reference's.
-/
module

public import proofs.«01_k».proof.Defs
public import proofs.«01_k».proof.Proof.DwValue
public import proofs.«01_k».proof.Proof.MixClaims
public import proofs.«01_k».proof.Proof.Gen.Kernel5.Frame
public import proofs.«01_k».proof.Proof.Gen.Reference5Ideal.Run
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.DwRef

open Cert.Reference5Ideal Cert.Reference5Ideal.Gen
open Cert.Prj (tn ar)

/-- The reference's weight gradient: of the cotangent and the input. -/
def dwW (g : FVec Ideal S4096x2176 .f32) (x : FVec Ideal S4096x1024 .f32) : FVec Ideal S2176x1024 .bf16 :=
  truncf .bf16 (transpose S2176x1024 [1, 0] (transpose S1024x2176 [1, 0] (Host.dotGeneral dot_S4096x2176_S4096x1024_S2176x1024_0_0_1_1_n_n none g x) transposes_S2176x1024_S1024x2176_1_0) transposes_S1024x2176_S2176x1024_1_0) bitsLt_bf16_f32
theorem dwW_apply (g : FVec Ideal S4096x2176 .f32) (x : FVec Ideal S4096x1024 .f32) (i : Fin 2176) (j : Fin 1024) :
    dwW g x (ix2 i j) = tn (ar g) (ar x) i j := by
  show _ = ∑ q : Fin 4096, (g (ix2 q i) : EReal) * x (ix2 q j)
  pointwise [dwW]

end Cert.DwRef

namespace Cert.Dw

open Cert.Mix (ext2)

/-- The program's frame. -/
theorem frame_kernel : Cert.quiescent_Kernel5 (hKernel5 := Cert.Kernel5.Gen.facts) := fun m ρ _ => Cert.Kernel5.Gen.frame m ρ

/-- The ideal program's frame. -/
theorem frame_ideal : Cert.quiescent_Kernel5Ideal (hKernel5Ideal := Cert.Kernel5Ideal.Gen.facts) := fun m ρ _ => Cert.Kernel5Ideal.Gen.frame (F := Ideal) m ρ

/-- The reference's frame: it has no counters. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run m ρ)

/-- The result is the reference's. -/
theorem values : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => (Cert.Kernel5Ideal.Gen.dats m 0 c).arrAt 2 Cert.Kernel5Ideal.cfg0.N, ?_, ?_⟩
  · exact (θ_run Cert.Kernel5Ideal.defs _ _).mono (fun r h c => ⟨(h.1 c).1 2, h.2 c⟩)
      (θ_run_and (Cert.Kernel5Ideal.Gen.run_main (F := Ideal) m ρ) (Cert.Kernel5Ideal.Gen.unchanged (F := Ideal) m ρ))
  · refine (θ_run Cert.Reference5Ideal.defs _ _).mono (fun r h c => ?_) (Cert.Reference5Ideal.Value.run m' ρ')
    obtain ⟨e0, e1⟩ := hargs c
    obtain ⟨h0, hr⟩ := h c
    rw [e0, e1] at h0
    exact ⟨h0.trans ((ext2 fun i j => Cert.DwRef.dwW_apply _ _ i j).trans (final m c).symm), hr⟩

end Cert.Dw

end
-- ==== Proof.LnSpec.lean ====
/-
  The second layer norm and the loss head over the reals: a row's norm, the loss, and the gradients, in the kernel's arrangement
  and in the reference's; the claims' precondition makes every entry of the five argument arrays a real.
-/
module

public import proofs.«01_k».proof.Defs
public import proofs.«01_k».proof.Proof.Finite
public import proofs.«01_k».proof.Proof.Softmax
public import proofs.«01_k».proof.Proof.Gen.Pre_finite6

@[expose] public section

set_option maxRecDepth 16384

noncomputable section

open Idealize.ShloMosaic Idealize.ShloMosaic.TcCoe Idealize.SL.Sem

namespace Cert.Ln

open Cert.Attn (and_one finite_entry)

/-- A row. -/
abbrev Row := Fin 1024 → ℝ

/-- The mean of a row. -/
def mean (z : Row) : ℝ := (∑ j, z j) / 1024
/-- A row less its mean. -/
def cen (z : Row) : Row := fun j => z j - mean z
/-- The reciprocal root of the variance plus the small constant. -/
def rr (ε : ℝ) (z : Row) : ℝ := (Real.sqrt (mean (fun j => cen z j * cen z j) + ε))⁻¹
/-- The normalised row. -/
def xh (ε : ℝ) (z : Row) : Row := fun j => cen z j * rr ε z
/-- The norm's output less the target. -/
def err (ε : ℝ) (g b z t : Row) : Row := fun j => xh ε z j * g j + b j - t j
/-- The gradient of the norm's output. -/
def dy (ε : ℝ) (g b z t : Row) : Row := fun j => err ε g b z t j * (1 / 1024)
/-- The kernel's gradient of a row from that of the normalised row. -/
def back (ε : ℝ) (z d : Row) : Row := fun j => rr ε z * (d j - mean d - xh ε z j * mean (fun k => d k * xh ε z k))
/-- The reference's. -/
def back' (ε : ℝ) (z d : Row) : Row := fun j =>
  let v := mean (fun j => cen z j * cen z j) + ε
  let s := (∑ k, cen z k * d k) * (-(1 / 2) * (rr ε z / v)) / 1024
  d j * rr ε z + s * (2 * cen z j) + (∑ k, -(d k * rr ε z) + ∑ k, -(s * (2 * cen z k))) / 1024

theorem var_pos (ε : ℝ) (hε : 0 < ε) (z : Row) : 0 < mean (fun j => cen z j * cen z j) + ε := by
  have : 0 ≤ ∑ j, cen z j * cen z j := Finset.sum_nonneg fun j _ => mul_self_nonneg _
  have : 0 ≤ mean (fun j => cen z j * cen z j) := div_nonneg this (by norm_num)
  linarith

theorem cen_sum (z : Row) : ∑ j, cen z j = 0 := by
  simp only [cen, Finset.sum_sub_distrib, Finset.sum_const, Finset.card_univ, Fintype.card_fin, nsmul_eq_mul, mean]
  push_cast
  ring

/-- The two arrangements are equal. -/
theorem back_eq (ε : ℝ) (hε : 0 < ε) (z d : Row) : back' ε z d = back ε z d := by
  funext j
  have hv := var_pos ε hε z
  have hr : rr ε z / (mean (fun j => cen z j * cen z j) + ε) = rr ε z * rr ε z * rr ε z := by
    have h := Real.mul_self_sqrt hv.le
    have hs : Real.sqrt (mean (fun j => cen z j * cen z j) + ε) ≠ 0 := (Real.sqrt_pos.mpr hv).ne'
    simp only [rr]
    set s := Real.sqrt (mean (fun j => cen z j * cen z j) + ε)
    rw [← h]
    field_simp
  simp only [back, back', hr]
  have e1 : ∑ k, -(d k * rr ε z) = -(rr ε z * ∑ k, d k) := by
    rw [Finset.sum_neg_distrib, ← Finset.sum_mul, mul_comm]
  have e2 : ∀ s : ℝ, ∑ k, -(s * (2 * cen z k)) = 0 := fun s => by
    rw [Finset.sum_neg_distrib, ← Finset.mul_sum, ← Finset.mul_sum, cen_sum]
    ring
  have e3 : ∑ k, d k * xh ε z k = rr ε z * ∑ k, cen z k * d k := by
    rw [Finset.mul_sum]
    exact Finset.sum_congr rfl fun k _ => by simp only [xh]; ring
  rw [e1, e2]
  simp only [mean, e3]
  simp only [xh]
  ring

/-- The constants. -/
theorem w_1024 : Ideal.ofBits .f32 0x44800000#32 = ((1024 : ℝ) : EReal) := by
  simp [Ideal.ofBits, Ideal.ieee]
  rw [← EReal.coe_mul]
  norm_num
theorem w_inv : Ideal.ofBits .f32 0x3A800000#32 = ((1 / 1024 : ℝ) : EReal) := by
  simp [Ideal.ofBits, Ideal.ieee]
  rw [← EReal.coe_mul]
  norm_num
theorem w_hinv : Ideal.ofBits .f32 0x3A000000#32 = ((1 / 2048 : ℝ) : EReal) := by
  simp [Ideal.ofBits, Ideal.ieee]
  rw [← EReal.coe_mul]
  norm_num
theorem w_two : Ideal.ofBits .f32 0x40000000#32 = ((2 : ℝ) : EReal) := by
  simp [Ideal.ofBits, Ideal.ieee]
  rw [← EReal.coe_mul]
  norm_num
theorem w_half : Ideal.ofBits .f32 0x3F000000#32 = ((1 / 2 : ℝ) : EReal) := by
  simp [Ideal.ofBits, Ideal.ieee]
  rw [← EReal.coe_mul]
  norm_num
theorem w_one : Ideal.ofBits .f32 0x3F800000#32 = ((1 : ℝ) : EReal) := by
  simp [Ideal.ofBits, Ideal.ieee]
  rw [← EReal.coe_mul]
  norm_num
theorem w_mhalf : Ideal.ofBits .f32 0xBF000000#32 = ((-(1 / 2) : ℝ) : EReal) := by
  simp [Ideal.ofBits, Ideal.ieee]
  rw [← EReal.coe_mul]
  norm_num
theorem w_eps : ∃ ε : ℝ, 0 < ε ∧ Ideal.ofBits .f32 0x3727C5AC#32 = (ε : EReal) := by
  refine ⟨_, ?_, by simp [Ideal.ofBits, Ideal.ieee]; rw [← EReal.coe_mul]⟩
  norm_num
theorem w_alpha : ∃ α : ℝ, Ideal.ofBits .f32 0x3FB504F3#32 = (α : EReal) := by
  refine ⟨_, by simp [Ideal.ofBits, Ideal.ieee]; rw [← EReal.coe_mul]⟩

/-- A quotient of reals. -/
theorem div_real (x y : ℝ) (h : y ≠ 0) : Ideal.div (x : EReal) (y : EReal) = ((x / y : ℝ) : EReal) := by
  rw [Ideal.div_coe h, ← EReal.coe_mul, mul_one_div]
theorem div_1024 (x : ℝ) : Ideal.div (x : EReal) ((1024 : ℝ) : EReal) = ((x / 1024 : ℝ) : EReal) := div_real x 1024 (by norm_num)
/-- The reciprocal root of a positive real. -/
theorem rsqrt_real (x : ℝ) (h : 0 < x) : Ideal.rsqrt (x : EReal) = (((Real.sqrt x)⁻¹ : ℝ) : EReal) := by
  rw [Ideal.rsqrt_coe, if_neg h.le.not_gt, if_neg h.ne']

/-- An array of two axes holds reals. -/
def Re2 {m n : ℕ} (x : (⟨2, ![m, n]⟩ : Shape).Idx → EReal) (f : Fin m → Fin n → ℝ) : Prop := ∀ i j, x (ix2 i j) = ((f i j : ℝ) : EReal)
/-- An array of one axis holds reals. -/
def Re1 {m : ℕ} (x : (⟨1, ![m]⟩ : Shape).Idx → EReal) (f : Fin m → ℝ) : Prop := ∀ i, x (ix1 i) = ((f i : ℝ) : EReal)

/-- What the five arguments and the constants hold. -/
structure Args (α ε : ℝ) (x f : Fin 4096 → Row) (g b : Row) (t : Fin 4096 → Row)
    (x0 x1 : FVec Ideal ⟨2, ![4096, 1024]⟩ .f32) (x2 x3 : FVec Ideal ⟨1, ![1024]⟩ .f32) (x4 : FVec Ideal ⟨2, ![4096, 1024]⟩ .f32) : Prop where
  hα : Ideal.ofBits .f32 0x3FB504F3#32 = (α : EReal)
  hε : Ideal.ofBits .f32 0x3727C5AC#32 = (ε : EReal)
  pos : 0 < ε
  h0 : Re2 x0 x
  h1 : Re2 x1 f
  h2 : Re1 x2 g
  h3 : Re1 x3 b
  h4 : Re2 x4 t

open Cert.Pre_finite6 Cert.Pre_finite6.Gen in
/-- Under the precondition the five argument arrays are reals. -/
theorem args_real (x0 x1 : FVec Ideal S4096x1024 .f32) (x2 x3 : FVec Ideal S1024 .f32) (x4 : FVec Ideal S4096x1024 .f32)
    (h : Cert.Pre_finite6.fn (F := Ideal) x0 x1 x2 x3 x4 = fun _ => 1#1) :
    ∃ α ε x f g b t, Args α ε x f g b t x0 x1 x2 x3 x4 := by
  have h0 := congrFun h (Shape.Idx.first h_S_)
  obtain ⟨h0123, h4⟩ := and_one _ _ h0
  obtain ⟨h012, h3⟩ := and_one _ _ h0123
  obtain ⟨h01, h2⟩ := and_one _ _ h012
  obtain ⟨h0, h1⟩ := and_one _ _ h01
  haveI : Subsingleton S_.Idx := ⟨fun a b => funext fun d => d.elim0⟩
  obtain ⟨α, hα⟩ := w_alpha
  obtain ⟨ε, pos, hε⟩ := w_eps
  have r0 := fun i => finite_entry x0 bcast_S_S4096x1024 i (Host.reduce_andi_all _ _ _ _ _ h0 i)
  have r1 := fun i => finite_entry x1 bcast_S_S4096x1024 i (Host.reduce_andi_all _ _ _ _ _ h1 i)
  have r2 := fun i => finite_entry x2 bcast_S_S1024 i (Host.reduce_andi_all _ _ _ _ _ h2 i)
  have r3 := fun i => finite_entry x3 bcast_S_S1024 i (Host.reduce_andi_all _ _ _ _ _ h3 i)
  have r4 := fun i => finite_entry x4 bcast_S_S4096x1024 i (Host.reduce_andi_all _ _ _ _ _ h4 i)
  choose y0 e0 using r0
  choose y1 e1 using r1
  choose y2 e2 using r2
  choose y3 e3 using r3
  choose y4 e4 using r4
  exact ⟨α, ε, fun i j => y0 (ix2 i j), fun i j => y1 (ix2 i j), fun j => y2 (ix1 j), fun j => y3 (ix1 j), fun i j => y4 (ix2 i j),
    hα, hε, pos, fun _ _ => e0 _, fun _ _ => e1 _, fun _ => e2 _, fun _ => e3 _, fun _ _ => e4 _⟩

/-- The norm's input. -/
abbrev zz (α : ℝ) (x f : Fin 4096 → Row) : Fin 4096 → Row := fun i j => α * x i j + f i j
/-- The gradient of the norm's input. -/
abbrev dzS (ε : ℝ) (g b : Row) (z t : Fin 4096 → Row) : Fin 4096 → Row := fun i => back ε (z i) fun j => dy ε g b (z i) (t i) j * g j
/-- The gradient of the gain. -/
abbrev dgS (ε : ℝ) (g b : Row) (z t : Fin 4096 → Row) : Row := fun j => ∑ i, dy ε g b (z i) (t i) j * xh ε (z i) j
/-- The gradient of the bias. -/
abbrev dbS (ε : ℝ) (g b : Row) (z t : Fin 4096 → Row) : Row := fun j => ∑ i, dy ε g b (z i) (t i) j
/-- The loss. -/
abbrev lossS (ε : ℝ) (g b : Row) (z t : Fin 4096 → Row) : ℝ := ∑ i, (∑ j, err ε g b (z i) (t i) j * err ε g b (z i) (t i) j) * (1 / 2048)

end Cert.Ln

end
-- ==== Proof.LnRef.lean ====
/-
  The second layer norm and the loss head's reference: its intermediate arrays, named in the order it computes them, each of reals
  when the arguments are.
-/
module

public import proofs.«01_k».proof.Proof.LnSpec
public import proofs.«01_k».proof.Proof.Gen.Reference6Ideal.Run
public import Idealize.ShloMosaic.Lib.Pipeline.Value
public import Idealize.ShloMosaic.Lib.Pipeline.ValueKit
public import Idealize.ShloMosaic.Lib.ValueLayout
public import Idealize.ShloMosaic.Lib.IdealHost

@[expose] public section

set_option maxRecDepth 65536

noncomputable section

open Idealize.ShloMosaic Idealize.ShloMosaic.TcCoe Idealize.SL.Sem
open Cert.Reference6Ideal Cert.Reference6Ideal.Gen

namespace Cert.LnRef

open Cert.Ln

abbrev M := FVec Ideal S4096x1024 .f32
abbrev C := FVec Ideal S4096x1 .f32
abbrev R := FVec Ideal S1024 .f32

/-- A column, once for each lane. -/
abbrev bc (x : C) : M := broadcastInDim S4096x1024 ![0, 1] bcast_S4096x1_S4096x1024_0_1 x
/-- A row, once for each row. -/
abbrev br (x : R) : M := broadcastInDim S4096x1024 ![0, 1] bcast_S1x1024_S4096x1024_0_1 (broadcastInDim S1x1024 ![1] bcast_S1024_S1x1024_1 x)
/-- The rows' sums. -/
abbrev rs (x : M) : FVec Ideal S4096 .f32 := Host.reduceAdd x (constant S_ .f32 0x00000000#32) reducesTo_S4096x1024_S4096_d1 h_S_
/-- The number of lanes, in a column. -/
abbrev nn : C := broadcastInDim S4096x1 ![] bcast_S_S4096x1 (constant S_ .f32 0x44800000#32)
/-- Two, in every entry. -/
abbrev two : M := broadcastInDim S4096x1024 ![] bcast_S_S4096x1024 (constant S_ .f32 0x40000000#32)

/-- The norm's input. -/
def zW (x f : M) : M := addf (mulf (broadcastInDim S4096x1024 ![] bcast_S_S4096x1024 (constant S_ .f32 0x3FB504F3#32)) x) f
/-- The rows' means. -/
def mW (z : M) : C := Host.divf (broadcastInDim S4096x1 ![0] bcast_S4096_S4096x1_0 (rs z)) nn
/-- The rows less their means. -/
def cW (z : M) : M := subf z (bc (mW z))
/-- The rows' variances plus the small constant. -/
def vW (z : M) : C := addf (Host.divf (broadcastInDim S4096x1 ![0] bcast_S4096_S4096x1_0 (rs (mulf (cW z) (cW z)))) nn) (broadcastInDim S4096x1 ![] bcast_S_S4096x1 (constant S_ .f32 0x3727C5AC#32))
/-- The reciprocal roots. -/
def rW (z : M) : C := Host.rsqrt (vW z)
/-- The normalised rows. -/
def xW (z : M) : M := mulf (cW z) (bc (rW z))
/-- The norm's output. -/
def yW (z : M) (g b : R) : M := addf (mulf (xW z) (br g)) (br b)
/-- Less the target. -/
def eW (z : M) (g b : R) (t : M) : M := subf (yW z g b) t
/-- The loss. -/
def lW (e : M) : FVec Ideal S1x1 .f32 :=
  broadcastInDim S1x1 ![] bcast_S_S1x1 (mulf (constant S_ .f32 0x3F000000#32) (Host.reduceAdd (Host.divf (rs (mulf e e)) (broadcastInDim S4096 ![] bcast_S_S4096 (constant S_ .f32 0x44800000#32))) (constant S_ .f32 0x00000000#32) reducesTo_S4096_S_d0 h_S_))
/-- The gradient of the norm's output. -/
def yW' (e : M) : M :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf two e)
/-- The lanes' sums. -/
def kW (x : M) : FVec Ideal S1x1024 .f32 :=
  broadcastInDim S1x1024 ![1] bcast_S1024_S1x1024_1 (Host.reduceAdd (shapeCast S1x1024 (Host.reduceAdd x (constant S_ .f32 0x00000000#32) reducesTo_S4096x1024_S1024_d0 h_S_) shapeCasts_S1024_S1x1024) (constant S_ .f32 0x00000000#32) reducesTo_S1x1024_S1024_d0 h_S_)
/-- The gradient of the variances, divided by the number of lanes. -/
def sW (z d : M) : C :=
  Host.divf (mulf (shapeCast S4096x1 (rs (mulf (cW z) d)) shapeCasts_S4096_S4096x1) (mulf (broadcastInDim S4096x1 ![] bcast_S_S4096x1 (constant S_ .f32 0xBF000000#32)) (Host.divf (rW z) (vW z)))) nn
/-- What the variances give the centred rows. -/
def pW (z d : M) : M :=
  mulf (broadcastInDim S4096x1024 ![0] bcast_S4096_S4096x1024_0 (Host.reduceAdd (sW z d) (constant S_ .f32 0x00000000#32) reducesTo_S4096x1_S4096_d1 h_S_)) (mulf two (cW z))
/-- What the means give, divided by the number of lanes. -/
def nW (z d : M) : C :=
  Host.divf (addf (shapeCast S4096x1 (rs (Host.negf (mulf d (bc (rW z))))) shapeCasts_S4096_S4096x1) (shapeCast S4096x1 (rs (Host.negf (pW z d))) shapeCasts_S4096_S4096x1)) nn
/-- The gradient of the norm's input. -/
def zW' (z d : M) : M :=
  addf (addf (mulf d (bc (rW z))) (pW z d)) (broadcastInDim S4096x1024 ![0] bcast_S4096_S4096x1024_0 (Host.reduceAdd (nW z d) (constant S_ .f32 0x00000000#32) reducesTo_S4096x1_S4096_d1 h_S_))

theorem zW_apply (x f : M) (i : Fin 4096) (j : Fin 1024) : zW x f (ix2 i j) = Ideal.ofBits .f32 0x3FB504F3#32 * x (ix2 i j) + f (ix2 i j) := by
  pointwise [zW]
theorem mW_apply (z : M) (i : Fin 4096) (j : Fin 1) : mW z (ix2 i j) = Ideal.div (∑ k : Fin 1024, (z (ix2 i k) : EReal)) (Ideal.ofBits .f32 0x44800000#32) := by
  pointwise [mW]
theorem cW_apply (z : M) (i : Fin 4096) (j : Fin 1024) : cW z (ix2 i j) = (z (ix2 i j) - mW z (ix2 i 0) : EReal) := by
  pointwise [cW]
theorem vW_apply (z : M) (i : Fin 4096) (j : Fin 1) : vW z (ix2 i j) = Ideal.div (∑ k : Fin 1024, (cW z (ix2 i k) * cW z (ix2 i k) : EReal)) (Ideal.ofBits .f32 0x44800000#32) + Ideal.ofBits .f32 0x3727C5AC#32 := by
  pointwise [vW]
theorem rW_apply (z : M) (i : Fin 4096) (j : Fin 1) : rW z (ix2 i j) = Ideal.rsqrt (vW z (ix2 i j)) := by
  pointwise [rW]
theorem xW_apply (z : M) (i : Fin 4096) (j : Fin 1024) : xW z (ix2 i j) = (cW z (ix2 i j) * rW z (ix2 i 0) : EReal) := by
  pointwise [xW]
theorem br_apply (x : R) (i : Fin 4096) (j : Fin 1024) : br x (ix2 i j) = x (ix1 j) := by
  pointwise [br]
theorem eW_apply (z : M) (g b : R) (t : M) (i : Fin 4096) (j : Fin 1024) : eW z g b t (ix2 i j) = (xW z (ix2 i j) * g (ix1 j) + b (ix1 j) - t (ix2 i j) : EReal) := by
  pointwise [eW, yW]
theorem lW_apply (e : M) (i j : Fin 1) : lW e (ix2 i j) = Ideal.ofBits .f32 0x3F000000#32 * ∑ k : Fin 4096, Ideal.div (∑ l : Fin 1024, (e (ix2 k l) * e (ix2 k l) : EReal)) (Ideal.ofBits .f32 0x44800000#32) := by
  pointwise [lW]
theorem yW'_apply (e : M) (i : Fin 4096) (j : Fin 1024) : yW' e (ix2 i j) = Ideal.div (Ideal.ofBits .f32 0x3F000000#32 * Ideal.ofBits .f32 0x3F800000#32) (Ideal.ofBits .f32 0x44800000#32) * (Ideal.ofBits .f32 0x40000000#32 * e (ix2 i j)) := by
  pointwise [yW']
theorem kW_apply (x : M) (i : Fin 1) (j : Fin 1024) : kW x (ix2 i j) = ∑ q : Fin 4096, (x (ix2 q j) : EReal) := by
  pointwise [kW]
  simp only [Fin.sum_univ_one]
theorem sW_apply (z d : M) (i : Fin 4096) (j : Fin 1) : sW z d (ix2 i j) = Ideal.div ((∑ k : Fin 1024, (cW z (ix2 i k) * d (ix2 i k) : EReal)) * (Ideal.ofBits .f32 0xBF000000#32 * Ideal.div (rW z (ix2 i j)) (vW z (ix2 i j)))) (Ideal.ofBits .f32 0x44800000#32) := by
  pointwise [sW]
theorem pW_apply (z d : M) (i : Fin 4096) (j : Fin 1024) : pW z d (ix2 i j) = sW z d (ix2 i 0) * (Ideal.ofBits .f32 0x40000000#32 * cW z (ix2 i j)) := by
  pointwise [pW]
  simp only [Fin.sum_univ_one]
theorem nW_apply (z d : M) (i : Fin 4096) (j : Fin 1) : nW z d (ix2 i j) = Ideal.div ((∑ k : Fin 1024, -(d (ix2 i k) * rW z (ix2 i 0) : EReal)) + ∑ k : Fin 1024, -(pW z d (ix2 i k) : EReal)) (Ideal.ofBits .f32 0x44800000#32) := by
  pointwise [nW]
theorem zW'_apply (z d : M) (i : Fin 4096) (j : Fin 1024) : zW' z d (ix2 i j) = (d (ix2 i j) * rW z (ix2 i 0) + pW z d (ix2 i j) + nW z d (ix2 i 0) : EReal) := by
  pointwise [zW']
  simp only [Fin.sum_univ_one]

open Cert.Attn (coe_sum)

theorem zW_re {α ε : ℝ} {x f : Fin 4096 → Row} {g b : Row} {t : Fin 4096 → Row} {x0 x1 x4 : M} {x2 x3 : R} (h : Args α ε x f g b t x0 x1 x2 x3 x4) :
    Re2 (zW x0 x1) (zz α x f) := fun i j => by
  rw [zW_apply, h.hα, h.h0, h.h1, ← EReal.coe_mul, ← EReal.coe_add]

variable {z : M} {Z : Fin 4096 → Row} (hz : Re2 z Z) {ε : ℝ} (hε : Ideal.ofBits .f32 0x3727C5AC#32 = (ε : EReal)) (pos : 0 < ε)
include hz

theorem mW_re : Re2 (mW z) fun i _ => mean (Z i) := fun i j => by
  rw [mW_apply]
  simp only [hz _ _, coe_sum, w_1024, div_1024, mean]
theorem cW_re : Re2 (cW z) fun i => cen (Z i) := fun i j => by
  rw [cW_apply, hz, mW_re hz, ← EReal.coe_sub]
  rfl
include hε
theorem vW_re : Re2 (vW z) fun i _ => mean (fun j => cen (Z i) j * cen (Z i) j) + ε := fun i j => by
  rw [vW_apply]
  simp only [cW_re hz _ _, ← EReal.coe_mul, coe_sum, w_1024, div_1024, hε, ← EReal.coe_add, mean]
include pos
theorem rW_re : Re2 (rW z) fun i _ => rr ε (Z i) := fun i j => by
  rw [rW_apply, vW_re hz hε, rsqrt_real _ (var_pos ε pos _)]
  rfl
theorem xW_re : Re2 (xW z) fun i => xh ε (Z i) := fun i j => by
  rw [xW_apply, cW_re hz, rW_re hz hε pos, ← EReal.coe_mul]
  rfl
theorem eW_re {g b : R} {t : M} {G B : Row} {T : Fin 4096 → Row} (hg : Re1 g G) (hb : Re1 b B) (ht : Re2 t T) :
    Re2 (eW z g b t) fun i => err ε G B (Z i) (T i) := fun i j => by
  rw [eW_apply, xW_re hz hε pos, hg, hb, ht, ← EReal.coe_mul, ← EReal.coe_add, ← EReal.coe_sub]
  rfl
theorem zW'_re {d : M} {D : Fin 4096 → Row} (hd : Re2 d D) : Re2 (zW' z d) fun i => back ε (Z i) (D i) := fun i j => by
  show _ = ((back ε (Z i) (D i) j : ℝ) : EReal)
  rw [← back_eq ε pos]
  have hv := fun i => (var_pos ε pos (Z i)).ne'
  rw [zW'_apply, nW_apply]
  simp only [pW_apply, sW_apply, hd _ _, cW_re hz _ _, rW_re hz hε pos _ _, vW_re hz hε _ _, ← EReal.coe_mul, ← EReal.coe_add, ← EReal.coe_neg, coe_sum, w_1024, w_two, w_mhalf, div_1024, div_real _ _ (hv _)]
  rfl
omit hz hε pos

theorem lW_re {e : M} {E : Fin 4096 → Row} (he : Re2 e E) : Re2 (lW e) fun _ _ => ∑ i, (∑ j, E i j * E i j) * (1 / 2048) := fun i j => by
  rw [lW_apply]
  simp only [he _ _, ← EReal.coe_mul, coe_sum, w_1024, div_1024, w_half]
  congr 1
  rw [Finset.mul_sum]
  exact Finset.sum_congr rfl fun k _ => by ring
theorem yW'_re {e : M} {E : Fin 4096 → Row} (he : Re2 e E) : Re2 (yW' e) fun i j => E i j * (1 / 1024) := fun i j => by
  rw [yW'_apply]
  simp only [he _ _, ← EReal.coe_mul, w_1024, div_1024, w_half, w_one, w_two]
  congr 1
  ring
theorem kW_re {x : M} {X : Fin 4096 → Row} (hx : Re2 x X) : Re2 (kW x) fun _ j => ∑ i, X i j := fun i j => by
  rw [kW_apply]
  simp only [hx _ _, coe_sum]
theorem mul_re {x y : M} {X Y : Fin 4096 → Row} (hx : Re2 x X) (hy : Re2 y Y) : Re2 (mulf x y) fun i j => X i j * Y i j := fun i j => by
  rw [show mulf x y (ix2 i j) = (x (ix2 i j) * y (ix2 i j) : EReal) from rfl, hx, hy, EReal.coe_mul]
theorem br_re {g : R} {G : Row} (hg : Re1 g G) : Re2 (br g) fun _ => G := fun i j => (br_apply g i j).trans (hg j)

/-- The five results, of the arguments. -/
def oL (x f : M) (g b : R) (t : M) := lW (eW (zW x f) g b t)
def oY (x f : M) (g b : R) (t : M) : M := yW' (eW (zW x f) g b t)
def oZ (x f : M) (g b : R) (t : M) : M := zW' (zW x f) (mulf (oY x f g b t) (br g))
def oG (x f : M) (g b : R) (t : M) := kW (mulf (xW (zW x f)) (oY x f g b t))
def oB (x f : M) (g b : R) (t : M) := kW (oY x f g b t)

/-- What the run leaves in the results' buffers. -/
theorem v80 (m : (ℓ : Loc nD τ Cert.Reference6Ideal.sig) → Buf (Elt Ideal) ℓ) (c : Dev nD) : Value.res_main_v80 m c = oL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem v79 (m : (ℓ : Loc nD τ Cert.Reference6Ideal.sig) → Buf (Elt Ideal) ℓ) (c : Dev nD) : Value.res_main_v79 m c = oZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem v82 (m : (ℓ : Loc nD τ Cert.Reference6Ideal.sig) → Buf (Elt Ideal) ℓ) (c : Dev nD) : Value.res_main_v82 m c = oG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem v81 (m : (ℓ : Loc nD τ Cert.Reference6Ideal.sig) → Buf (Elt Ideal) ℓ) (c : Dev nD) : Value.res_main_v81 m c = truncf .bf16 (oZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 := rfl

variable {α ε : ℝ} {x f : Fin 4096 → Row} {g b : Row} {t : Fin 4096 → Row} {x0 x1 x4 : M} {x2 x3 : R} (h : Args α ε x f g b t x0 x1 x2 x3 x4)
include h

theorem oL_re : Re2 (oL x0 x1 x2 x3 x4) fun _ _ => lossS ε g b (zz α x f) t :=
  lW_re (eW_re (zW_re h) h.hε h.pos h.h2 h.h3 h.h4)
theorem oY_re : Re2 (oY x0 x1 x2 x3 x4) fun i => dy ε g b (zz α x f i) (t i) :=
  yW'_re (eW_re (zW_re h) h.hε h.pos h.h2 h.h3 h.h4)
theorem oZ_re : Re2 (oZ x0 x1 x2 x3 x4) (dzS ε g b (zz α x f) t) :=
  zW'_re (zW_re h) h.hε h.pos (mul_re (oY_re h) (br_re h.h2))
theorem oG_re : Re2 (oG x0 x1 x2 x3 x4) fun _ => dgS ε g b (zz α x f) t := fun i j => by
  refine (kW_re (mul_re (xW_re (zW_re h) h.hε h.pos) (oY_re h)) i j).trans ?_
  congr 1
  exact Finset.sum_congr rfl fun k _ => mul_comm _ _
theorem oB_re : Re2 (oB x0 x1 x2 x3 x4) fun _ => dbS ε g b (zz α x f) t := kW_re (oY_re h)

end Cert.LnRef

end
-- ==== Proof.LnValue.lean ====
/-
  The second layer norm's gradient and the loss head: the call's five result arrays, the two gradients row block by row block, the
  loss and the parameters' gradients summed over the row blocks in order.
-/
module

public import proofs.«01_k».proof.Proof.LnRef
public import proofs.«01_k».proof.Proof.Gen.Kernel6Ideal.Frame
public import Idealize.ShloMosaic.Lib.Pipeline.Value
public import Idealize.ShloMosaic.Lib.Pipeline.ValueKit
public import Idealize.ShloMosaic.Lib.Pipeline.ReadBack
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen

namespace Cert.Ln

open Cert.Attn (coe_sum)

abbrev B := Vec Ideal S512x1024 .f32
abbrev L := Vec Ideal S1x1024 .f32

theorem pay7_apply (y t : B) (p : Fin 512) (j : Fin 1024) : k0_pay7 y t (ix2 p j) = (y (ix2 p j) - t (ix2 p j) : EReal) := by
  pointwise [k0_pay7]
theorem pay8_apply (y t : B) (p : Fin 512) (j : Fin 1024) : k0_pay8 y t (ix2 p j) = k0_pay7 y t (ix2 p j) * Ideal.ofBits .f32 0x3A800000#32 := by
  pointwise [k0_pay8]
theorem pay9_apply (y t : B) (i j : Fin 1) : k0_pay9 y t (ix2 i j) = (∑ p : Fin 512, ∑ k : Fin 1024, (k0_pay7 y t (ix2 p k) * k0_pay7 y t (ix2 p k) : EReal)) * Ideal.ofBits .f32 0x3A000000#32 := by
  pointwise [k0_pay9]
theorem pay10_apply (y t : B) (a : Vec Ideal S1x1 .f32) (i j : Fin 1) : k0_pay10 y t a (ix2 i j) = (a (ix2 i j) + k0_pay9 y t (ix2 i j) : EReal) := by
  pointwise [k0_pay10]
theorem pay11_apply (z : B) (p : Fin 512) (j : Fin 1024) : k0_pay11 z (ix2 p j) = z (ix2 p j) - Ideal.div (∑ k : Fin 1024, (z (ix2 p k) : EReal)) (Ideal.ofBits .f32 0x44800000#32) := by
  pointwise [k0_pay11]
theorem pay12_apply (z : B) (p : Fin 512) (j : Fin 1) : k0_pay12 z (ix2 p j) = Ideal.rsqrt (Ideal.div (∑ k : Fin 1024, (k0_pay11 z (ix2 p k) * k0_pay11 z (ix2 p k) : EReal)) (Ideal.ofBits .f32 0x44800000#32) + Ideal.ofBits .f32 0x3727C5AC#32) := by
  pointwise [k0_pay12]
theorem pay13_apply (z : B) (p : Fin 512) (j : Fin 1024) : k0_pay13 z (ix2 p j) = (k0_pay11 z (ix2 p j) * k0_pay12 z (ix2 p 0) : EReal) := by
  pointwise [k0_pay13]
theorem pay1_apply (d : B) (r : FVec Ideal S512x1 .f32) (x : B) (g : L) (p : Fin 512) (j : Fin 1024) :
    k0_pay1 d r x g (ix2 p j) = (r (ix2 p 0) * (d (ix2 p j) * g (ix2 0 j) - Ideal.div (∑ k : Fin 1024, (d (ix2 p k) * g (ix2 0 k) : EReal)) (Ideal.ofBits .f32 0x44800000#32)
      - x (ix2 p j) * Ideal.div (∑ k : Fin 1024, (d (ix2 p k) * g (ix2 0 k) * x (ix2 p k) : EReal)) (Ideal.ofBits .f32 0x44800000#32)) : EReal) := by
  pointwise [k0_pay1]
theorem pay3_apply (d x : B) (i : Fin 1) (j : Fin 1024) : k0_pay3 (F := Ideal) d x (ix2 i j) = ∑ p : Fin 512, (d (ix2 p j) * x (ix2 p j) : EReal) := by
  pointwise [k0_pay3]
theorem pay4_apply (d : B) (i : Fin 1) (j : Fin 1024) : k0_pay4 (F := Ideal) d (ix2 i j) = ∑ p : Fin 512, (d (ix2 p j) : EReal) := by
  pointwise [k0_pay4]
theorem pay5_apply (d x : B) (a : L) (i : Fin 1) (j : Fin 1024) : k0_pay5 (F := Ideal) d x a (ix2 i j) = (a (ix2 i j) + k0_pay3 (F := Ideal) d x (ix2 i j) : EReal) := by
  pointwise [k0_pay5]
theorem pay6_apply (d : B) (a : L) (i : Fin 1) (j : Fin 1024) : k0_pay6 (F := Ideal) d a (ix2 i j) = (a (ix2 i j) + k0_pay4 (F := Ideal) d (ix2 i j) : EReal) := by
  pointwise [k0_pay6]

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (hc0 : cond0_0 i) (hc1 : ¬cond0_1 i) (hc2 : cond0_2 i) (hc3 : ¬cond0_3 i)
    (x0 x1 x2 : B) (x3 : L)
/-- What a first point leaves in each result's buffer. -/
theorem out_A4 : out0_A_4 c i arg1 harg1 arg2 harg2 arg3 harg3 arg4 harg4 arg5 harg5 arg6 harg6 arg7 harg7 arg8 harg8 arg9 harg9 hc0 hc1 hc2 hc3 x0 x1 x2 x3 = k0_pay1 (k0_pay8 x0 x1) (k0_pay12 x2) (k0_pay13 x2) x3 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_A5 : out0_A_5 c i arg1 harg1 arg2 harg2 arg3 harg3 arg4 harg4 arg5 harg5 arg6 harg6 arg7 harg7 arg8 harg8 arg9 harg9 hc0 hc1 hc2 hc3 x0 x1 x2 x3 = k0_pay2 (k0_pay8 x0 x1) (k0_pay12 x2) (k0_pay13 x2) x3 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_A6 : out0_A_6 c i arg1 harg1 arg2 harg2 arg3 harg3 arg4 harg4 arg5 harg5 arg6 harg6 arg7 harg7 arg8 harg8 arg9 harg9 hc0 hc1 hc2 hc3 x0 x1 x2 x3 = k0_pay3 (k0_pay8 x0 x1) (k0_pay13 x2) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_A7 : out0_A_7 c i arg1 harg1 arg2 harg2 arg3 harg3 arg4 harg4 arg5 harg5 arg6 harg6 arg7 harg7 arg8 harg8 arg9 harg9 hc0 hc1 hc2 hc3 x0 x1 x2 x3 = k0_pay4 (k0_pay8 x0 x1) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_A8 : out0_A_8 c i arg1 harg1 arg2 harg2 arg3 harg3 arg4 harg4 arg5 harg5 arg6 harg6 arg7 harg7 arg8 harg8 arg9 harg9 hc0 hc1 hc2 hc3 x0 x1 x2 x3 = k0_pay9 x0 x1 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1 .f32) (harg9 : arg9.IsWhole) (hc0 : ¬cond0_0 i) (hc1 : cond0_1 i) (hc2 : ¬cond0_2 i) (hc3 : cond0_3 i)
    (x0 x1 x2 : B) (x3 : L) (xo6 xo7 : L) (xo8 : Vec Ideal S1x1 .f32)
/-- What a later point leaves in each result's buffer. -/
theorem out_B4 : out0_B_4 c i arg1 harg1 arg2 harg2 arg3 harg3 arg4 harg4 arg5 harg5 arg6 harg6 arg7 harg7 arg8 harg8 arg9 harg9 hc0 hc1 hc2 hc3 x0 x1 x2 x3 xo6 xo7 xo8 = k0_pay1 (k0_pay8 x0 x1) (k0_pay12 x2) (k0_pay13 x2) x3 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_B5 : out0_B_5 c i arg1 harg1 arg2 harg2 arg3 harg3 arg4 harg4 arg5 harg5 arg6 harg6 arg7 harg7 arg8 harg8 arg9 harg9 hc0 hc1 hc2 hc3 x0 x1 x2 x3 xo6 xo7 xo8 = k0_pay2 (k0_pay8 x0 x1) (k0_pay12 x2) (k0_pay13 x2) x3 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_B6 : out0_B_6 c i arg1 harg1 arg2 harg2 arg3 harg3 arg4 harg4 arg5 harg5 arg6 harg6 arg7 harg7 arg8 harg8 arg9 harg9 hc0 hc1 hc2 hc3 x0 x1 x2 x3 xo6 xo7 xo8 = k0_pay5 (k0_pay8 x0 x1) (k0_pay13 x2) xo6 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_B7 : out0_B_7 c i arg1 harg1 arg2 harg2 arg3 harg3 arg4 harg4 arg5 harg5 arg6 harg6 arg7 harg7 arg8 harg8 arg9 harg9 hc0 hc1 hc2 hc3 x0 x1 x2 x3 xo6 xo7 xo8 = k0_pay6 (k0_pay8 x0 x1) xo7 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
theorem out_B8 : out0_B_8 c i arg1 harg1 arg2 harg2 arg3 harg3 arg4 harg4 arg5 harg5 arg6 harg6 arg7 harg7 arg8 harg8 arg9 harg9 hc0 hc1 hc2 hc3 x0 x1 x2 x3 xo6 xo7 xo8 = k0_pay10 x0 x1 xo8 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread, harg9.read_unread]
  simp (disch := decide) only [View.ld_unit_lit, shapeCast_self]
end

section
variable {z : B} {Z : Fin 512 → Row} (hz : Re2 z Z) {ε : ℝ} (hε : Ideal.ofBits .f32 0x3727C5AC#32 = (ε : EReal)) (pos : 0 < ε)
include hz

theorem pay11_re : Re2 (k0_pay11 z) fun p => cen (Z p) := fun p j => by
  rw [pay11_apply]
  simp only [hz _ _, coe_sum, w_1024, div_1024, ← EReal.coe_sub]
  rfl
include hε pos
theorem pay12_re : Re2 (k0_pay12 z) fun p _ => rr ε (Z p) := fun p j => by
  rw [pay12_apply]
  simp only [pay11_re hz _ _, ← EReal.coe_mul, coe_sum, w_1024, div_1024, hε, ← EReal.coe_add]
  exact rsqrt_real _ (var_pos ε pos (Z p))
theorem pay13_re : Re2 (k0_pay13 z) fun p => xh ε (Z p) := fun p j => by
  rw [pay13_apply, pay11_re hz, pay12_re hz hε pos, ← EReal.coe_mul]
  rfl
theorem pay1_re {d : B} {D : Fin 512 → Row} (hd : Re2 d D) {g : L} {G : Row} (hg : Re2 g fun _ => G) :
    Re2 (k0_pay1 d (k0_pay12 z) (k0_pay13 z) g) fun p => back ε (Z p) fun j => D p j * G j := fun p j => by
  rw [pay1_apply]
  simp only [hd _ _, hg _ _, pay12_re hz hε pos _ _, pay13_re hz hε pos _ _, ← EReal.coe_mul, coe_sum, w_1024, div_1024, ← EReal.coe_sub]
  rfl
end

theorem pay2_re {d : B} {r : FVec Ideal S512x1 .f32} {x : B} {g : L} {F : Fin 512 → Row} (h : Re2 (k0_pay1 d r x g) F) : Re2 (k0_pay2 d r x g) F := h
theorem pay8_re {y t : B} {E : Fin 512 → Row} (h : Re2 (k0_pay7 y t) E) : Re2 (k0_pay8 y t) fun p j => E p j * (1 / 1024) := fun p j => by
  rw [pay8_apply, h, w_inv, ← EReal.coe_mul]
theorem pay9_re {y t : B} {E : Fin 512 → Row} (h : Re2 (k0_pay7 y t) E) : Re2 (k0_pay9 y t) fun _ _ => ∑ p, (∑ k, E p k * E p k) * (1 / 2048) := fun i j => by
  rw [pay9_apply]
  simp only [h _ _, ← EReal.coe_mul, coe_sum, w_hinv, Finset.sum_mul]
theorem pay3_re {d x : B} {D X : Fin 512 → Row} (hd : Re2 d D) (hx : Re2 x X) : Re2 (k0_pay3 (F := Ideal) d x) fun _ j => ∑ p, D p j * X p j := fun i j => by
  rw [pay3_apply]
  simp only [hd _ _, hx _ _, ← EReal.coe_mul, coe_sum]
theorem pay4_re {d : B} {D : Fin 512 → Row} (hd : Re2 d D) : Re2 (k0_pay4 (F := Ideal) d) fun _ j => ∑ p, D p j := fun i j => by
  rw [pay4_apply]
  simp only [hd _ _, coe_sum]

/-- Row `p` of the block of a grid point. -/
abbrev row (t : Fin cfg0.N) (p : Fin 512) : Fin 4096 := ⟨t.val * 512 + p.val, by have := t.isLt; have : cfg0.N = 8 := N_0; omega⟩

/-- The sum over the rows of the blocks up to a point. -/
def part (f : Fin 4096 → ℝ) (n : ℕ) : ℝ := ∑ q ∈ Finset.range ((n + 1) * 512), if h : q < 4096 then f ⟨q, h⟩ else 0
theorem part_block (f : Fin 4096 → ℝ) (t : Fin cfg0.N) :
    ∑ p : Fin 512, f (row t p) = ∑ p ∈ Finset.range 512, if h : t.val * 512 + p < 4096 then f ⟨t.val * 512 + p, h⟩ else 0 := by
  rw [← Fin.sum_univ_eq_sum_range (fun p => if h : t.val * 512 + p < 4096 then f ⟨t.val * 512 + p, h⟩ else 0) 512]
  exact Finset.sum_congr rfl fun p _ => by rw [dif_pos (show t.val * 512 + p.val < 4096 from (row t p).isLt)]
theorem part_first (f : Fin 4096 → ℝ) (t : Fin cfg0.N) (h : t.val = 0) : ∑ p : Fin 512, f (row t p) = part f t.val := by
  rw [part_block, part, h]
  simp only [Nat.zero_mul, Nat.zero_add, Nat.one_mul]
theorem part_next (f : Fin 4096 → ℝ) (t : Fin cfg0.N) (h : 1 ≤ t.val) : part f (t.val - 1) + ∑ p : Fin 512, f (row t p) = part f t.val := by
  rw [part_block, part, part, show (t.val + 1) * 512 = t.val * 512 + 512 by ring, Finset.sum_range_add, show t.val - 1 + 1 = t.val by omega]
theorem part_last (f : Fin 4096 → ℝ) : part f 7 = ∑ i, f i := by
  rw [part, ← Fin.sum_univ_eq_sum_range (fun q => if h : q < 4096 then f ⟨q, h⟩ else 0)]
  exact Finset.sum_congr rfl fun p _ => dif_pos p.isLt

variable (m : (ℓ : Loc nD τ Cert.Kernel6Ideal.sig) → Buf (Elt Ideal) ℓ) (ρ : Dev nD → PrngReg) (c : Dev nD)

theorem V_v2 : V m c main_v2 = LnRef.zW (m ((c : Thread nD τ).loc main_arg0)) (m ((c : Thread nD τ).loc main_arg1)) := by
  simp only [V, hostOps0, StableHlo.TRef.binary, StableHlo.TRef.unary, StableHlo.TRef.nullary, StableHlo.TRef.toBuf, StableHlo.TRef.ofBuf, cast_eq]
  after_results_simp <;> rfl
theorem V_v26 : V m c main_v26 = LnRef.yW (LnRef.zW (m ((c : Thread nD τ).loc main_arg0)) (m ((c : Thread nD τ).loc main_arg1))) (m ((c : Thread nD τ).loc main_arg2)) (m ((c : Thread nD τ).loc main_arg3)) := by
  simp only [V, hostOps0, StableHlo.TRef.binary, StableHlo.TRef.unary, StableHlo.TRef.nullary, StableHlo.TRef.toBuf, StableHlo.TRef.ofBuf, cast_eq]
  after_results_simp <;> rfl
theorem V_v27 : V m c main_v27 = broadcastInDim S1x1024 ![1] bcast_S1024_S1x1024_1 (m ((c : Thread nD τ).loc main_arg2)) := by
  simp only [V, hostOps0, StableHlo.TRef.binary, StableHlo.TRef.unary, StableHlo.TRef.nullary, StableHlo.TRef.toBuf, StableHlo.TRef.ofBuf, cast_eq]
  after_results_simp <;> rfl
theorem V_arg4 : V m c main_arg4 = m ((c : Thread nD τ).loc main_arg4) := by
  simp only [V, hostOps0, StableHlo.TRef.binary, StableHlo.TRef.unary, StableHlo.TRef.nullary, StableHlo.TRef.toBuf, StableHlo.TRef.ofBuf, cast_eq]
  after_results_simp <;> rfl

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

theorem in_0 (t : Fin cfg0.N) (p : Fin 512) (j : Fin 1024) : iblk m c 0 t (ix2 p j) = V m c main_v26 (ix2 (row t p) j) := by
  have hN : cfg0.N = 8 := N_0
  have ht := t.isLt
  blk_ext [iblk, idx t]
theorem in_1 (t : Fin cfg0.N) (p : Fin 512) (j : Fin 1024) : iblk m c 1 t (ix2 p j) = V m c main_arg4 (ix2 (row t p) j) := by
  have hN : cfg0.N = 8 := N_0
  have ht := t.isLt
  blk_ext [iblk, idx t]
theorem in_2 (t : Fin cfg0.N) (p : Fin 512) (j : Fin 1024) : iblk m c 2 t (ix2 p j) = V m c main_v2 (ix2 (row t p) j) := by
  have hN : cfg0.N = 8 := N_0
  have ht := t.isLt
  blk_ext [iblk, idx t]
theorem in_3 (t : Fin cfg0.N) (p : Fin 1) (j : Fin 1024) : iblk m c 3 t (ix2 p j) = V m c main_v27 (ix2 p j) := by
  have hN : cfg0.N = 8 := N_0
  have ht := t.isLt
  blk_ext [iblk, idx t]

variable {α ε : ℝ} {x f : Fin 4096 → Row} {g b : Row} {t : Fin 4096 → Row}
  (h : Args α ε x f g b t (m ((c : Thread nD τ).loc main_arg0)) (m ((c : Thread nD τ).loc main_arg1)) (m ((c : Thread nD τ).loc main_arg2)) (m ((c : Thread nD τ).loc main_arg3)) (m ((c : Thread nD τ).loc main_arg4)))
include h

/-- A point's blocks. -/
theorem blk_z (n : Fin cfg0.N) : Re2 (iblk m c 2 n) fun p => zz α x f (row n p) := fun p j => by
  refine (in_2 m c n p j).trans ?_
  rw [V_v2]
  exact LnRef.zW_re h _ _
theorem blk_g (n : Fin cfg0.N) : Re2 (iblk m c 3 n) fun _ => g := fun p j => by
  refine (in_3 m c n p j).trans ?_
  rw [V_v27]
  exact (by pointwise : broadcastInDim S1x1024 ![1] bcast_S1024_S1x1024_1 (m ((c : Thread nD τ).loc main_arg2)) (ix2 p j) = m ((c : Thread nD τ).loc main_arg2) (ix1 j)).trans (h.h2 j)
theorem blk_e (n : Fin cfg0.N) : Re2 (k0_pay7 (iblk m c 0 n) (iblk m c 1 n)) fun p => err ε g b (zz α x f (row n p)) (t (row n p)) := fun p j => by
  rw [pay7_apply, in_0, in_1, V_v26, V_arg4]
  exact LnRef.eW_re (LnRef.zW_re h) h.hε h.pos h.h2 h.h3 h.h4 (row n p) j

/-- The row blocks of the input's gradient. -/
theorem acc_z (n : Fin cfg0.N) : Re2 (outsAt0 m c n.val n.isLt).1 (fun p => dzS ε g b (zz α x f) t (row n p))
    ∧ Re2 (outsAt0 m c n.val n.isLt).2.1 (fun p => dzS ε g b (zz α x f) t (row n p)) := by
  have hN : cfg0.N = 8 := N_0
  have hn := n.isLt
  have e := pay1_re (blk_z m c h n) h.hε h.pos (pay8_re (blk_e m c h n)) (blk_g m c h n)
  by_cases h0 : n.val = 0
  · rw [outsAt0_A m c n (by omega) (by omega) (by omega) (by omega)]
    dsimp only
    rw [out_A4, out_A5]
    exact ⟨e, pay2_re e⟩
  · rw [outsAt0_B m c n (by omega) (by omega) (by omega) (by omega)]
    dsimp only
    rw [out_B4, out_B5]
    exact ⟨e, pay2_re e⟩

/-- What the three summed results' buffers hold after a point. -/
theorem acc (k : ℕ) (n : Fin cfg0.N) (hk : n.val = k) :
    Re2 (outsAt0 m c n.val n.isLt).2.2.1 (fun _ j => part (fun i => dy ε g b (zz α x f i) (t i) j * xh ε (zz α x f i) j) n.val)
    ∧ Re2 (outsAt0 m c n.val n.isLt).2.2.2.1 (fun _ j => part (fun i => dy ε g b (zz α x f i) (t i) j) n.val)
    ∧ Re2 (outsAt0 m c n.val n.isLt).2.2.2.2 (fun _ _ => part (fun i => (∑ j, err ε g b (zz α x f i) (t i) j * err ε g b (zz α x f i) (t i) j) * (1 / 2048)) n.val) := by
  have hN : cfg0.N = 8 := N_0
  induction k generalizing n with
  | zero =>
    have e3 := pay3_re (pay8_re (blk_e m c h n)) (pay13_re (blk_z m c h n) h.hε h.pos)
    have e4 := pay4_re (pay8_re (blk_e m c h n))
    have e9 := pay9_re (blk_e m c h n)
    rw [outsAt0_A m c n (by omega) (by omega) (by omega) (by omega)]
    dsimp only
    rw [out_A6, out_A7, out_A8]
    refine ⟨fun i j => (e3 i j).trans ?_, fun i j => (e4 i j).trans ?_, fun i j => (e9 i j).trans ?_⟩ <;> refine congrArg Real.toEReal ?_ <;> dsimp only <;> rw [← part_first _ n hk] <;> rfl
  | succ k ih =>
    have hn := n.isLt
    have e3 := pay3_re (pay8_re (blk_e m c h n)) (pay13_re (blk_z m c h n) h.hε h.pos)
    have e4 := pay4_re (pay8_re (blk_e m c h n))
    have e9 := pay9_re (blk_e m c h n)
    obtain ⟨i6, i7, i8⟩ := ih ⟨n.val - 1, by omega⟩ (by simp only; omega)
    rw [outsAt0_B m c n (by omega) (by omega) (by omega) (by omega)]
    dsimp only
    rw [out_B6, out_B7, out_B8]
    refine ⟨fun i j => ?_, fun i j => ?_, fun i j => ?_⟩
    · rw [pay5_apply, e3, i6, ← EReal.coe_add]
      exact congrArg Real.toEReal (part_next _ n (by omega))
    · rw [pay6_apply, e4, i7, ← EReal.coe_add]
      exact congrArg Real.toEReal (part_next _ n (by omega))
    · rw [pay10_apply, e9, i8, ← EReal.coe_add]
      exact congrArg Real.toEReal (part_next _ n (by omega))

theorem final_4 : (dats m 0 c).arrAt 4 cfg0.N = fun y => ((dzS ε g b (zz α x f) t (y 0) (y 1) : ℝ) : EReal) := by
  have hN : cfg0.N = 8 := N_0
  refine (dats m 0 c).arrAt_eq_of_cover 4 _ (fun n hf => ?_) fun i => ?_
  · have hn := n.isLt
    show (cfg0.win 4).cut (grid0.coords n) ((dats m 0 c).after 4 n) = _
    rw [after0_4]
    funext y
    obtain ⟨p, j, e⟩ : ∃ p j, y = ix2 p j := ⟨y 0, y 1, eq_ix2 y⟩
    have lp : p.val < 512 := p.isLt
    have lj : j.val < 1024 := j.isLt
    have e0 : (win0_4.blk n).view.emb (ix2 p j) 0 = row n p := Fin.ext (by blk_simp [idx n] <;> rfl)
    have e1 : (win0_4.blk n).view.emb (ix2 p j) 1 = j := Fin.ext (by blk_simp [idx n] <;> rfl)
    rw [e]
    refine ((acc_z m c h n).1 p j).trans ?_
    show _ = ((dzS ε g b (zz α x f) t ((win0_4.blk n).view.emb (ix2 p j) 0) ((win0_4.blk n).view.emb (ix2 p j) 1) : ℝ) : EReal)
    rw [e0, e1]
  · have h0 : (i 0).val < 4096 := (i 0).isLt
    have h1 : (i 1).val < 1024 := (i 1).isLt
    refine ⟨⟨(i 0).val / 512, by omega⟩, flush0_4 _, ?_⟩
    mem_blk [idx]
    simp only
    omega
theorem final_5 : (dats m 0 c).arrAt 5 cfg0.N = fun y => ((dzS ε g b (zz α x f) t (y 0) (y 1) : ℝ) : EReal) := by
  have hN : cfg0.N = 8 := N_0
  refine (dats m 0 c).arrAt_eq_of_cover 5 _ (fun n hf => ?_) fun i => ?_
  · have hn := n.isLt
    show (cfg0.win 5).cut (grid0.coords n) ((dats m 0 c).after 5 n) = _
    rw [after0_5]
    funext y
    obtain ⟨p, j, e⟩ : ∃ p j, y = ix2 p j := ⟨y 0, y 1, eq_ix2 y⟩
    have lp : p.val < 512 := p.isLt
    have lj : j.val < 1024 := j.isLt
    have e0 : (win0_5.blk n).view.emb (ix2 p j) 0 = row n p := Fin.ext (by blk_simp [idx n] <;> rfl)
    have e1 : (win0_5.blk n).view.emb (ix2 p j) 1 = j := Fin.ext (by blk_simp [idx n] <;> rfl)
    rw [e]
    refine ((acc_z m c h n).2 p j).trans ?_
    show _ = ((dzS ε g b (zz α x f) t ((win0_5.blk n).view.emb (ix2 p j) 0) ((win0_5.blk n).view.emb (ix2 p j) 1) : ℝ) : EReal)
    rw [e0, e1]
  · have h0 : (i 0).val < 4096 := (i 0).isLt
    have h1 : (i 1).val < 1024 := (i 1).isLt
    refine ⟨⟨(i 0).val / 512, by omega⟩, flush0_5 _, ?_⟩
    mem_blk [idx]
    simp only
    omega
theorem final_6 : (dats m 0 c).arrAt 6 cfg0.N = fun y => ((dgS ε g b (zz α x f) t (y 1) : ℝ) : EReal) := by
  have hN : cfg0.N = 8 := N_0
  refine (dats m 0 c).arrAt_eq_of_cover 6 _ (fun n hf => ?_) fun i => ?_
  · have h7 := (flush0_6 n).mp hf
    have hn := n.isLt
    have e7 : n.val = 7 := by omega
    show (cfg0.win 6).cut (grid0.coords n) ((dats m 0 c).after 6 n) = _
    rw [after0_6]
    funext y
    obtain ⟨p, j, e⟩ : ∃ p j, y = ix2 p j := ⟨y 0, y 1, eq_ix2 y⟩
    have lp : p.val < 1 := p.isLt
    have lj : j.val < 1024 := j.isLt
    have e1 : (win0_6.blk n).view.emb (ix2 p j) 1 = j := Fin.ext (by blk_simp [idx n] <;> rfl)
    rw [e]
    refine ((acc m c h 7 n e7).1 p j).trans ?_
    show _ = ((dgS ε g b (zz α x f) t ((win0_6.blk n).view.emb (ix2 p j) 1) : ℝ) : EReal)
    rw [e1, e7]
    exact congrArg Real.toEReal (part_last _)
  · have h0 : (i 0).val < 1 := (i 0).isLt
    have h1 : (i 1).val < 1024 := (i 1).isLt
    refine ⟨⟨(i 0).val + 7, by omega⟩, (flush0_6 _).mpr (by simp only; omega), ?_⟩
    mem_blk [idx]
    simp only
    omega
theorem final_7 : (dats m 0 c).arrAt 7 cfg0.N = fun y => ((dbS ε g b (zz α x f) t (y 1) : ℝ) : EReal) := by
  have hN : cfg0.N = 8 := N_0
  refine (dats m 0 c).arrAt_eq_of_cover 7 _ (fun n hf => ?_) fun i => ?_
  · have h7 := (flush0_7 n).mp hf
    have hn := n.isLt
    have e7 : n.val = 7 := by omega
    show (cfg0.win 7).cut (grid0.coords n) ((dats m 0 c).after 7 n) = _
    rw [after0_7]
    funext y
    obtain ⟨p, j, e⟩ : ∃ p j, y = ix2 p j := ⟨y 0, y 1, eq_ix2 y⟩
    have lp : p.val < 1 := p.isLt
    have lj : j.val < 1024 := j.isLt
    have e1 : (win0_7.blk n).view.emb (ix2 p j) 1 = j := Fin.ext (by blk_simp [idx n] <;> rfl)
    rw [e]
    refine ((acc m c h 7 n e7).2.1 p j).trans ?_
    show _ = ((dbS ε g b (zz α x f) t ((win0_7.blk n).view.emb (ix2 p j) 1) : ℝ) : EReal)
    rw [e1, e7]
    exact congrArg Real.toEReal (part_last _)
  · have h0 : (i 0).val < 1 := (i 0).isLt
    have h1 : (i 1).val < 1024 := (i 1).isLt
    refine ⟨⟨(i 0).val + 7, by omega⟩, (flush0_7 _).mpr (by simp only; omega), ?_⟩
    mem_blk [idx]
    simp only
    omega
theorem final_8 : (dats m 0 c).arrAt 8 cfg0.N = fun y => ((lossS ε g b (zz α x f) t : ℝ) : EReal) := by
  have hN : cfg0.N = 8 := N_0
  refine (dats m 0 c).arrAt_eq_of_cover 8 _ (fun n hf => ?_) fun i => ?_
  · have h7 := (flush0_8 n).mp hf
    have hn := n.isLt
    have e7 : n.val = 7 := by omega
    show (cfg0.win 8).cut (grid0.coords n) ((dats m 0 c).after 8 n) = _
    rw [after0_8]
    funext y
    obtain ⟨p, j, e⟩ : ∃ p j, y = ix2 p j := ⟨y 0, y 1, eq_ix2 y⟩
    have lp : p.val < 1 := p.isLt
    have lj : j.val < 1 := j.isLt
    rw [e]
    refine ((acc m c h 7 n e7).2.2 p j).trans ?_
    show _ = ((lossS ε g b (zz α x f) t : ℝ) : EReal)
    rw [e7]
    exact congrArg Real.toEReal (part_last _)
  · have h0 : (i 0).val < 1 := (i 0).isLt
    have h1 : (i 1).val < 1 := (i 1).isLt
    refine ⟨⟨(i 0).val + 7, by omega⟩, (flush0_8 _).mpr (by simp only; omega), ?_⟩
    mem_blk [idx]
    simp only
    omega

theorem at_6 (i : Fin 1) (j : Fin 1024) : ((dats m 0 c).arrAt 6 cfg0.N : L) (ix2 i j) = ((dgS ε g b (zz α x f) t j : ℝ) : EReal) := by
  rw [final_6 m c h]
  rfl
theorem at_7 (i : Fin 1) (j : Fin 1024) : ((dats m 0 c).arrAt 7 cfg0.N : L) (ix2 i j) = ((dbS ε g b (zz α x f) t j : ℝ) : EReal) := by
  rw [final_7 m c h]
  rfl

end Cert.Ln

end
-- ==== Proof.LnClaims.lean ====
/-
  The claims about the second layer norm's gradient and the loss head: its programs and its reference end with their arguments
  unchanged and their counters at zero, and under the precondition the kernel's five results are the reference's.
-/
module

public import proofs.«01_k».proof.Defs
public import proofs.«01_k».proof.Proof.LnValue
public import proofs.«01_k».proof.Proof.MixClaims
public import proofs.«01_k».proof.Proof.Gen.Kernel6.Frame
public import Idealize.ShloMosaic.Lib.Quiescent

@[expose] public section

set_option maxRecDepth 16384

noncomputable section

open Idealize.ShloMosaic Idealize.ShloMosaic.TcCoe Idealize.SL.Sem

namespace Cert.Ln

open Cert.Mix (ext2)

/-- The program's frame. -/
theorem frame_kernel : Cert.quiescent_Kernel6 (hKernel6 := Cert.Kernel6.Gen.facts) := fun m ρ _ => Cert.Kernel6.Gen.frame m ρ

/-- The ideal program's frame. -/
theorem frame_ideal : Cert.quiescent_Kernel6Ideal (hKernel6Ideal := Cert.Kernel6Ideal.Gen.facts) := fun m ρ _ => Cert.Kernel6Ideal.Gen.frame (F := Ideal) m ρ

/-- The reference's frame: it has no counters. -/
theorem frame_reference : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩) (Cert.Reference6Ideal.Value.run m ρ)

set_option maxHeartbeats 2000000 in
/-- Under the precondition the five results are the reference's. -/
theorem values : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m ρ m' ρ' hpre hargs
  have fin := fun c => args_real _ _ _ _ _ (hpre c)
  refine ⟨fun c => (Cert.Kernel6Ideal.Gen.dats m 0 c).arrAt 8 Cert.Kernel6Ideal.cfg0.N, fun c => (Cert.Kernel6Ideal.Gen.dats m 0 c).arrAt 4 Cert.Kernel6Ideal.cfg0.N,
    fun c => (Cert.Kernel6Ideal.Gen.dats m 0 c).arrAt 5 Cert.Kernel6Ideal.cfg0.N, fun c => (Cert.Kernel6Ideal.Gen.dats m 0 c).arrAt 6 Cert.Kernel6Ideal.cfg0.N,
    fun c => (Cert.Kernel6Ideal.Gen.dats m 0 c).arrAt 7 Cert.Kernel6Ideal.cfg0.N, ?_, ?_⟩
  · exact (θ_run Cert.Kernel6Ideal.defs _ _).mono (fun r h c => ⟨(h.1 c).1 8, (h.1 c).1 4, (h.1 c).1 5, (h.1 c).1 6, (h.1 c).1 7, h.2 c⟩)
      (θ_run_and (Cert.Kernel6Ideal.Gen.run_main (F := Ideal) m ρ) (Cert.Kernel6Ideal.Gen.unchanged (F := Ideal) m ρ))
  · refine (θ_run Cert.Reference6Ideal.defs _ _).mono (fun r h c => ?_) (Cert.Reference6Ideal.Value.run m' ρ')
    obtain ⟨e0, e1, e2, e3, e4⟩ := hargs c
    obtain ⟨α, ε, x, f, g, b, t, ha⟩ := fin c
    obtain ⟨hL, hZ, hY, hG, hB, hr⟩ := h c
    rw [LnRef.v80, e0, e1, e2, e3, e4] at hL
    rw [LnRef.v79, e0, e1, e2, e3, e4] at hZ
    rw [LnRef.v81, e0, e1, e2, e3, e4] at hY
    rw [LnRef.v82, e0, e1, e2, e3, e4] at hG
    have hB' := hB.trans (show _ = LnRef.oB (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) from rfl)
    rw [e0, e1, e2, e3, e4] at hB'
    exact ⟨hL.trans ((ext2 fun i j => LnRef.oL_re ha i j).trans (final_8 m c ha).symm), hZ.trans ((ext2 fun i j => LnRef.oZ_re ha i j).trans (final_4 m c ha).symm),
      hY.trans ((ext2 fun i j => LnRef.oZ_re ha i j).trans (final_5 m c ha).symm), hG.trans (ext2 fun i j => (LnRef.oG_re ha i j).trans (at_6 m c ha i j).symm),
      hB'.trans (ext2 fun i j => (LnRef.oB_re ha i j).trans (at_7 m c ha i j).symm), hr⟩

end Cert.Ln

end
-- ==== Proof.LbValue.lean ====
/-
  The first layer norm's gradient: the call's four result arrays, the two gradients row block by row block, the parameters'
  gradients summed over the row blocks in order. The rows' arithmetic is the second norm's, at another gradient of the output.
-/
module

public import proofs.«01_k».proof.Proof.LnValue
public import proofs.«01_k».proof.Proof.Gen.Kernel7Ideal.Frame
public import proofs.«01_k».proof.Proof.Gen.Reference7Ideal.Run
public import proofs.«01_k».proof.Proof.Gen.Pre_finite7

@[expose] public section

set_option maxRecDepth 16384

noncomputable section

open Idealize.ShloMosaic Idealize.ShloMosaic.TcCoe Idealize.SL.Sem
open Idealize.ShloMosaic.Pipeline (Dat)

namespace Cert.Lb

open Cert.Ln (Row Re2 Re1 Args zz back xh cen rr part w_alpha w_eps)
open Cert.Attn (and_one finite_entry coe_sum)

section
open Cert.Pre_finite7 Cert.Pre_finite7.Gen
/-- Under the precondition the five argument arrays are reals; the norm's gain stands for its bias and the first cotangent for its
    target, which the gradient does not read. -/
theorem args_real (x0 x1 : FVec Ideal S4096x1024 .f32) (x2 : FVec Ideal S1024 .f32) (x3 x4 : FVec Ideal S4096x1024 .f32)
    (h : Cert.Pre_finite7.fn (F := Ideal) x0 x1 x2 x3 x4 = fun _ => 1#1) :
    ∃ α ε x f g u v, Args α ε x f g g u x0 x1 x2 x2 x3 ∧ Re2 x4 v := by
  have h0 := congrFun h (Shape.Idx.first h_S_)
  obtain ⟨h0123, h4⟩ := and_one _ _ h0
  obtain ⟨h012, h3⟩ := and_one _ _ h0123
  obtain ⟨h01, h2⟩ := and_one _ _ h012
  obtain ⟨h0, h1⟩ := and_one _ _ h01
  haveI : Subsingleton S_.Idx := ⟨fun a b => funext fun d => d.elim0⟩
  obtain ⟨α, hα⟩ := w_alpha
  obtain ⟨ε, pos, hε⟩ := w_eps
  have r0 := fun i => finite_entry x0 bcast_S_S4096x1024 i (Host.reduce_andi_all _ _ _ _ _ h0 i)
  have r1 := fun i => finite_entry x1 bcast_S_S4096x1024 i (Host.reduce_andi_all _ _ _ _ _ h1 i)
  have r2 := fun i => finite_entry x2 bcast_S_S1024 i (Host.reduce_andi_all _ _ _ _ _ h2 i)
  have r3 := fun i => finite_entry x3 bcast_S_S4096x1024 i (Host.reduce_andi_all _ _ _ _ _ h3 i)
  have r4 := fun i => finite_entry x4 bcast_S_S4096x1024 i (Host.reduce_andi_all _ _ _ _ _ h4 i)
  choose y0 e0 using r0
  choose y1 e1 using r1
  choose y2 e2 using r2
  choose y3 e3 using r3
  choose y4 e4 using r4
  exact ⟨α, ε, fun i j => y0 (ix2 i j), fun i j => y1 (ix2 i j), fun j => y2 (ix1 j), fun i j => y3 (ix2 i j), fun i j => y4 (ix2 i j),
    ⟨hα, hε, pos, fun _ _ => e0 _, fun _ _ => e1 _, fun _ => e2 _, fun _ => e2 _, fun _ _ => e3 _⟩, fun _ _ => e4 _⟩
end

/-- The gradient of the norm's output. -/
abbrev dd (α : ℝ) (u v : Fin 4096 → Row) : Fin 4096 → Row := fun i j => u i j + α * v i j
/-- The gradient of the norm's input. -/
abbrev dzS (ε : ℝ) (g : Row) (z d : Fin 4096 → Row) : Fin 4096 → Row := fun i => back ε (z i) fun j => d i j * g j
/-- The gradient of the gain. -/
abbrev dgS (ε : ℝ) (z d : Fin 4096 → Row) : Row := fun j => ∑ i, d i j * xh ε (z i) j
/-- The gradient of the bias. -/
abbrev dbS (d : Fin 4096 → Row) : Row := fun j => ∑ i, d i j

section
open Cert.LnRef Cert.Reference6Ideal Cert.Reference6Ideal.Gen

/-- The reference's gradient of the norm's output. -/
def dW (u v : M) : M := addf u (mulf (broadcastInDim S4096x1024 ![] bcast_S_S4096x1024 (constant S_ .f32 0x3FB504F3#32)) v)
theorem dW_apply (u v : M) (i : Fin 4096) (j : Fin 1024) : dW u v (ix2 i j) = u (ix2 i j) + Ideal.ofBits .f32 0x3FB504F3#32 * v (ix2 i j) := by
  pointwise [dW]

/-- Its four results, of the arguments. -/
def oZ (x f : M) (g : R) (u v : M) : M := zW' (zW x f) (mulf (dW u v) (br g))
def oG (x f : M) (g : R) (u v : M) := kW (mulf (xW (zW x f)) (dW u v))
def oB (x f : M) (g : R) (u v : M) := kW (dW u v)

variable {α ε : ℝ} {x f : Fin 4096 → Row} {g : Row} {u v : Fin 4096 → Row} {x0 x1 x3 x4 : M} {x2 : R} (h : Args α ε x f g g u x0 x1 x2 x2 x3) (h' : Re2 x4 v)
include h h'

theorem dW_re : Re2 (dW x3 x4) (dd α u v) := fun i j => by
  rw [dW_apply, h.h4, h.hα, h', ← EReal.coe_mul, ← EReal.coe_add]
theorem oZ_re : Re2 (oZ x0 x1 x2 x3 x4) (dzS ε g (zz α x f) (dd α u v)) :=
  zW'_re (zW_re h) h.hε h.pos (mul_re (dW_re h h') (br_re h.h2))
theorem oG_re : Re2 (oG x0 x1 x2 x3 x4) fun _ => dgS ε (zz α x f) (dd α u v) := fun i j => by
  refine (kW_re (mul_re (xW_re (zW_re h) h.hε h.pos) (dW_re h h')) i j).trans ?_
  congr 1
  exact Finset.sum_congr rfl fun k _ => mul_comm _ _
theorem oB_re : Re2 (oB x0 x1 x2 x3 x4) fun _ => dbS (dd α u v) := kW_re (dW_re h h')
end

open Cert.Kernel7Ideal Cert.Kernel7Ideal.Gen

abbrev B := Vec Ideal S512x1024 .f32
abbrev L := Vec Ideal S1x1024 .f32

theorem pay7_apply (a b : B) (p : Fin 512) (j : Fin 1024) : k0_pay7 a b (ix2 p j) = a (ix2 p j) + Ideal.ofBits .f32 0x3FB504F3#32 * b (ix2 p j) := by
  pointwise [k0_pay7]

/-- The rows' arithmetic is the second norm's. -/
theorem pay10_eq (z : B) : k0_pay10 z = Cert.Kernel6Ideal.Gen.k0_pay13 z := rfl
theorem pay1_eq (a b z : B) (g : L) : k0_pay1 (k0_pay9 z) (k0_pay10 z) (k0_pay12 a b g) (k0_pay13 a b z g)
    = Cert.Kernel6Ideal.Gen.k0_pay1 (k0_pay7 a b) (Cert.Kernel6Ideal.Gen.k0_pay12 z) (Cert.Kernel6Ideal.Gen.k0_pay13 z) g := rfl
theorem pay2_eq (a b z : B) (g : L) : (k0_pay2 (k0_pay9 z) (k0_pay10 z) (k0_pay12 a b g) (k0_pay13 a b z g) : S512x1024.Idx → EReal)
    = k0_pay1 (k0_pay9 z) (k0_pay10 z) (k0_pay12 a b g) (k0_pay13 a b z g) := rfl
theorem pay3_eq (d x : B) : k0_pay3 (F := Ideal) d x = Cert.Kernel6Ideal.Gen.k0_pay3 (F := Ideal) d x := rfl
theorem pay4_eq (d : B) : k0_pay4 (F := Ideal) d = Cert.Kernel6Ideal.Gen.k0_pay4 (F := Ideal) d := rfl
theorem pay5_eq (d x : B) (a : L) : k0_pay5 (F := Ideal) d x a = Cert.Kernel6Ideal.Gen.k0_pay5 (F := Ideal) d x a := rfl
theorem pay6_eq (d : B) (a : L) : k0_pay6 (F := Ideal) d a = Cert.Kernel6Ideal.Gen.k0_pay6 (F := Ideal) d a := rfl

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 x1 x2 : B) (x3 : L)
/-- What a first point leaves in each result's buffer. -/
theorem out_A4 : out0_A_4 c i arg1 harg1 arg2 harg2 arg3 harg3 arg4 harg4 arg5 harg5 arg6 harg6 arg7 harg7 arg8 harg8 hc0 hc1 x0 x1 x2 x3 = k0_pay1 (k0_pay9 x2) (k0_pay10 x2) (k0_pay12 x0 x1 x3) (k0_pay13 x0 x1 x2 x3) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_A5 : out0_A_5 c i arg1 harg1 arg2 harg2 arg3 harg3 arg4 harg4 arg5 harg5 arg6 harg6 arg7 harg7 arg8 harg8 hc0 hc1 x0 x1 x2 x3 = k0_pay2 (k0_pay9 x2) (k0_pay10 x2) (k0_pay12 x0 x1 x3) (k0_pay13 x0 x1 x2 x3) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_A6 : out0_A_6 c i arg1 harg1 arg2 harg2 arg3 harg3 arg4 harg4 arg5 harg5 arg6 harg6 arg7 harg7 arg8 harg8 hc0 hc1 x0 x1 x2 x3 = k0_pay3 (k0_pay7 x0 x1) (k0_pay10 x2) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_A7 : out0_A_7 c i arg1 harg1 arg2 harg2 arg3 harg3 arg4 harg4 arg5 harg5 arg6 harg6 arg7 harg7 arg8 harg8 hc0 hc1 x0 x1 x2 x3 = k0_pay4 (k0_pay7 x0 x1) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 x1 x2 : B) (x3 : L) (xo6 xo7 : L)
/-- What a later point leaves in each result's buffer. -/
theorem out_B4 : out0_B_4 c i arg1 harg1 arg2 harg2 arg3 harg3 arg4 harg4 arg5 harg5 arg6 harg6 arg7 harg7 arg8 harg8 hc0 hc1 x0 x1 x2 x3 xo6 xo7 = k0_pay1 (k0_pay9 x2) (k0_pay10 x2) (k0_pay12 x0 x1 x3) (k0_pay13 x0 x1 x2 x3) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_B5 : out0_B_5 c i arg1 harg1 arg2 harg2 arg3 harg3 arg4 harg4 arg5 harg5 arg6 harg6 arg7 harg7 arg8 harg8 hc0 hc1 x0 x1 x2 x3 xo6 xo7 = k0_pay2 (k0_pay9 x2) (k0_pay10 x2) (k0_pay12 x0 x1 x3) (k0_pay13 x0 x1 x2 x3) := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_B6 : out0_B_6 c i arg1 harg1 arg2 harg2 arg3 harg3 arg4 harg4 arg5 harg5 arg6 harg6 arg7 harg7 arg8 harg8 hc0 hc1 x0 x1 x2 x3 xo6 xo7 = k0_pay5 (k0_pay7 x0 x1) (k0_pay10 x2) xo6 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
theorem out_B7 : out0_B_7 c i arg1 harg1 arg2 harg2 arg3 harg3 arg4 harg4 arg5 harg5 arg6 harg6 arg7 harg7 arg8 harg8 hc0 hc1 x0 x1 x2 x3 xo6 xo7 = k0_pay6 (k0_pay7 x0 x1) xo7 := by
  frame_open
  rw [View.read_writes_junk_eq_canon, View.canon_cons_unit_lit _ _ _ (by decide)]
  simp only [View.readAt_eq_ld, harg1.read_unread, harg2.read_unread, harg3.read_unread, harg4.read_unread, harg7.read_unread, harg8.read_unread]
  simp (disch := decide) only [View.ld_unit_lit, shapeCast_self]
end

/-- Row `p` of the block of a grid point. -/
abbrev row (t : Fin cfg0.N) (p : Fin 512) : Fin 4096 := ⟨t.val * 512 + p.val, by have := t.isLt; have : cfg0.N = 8 := N_0; omega⟩
theorem part_first (f : Fin 4096 → ℝ) (t : Fin cfg0.N) (h : t.val = 0) : ∑ p : Fin 512, f (row t p) = part f t.val :=
  Cert.Ln.part_first f ⟨t.val, t.isLt⟩ h
theorem part_next (f : Fin 4096 → ℝ) (t : Fin cfg0.N) (h : 1 ≤ t.val) : part f (t.val - 1) + ∑ p : Fin 512, f (row t p) = part f t.val :=
  Cert.Ln.part_next f ⟨t.val, t.isLt⟩ h

variable (m : (ℓ : Loc nD τ Cert.Kernel7Ideal.sig) → Buf (Elt Ideal) ℓ) (c : Dev nD)

theorem V_v2 : V m c main_v2 = LnRef.zW (m ((c : Thread nD τ).loc main_arg0)) (m ((c : Thread nD τ).loc main_arg1)) := by
  simp only [V, hostOps0, StableHlo.TRef.binary, StableHlo.TRef.unary, StableHlo.TRef.nullary, StableHlo.TRef.toBuf, StableHlo.TRef.ofBuf, cast_eq]
  after_results_simp <;> rfl
theorem V_v3 : V m c main_v3 = broadcastInDim S1x1024 ![1] bcast_S1024_S1x1024_1 (m ((c : Thread nD τ).loc main_arg2)) := by
  simp only [V, hostOps0, StableHlo.TRef.binary, StableHlo.TRef.unary, StableHlo.TRef.nullary, StableHlo.TRef.toBuf, StableHlo.TRef.ofBuf, cast_eq]
  after_results_simp <;> rfl

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

theorem in_0 (t : Fin cfg0.N) (p : Fin 512) (j : Fin 1024) : iblk m c 0 t (ix2 p j) = (m ((c : Thread nD τ).loc main_arg3)) (ix2 (row t p) j) := by
  have hN : cfg0.N = 8 := N_0
  have ht := t.isLt
  rw [← V_main_arg3 m c]
  blk_ext [iblk, idx t]
theorem in_1 (t : Fin cfg0.N) (p : Fin 512) (j : Fin 1024) : iblk m c 1 t (ix2 p j) = (m ((c : Thread nD τ).loc main_arg4)) (ix2 (row t p) j) := by
  have hN : cfg0.N = 8 := N_0
  have ht := t.isLt
  rw [← V_main_arg4 m c]
  blk_ext [iblk, idx t]
theorem in_2 (t : Fin cfg0.N) (p : Fin 512) (j : Fin 1024) : iblk m c 2 t (ix2 p j) = V m c main_v2 (ix2 (row t p) j) := by
  have hN : cfg0.N = 8 := N_0
  have ht := t.isLt
  blk_ext [iblk, idx t]
theorem in_3 (t : Fin cfg0.N) (p : Fin 1) (j : Fin 1024) : iblk m c 3 t (ix2 p j) = V m c main_v3 (ix2 p j) := by
  have hN : cfg0.N = 8 := N_0
  have ht := t.isLt
  blk_ext [iblk, idx t]

variable {α ε : ℝ} {x f : Fin 4096 → Row} {g : Row} {u v : Fin 4096 → Row}
  (h : Args α ε x f g g u (m ((c : Thread nD τ).loc main_arg0)) (m ((c : Thread nD τ).loc main_arg1)) (m ((c : Thread nD τ).loc main_arg2)) (m ((c : Thread nD τ).loc main_arg2)) (m ((c : Thread nD τ).loc main_arg3))) (h' : Re2 (m ((c : Thread nD τ).loc main_arg4)) v)
include h

/-- A point's blocks. -/
theorem blk_z (n : Fin cfg0.N) : Re2 (iblk m c 2 n) fun p => zz α x f (row n p) := fun p j => by
  refine (in_2 m c n p j).trans ?_
  rw [V_v2]
  exact LnRef.zW_re h _ _
theorem blk_g (n : Fin cfg0.N) : Re2 (iblk m c 3 n) fun _ => g := fun p j => by
  refine (in_3 m c n p j).trans ?_
  rw [V_v3]
  exact (by pointwise : broadcastInDim S1x1024 ![1] bcast_S1024_S1x1024_1 (m ((c : Thread nD τ).loc main_arg2)) (ix2 p j) = (m ((c : Thread nD τ).loc main_arg2)) (ix1 j)).trans (h.h2 j)
include h'
theorem blk_d (n : Fin cfg0.N) : Re2 (k0_pay7 (iblk m c 0 n) (iblk m c 1 n)) fun p => dd α u v (row n p) := fun p j => by
  rw [pay7_apply, in_0, in_1, h.h4, h.hα, h', ← EReal.coe_mul, ← EReal.coe_add]

/-- The row blocks of the input's gradient. -/
theorem acc_z (n : Fin cfg0.N) : Re2 (outsAt0 m c n.val n.isLt).1 (fun p => dzS ε g (zz α x f) (dd α u v) (row n p))
    ∧ Re2 (outsAt0 m c n.val n.isLt).2.1 (fun p => dzS ε g (zz α x f) (dd α u v) (row n p)) := by
  have hN : cfg0.N = 8 := N_0
  have hn := n.isLt
  have e := Cert.Ln.pay1_re (blk_z m c h n) h.hε h.pos (blk_d m c h h' n) (blk_g m c h n)
  rw [← pay1_eq] at e
  by_cases h0 : n.val = 0
  · rw [outsAt0_A m c n (by omega) (by omega)]
    dsimp only
    rw [out_A4, out_A5]
    exact ⟨e, e⟩
  · rw [outsAt0_B m c n (by omega) (by omega)]
    dsimp only
    rw [out_B4, out_B5]
    exact ⟨e, e⟩

/-- What the two summed results' buffers hold after a point. -/
theorem acc (k : ℕ) (n : Fin cfg0.N) (hk : n.val = k) :
    Re2 (outsAt0 m c n.val n.isLt).2.2.1 (fun _ j => part (fun i => dd α u v i j * xh ε (zz α x f i) j) n.val)
    ∧ Re2 (outsAt0 m c n.val n.isLt).2.2.2 (fun _ j => part (fun i => dd α u v i j) n.val) := by
  have hN : cfg0.N = 8 := N_0
  induction k generalizing n with
  | zero =>
    have e3 := Cert.Ln.pay3_re (blk_d m c h h' n) (Cert.Ln.pay13_re (blk_z m c h n) h.hε h.pos)
    have e4 := Cert.Ln.pay4_re (blk_d m c h h' n)
    rw [outsAt0_A m c n (by omega) (by omega)]
    dsimp only
    rw [out_A6, out_A7, pay10_eq, pay3_eq, pay4_eq]
    refine ⟨fun i j => (e3 i j).trans ?_, fun i j => (e4 i j).trans ?_⟩ <;> refine congrArg Real.toEReal ?_ <;> dsimp only <;> rw [← part_first _ n hk]
  | succ k ih =>
    have hn := n.isLt
    have e3 := Cert.Ln.pay3_re (blk_d m c h h' n) (Cert.Ln.pay13_re (blk_z m c h n) h.hε h.pos)
    have e4 := Cert.Ln.pay4_re (blk_d m c h h' n)
    obtain ⟨i6, i7⟩ := ih ⟨n.val - 1, by omega⟩ (by simp only; omega)
    rw [outsAt0_B m c n (by omega) (by omega)]
    dsimp only
    rw [out_B6, out_B7, pay10_eq, pay5_eq, pay6_eq]
    refine ⟨fun i j => ?_, fun i j => ?_⟩
    · rw [Cert.Ln.pay5_apply, e3, i6, ← EReal.coe_add]
      exact congrArg Real.toEReal (part_next _ n (by omega))
    · rw [Cert.Ln.pay6_apply, e4, i7, ← EReal.coe_add]
      exact congrArg Real.toEReal (part_next _ n (by omega))

theorem final_4 : (dats m 0 c).arrAt 4 cfg0.N = fun y => ((dzS ε g (zz α x f) (dd α u v) (y 0) (y 1) : ℝ) : EReal) := by
  have hN : cfg0.N = 8 := N_0
  refine (dats m 0 c).arrAt_eq_of_cover 4 _ (fun n hf => ?_) fun i => ?_
  · have hn := n.isLt
    show (cfg0.win 4).cut (grid0.coords n) ((dats m 0 c).after 4 n) = _
    rw [after0_4]
    funext y
    obtain ⟨p, j, e⟩ : ∃ p j, y = ix2 p j := ⟨y 0, y 1, eq_ix2 y⟩
    have lp : p.val < 512 := p.isLt
    have lj : j.val < 1024 := j.isLt
    have e0 : (win0_4.blk n).view.emb (ix2 p j) 0 = row n p := Fin.ext (by blk_simp [idx n] <;> rfl)
    have e1 : (win0_4.blk n).view.emb (ix2 p j) 1 = j := Fin.ext (by blk_simp [idx n] <;> rfl)
    rw [e]
    refine ((acc_z m c h h' n).1 p j).trans ?_
    show _ = ((dzS ε g (zz α x f) (dd α u v) ((win0_4.blk n).view.emb (ix2 p j) 0) ((win0_4.blk n).view.emb (ix2 p j) 1) : ℝ) : EReal)
    rw [e0, e1]
  · have h0 : (i 0).val < 4096 := (i 0).isLt
    have h1 : (i 1).val < 1024 := (i 1).isLt
    refine ⟨⟨(i 0).val / 512, by omega⟩, flush0_4 _, ?_⟩
    mem_blk [idx]
    simp only
    omega
theorem final_5 : (dats m 0 c).arrAt 5 cfg0.N = fun y => ((dzS ε g (zz α x f) (dd α u v) (y 0) (y 1) : ℝ) : EReal) := by
  have hN : cfg0.N = 8 := N_0
  refine (dats m 0 c).arrAt_eq_of_cover 5 _ (fun n hf => ?_) fun i => ?_
  · have hn := n.isLt
    show (cfg0.win 5).cut (grid0.coords n) ((dats m 0 c).after 5 n) = _
    rw [after0_5]
    funext y
    obtain ⟨p, j, e⟩ : ∃ p j, y = ix2 p j := ⟨y 0, y 1, eq_ix2 y⟩
    have lp : p.val < 512 := p.isLt
    have lj : j.val < 1024 := j.isLt
    have e0 : (win0_5.blk n).view.emb (ix2 p j) 0 = row n p := Fin.ext (by blk_simp [idx n] <;> rfl)
    have e1 : (win0_5.blk n).view.emb (ix2 p j) 1 = j := Fin.ext (by blk_simp [idx n] <;> rfl)
    rw [e]
    refine ((acc_z m c h h' n).2 p j).trans ?_
    show _ = ((dzS ε g (zz α x f) (dd α u v) ((win0_5.blk n).view.emb (ix2 p j) 0) ((win0_5.blk n).view.emb (ix2 p j) 1) : ℝ) : EReal)
    rw [e0, e1]
  · have h0 : (i 0).val < 4096 := (i 0).isLt
    have h1 : (i 1).val < 1024 := (i 1).isLt
    refine ⟨⟨(i 0).val / 512, by omega⟩, flush0_5 _, ?_⟩
    mem_blk [idx]
    simp only
    omega
theorem final_6 : (dats m 0 c).arrAt 6 cfg0.N = fun y => ((dgS ε (zz α x f) (dd α u v) (y 1) : ℝ) : EReal) := by
  have hN : cfg0.N = 8 := N_0
  refine (dats m 0 c).arrAt_eq_of_cover 6 _ (fun n hf => ?_) fun i => ?_
  · have h7 := (flush0_6 n).mp hf
    have hn := n.isLt
    have e7 : n.val = 7 := by omega
    show (cfg0.win 6).cut (grid0.coords n) ((dats m 0 c).after 6 n) = _
    rw [after0_6]
    funext y
    obtain ⟨p, j, e⟩ : ∃ p j, y = ix2 p j := ⟨y 0, y 1, eq_ix2 y⟩
    have lp : p.val < 1 := p.isLt
    have lj : j.val < 1024 := j.isLt
    have e1 : (win0_6.blk n).view.emb (ix2 p j) 1 = j := Fin.ext (by blk_simp [idx n] <;> rfl)
    rw [e]
    refine ((acc m c h h' 7 n e7).1 p j).trans ?_
    show _ = ((dgS ε (zz α x f) (dd α u v) ((win0_6.blk n).view.emb (ix2 p j) 1) : ℝ) : EReal)
    rw [e1, e7]
    exact congrArg Real.toEReal (Cert.Ln.part_last _)
  · have h0 : (i 0).val < 1 := (i 0).isLt
    have h1 : (i 1).val < 1024 := (i 1).isLt
    refine ⟨⟨(i 0).val + 7, by omega⟩, (flush0_6 _).mpr (by simp only; omega), ?_⟩
    mem_blk [idx]
    simp only
    omega
theorem final_7 : (dats m 0 c).arrAt 7 cfg0.N = fun y => ((dbS (dd α u v) (y 1) : ℝ) : EReal) := by
  have hN : cfg0.N = 8 := N_0
  refine (dats m 0 c).arrAt_eq_of_cover 7 _ (fun n hf => ?_) fun i => ?_
  · have h7 := (flush0_7 n).mp hf
    have hn := n.isLt
    have e7 : n.val = 7 := by omega
    show (cfg0.win 7).cut (grid0.coords n) ((dats m 0 c).after 7 n) = _
    rw [after0_7]
    funext y
    obtain ⟨p, j, e⟩ : ∃ p j, y = ix2 p j := ⟨y 0, y 1, eq_ix2 y⟩
    have lp : p.val < 1 := p.isLt
    have lj : j.val < 1024 := j.isLt
    have e1 : (win0_7.blk n).view.emb (ix2 p j) 1 = j := Fin.ext (by blk_simp [idx n] <;> rfl)
    rw [e]
    refine ((acc m c h h' 7 n e7).2 p j).trans ?_
    show _ = ((dbS (dd α u v) ((win0_7.blk n).view.emb (ix2 p j) 1) : ℝ) : EReal)
    rw [e1, e7]
    exact congrArg Real.toEReal (Cert.Ln.part_last _)
  · have h0 : (i 0).val < 1 := (i 0).isLt
    have h1 : (i 1).val < 1024 := (i 1).isLt
    refine ⟨⟨(i 0).val + 7, by omega⟩, (flush0_7 _).mpr (by simp only; omega), ?_⟩
    mem_blk [idx]
    simp only
    omega
theorem at_6 (i : Fin 1) (j : Fin 1024) : ((dats m 0 c).arrAt 6 cfg0.N : L) (ix2 i j) = ((dgS ε (zz α x f) (dd α u v) j : ℝ) : EReal) := by
  rw [final_6 m c h h']
  rfl
theorem at_7 (i : Fin 1) (j : Fin 1024) : ((dats m 0 c).arrAt 7 cfg0.N : L) (ix2 i j) = ((dbS (dd α u v) j : ℝ) : EReal) := by
  rw [final_7 m c h h']
  rfl

end Cert.Lb

end
-- ==== Proof.LbClaims.lean ====
/-
  The claims about the first layer norm's gradient: its programs and its reference end with their arguments unchanged and their
  counters at zero, and under the precondition the kernel's four results are the reference's.
-/
module

public import proofs.«01_k».proof.Defs
public import proofs.«01_k».proof.Proof.LbValue
public import proofs.«01_k».proof.Proof.MixClaims
public import proofs.«01_k».proof.Proof.Gen.Kernel7.Frame
public import Idealize.ShloMosaic.Lib.Quiescent

@[expose] public section

set_option maxRecDepth 16384

noncomputable section

open Idealize.ShloMosaic Idealize.ShloMosaic.TcCoe Idealize.SL.Sem

namespace Cert.Lb

open Cert.Mix (ext2)

/-- The program's frame. -/
theorem frame_kernel : Cert.quiescent_Kernel7 (hKernel7 := Cert.Kernel7.Gen.facts) := fun m ρ _ => Cert.Kernel7.Gen.frame m ρ

/-- The ideal program's frame. -/
theorem frame_ideal : Cert.quiescent_Kernel7Ideal (hKernel7Ideal := Cert.Kernel7Ideal.Gen.facts) := fun m ρ _ => Cert.Kernel7Ideal.Gen.frame (F := Ideal) m ρ

/-- The reference's frame: it has no counters. -/
theorem frame_reference : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩) (Cert.Reference7Ideal.Value.run m ρ)

set_option maxHeartbeats 2000000 in
/-- Under the precondition the four results are the reference's. -/
theorem values : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m ρ m' ρ' hpre hargs
  have fin := fun c => args_real _ _ _ _ _ (hpre c)
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N,
    fun c => (Cert.Kernel7Ideal.Gen.dats m 0 c).arrAt 6 Cert.Kernel7Ideal.cfg0.N, fun c => (Cert.Kernel7Ideal.Gen.dats m 0 c).arrAt 7 Cert.Kernel7Ideal.cfg0.N, ?_, ?_⟩
  · exact (θ_run Cert.Kernel7Ideal.defs _ _).mono (fun r h c => ⟨(h.1 c).1 4, (h.1 c).1 5, (h.1 c).1 6, (h.1 c).1 7, h.2 c⟩)
      (θ_run_and (Cert.Kernel7Ideal.Gen.run_main (F := Ideal) m ρ) (Cert.Kernel7Ideal.Gen.unchanged (F := Ideal) m ρ))
  · refine (θ_run Cert.Reference7Ideal.defs _ _).mono (fun r h c => ?_) (Cert.Reference7Ideal.Value.run m' ρ')
    obtain ⟨e0, e1, e2, e3, e4⟩ := hargs c
    obtain ⟨α, ε, x, f, g, u, v, ha, hb⟩ := fin c
    obtain ⟨hZ, hY, hG, hB, hr⟩ := h c
    have hZ' := hZ.trans (show _ = oZ (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) from rfl)
    have hY' := hY.trans (show _ = oZ (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) from rfl)
    have hG' := hG.trans (show _ = oG (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) from rfl)
    have hB' := hB.trans (show _ = oB (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) from rfl)
    rw [e0, e1, e2, e3, e4] at hZ' hY' hG' hB'
    exact ⟨hZ'.trans ((ext2 fun i j => oZ_re ha hb i j).trans (final_4 m c ha hb).symm), hY'.trans ((ext2 fun i j => oZ_re ha hb i j).trans (final_5 m c ha hb).symm),
      hG'.trans (ext2 fun i j => (oG_re ha hb i j).trans (at_6 m c ha hb i j).symm), hB'.trans (ext2 fun i j => (oB_re ha hb i j).trans (at_7 m c ha hb i j).symm), hr⟩

end Cert.Lb

end
-- ==== Proof.LfClaims.lean ====
/-
  The first layer norm: its programs and its reference end with their arguments unchanged and their counters at zero, and the
  kernel's three results are the reference's.
-/
module

public import proofs.«01_k».proof.Defs
public import proofs.«01_k».proof.Proof.MixClaims
public import proofs.«01_k».proof.Proof.LnRef
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.Value
public import Idealize.ShloMosaic.Lib.Pipeline.ValueKit
public import Idealize.ShloMosaic.Lib.Pipeline.ReadBack
public import Idealize.ShloMosaic.Lib.ValueLayout
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.Lf

/-- An array of rows, and one row. -/
abbrev A := (⟨2, ![4096, 1024]⟩ : Shape).Idx → EReal
abbrev G := (⟨1, ![1024]⟩ : Shape).Idx → EReal

/-- The mean of a row, as the programs take it. -/
def mean (z : Fin 1024 → EReal) : EReal := Ideal.div (∑ j, z j) (Ideal.ofBits .f32 0x44800000#32)
/-- A row less its mean. -/
def cen (z : Fin 1024 → EReal) (j : Fin 1024) : EReal := z j - mean z
/-- The normalised row, scaled and shifted. -/
def nrm (z g b : Fin 1024 → EReal) (j : Fin 1024) : EReal :=
  cen z j * Ideal.rsqrt (mean (fun k => cen z k * cen z k) + Ideal.ofBits .f32 0x3727C5AC#32) * g j + b j
/-- The norm's input. -/
def zF (x f : A) : A := fun y => Ideal.ofBits .f32 0x3FB504F3#32 * x y + f y
/-- The norm's output. -/
def yF (z : A) (g b : G) : A := fun y => nrm (fun j => z (ix2 (y 0) j)) (fun j => g (ix1 j)) (fun j => b (ix1 j)) (y 1)

section
open Cert.LnRef

theorem zW_eq (x f : M) : zW x f = zF x f := rfl
theorem yW_apply (z : M) (g b : R) (i : Fin 4096) (j : Fin 1024) : yW z g b (ix2 i j) = yF z g b (ix2 i j) := by
  have e : yW z g b (ix2 i j) = (xW z (ix2 i j) * br g (ix2 i j) + br b (ix2 i j) : EReal) := rfl
  rw [e, br_apply, br_apply, xW_apply, rW_apply, vW_apply]
  simp only [cW_apply, mW_apply]
  rfl
end

section
open Cert.Kernel8Ideal Cert.Kernel8Ideal.Gen
open Idealize.ShloMosaic.Pipeline (Dat)

abbrev B := Vec Ideal S512x1024 .f32
abbrev L := Vec Ideal S1x1024 .f32

theorem pay1_apply (x f : B) (p : Fin 512) (j : Fin 1024) : k0_pay1 x f (ix2 p j) = Ideal.ofBits .f32 0x3FB504F3#32 * x (ix2 p j) + f (ix2 p j) := by
  pointwise [k0_pay1]
theorem pay2_apply (x f : B) (g b : L) (p : Fin 512) (j : Fin 1024) :
    k0_pay2 x f g b (ix2 p j) = nrm (fun k => k0_pay1 x f (ix2 p k)) (fun k => g (ix2 0 k)) (fun k => b (ix2 0 k)) j := by
  simp only [nrm, cen, mean]
  pointwise [k0_pay2]

theorem out_4 (x f : B) (g b : L) : out0_4 x f g b = k0_pay2 x f g b := by
  rw [out0_4, View.canon_cons_unit_lit _ _ _ (by decide), View.ld_unit_lit _ _ (by decide), View.ld_unit_lit _ _ (by decide), View.ld_unit_lit _ _ (by decide), View.ld_unit_lit _ _ (by decide)]
theorem out_5 (x f : B) (g b : L) : out0_5 x f g b = k0_pay3 x f g b := by
  rw [out0_5, View.canon_cons_unit_lit _ _ _ (by decide), View.ld_unit_lit _ _ (by decide), View.ld_unit_lit _ _ (by decide), View.ld_unit_lit _ _ (by decide), View.ld_unit_lit _ _ (by decide)]
theorem out_6 (x f : B) (g b : L) : out0_6 x f g b = k0_pay1 x f := by
  rw [out0_6, View.canon_cons_unit_lit _ _ _ (by decide), View.ld_unit_lit _ _ (by decide), View.ld_unit_lit _ _ (by decide)]

variable (m : (ℓ : Loc nD τ Cert.Kernel8Ideal.sig) → Buf (Elt Ideal) ℓ) (c : Dev nD)

theorem V_v0 : V m c main_v0 = broadcastInDim S1x1024 ![1] bcast_S1024_S1x1024_1 (m ((c : Thread nD τ).loc main_arg2)) := by
  simp only [V, hostOps0, StableHlo.TRef.unary, StableHlo.TRef.toBuf, StableHlo.TRef.ofBuf, cast_eq]
  after_results_simp <;> rfl
theorem V_v1 : V m c main_v1 = broadcastInDim S1x1024 ![1] bcast_S1024_S1x1024_1 (m ((c : Thread nD τ).loc main_arg3)) := by
  simp only [V, hostOps0, StableHlo.TRef.unary, StableHlo.TRef.toBuf, StableHlo.TRef.ofBuf, cast_eq]
  after_results_simp <;> rfl

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- Row `p` of the block of a grid point. -/
abbrev row (t : Fin cfg0.N) (p : Fin 512) : Fin 4096 := ⟨t.val * 512 + p.val, by have := t.isLt; have : cfg0.N = 8 := N_0; omega⟩

theorem in_0 (t : Fin cfg0.N) (p : Fin 512) (j : Fin 1024) : iblk m c 0 t (ix2 p j) = m ((c : Thread nD τ).loc main_arg0) (ix2 (row t p) j) := by
  have hN : cfg0.N = 8 := N_0
  have ht := t.isLt
  rw [← V_main_arg0 m c]
  blk_ext [iblk, idx t]
theorem in_1 (t : Fin cfg0.N) (p : Fin 512) (j : Fin 1024) : iblk m c 1 t (ix2 p j) = m ((c : Thread nD τ).loc main_arg1) (ix2 (row t p) j) := by
  have hN : cfg0.N = 8 := N_0
  have ht := t.isLt
  rw [← V_main_arg1 m c]
  blk_ext [iblk, idx t]
theorem blk_2 (t : Fin cfg0.N) (p : Fin 1) (j : Fin 1024) : iblk m c 2 t (ix2 p j) = V m c main_v0 (ix2 p j) := by
  have hN : cfg0.N = 8 := N_0
  have ht := t.isLt
  blk_ext [iblk, idx t]
theorem blk_3 (t : Fin cfg0.N) (p : Fin 1) (j : Fin 1024) : iblk m c 3 t (ix2 p j) = V m c main_v1 (ix2 p j) := by
  have hN : cfg0.N = 8 := N_0
  have ht := t.isLt
  blk_ext [iblk, idx t]
theorem in_2 (t : Fin cfg0.N) (p : Fin 1) (j : Fin 1024) : iblk m c 2 t (ix2 p j) = m ((c : Thread nD τ).loc main_arg2) (ix1 j) := by
  refine (blk_2 m c t p j).trans ?_
  rw [V_v0]
  exact (by pointwise : broadcastInDim S1x1024 ![1] bcast_S1024_S1x1024_1 (m ((c : Thread nD τ).loc main_arg2)) (ix2 p j) = m ((c : Thread nD τ).loc main_arg2) (ix1 j))
theorem in_3 (t : Fin cfg0.N) (p : Fin 1) (j : Fin 1024) : iblk m c 3 t (ix2 p j) = m ((c : Thread nD τ).loc main_arg3) (ix1 j) := by
  refine (blk_3 m c t p j).trans ?_
  rw [V_v1]
  exact (by pointwise : broadcastInDim S1x1024 ![1] bcast_S1024_S1x1024_1 (m ((c : Thread nD τ).loc main_arg3)) (ix2 p j) = m ((c : Thread nD τ).loc main_arg3) (ix1 j))

/-- A point's rows of each result. -/
theorem z_blk (n : Fin cfg0.N) (p : Fin 512) (j : Fin 1024) : k0_pay1 (iblk m c 0 n) (iblk m c 1 n) (ix2 p j) = (zF (m ((c : Thread nD τ).loc main_arg0)) (m ((c : Thread nD τ).loc main_arg1)) : A) (ix2 (row n p) j) := by
  rw [pay1_apply, in_0, in_1]
  rfl
theorem at_6 (n : Fin cfg0.N) (p : Fin 512) (j : Fin 1024) : out0_6 (iblk m c 0 n) (iblk m c 1 n) (iblk m c 2 n) (iblk m c 3 n) (ix2 p j) = (zF (m ((c : Thread nD τ).loc main_arg0)) (m ((c : Thread nD τ).loc main_arg1)) : A) (ix2 (row n p) j) := by
  rw [out_6, z_blk]
theorem at_4 (n : Fin cfg0.N) (p : Fin 512) (j : Fin 1024) : out0_4 (iblk m c 0 n) (iblk m c 1 n) (iblk m c 2 n) (iblk m c 3 n) (ix2 p j) = (yF (zF (m ((c : Thread nD τ).loc main_arg0)) (m ((c : Thread nD τ).loc main_arg1))) (m ((c : Thread nD τ).loc main_arg2)) (m ((c : Thread nD τ).loc main_arg3)) : A) (ix2 (row n p) j) := by
  rw [out_4, pay2_apply]
  simp only [z_blk, in_2, in_3]
  rfl
theorem at_5 (n : Fin cfg0.N) (p : Fin 512) (j : Fin 1024) : out0_5 (iblk m c 0 n) (iblk m c 1 n) (iblk m c 2 n) (iblk m c 3 n) (ix2 p j) = (yF (zF (m ((c : Thread nD τ).loc main_arg0)) (m ((c : Thread nD τ).loc main_arg1))) (m ((c : Thread nD τ).loc main_arg2)) (m ((c : Thread nD τ).loc main_arg3)) : A) (ix2 (row n p) j) := by
  have e := at_4 m c n p j
  rw [out_4] at e
  rw [out_5]
  exact e

/-- The three result arrays. -/
theorem final_4 : (dats m 0 c).arrAt 4 cfg0.N = yF (zF (m ((c : Thread nD τ).loc main_arg0)) (m ((c : Thread nD τ).loc main_arg1))) (m ((c : Thread nD τ).loc main_arg2)) (m ((c : Thread nD τ).loc main_arg3)) := by
  have hN : cfg0.N = 8 := N_0
  refine (dats m 0 c).arrAt_eq_of_cover 4 _ (fun n hf => ?_) fun i => ?_
  · have hn := n.isLt
    show (cfg0.win 4).cut (grid0.coords n) ((dats m 0 c).after 4 n) = _
    rw [after0_4]
    funext y
    obtain ⟨p, j, rfl⟩ : ∃ p j, y = ix2 p j := ⟨y 0, y 1, eq_ix2 y⟩
    have lp : p.val < 512 := p.isLt
    have lj : j.val < 1024 := j.isLt
    have e : (win0_4.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    exact (at_4 m c n p j).trans (congrArg (yF (zF (m ((c : Thread nD τ).loc main_arg0)) (m ((c : Thread nD τ).loc main_arg1))) (m ((c : Thread nD τ).loc main_arg2)) (m ((c : Thread nD τ).loc main_arg3)) : A) e.symm)
  · have h0 : (i 0).val < 4096 := (i 0).isLt
    have h1 : (i 1).val < 1024 := (i 1).isLt
    refine ⟨⟨(i 0).val / 512, by omega⟩, flush0_4 _, ?_⟩
    mem_blk [idx]
    simp only
    omega
theorem final_5 : (dats m 0 c).arrAt 5 cfg0.N = yF (zF (m ((c : Thread nD τ).loc main_arg0)) (m ((c : Thread nD τ).loc main_arg1))) (m ((c : Thread nD τ).loc main_arg2)) (m ((c : Thread nD τ).loc main_arg3)) := by
  have hN : cfg0.N = 8 := N_0
  refine (dats m 0 c).arrAt_eq_of_cover 5 _ (fun n hf => ?_) fun i => ?_
  · have hn := n.isLt
    show (cfg0.win 5).cut (grid0.coords n) ((dats m 0 c).after 5 n) = _
    rw [after0_5]
    funext y
    obtain ⟨p, j, rfl⟩ : ∃ p j, y = ix2 p j := ⟨y 0, y 1, eq_ix2 y⟩
    have lp : p.val < 512 := p.isLt
    have lj : j.val < 1024 := j.isLt
    have e : (win0_5.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    exact (at_5 m c n p j).trans (congrArg (yF (zF (m ((c : Thread nD τ).loc main_arg0)) (m ((c : Thread nD τ).loc main_arg1))) (m ((c : Thread nD τ).loc main_arg2)) (m ((c : Thread nD τ).loc main_arg3)) : A) e.symm)
  · have h0 : (i 0).val < 4096 := (i 0).isLt
    have h1 : (i 1).val < 1024 := (i 1).isLt
    refine ⟨⟨(i 0).val / 512, by omega⟩, flush0_5 _, ?_⟩
    mem_blk [idx]
    simp only
    omega
theorem final_6 : (dats m 0 c).arrAt 6 cfg0.N = zF (m ((c : Thread nD τ).loc main_arg0)) (m ((c : Thread nD τ).loc main_arg1)) := by
  have hN : cfg0.N = 8 := N_0
  refine (dats m 0 c).arrAt_eq_of_cover 6 _ (fun n hf => ?_) fun i => ?_
  · have hn := n.isLt
    show (cfg0.win 6).cut (grid0.coords n) ((dats m 0 c).after 6 n) = _
    rw [after0_6]
    funext y
    obtain ⟨p, j, rfl⟩ : ∃ p j, y = ix2 p j := ⟨y 0, y 1, eq_ix2 y⟩
    have lp : p.val < 512 := p.isLt
    have lj : j.val < 1024 := j.isLt
    have e : (win0_6.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    exact (at_6 m c n p j).trans (congrArg (zF (m ((c : Thread nD τ).loc main_arg0)) (m ((c : Thread nD τ).loc main_arg1)) : A) e.symm)
  · have h0 : (i 0).val < 4096 := (i 0).isLt
    have h1 : (i 1).val < 1024 := (i 1).isLt
    refine ⟨⟨(i 0).val / 512, by omega⟩, flush0_6 _, ?_⟩
    mem_blk [idx]
    simp only
    omega
end

/-- The program's frame. -/
theorem frame_kernel : Cert.quiescent_Kernel8 (hKernel8 := Cert.Kernel8.Gen.facts) := fun m ρ _ => Cert.Kernel8.Gen.frame m ρ

/-- The ideal program's frame. -/
theorem frame_ideal : Cert.quiescent_Kernel8Ideal (hKernel8Ideal := Cert.Kernel8Ideal.Gen.facts) := fun m ρ _ => Cert.Kernel8Ideal.Gen.frame (F := Ideal) m ρ

/-- The reference's frame: it has no counters. -/
theorem frame_reference : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩) (Cert.Reference8Ideal.Value.run m ρ)

/-- The three results are the reference's. -/
theorem values : Cert.algebraic_Kernel8Ideal_Reference8Ideal (hKernel8Ideal := Cert.Kernel8Ideal.Gen.facts)
    (hReference8Ideal := Cert.Reference8Ideal.Gen.facts) := by
  intro m ρ m' ρ' _ hargs
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, ?_, ?_⟩
  · exact (θ_run Cert.Kernel8Ideal.defs _ _).mono (fun r h c => ⟨(h.1 c).1 4, (h.1 c).1 5, (h.1 c).1 6, h.2 c⟩)
      (θ_run_and (Cert.Kernel8Ideal.Gen.run_main (F := Ideal) m ρ) (Cert.Kernel8Ideal.Gen.unchanged (F := Ideal) m ρ))
  · refine (θ_run Cert.Reference8Ideal.defs _ _).mono (fun r h c => ?_) (Cert.Reference8Ideal.Value.run m' ρ')
    obtain ⟨e0, e1, e2, e3⟩ := hargs c
    obtain ⟨h4, h5, h6, hr⟩ := h c
    rw [e0, e1, e2, e3] at h4
    rw [e0, e1, e2, e3] at h5
    rw [e0, e1] at h6
    refine ⟨h4.trans (Eq.trans ?_ (final_4 m c).symm), h5.trans (Eq.trans ?_ (final_5 m c).symm), h6.trans (Eq.trans ?_ (final_6 m c).symm), hr⟩
    · exact Cert.Mix.ext2 fun i j => yW_apply _ _ _ i j
    · exact Cert.Mix.ext2 fun i j => yW_apply _ _ _ i j
    · exact zW_eq _ _

end Cert.Lf

end
-- ==== Proof.AdClaims.lean ====
/-
  The optimiser's step of the small parameters: its programs and its reference end with their arguments unchanged and their
  counters at zero, and the kernel's four results are the reference's.
-/
module

public import proofs.«01_k».proof.Defs
public import proofs.«01_k».proof.Proof.MixClaims
public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.Value
public import Idealize.ShloMosaic.Lib.Pipeline.ValueKit
public import Idealize.ShloMosaic.Lib.Pipeline.ReadBack
public import Idealize.ShloMosaic.Lib.ValueLayout
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.Ad

/-- A packed parameter array, and the devices' gradients of one. -/
abbrev P := (⟨2, ![80, 128]⟩ : Shape).Idx → EReal
abbrev D := (⟨3, ![8, 80, 128]⟩ : Shape).Idx → EReal

/-- The gradient: the devices' sum. -/
def sum8 (d : D) : P := fun y => ∑ k : Fin 8, d (ix3 k (y 0) (y 1))
/-- A moment: the old one and a new value, weighted. -/
def mix (b b' : BitVec 32) (m g : P) : P := fun y => Ideal.ofBits .f32 b * m y + Ideal.ofBits .f32 b' * g y
/-- The first moment. -/
abbrev mom (m g : P) : P := mix 0x3F666666#32 0x3DCCCCCD#32 m g
/-- The second. -/
abbrev mom2 (v g : P) : P := mix 0x3F7FBE77#32 0x3A83126F#32 v fun y => g y * g y
/-- The step. -/
def step (w m v : P) : P := fun y =>
  Ideal.ofBits .f32 0xBA83126F#32 * (Ideal.div (Ideal.div (m y) (Ideal.ofBits .f32 0x3F26BD02#32)) (Ideal.sqrt (Ideal.div (v y) (Ideal.ofBits .f32 0x3C231ACC#32)) + Ideal.ofBits .f32 0x322BCC77#32) + Ideal.ofBits .f32 0x3C23D70A#32 * w y)

section
open Cert.Reference9Ideal Cert.Reference9Ideal.Gen

abbrev A := FVec Ideal S80x128 .f32
/-- A constant, in every entry. -/
abbrev con (b : BitVec 32) : A := broadcastInDim S80x128 ![] bcast_S_S80x128 (constant S_ .f32 b)
/-- The reference's gradient. -/
abbrev gW (d : FVec Ideal S8x80x128 .f32) : A := Host.reduceAdd d (constant S_ .f32 0x00000000#32) reducesTo_S8x80x128_S80x128_d0 h_S_
/-- Its moments. -/
abbrev mW (m g : A) : A := addf (mulf (con 0x3F666666#32) m) (mulf (con 0x3DCCCCCD#32) g)
abbrev vW (v g : A) : A := addf (mulf (con 0x3F7FBE77#32) v) (mulf (con 0x3A83126F#32) (mulf g g))
/-- Its step. -/
abbrev sW (w m v : A) : A :=
  mulf (con 0xBA83126F#32) (addf (Host.divf (Host.divf m (con 0x3F26BD02#32)) (addf (Host.sqrt (Host.divf v (con 0x3C231ACC#32))) (con 0x322BCC77#32))) (mulf (con 0x3C23D70A#32) w))

theorem gW_apply (d : FVec Ideal S8x80x128 .f32) (i : Fin 80) (j : Fin 128) : gW d (ix2 i j) = sum8 d (ix2 i j) := by
  show _ = ∑ k : Fin 8, (d (ix3 k i j) : EReal)
  pointwise [gW]
theorem gW_eq (d : FVec Ideal S8x80x128 .f32) : gW d = sum8 d := Cert.Mix.ext2 fun i j => gW_apply d i j
end

section
open Cert.Kernel9Ideal Cert.Kernel9Ideal.Gen
open Idealize.ShloMosaic.Pipeline (Dat)

abbrev W := Vec Ideal S80x128 .f32

variable (x0 : W) (x1 : Vec Ideal S8x80x128 .f32) (x2 x3 : W)

theorem k0_pay6_apply (i : Fin 80) (j : Fin 128) : k0_pay6 x0 x1 x2 x3 (ix2 i j) = sum8 x1 (ix2 i j) := by
  show _ = ∑ k : Fin 8, (x1 (ix3 k i j) : EReal)
  rw [Fin.sum_univ_eight]
  pointwise [k0_pay6, k0_pay4]
theorem k0_pay6_eq : k0_pay6 x0 x1 x2 x3 = sum8 x1 := Cert.Mix.ext2 fun i j => k0_pay6_apply x0 x1 x2 x3 i j
theorem k0_pay7_eq : k0_pay7 x0 x1 x2 x3 = k0_pay5 x2 := by
  rw [k0_pay7, View.ld_unit_lit _ _ (by decide)]
theorem out_4 : out0_4 x0 x1 x2 x3 = sum8 x1 := by
  rw [out0_4, View.canon_cons_unit_lit _ _ _ (by decide), k0_pay6_eq]
theorem out_5 : out0_5 x0 x1 x2 x3 = step x0 (mom x2 (sum8 x1)) (mom2 x3 (sum8 x1)) := by
  rw [out0_5, View.canon_cons_unit_lit _ _ _ (by decide), View.ld_unit_lit _ _ (by decide), View.ld_unit_lit _ _ (by decide), k0_pay6_eq, k0_pay7_eq]
  rfl
theorem out_6 : out0_6 x0 x1 x2 x3 = mom x2 (sum8 x1) := by
  rw [out0_6, View.canon_cons_unit_lit _ _ _ (by decide), k0_pay6_eq, k0_pay7_eq]
  rfl
theorem out_7 : out0_7 x0 x1 x2 x3 = mom2 x3 (sum8 x1) := by
  rw [out0_7, View.canon_cons_unit_lit _ _ _ (by decide), View.ld_unit_lit _ _ (by decide), k0_pay6_eq]
  rfl

variable (m : (ℓ : Loc nD τ Cert.Kernel9Ideal.sig) → Buf (Elt Ideal) ℓ) (c : Dev nD)

theorem idx : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The windows' blocks are the arrays. -/
theorem in_0 (t : Fin cfg0.N) : iblk m c 0 t = m ((c : Thread nD τ).loc main_arg0) := by
  refine Cert.Mix.ext2 fun i j => ?_
  blk_ext [iblk, idx t]
theorem in_1 (t : Fin cfg0.N) : iblk m c 1 t = m ((c : Thread nD τ).loc main_arg1) := by
  funext y
  obtain ⟨k, i, j, rfl⟩ : ∃ k i j, y = ix3 k i j := ⟨y 0, y 1, y 2, eq_ix3 y⟩
  blk_ext [iblk, idx t]
theorem in_2 (t : Fin cfg0.N) : iblk m c 2 t = m ((c : Thread nD τ).loc main_arg2) := by
  refine Cert.Mix.ext2 fun i j => ?_
  blk_ext [iblk, idx t]
theorem in_3 (t : Fin cfg0.N) : iblk m c 3 t = m ((c : Thread nD τ).loc main_arg3) := by
  refine Cert.Mix.ext2 fun i j => ?_
  blk_ext [iblk, idx t]

/-- The four result arrays. -/
theorem final_4 : (dats m 0 c).arrAt 4 cfg0.N = sum8 (m ((c : Thread nD τ).loc main_arg1)) := by
  refine (dats m 0 c).arrAt_eq_of_cover 4 _ (fun t hf => ?_) fun i => ?_
  · show (cfg0.win 4).cut (grid0.coords t) ((dats m 0 c).after 4 t) = _
    rw [after0_4, in_0, in_1, in_2, in_3, out_4]
    funext y
    obtain ⟨i, j, rfl⟩ : ∃ i j, y = ix2 i j := ⟨y 0, y 1, eq_ix2 y⟩
    have li : i.val < 80 := i.isLt
    have lj : j.val < 128 := j.isLt
    have e : (win0_4.blk t).view.emb (ix2 i j) = ix2 i j := by
      refine (eq_ix2 _).trans (congrArg₂ ix2 ?_ ?_)
      · exact Fin.ext (by blk_simp [idx t] <;> rfl)
      · exact Fin.ext (by blk_simp [idx t] <;> rfl)
    exact congrArg (sum8 (m ((c : Thread nD τ).loc main_arg1)) : P) e.symm
  · have h0 : (i 0).val < 80 := (i 0).isLt
    have h1 : (i 1).val < 128 := (i 1).isLt
    refine ⟨t0_0, flush0_4 _, ?_⟩
    mem_blk [idx]
    omega
theorem final_5 : (dats m 0 c).arrAt 5 cfg0.N = step (m ((c : Thread nD τ).loc main_arg0)) (mom (m ((c : Thread nD τ).loc main_arg2)) (sum8 (m ((c : Thread nD τ).loc main_arg1)))) (mom2 (m ((c : Thread nD τ).loc main_arg3)) (sum8 (m ((c : Thread nD τ).loc main_arg1)))) := by
  refine (dats m 0 c).arrAt_eq_of_cover 5 _ (fun t hf => ?_) fun i => ?_
  · show (cfg0.win 5).cut (grid0.coords t) ((dats m 0 c).after 5 t) = _
    rw [after0_5, in_0, in_1, in_2, in_3, out_5]
    funext y
    obtain ⟨i, j, rfl⟩ : ∃ i j, y = ix2 i j := ⟨y 0, y 1, eq_ix2 y⟩
    have li : i.val < 80 := i.isLt
    have lj : j.val < 128 := j.isLt
    have e : (win0_5.blk t).view.emb (ix2 i j) = ix2 i j := by
      refine (eq_ix2 _).trans (congrArg₂ ix2 ?_ ?_)
      · exact Fin.ext (by blk_simp [idx t] <;> rfl)
      · exact Fin.ext (by blk_simp [idx t] <;> rfl)
    exact congrArg (step (m ((c : Thread nD τ).loc main_arg0)) (mom (m ((c : Thread nD τ).loc main_arg2)) (sum8 (m ((c : Thread nD τ).loc main_arg1)))) (mom2 (m ((c : Thread nD τ).loc main_arg3)) (sum8 (m ((c : Thread nD τ).loc main_arg1)))) : P) e.symm
  · have h0 : (i 0).val < 80 := (i 0).isLt
    have h1 : (i 1).val < 128 := (i 1).isLt
    refine ⟨t0_0, flush0_5 _, ?_⟩
    mem_blk [idx]
    omega
theorem final_6 : (dats m 0 c).arrAt 6 cfg0.N = mom (m ((c : Thread nD τ).loc main_arg2)) (sum8 (m ((c : Thread nD τ).loc main_arg1))) := by
  refine (dats m 0 c).arrAt_eq_of_cover 6 _ (fun t hf => ?_) fun i => ?_
  · show (cfg0.win 6).cut (grid0.coords t) ((dats m 0 c).after 6 t) = _
    rw [after0_6, in_0, in_1, in_2, in_3, out_6]
    funext y
    obtain ⟨i, j, rfl⟩ : ∃ i j, y = ix2 i j := ⟨y 0, y 1, eq_ix2 y⟩
    have li : i.val < 80 := i.isLt
    have lj : j.val < 128 := j.isLt
    have e : (win0_6.blk t).view.emb (ix2 i j) = ix2 i j := by
      refine (eq_ix2 _).trans (congrArg₂ ix2 ?_ ?_)
      · exact Fin.ext (by blk_simp [idx t] <;> rfl)
      · exact Fin.ext (by blk_simp [idx t] <;> rfl)
    exact congrArg (mom (m ((c : Thread nD τ).loc main_arg2)) (sum8 (m ((c : Thread nD τ).loc main_arg1))) : P) e.symm
  · have h0 : (i 0).val < 80 := (i 0).isLt
    have h1 : (i 1).val < 128 := (i 1).isLt
    refine ⟨t0_0, flush0_6 _, ?_⟩
    mem_blk [idx]
    omega
theorem final_7 : (dats m 0 c).arrAt 7 cfg0.N = mom2 (m ((c : Thread nD τ).loc main_arg3)) (sum8 (m ((c : Thread nD τ).loc main_arg1))) := by
  refine (dats m 0 c).arrAt_eq_of_cover 7 _ (fun t hf => ?_) fun i => ?_
  · show (cfg0.win 7).cut (grid0.coords t) ((dats m 0 c).after 7 t) = _
    rw [after0_7, in_0, in_1, in_2, in_3, out_7]
    funext y
    obtain ⟨i, j, rfl⟩ : ∃ i j, y = ix2 i j := ⟨y 0, y 1, eq_ix2 y⟩
    have li : i.val < 80 := i.isLt
    have lj : j.val < 128 := j.isLt
    have e : (win0_7.blk t).view.emb (ix2 i j) = ix2 i j := by
      refine (eq_ix2 _).trans (congrArg₂ ix2 ?_ ?_)
      · exact Fin.ext (by blk_simp [idx t] <;> rfl)
      · exact Fin.ext (by blk_simp [idx t] <;> rfl)
    exact congrArg (mom2 (m ((c : Thread nD τ).loc main_arg3)) (sum8 (m ((c : Thread nD τ).loc main_arg1))) : P) e.symm
  · have h0 : (i 0).val < 80 := (i 0).isLt
    have h1 : (i 1).val < 128 := (i 1).isLt
    refine ⟨t0_0, flush0_7 _, ?_⟩
    mem_blk [idx]
    omega
end

/-- The program's frame. -/
theorem frame_kernel : Cert.quiescent_Kernel9 (hKernel9 := Cert.Kernel9.Gen.facts) := fun m ρ _ => Cert.Kernel9.Gen.frame m ρ

/-- The ideal program's frame. -/
theorem frame_ideal : Cert.quiescent_Kernel9Ideal (hKernel9Ideal := Cert.Kernel9Ideal.Gen.facts) := fun m ρ _ => Cert.Kernel9Ideal.Gen.frame (F := Ideal) m ρ

/-- The reference's frame: it has no counters. -/
theorem frame_reference : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩) (Cert.Reference9Ideal.Value.run m ρ)

/-- The four results are the reference's. -/
theorem values : Cert.algebraic_Kernel9Ideal_Reference9Ideal (hKernel9Ideal := Cert.Kernel9Ideal.Gen.facts)
    (hReference9Ideal := Cert.Reference9Ideal.Gen.facts) := by
  intro m ρ m' ρ' _ hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    fun c => (Cert.Kernel9Ideal.Gen.dats m 0 c).arrAt 6 Cert.Kernel9Ideal.cfg0.N, fun c => (Cert.Kernel9Ideal.Gen.dats m 0 c).arrAt 7 Cert.Kernel9Ideal.cfg0.N, ?_, ?_⟩
  · exact (θ_run Cert.Kernel9Ideal.defs _ _).mono (fun r h c => ⟨(h.1 c).1 4, (h.1 c).1 5, (h.1 c).1 6, (h.1 c).1 7, h.2 c⟩)
      (θ_run_and (Cert.Kernel9Ideal.Gen.run_main (F := Ideal) m ρ) (Cert.Kernel9Ideal.Gen.unchanged (F := Ideal) m ρ))
  · refine (θ_run Cert.Reference9Ideal.defs _ _).mono (fun r h c => ?_) (Cert.Reference9Ideal.Value.run m' ρ')
    obtain ⟨e0, e1, e2, e3⟩ := hargs c
    obtain ⟨h4, h5, h6, h7, hr⟩ := h c
    rw [e1] at h4
    rw [e0, e1, e2, e3] at h5
    rw [e1, e2] at h6
    rw [e1, e3] at h7
    refine ⟨h4.trans (Eq.trans ?_ (final_4 m c).symm), h5.trans (Eq.trans ?_ (final_5 m c).symm), h6.trans (Eq.trans ?_ (final_6 m c).symm), h7.trans (Eq.trans ?_ (final_7 m c).symm), hr⟩
    · exact gW_eq _
    · exact (congrArg (fun g => sW _ (mW _ g) (vW _ g)) (gW_eq _)).trans rfl
    · exact (congrArg (mW _) (gW_eq _)).trans rfl
    · exact (congrArg (vW _) (gW_eq _)).trans rfl

end Cert.Ad

end
-- ==== Proof.AxClaims.lean ====
/-
  The gradient of the step's input: its programs and its reference end with their arguments unchanged and their counters at
  zero, and the kernel's result is the reference's.
-/
module

public import proofs.«01_k».proof.Defs
public import proofs.«01_k».proof.Proof.MixClaims
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.Value
public import Idealize.ShloMosaic.Lib.Pipeline.ValueKit
public import Idealize.ShloMosaic.Lib.Pipeline.ReadBack
public import Idealize.ShloMosaic.Lib.ValueLayout
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.Ax

/-- An array of rows. -/
abbrev A := (⟨2, ![4096, 1024]⟩ : Shape).Idx → EReal
/-- The gradient: what reaches the input through the projection, and what through the residual stream. -/
def sF (a b : A) : A := fun y => a y + Ideal.ofBits .f32 0x3FB504F3#32 * b y

section
open Cert.Kernel10Ideal Cert.Kernel10Ideal.Gen
open Idealize.ShloMosaic.Pipeline (Dat)

abbrev B := Vec Ideal S512x1024 .f32

theorem out_2 (a b : B) (p : Fin 512) (j : Fin 1024) : out0_2 a b (ix2 p j) = a (ix2 p j) + Ideal.ofBits .f32 0x3FB504F3#32 * b (ix2 p j) := by
  rw [out0_2, View.canon_cons_unit_lit _ _ _ (by decide), View.ld_unit_lit _ _ (by decide), View.ld_unit_lit _ _ (by decide)]
  pointwise [k0_pay1]

variable (m : (ℓ : Loc nD τ Cert.Kernel10Ideal.sig) → Buf (Elt Ideal) ℓ) (c : Dev nD)

theorem idx : ∀ t : Fin cfg0.N, win0_0.index t = ![t.val, 0] ∧ win0_1.index t = ![t.val, 0] ∧ win0_2.index t = ![t.val, 0] :=
  (by decide +kernel : ∀ t : Fin grid0.N, _)

/-- Row `p` of the block of a grid point. -/
abbrev row (t : Fin cfg0.N) (p : Fin 512) : Fin 4096 := ⟨t.val * 512 + p.val, by have := t.isLt; have : cfg0.N = 8 := N_0; omega⟩

theorem in_0 (t : Fin cfg0.N) (p : Fin 512) (j : Fin 1024) : iblk m c 0 t (ix2 p j) = m ((c : Thread nD τ).loc main_arg0) (ix2 (row t p) j) := by
  have hN : cfg0.N = 8 := N_0
  have ht := t.isLt
  blk_ext [iblk, idx t]
theorem in_1 (t : Fin cfg0.N) (p : Fin 512) (j : Fin 1024) : iblk m c 1 t (ix2 p j) = m ((c : Thread nD τ).loc main_arg1) (ix2 (row t p) j) := by
  have hN : cfg0.N = 8 := N_0
  have ht := t.isLt
  blk_ext [iblk, idx t]

/-- The result array. -/
theorem final_2 : (dats m 0 c).arrAt 2 cfg0.N = sF (m ((c : Thread nD τ).loc main_arg0)) (m ((c : Thread nD τ).loc main_arg1)) := by
  have hN : cfg0.N = 8 := N_0
  refine (dats m 0 c).arrAt_eq_of_cover 2 _ (fun n hf => ?_) fun i => ?_
  · have hn := n.isLt
    show (cfg0.win 2).cut (grid0.coords n) ((dats m 0 c).after 2 n) = _
    rw [after0_2]
    funext y
    obtain ⟨p, j, rfl⟩ : ∃ p j, y = ix2 p j := ⟨y 0, y 1, eq_ix2 y⟩
    have lp : p.val < 512 := p.isLt
    have lj : j.val < 1024 := j.isLt
    have e : (win0_2.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    have o := out_2 (iblk m c 0 n) (iblk m c 1 n) p j
    rw [in_0, in_1] at o
    exact o.trans (congrArg (sF (m ((c : Thread nD τ).loc main_arg0)) (m ((c : Thread nD τ).loc main_arg1)) : A) e.symm)
  · have h0 : (i 0).val < 4096 := (i 0).isLt
    have h1 : (i 1).val < 1024 := (i 1).isLt
    refine ⟨⟨(i 0).val / 512, by omega⟩, flush0_2 _, ?_⟩
    mem_blk [idx]
    simp only
    omega
end

/-- The program's frame. -/
theorem frame_kernel : Cert.quiescent_Kernel10 (hKernel10 := Cert.Kernel10.Gen.facts) := fun m ρ _ => Cert.Kernel10.Gen.frame m ρ

/-- The ideal program's frame. -/
theorem frame_ideal : Cert.quiescent_Kernel10Ideal (hKernel10Ideal := Cert.Kernel10Ideal.Gen.facts) := fun m ρ _ => Cert.Kernel10Ideal.Gen.frame (F := Ideal) m ρ

/-- The reference's frame: it has no counters. -/
theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run m ρ)

/-- The result is the reference's. -/
theorem values : Cert.algebraic_Kernel10Ideal_Reference10Ideal (hKernel10Ideal := Cert.Kernel10Ideal.Gen.facts)
    (hReference10Ideal := Cert.Reference10Ideal.Gen.facts) := by
  intro m ρ m' ρ' _ hargs
  refine ⟨fun c => (Cert.Kernel10Ideal.Gen.dats m 0 c).arrAt 2 Cert.Kernel10Ideal.cfg0.N, ?_, ?_⟩
  · exact (θ_run Cert.Kernel10Ideal.defs _ _).mono (fun r h c => ⟨(h.1 c).1 2, h.2 c⟩)
      (θ_run_and (Cert.Kernel10Ideal.Gen.run_main (F := Ideal) m ρ) (Cert.Kernel10Ideal.Gen.unchanged (F := Ideal) m ρ))
  · refine (θ_run Cert.Reference10Ideal.defs _ _).mono (fun r h c => ?_) (Cert.Reference10Ideal.Value.run m' ρ')
    obtain ⟨e0, e1⟩ := hargs c
    obtain ⟨h0, hr⟩ := h c
    rw [e0, e1] at h0
    refine ⟨h0.trans (Eq.trans ?_ (final_2 m c).symm), hr⟩
    exact Cert.Mix.ext2 fun i j => rfl

end Cert.Ax

end
-- ==== Proof.RpClaims.lean ====
/-
  The rotary embedding of the latent attention: its programs and its reference end with their arguments unchanged and their
  counters at zero, and the kernel's two results are the reference's.
-/
module

public import proofs.«01_k».proof.Defs
public import proofs.«01_k».proof.Proof.MixClaims
public import proofs.«01_k».proof.Proof.HostValue
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.Value
public import Idealize.ShloMosaic.Lib.Pipeline.ValueKit
public import Idealize.ShloMosaic.Lib.Pipeline.ReadBack
public import Idealize.ShloMosaic.Lib.KernelVsHost
public import Idealize.ShloMosaic.Lib.ValueLayout
public import Idealize.ShloMosaic.Lib.IdealHost
public import Idealize.ShloMosaic.Lib.Quiescent

@[expose] public section

set_option maxRecDepth 16384

noncomputable section

open Idealize.ShloMosaic Idealize.ShloMosaic.TcCoe Idealize.SL.Sem

namespace Cert.Rp

/-- The heads' rows, the table of angles' cosines or sines, and a result. -/
abbrev Q := (⟨3, ![4096, 6, 96]⟩ : Shape).Idx → EReal
abbrev N := (⟨3, ![4096, 6, 64]⟩ : Shape).Idx → EReal
abbrev K := (⟨2, ![4096, 32]⟩ : Shape).Idx → EReal
abbrev T := (⟨2, ![4096, 16]⟩ : Shape).Idx → EReal
abbrev O := (⟨2, ![4096, 768]⟩ : Shape).Idx → EReal

/-- The scale. -/
abbrev sc : EReal := Ideal.ofBits .f32 0x3DD105EC#32
/-- A row of the queries: the last 32 of a head's 96 lanes rotated, in pairs 16 apart; scaled, and padded to 128 lanes. -/
def qR (C S : T) (x : Q) (r : Fin 4096) (l : Fin 768) : EReal :=
  if h : l.val % 128 < 64 then x (ix3 r ⟨l.val / 128, by omega⟩ ⟨l.val % 128, by omega⟩) * sc
  else if h1 : l.val % 128 < 80 then
    (x (ix3 r ⟨l.val / 128, by omega⟩ ⟨l.val % 128, by omega⟩) * C (ix2 r ⟨l.val % 128 - 64, by omega⟩)
      - x (ix3 r ⟨l.val / 128, by omega⟩ ⟨l.val % 128 + 16, by omega⟩) * S (ix2 r ⟨l.val % 128 - 64, by omega⟩)) * sc
  else if h2 : l.val % 128 < 96 then
    (x (ix3 r ⟨l.val / 128, by omega⟩ ⟨l.val % 128 - 16, by omega⟩) * S (ix2 r ⟨l.val % 128 - 80, by omega⟩)
      + x (ix3 r ⟨l.val / 128, by omega⟩ ⟨l.val % 128, by omega⟩) * C (ix2 r ⟨l.val % 128 - 80, by omega⟩)) * sc
  else 0
/-- A row of the keys: a head's own 64 lanes, then the 32 that the heads share. -/
def kR (n : N) (k : K) (r : Fin 4096) (l : Fin 768) : EReal :=
  if h : l.val % 128 < 64 then n (ix3 r ⟨l.val / 128, by omega⟩ ⟨l.val % 128, h⟩)
  else if h1 : l.val % 128 < 96 then k (ix2 r ⟨l.val % 128 - 64, by omega⟩) else 0
def qF (C S : T) (x : Q) : O := fun y => qR C S x (y 0) (y 1)
def kF (n : N) (k : K) : O := fun y => kR n k (y 0) (y 1)

/-- Reads at equal positions are equal. -/
theorem at2 {a b : ℕ} {α : Type} (f : (⟨2, ![a, b]⟩ : Shape).Idx → α) (r : Fin a) {i j : Fin b} (h : i.val = j.val) : f (ix2 r i) = f (ix2 r j) := by rw [Fin.ext h]
theorem at3 {a b d : ℕ} {α : Type} (f : (⟨3, ![a, b, d]⟩ : Shape).Idx → α) (r : Fin a) {k l : Fin b} {i j : Fin d} (e : k.val = l.val) (h : i.val = j.val) :
    f (ix3 r k i) = f (ix3 r l j) := by rw [Fin.ext h, Fin.ext e]
/-- The word of a padded lane. -/
theorem pad_word : (FloatOps.sitofp .f32 (0#32 : BitVec 32) : Ideal .f32) = (0 : EReal) := by
  show (((0#32 : BitVec 32).toInt : ℝ) : EReal) = 0
  simp

section
open Cert.Reference11Ideal Cert.Reference11Ideal.Gen

/-- The angles. -/
def angW : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))
def cosW : FVec Ideal S4096x16 .f32 := Host.cos angW
def sinW : FVec Ideal S4096x16 .f32 := Host.sin angW

/-- A table, the same for every head. -/
abbrev bt (C : FVec Ideal S4096x16 .f32) : FVec Ideal S4096x6x16 .f32 :=
  broadcastInDim S4096x6x16 ![0, 1, 2] bcast_S4096x1x16_S4096x6x16_0_1_2 (broadcastInDim S4096x1x16 ![0, 2] bcast_S4096x16_S4096x1x16_0_2 C)
/-- The two halves of the lanes that are rotated. -/
abbrev lo (x : FVec Ideal S4096x6x96 .f32) : FVec Ideal S4096x6x16 .f32 :=
  extractStridedSlice S4096x6x16 ![0, 0, 0] (extractStridedSlice S4096x6x32 ![0, 0, 64] x slices_S4096x6x96_S4096x6x32_0_0_64) slices_S4096x6x32_S4096x6x16_0_0_0
abbrev hi (x : FVec Ideal S4096x6x96 .f32) : FVec Ideal S4096x6x16 .f32 :=
  extractStridedSlice S4096x6x16 ![0, 0, 16] (extractStridedSlice S4096x6x32 ![0, 0, 64] x slices_S4096x6x96_S4096x6x32_0_0_64) slices_S4096x6x32_S4096x6x16_0_0_16
/-- The queries, rotated. -/
def rotW (C S : FVec Ideal S4096x16 .f32) (x : FVec Ideal S4096x6x96 .f32) : FVec Ideal S4096x6x96 .f32 :=
  mulf (concatenate S4096x6x96 2 [⟨S4096x6x64, extractStridedSlice S4096x6x64 ![0, 0, 0] x slices_S4096x6x96_S4096x6x64_0_0_0⟩, ⟨S4096x6x32, concatenate S4096x6x32 2 [⟨S4096x6x16, subf (mulf (lo x) (bt C)) (mulf (hi x) (bt S))⟩, ⟨S4096x6x16, addf (mulf (lo x) (bt S)) (mulf (hi x) (bt C))⟩] concatenates_S4096x6x16_S4096x6x16_S4096x6x32_d2⟩] concatenates_S4096x6x64_S4096x6x32_S4096x6x96_d2) (broadcastInDim S4096x6x96 ![] bcast_S_S4096x6x96 (constant S_ .f32 0x3DD105EC#32))
/-- The keys, joined. -/
def joinW (n : FVec Ideal S4096x6x64 .f32) (k : FVec Ideal S4096x32 .f32) : FVec Ideal S4096x6x96 .f32 :=
  concatenate S4096x6x96 2 [⟨S4096x6x64, n⟩, ⟨S4096x6x32, broadcastInDim S4096x6x32 ![0, 1, 2] bcast_S4096x1x32_S4096x6x32_0_1_2 (broadcastInDim S4096x1x32 ![0, 2] bcast_S4096x32_S4096x1x32_0_2 k)⟩] concatenates_S4096x6x64_S4096x6x32_S4096x6x96_d2

theorem rotW_apply (C S : FVec Ideal S4096x16 .f32) (x : FVec Ideal S4096x6x96 .f32) (r : Fin 4096) (h : Fin 6) (w : Fin 96) :
    rotW C S x (ix3 r h w) = if h0 : w.val < 64 then (x (ix3 r h w) * sc : EReal)
      else if h1 : w.val < 80 then (x (ix3 r h w) * C (ix2 r ⟨w.val - 64, by omega⟩) - x (ix3 r h ⟨w.val + 16, by omega⟩) * S (ix2 r ⟨w.val - 64, by omega⟩)) * sc
      else (x (ix3 r h ⟨w.val - 16, by omega⟩) * S (ix2 r ⟨w.val - 80, by omega⟩) + x (ix3 r h w) * C (ix2 r ⟨w.val - 80, by omega⟩)) * sc := by
  pointwise [rotW]
  by_cases h0 : w.val < 64
  · rw [dif_pos h0, dif_pos h0]
  · rw [dif_neg h0, dif_neg h0]
    by_cases h1 : w.val < 80
    · have e0 : x (ix3 r h ⟨64 + (w.val - 64), by omega⟩) = x (ix3 r h w) := at3 x r rfl (by dsimp only; omega)
      have e1 : x (ix3 r h ⟨64 + (16 + (w.val - 64)), by omega⟩) = x (ix3 r h ⟨w.val + 16, by omega⟩) := at3 x r rfl (by dsimp only; omega)
      rw [dif_pos (by omega), dif_pos h1, e0, e1]
    · have e0 : x (ix3 r h ⟨64 + (w.val - 64 - 16), by omega⟩) = x (ix3 r h ⟨w.val - 16, by omega⟩) := at3 x r rfl (by dsimp only; omega)
      have e1 : x (ix3 r h ⟨64 + (16 + (w.val - 64 - 16)), by omega⟩) = x (ix3 r h w) := at3 x r rfl (by dsimp only; omega)
      have e2 (T : FVec Ideal S4096x16 .f32) : T (ix2 r ⟨w.val - 64 - 16, by omega⟩) = T (ix2 r ⟨w.val - 80, by omega⟩) := at2 T r (by dsimp only; omega)
      rw [dif_neg (by omega), dif_neg h1, e0, e1, e2 S, e2 C]
theorem joinW_apply (n : FVec Ideal S4096x6x64 .f32) (k : FVec Ideal S4096x32 .f32) (r : Fin 4096) (h : Fin 6) (w : Fin 96) :
    joinW n k (ix3 r h w) = if h0 : w.val < 64 then (n (ix3 r h ⟨w.val, h0⟩) : EReal) else k (ix2 r ⟨w.val - 64, by omega⟩) := by
  pointwise [joinW]
end

section
open Cert.Kernel11Ideal Cert.Kernel11Ideal.Gen
open Idealize.ShloMosaic.Pipeline (Dat)

abbrev B := Vec Ideal S512x768 .f32
abbrev L := Vec Ideal S512x128 .f32

/-- Six copies of a block of 128 lanes side by side. -/
abbrev six {α : Type} (a : S512x128.Idx → α) : S512x768.Idx → α :=
  concatenate S512x768 1 [⟨S512x128, a⟩, ⟨S512x128, a⟩, ⟨S512x128, a⟩, ⟨S512x128, a⟩, ⟨S512x128, a⟩, ⟨S512x128, a⟩] concatenates_S512x128_S512x128_S512x128_S512x128_S512x128_S512x128_S512x768_d1
theorem six_apply {α : Type} (a : S512x128.Idx → α) (p : Fin 512) (l : Fin 768) : six a (ix2 p l) = a (ix2 p ⟨l.val % 128, by omega⟩) := by
  pointwise
  split_ifs <;> exact at2 a p (by dsimp only; omega)
/-- The lanes rotated. -/
theorem roll (b : BitVec 32) (a : S512x768.Idx → EReal) (p : Fin 512) (l : Fin 768) :
    dynamicRotate 1 b none a rotates_S512x768_d1 (ix2 p l) = a (ix2 p ⟨(l.val + 768 - b.toNat % 768) % 768, by omega⟩) := by
  refine dynamicRotate_apply _ _ _ _ _ _ fun d => ?_
  fin_cases d <;> rfl

theorem pay1_apply (cm sm sp : L) (q : B) (p : Fin 512) (l : Fin 768) : k0_pay1 cm sm sp q (ix2 p l)
    = (q (ix2 p l) * cm (ix2 p ⟨l.val % 128, by omega⟩) + q (ix2 p ⟨(l.val + 16) % 768, by omega⟩) * sm (ix2 p ⟨l.val % 128, by omega⟩)
      + q (ix2 p ⟨(l.val + 752) % 768, by omega⟩) * sp (ix2 p ⟨l.val % 128, by omega⟩) : EReal) * sc := by
  have e : k0_pay1 cm sm sp q (ix2 p l) = ((shapeCast S512x768 q shapeCasts_S512x768_S512x768 (ix2 p l) * six (shapeCast S512x128 cm shapeCasts_S512x128_S512x128) (ix2 p l)
      + dynamicRotate 1 752#32 none (shapeCast S512x768 q shapeCasts_S512x768_S512x768) rotates_S512x768_d1 (ix2 p l) * six (shapeCast S512x128 sm shapeCasts_S512x128_S512x128) (ix2 p l)
      + dynamicRotate 1 16#32 none (shapeCast S512x768 q shapeCasts_S512x768_S512x768) rotates_S512x768_d1 (ix2 p l) * six (shapeCast S512x128 sp shapeCasts_S512x128_S512x128) (ix2 p l)) * sc : EReal) := rfl
  rw [e, six_apply, six_apply, six_apply, roll, roll]
  simp only [shapeCast_self]
  rfl
theorem pay2_apply (a : Vec Ideal S512x768 .bf16) (k : Vec Ideal S512x128 .bf16) (p : Fin 512) (l : Fin 768) :
    k0_pay2 a k (ix2 p l) = (a (ix2 p l) + k (ix2 p ⟨l.val % 128, by omega⟩) : EReal) := by
  have e : k0_pay2 a k (ix2 p l) = (shapeCast S512x768 a shapeCasts_S512x768_S512x768 (ix2 p l) + six (shapeCast S512x128 k shapeCasts_S512x128_S512x128) (ix2 p l) : EReal) := rfl
  rw [e, six_apply]
  simp only [shapeCast_self]

variable (m : (ℓ : Loc nD τ Cert.Kernel11Ideal.sig) → Buf (Elt Ideal) ℓ) (c : Dev nD)

/-- The tables of 128 lanes. -/
def cmW (C : FVec Ideal S4096x16 .f32) : FVec Ideal S4096x128 .f32 :=
  concatenate S4096x128 1 [⟨S4096x64, broadcastInDim S4096x64 ![] bcast_S_S4096x64 (constant S_ .f32 0x3F800000#32)⟩, ⟨S4096x16, C⟩, ⟨S4096x16, C⟩, ⟨S4096x32, broadcastInDim S4096x32 ![] bcast_S_S4096x32 (constant S_ .f32 0x3F800000#32)⟩] concatenates_S4096x64_S4096x16_S4096x16_S4096x32_S4096x128_d1
def smW (S : FVec Ideal S4096x16 .f32) : FVec Ideal S4096x128 .f32 :=
  concatenate S4096x128 1 [⟨S4096x64, broadcastInDim S4096x64 ![] bcast_S_S4096x64 (constant S_ .f32 0x00000000#32)⟩, ⟨S4096x16, Host.negf S⟩, ⟨S4096x48, broadcastInDim S4096x48 ![] bcast_S_S4096x48 (constant S_ .f32 0x00000000#32)⟩] concatenates_S4096x64_S4096x16_S4096x48_S4096x128_d1
def spW (S : FVec Ideal S4096x16 .f32) : FVec Ideal S4096x128 .f32 :=
  concatenate S4096x128 1 [⟨S4096x80, broadcastInDim S4096x80 ![] bcast_S_S4096x80 (constant S_ .f32 0x00000000#32)⟩, ⟨S4096x16, S⟩, ⟨S4096x32, broadcastInDim S4096x32 ![] bcast_S_S4096x32 (constant S_ .f32 0x00000000#32)⟩] concatenates_S4096x80_S4096x16_S4096x32_S4096x128_d1
/-- The keys' own lanes, padded, with the values' lanes at zero; and the shared lanes, padded. -/
def knW (n : FVec Ideal S4096x6x64 .f32) : FVec Ideal S4096x1152 .bf16 :=
  truncf .bf16 (concatenate S4096x1152 1 [⟨S4096x768, shapeCast S4096x768 (pad S4096x6x128 ![0, 0, 0] ![0, 0, 64] ![0, 0, 0] n (sitofp .f32 (constantI S_ 32 0#32)) pads_S4096x6x64_S4096x6x128_000_000_0640 h_S_) shapeCasts_S4096x6x128_S4096x768⟩, ⟨S4096x384, broadcastInDim S4096x384 ![] bcast_S_S4096x384 (constant S_ .f32 0x00000000#32)⟩] concatenates_S4096x768_S4096x384_S4096x1152_d1) bitsLt_bf16_f32
def krW (k : FVec Ideal S4096x32 .f32) : FVec Ideal S4096x128 .bf16 :=
  truncf .bf16 (pad S4096x128 ![0, 64] ![0, 32] ![0, 0] k (sitofp .f32 (constantI S_ 32 0#32)) pads_S4096x32_S4096x128_000_64320 h_S_) bitsLt_bf16_f32

theorem cmW_apply (C : FVec Ideal S4096x16 .f32) (r : Fin 4096) (w : Fin 128) : cmW C (ix2 r w)
    = if h0 : w.val < 64 then (1 : EReal) else if h1 : w.val < 80 then C (ix2 r ⟨w.val - 64, by omega⟩) else if h2 : w.val < 96 then C (ix2 r ⟨w.val - 80, by omega⟩) else 1 := by
  pointwise [cmW]
  split_ifs <;> first | rfl | omega | (rw [dif_pos (by omega)]; done) | (rw [dif_neg (by omega), dif_pos (by omega)]; exact at2 C r (by simp only [Nat.sub_sub]))
theorem smW_apply (S : FVec Ideal S4096x16 .f32) (r : Fin 4096) (w : Fin 128) : smW S (ix2 r w)
    = if h0 : w.val < 64 then (0 : EReal) else if h1 : w.val < 80 then -(S (ix2 r ⟨w.val - 64, by omega⟩) : EReal) else 0 := by
  pointwise [smW]
  split_ifs <;> first | rfl | (exfalso; omega) | rw [dif_pos (by omega)]
theorem spW_apply (S : FVec Ideal S4096x16 .f32) (r : Fin 4096) (w : Fin 128) : spW S (ix2 r w)
    = if h0 : w.val < 80 then (0 : EReal) else if h1 : w.val < 96 then (S (ix2 r ⟨w.val - 80, by omega⟩) : EReal) else 0 := by
  pointwise [spW]
  split_ifs <;> first | rfl | (exfalso; omega) | rw [dif_pos (by omega)]
theorem knW_apply (n : FVec Ideal S4096x6x64 .f32) (r : Fin 4096) (l : Fin 768) : knW n (ix2 r ⟨l.val, by omega⟩)
    = if h : l.val % 128 < 64 then (n (ix3 r ⟨l.val / 128, by omega⟩ ⟨l.val % 128, h⟩) : EReal) else 0 := by
  pointwise [knW]
  rw [pad_word]
  split_ifs <;> first | rfl | (exfalso; omega)
theorem krW_apply (k : FVec Ideal S4096x32 .f32) (r : Fin 4096) (w : Fin 128) : krW k (ix2 r w)
    = if h : 64 ≤ w.val ∧ w.val < 96 then (k (ix2 r ⟨w.val - 64, by omega⟩) : EReal) else 0 := by
  pointwise [krW]
  rw [pad_word]
  split_ifs <;> first | rfl | (exfalso; omega)

/-- One lane of the rotated queries, from the padded rows and the three tables. -/
theorem lane_q (C S : FVec Ideal S4096x16 .f32) (x : FVec Ideal S4096x6x96 .f32) (r : Fin 4096) (l : Fin 768) :
    (Cert.Attn.padW x (ix2 r l) * cmW C (ix2 r ⟨l.val % 128, by omega⟩) + Cert.Attn.padW x (ix2 r ⟨(l.val + 16) % 768, by omega⟩) * smW S (ix2 r ⟨l.val % 128, by omega⟩)
      + Cert.Attn.padW x (ix2 r ⟨(l.val + 752) % 768, by omega⟩) * spW S (ix2 r ⟨l.val % 128, by omega⟩) : EReal) * sc = qR C S x r l := by
  rw [cmW_apply, smW_apply, spW_apply, qR]
  simp only
  by_cases h0 : l.val % 128 < 64
  · simp only [dif_pos h0, dif_pos (show l.val % 128 < 80 by omega), mul_one, mul_zero, add_zero]
    rw [Cert.Attn.padW_apply, dif_pos (by omega)]
  · by_cases h1 : l.val % 128 < 80
    · simp only [dif_neg h0, dif_pos h1, mul_zero, add_zero]
      have e0 : x (ix3 r ⟨(l.val + 16) % 768 / 128, by omega⟩ ⟨(l.val + 16) % 768 % 128, by omega⟩) = x (ix3 r ⟨l.val / 128, by omega⟩ ⟨l.val % 128 + 16, by omega⟩) :=
        at3 x r (by dsimp only; omega) (by dsimp only; omega)
      rw [Cert.Attn.padW_apply, dif_pos (by omega), Cert.Attn.padW_apply, dif_pos (by dsimp only; omega), mul_neg, ← sub_eq_add_neg,
        e0]
    · by_cases h2 : l.val % 128 < 96
      · simp only [dif_neg h0, dif_neg h1, dif_pos h2, mul_zero, add_zero]
        have e0 : x (ix3 r ⟨(l.val + 752) % 768 / 128, by omega⟩ ⟨(l.val + 752) % 768 % 128, by omega⟩) = x (ix3 r ⟨l.val / 128, by omega⟩ ⟨l.val % 128 - 16, by omega⟩) :=
          at3 x r (by dsimp only; omega) (by dsimp only; omega)
        rw [Cert.Attn.padW_apply, dif_pos (by omega), Cert.Attn.padW_apply, dif_pos (by dsimp only; omega), add_comm,
          e0]
      · simp only [dif_neg h0, dif_neg h1, dif_neg h2, mul_zero, add_zero]
        rw [Cert.Attn.padW_apply, dif_neg h2, zero_mul, zero_mul]
/-- One lane of the keys. -/
theorem lane_k (n : FVec Ideal S4096x6x64 .f32) (k : FVec Ideal S4096x32 .f32) (r : Fin 4096) (l : Fin 768) :
    (knW n (ix2 r ⟨l.val, by omega⟩) + krW k (ix2 r ⟨l.val % 128, by omega⟩) : EReal) = kR n k r l := by
  rw [knW_apply, krW_apply, kR]
  by_cases h0 : l.val % 128 < 64
  · rw [dif_pos h0, dif_pos h0, dif_neg (by dsimp only; omega), add_zero]
  · rw [dif_neg h0, dif_neg h0, zero_add]
    by_cases h1 : l.val % 128 < 96
    · rw [dif_pos h1, dif_pos ⟨by dsimp only; omega, h1⟩]
    · rw [dif_neg h1, dif_neg (fun e => h1 e.2)]

theorem out_6 (x0 : B) (x1 : Vec Ideal S512x1152 .bf16) (x2 : Vec Ideal S512x128 .bf16) (x3 x4 x5 : L) : out0_6 x0 x1 x2 x3 x4 x5 = k0_pay1 x3 x4 x5 x0 := by
  rw [out0_6, View.canon_cons_unit_lit _ _ _ (by decide), View.ld_unit_lit _ _ (by decide), View.ld_unit_lit _ _ (by decide), View.ld_unit_lit _ _ (by decide), View.ld_unit_lit _ _ (by decide)]
theorem out_7 (x0 : B) (x1 : Vec Ideal S512x1152 .bf16) (x2 : Vec Ideal S512x128 .bf16) (x3 x4 x5 : L) :
    out0_7 x0 x1 x2 x3 x4 x5 = k0_pay2 (extractStridedSlice S512x768 ![0, 0] x1 ⟨rfl, inb_S512x1152_S512x768_0_0⟩) x2 := by
  rw [out0_7, View.canon_cons_unit_lit _ _ _ (by decide), View.ld_unit, View.ld_unit_lit _ _ (by decide)]
theorem first_lanes (a : Vec Ideal S512x1152 .bf16) (p : Fin 512) (l : Fin 768) :
    extractStridedSlice S512x768 ![0, 0] a ⟨rfl, inb_S512x1152_S512x768_0_0⟩ (ix2 p l) = a (ix2 p ⟨l.val, by omega⟩) := by
  pointwise

theorem V_v1 : V m c main_v1 = Cert.Attn.padW (m ((c : Thread nD τ).loc main_arg0)) := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl
theorem V_v6 : V m c main_v6 = knW (m ((c : Thread nD τ).loc main_arg1)) := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl
theorem V_v8 : V m c main_v8 = krW (m ((c : Thread nD τ).loc main_arg2)) := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl
theorem V_v29 : V m c main_v29 = cmW cosW := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl
theorem V_v33 : V m c main_v33 = smW sinW := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl
theorem V_v36 : V m c main_v36 = spW sinW := by
  simp only [V, hostOps0, hostOps0_1, hostOps0_2, hostOps0_3, hostOps0_4, hostOps0_5, hostOps0_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp <;> rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `p` of the block of a grid point. -/
abbrev row (t : Fin cfg0.N) (p : Fin 512) : Fin 4096 := ⟨t.val * 512 + p.val, by have := t.isLt; have : cfg0.N = 8 := N_0; omega⟩

theorem in_0 (t : Fin cfg0.N) (p : Fin 512) (j : Fin 768) : iblk m c 0 t (ix2 p j) = Cert.Attn.padW (m ((c : Thread nD τ).loc main_arg0)) (ix2 (row t p) j) := by
  have hN : cfg0.N = 8 := N_0
  have ht := t.isLt
  rw [← V_v1 m c]
  blk_ext [iblk, idx t]
theorem in_1 (t : Fin cfg0.N) (p : Fin 512) (j : Fin 1152) : iblk m c 1 t (ix2 p j) = knW (m ((c : Thread nD τ).loc main_arg1)) (ix2 (row t p) j) := by
  have hN : cfg0.N = 8 := N_0
  have ht := t.isLt
  rw [← V_v6 m c]
  blk_ext [iblk, idx t]
theorem in_2 (t : Fin cfg0.N) (p : Fin 512) (j : Fin 128) : iblk m c 2 t (ix2 p j) = krW (m ((c : Thread nD τ).loc main_arg2)) (ix2 (row t p) j) := by
  have hN : cfg0.N = 8 := N_0
  have ht := t.isLt
  rw [← V_v8 m c]
  blk_ext [iblk, idx t]
theorem in_3 (t : Fin cfg0.N) (p : Fin 512) (j : Fin 128) : iblk m c 3 t (ix2 p j) = cmW cosW (ix2 (row t p) j) := by
  have hN : cfg0.N = 8 := N_0
  have ht := t.isLt
  rw [← V_v29 m c]
  blk_ext [iblk, idx t]
theorem in_4 (t : Fin cfg0.N) (p : Fin 512) (j : Fin 128) : iblk m c 4 t (ix2 p j) = smW sinW (ix2 (row t p) j) := by
  have hN : cfg0.N = 8 := N_0
  have ht := t.isLt
  rw [← V_v33 m c]
  blk_ext [iblk, idx t]
theorem in_5 (t : Fin cfg0.N) (p : Fin 512) (j : Fin 128) : iblk m c 5 t (ix2 p j) = spW sinW (ix2 (row t p) j) := by
  have hN : cfg0.N = 8 := N_0
  have ht := t.isLt
  rw [← V_v36 m c]
  blk_ext [iblk, idx t]

/-- A point's rows of each result. -/
theorem at_6 (n : Fin cfg0.N) (p : Fin 512) (j : Fin 768) : out0_6 (iblk m c 0 n) (iblk m c 1 n) (iblk m c 2 n) (iblk m c 3 n) (iblk m c 4 n) (iblk m c 5 n) (ix2 p j)
    = (qF cosW sinW (m ((c : Thread nD τ).loc main_arg0)) : O) (ix2 (row n p) j) := by
  rw [out_6, pay1_apply, in_0, in_0, in_0, in_3, in_4, in_5]
  exact lane_q _ _ _ _ _
theorem at_7 (n : Fin cfg0.N) (p : Fin 512) (j : Fin 768) : out0_7 (iblk m c 0 n) (iblk m c 1 n) (iblk m c 2 n) (iblk m c 3 n) (iblk m c 4 n) (iblk m c 5 n) (ix2 p j)
    = (kF (m ((c : Thread nD τ).loc main_arg1)) (m ((c : Thread nD τ).loc main_arg2)) : O) (ix2 (row n p) j) := by
  rw [out_7, pay2_apply, first_lanes, in_1, in_2]
  exact lane_k _ _ _ _

/-- The two result arrays. -/
theorem final_6 : (dats m 0 c).arrAt 6 cfg0.N = qF cosW sinW (m ((c : Thread nD τ).loc main_arg0)) := by
  have hN : cfg0.N = 8 := N_0
  refine (dats m 0 c).arrAt_eq_of_cover 6 _ (fun n hf => ?_) fun i => ?_
  · have hn := n.isLt
    show (cfg0.win 6).cut (grid0.coords n) ((dats m 0 c).after 6 n) = _
    rw [after0_6]
    funext y
    obtain ⟨p, j, rfl⟩ : ∃ p j, y = ix2 p j := ⟨y 0, y 1, eq_ix2 y⟩
    have lp : p.val < 512 := p.isLt
    have lj : j.val < 768 := j.isLt
    have e : (win0_6.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    exact (at_6 m c n p j).trans (congrArg (qF cosW sinW (m ((c : Thread nD τ).loc main_arg0)) : O) e.symm)
  · have h0 : (i 0).val < 4096 := (i 0).isLt
    have h1 : (i 1).val < 768 := (i 1).isLt
    refine ⟨⟨(i 0).val / 512, by omega⟩, flush0_6 _, ?_⟩
    mem_blk [idx]
    simp only
    omega
theorem final_7 : (dats m 0 c).arrAt 7 cfg0.N = kF (m ((c : Thread nD τ).loc main_arg1)) (m ((c : Thread nD τ).loc main_arg2)) := by
  have hN : cfg0.N = 8 := N_0
  refine (dats m 0 c).arrAt_eq_of_cover 7 _ (fun n hf => ?_) fun i => ?_
  · have hn := n.isLt
    show (cfg0.win 7).cut (grid0.coords n) ((dats m 0 c).after 7 n) = _
    rw [after0_7]
    funext y
    obtain ⟨p, j, rfl⟩ : ∃ p j, y = ix2 p j := ⟨y 0, y 1, eq_ix2 y⟩
    have lp : p.val < 512 := p.isLt
    have lj : j.val < 768 := j.isLt
    have e : (win0_7.blk n).view.emb (ix2 p j) = ix2 (row n p) j := by
      refine (eq_ix2 _).trans (congrArg₂ ix2 ?_ ?_)
      · exact Fin.ext (by blk_simp [idx n] <;> rfl)
      · exact Fin.ext (by blk_simp [idx n] <;> rfl)
    exact (at_7 m c n p j).trans (congrArg (kF (m ((c : Thread nD τ).loc main_arg1)) (m ((c : Thread nD τ).loc main_arg2)) : O) e.symm)
  · have h0 : (i 0).val < 4096 := (i 0).isLt
    have h1 : (i 1).val < 768 := (i 1).isLt
    refine ⟨⟨(i 0).val / 512, by omega⟩, flush0_7 _, ?_⟩
    mem_blk [idx]
    simp only
    omega
end

/-- The reference's results. -/
theorem ref_q (C S : FVec Ideal Cert.Reference11Ideal.S4096x16 .f32) (x : FVec Ideal Cert.Reference11Ideal.S4096x6x96 .f32) (r : Fin 4096) (l : Fin 768) :
    Cert.Attn.kW (rotW C S x) (ix2 r l) = qF C S x (ix2 r l) := by
  show Cert.Attn.padW (rotW C S x) (ix2 r l) = qR C S x r l
  rw [Cert.Attn.padW_apply, qR]
  by_cases h0 : l.val % 128 < 64
  · rw [dif_pos (by omega), dif_pos h0, rotW_apply, dif_pos h0]
  · rw [dif_neg h0]
    by_cases h1 : l.val % 128 < 80
    · rw [dif_pos (by omega), dif_pos h1, rotW_apply, dif_neg h0, dif_pos h1]
    · rw [dif_neg h1]
      by_cases h2 : l.val % 128 < 96
      · rw [dif_pos h2, dif_pos h2, rotW_apply, dif_neg h0, dif_neg h1]
      · rw [dif_neg h2, dif_neg h2]
theorem ref_k (n : FVec Ideal Cert.Reference11Ideal.S4096x6x64 .f32) (k : FVec Ideal Cert.Reference11Ideal.S4096x32 .f32) (r : Fin 4096) (l : Fin 768) :
    Cert.Attn.kW (joinW n k) (ix2 r l) = kF n k (ix2 r l) := by
  show Cert.Attn.padW (joinW n k) (ix2 r l) = kR n k r l
  rw [Cert.Attn.padW_apply, kR]
  by_cases h0 : l.val % 128 < 64
  · rw [dif_pos (by omega), dif_pos h0, joinW_apply, dif_pos h0]
  · rw [dif_neg h0]
    by_cases h1 : l.val % 128 < 96
    · rw [dif_pos h1, dif_pos h1, joinW_apply, dif_neg h0]
    · rw [dif_neg h1, dif_neg h1]

/-- The program's frame. -/
theorem frame_kernel : Cert.quiescent_Kernel11 (hKernel11 := Cert.Kernel11.Gen.facts) := fun m ρ _ => Cert.Kernel11.Gen.frame m ρ

/-- The ideal program's frame. -/
theorem frame_ideal : Cert.quiescent_Kernel11Ideal (hKernel11Ideal := Cert.Kernel11Ideal.Gen.facts) := fun m ρ _ => Cert.Kernel11Ideal.Gen.frame (F := Ideal) m ρ

/-- The reference's frame: it has no counters. -/
theorem frame_reference : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩) (Cert.Reference11Ideal.Value.run m ρ)

/-- The two results are the reference's. -/
theorem values : Cert.algebraic_Kernel11Ideal_Reference11Ideal (hKernel11Ideal := Cert.Kernel11Ideal.Gen.facts)
    (hReference11Ideal := Cert.Reference11Ideal.Gen.facts) := by
  intro m ρ m' ρ' _ hargs
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N, ?_, ?_⟩
  · exact (θ_run Cert.Kernel11Ideal.defs _ _).mono (fun r h c => ⟨(h.1 c).1 6, (h.1 c).1 7, h.2 c⟩)
      (θ_run_and (Cert.Kernel11Ideal.Gen.run_main (F := Ideal) m ρ) (Cert.Kernel11Ideal.Gen.unchanged (F := Ideal) m ρ))
  · refine (θ_run Cert.Reference11Ideal.defs _ _).mono (fun r h c => ?_) (Cert.Reference11Ideal.Value.run m' ρ')
    obtain ⟨e0, e1, e2⟩ := hargs c
    obtain ⟨h6, h7, hr⟩ := h c
    have g6 := h6.trans (show _ = Cert.Attn.kW (rotW cosW sinW (m' ((c.tc : Thread Cert.Reference11Ideal.nD Cert.Reference11Ideal.τ).loc Cert.Reference11Ideal.main_arg0))) from rfl)
    have g7 := h7.trans (show _ = Cert.Attn.kW (joinW (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2))) from rfl)
    rw [e0] at g6
    rw [e1, e2] at g7
    refine ⟨g6.trans (Eq.trans ?_ (final_6 m c).symm), g7.trans (Eq.trans ?_ (final_7 m c).symm), hr⟩
    · exact Cert.Mix.ext2 fun i j => ref_q _ _ _ i j
    · exact Cert.Mix.ext2 fun i j => ref_k _ _ i j

end Cert.Rp

end
-- ==== Proof.lean ====
module

public import proofs.«01_k».proof.Defs
public import proofs.«01_k».proof.Proof.Claims
public import proofs.«01_k».proof.Proof.MixClaims
public import proofs.«01_k».proof.Proof.GqaClaims
public import proofs.«01_k».proof.Proof.PrjClaims
public import proofs.«01_k».proof.Proof.DwClaims
public import proofs.«01_k».proof.Proof.LnClaims
public import proofs.«01_k».proof.Proof.LbClaims
public import proofs.«01_k».proof.Proof.LfClaims
public import proofs.«01_k».proof.Proof.AdClaims
public import proofs.«01_k».proof.Proof.AxClaims
public import proofs.«01_k».proof.Proof.RpClaims
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite2.Gen.facts, Cert.Pre_finite3.Gen.facts, Cert.Pre_finite6.Gen.facts, Cert.Pre_finite7.Gen.facts,
  Cert.Attn.frame_kernel, Cert.Attn.frame_ideal, fun m ρ _ => Cert.Attn.frame_ideal m ρ trivial, Cert.Attn.frame_reference,
  fun m ρ _ => Cert.Attn.frame_reference m ρ trivial,
  Cert.Mix.frame_kernel, Cert.Mix.frame_ideal, fun m ρ _ => Cert.Mix.frame_ideal m ρ trivial, Cert.Mix.frame_reference,
  fun m ρ _ => Cert.Mix.frame_reference m ρ trivial,
  Cert.Gqa.frame_kernel, Cert.Gqa.frame_ideal, fun m ρ _ => Cert.Gqa.frame_ideal m ρ trivial, Cert.Gqa.frame_reference,
  fun m ρ _ => Cert.Gqa.frame_reference m ρ trivial,
  Cert.Prj.frame_kernel, Cert.Prj.frame_ideal, Cert.Prj.frame_reference,
  Cert.Dw.frame_kernel, Cert.Dw.frame_ideal, Cert.Dw.frame_reference,
  Cert.Ln.frame_kernel, Cert.Ln.frame_ideal, fun m ρ _ => Cert.Ln.frame_ideal m ρ trivial, Cert.Ln.frame_reference,
  fun m ρ _ => Cert.Ln.frame_reference m ρ trivial,
  Cert.Lb.frame_kernel, Cert.Lb.frame_ideal, fun m ρ _ => Cert.Lb.frame_ideal m ρ trivial, Cert.Lb.frame_reference,
  fun m ρ _ => Cert.Lb.frame_reference m ρ trivial,
  Cert.Lf.frame_kernel, Cert.Lf.frame_ideal, Cert.Lf.frame_reference,
  Cert.Ad.frame_kernel, Cert.Ad.frame_ideal, Cert.Ad.frame_reference,
  Cert.Ax.frame_kernel, Cert.Ax.frame_ideal, Cert.Ax.frame_reference,
  Cert.Rp.frame_kernel, Cert.Rp.frame_ideal, Cert.Rp.frame_reference,
  trivial, Cert.Attn.values, trivial, Cert.Mix.values, trivial, Cert.Gqa.values, trivial, Cert.Prj.values, trivial, Cert.Dw.values, trivial, Cert.Ln.values,
  trivial, Cert.Lb.values, trivial, Cert.Lf.values, trivial, Cert.Ad.values, trivial, Cert.Ax.values, trivial, Cert.Rp.values⟩

end Cert.Proof

end
